-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v23_0)) (v1 : (c : Dev Cert.Kernel5Ideal.nD) → Buf (Elt Ideal) ((c.tc : Thread Cert.Kernel5Ideal.nD Cert.Kernel5Ideal.τ).loc Cert.Kernel5Ideal.main_v23_1)) (v2 : (c : Dev Cert.Kernel5Ideal.nD) → Buf (Elt Ideal) ((c.tc : Thread Cert.Kernel5Ideal.nD Cert.Kernel5Ideal.τ).loc Cert.Kernel5Ideal.main_v23_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v23_0) = v0 c
          ∧ r.2.mem ((c.tc : Thread Cert.Kernel5Ideal.nD Cert.Kernel5Ideal.τ).loc Cert.Kernel5Ideal.main_v23_1) = v1 c
          ∧ r.2.mem ((c.tc : Thread Cert.Kernel5Ideal.nD Cert.Kernel5Ideal.τ).loc Cert.Kernel5Ideal.main_v23_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v71) = v0 c
          ∧ r.2.mem ((c.tc : Thread Cert.Reference5Ideal.nD Cert.Reference5Ideal.τ).loc Cert.Reference5Ideal.main_v72) = v1 c
          ∧ r.2.mem ((c.tc : Thread Cert.Reference5Ideal.nD Cert.Reference5Ideal.τ).loc Cert.Reference5Ideal.main_v76) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)) (v2 : (c : Dev Cert.Kernel13Ideal.nD) → Buf (Elt Ideal) ((c.tc : Thread Cert.Kernel13Ideal.nD Cert.Kernel13Ideal.τ).loc Cert.Kernel13Ideal.main_v6_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_v6_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v52) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v6_0)) (v1 : (c : Dev Cert.Kernel14Ideal.nD) → Buf (Elt Ideal) ((c.tc : Thread Cert.Kernel14Ideal.nD Cert.Kernel14Ideal.τ).loc Cert.Kernel14Ideal.main_v6_1)) (v2 : (c : Dev Cert.Kernel14Ideal.nD) → Buf (Elt Ideal) ((c.tc : Thread Cert.Kernel14Ideal.nD Cert.Kernel14Ideal.τ).loc Cert.Kernel14Ideal.main_v6_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6_0) = v0 c
          ∧ r.2.mem ((c.tc : Thread Cert.Kernel14Ideal.nD Cert.Kernel14Ideal.τ).loc Cert.Kernel14Ideal.main_v6_1) = v1 c
          ∧ r.2.mem ((c.tc : Thread Cert.Kernel14Ideal.nD Cert.Kernel14Ideal.τ).loc Cert.Kernel14Ideal.main_v6_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v27) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v52) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v6_0)) (v1 : (c : Dev Cert.Kernel15Ideal.nD) → Buf (Elt Ideal) ((c.tc : Thread Cert.Kernel15Ideal.nD Cert.Kernel15Ideal.τ).loc Cert.Kernel15Ideal.main_v6_1)) (v2 : (c : Dev Cert.Kernel15Ideal.nD) → Buf (Elt Ideal) ((c.tc : Thread Cert.Kernel15Ideal.nD Cert.Kernel15Ideal.τ).loc Cert.Kernel15Ideal.main_v6_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v6_0) = v0 c
          ∧ r.2.mem ((c.tc : Thread Cert.Kernel15Ideal.nD Cert.Kernel15Ideal.τ).loc Cert.Kernel15Ideal.main_v6_1) = v1 c
          ∧ r.2.mem ((c.tc : Thread Cert.Kernel15Ideal.nD Cert.Kernel15Ideal.τ).loc Cert.Kernel15Ideal.main_v6_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v86) = v0 c
          ∧ r.2.mem ((c.tc : Thread Cert.Reference15Ideal.nD Cert.Reference15Ideal.τ).loc Cert.Reference15Ideal.main_v92) = v1 c
          ∧ r.2.mem ((c.tc : Thread Cert.Reference15Ideal.nD Cert.Reference15Ideal.τ).loc Cert.Reference15Ideal.main_v93) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def preserves_Kernel16_Kernel16Ideal : Prop :=
  IdealRules.named_const.Statement Cert.Kernel16Ideal.κ "ln2" .f32 0x3F317218#32 ((Real.log 2 : ℝ) : EReal)

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v14_0)) (v1 : (c : Dev Cert.Kernel16Ideal.nD) → Buf (Elt Ideal) ((c.tc : Thread Cert.Kernel16Ideal.nD Cert.Kernel16Ideal.τ).loc Cert.Kernel16Ideal.main_v14_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v14_0) = v0 c
          ∧ r.2.mem ((c.tc : Thread Cert.Kernel16Ideal.nD Cert.Kernel16Ideal.τ).loc Cert.Kernel16Ideal.main_v14_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_v28) = v1 c
          ∧ r.2.mem ((c.tc : Thread Cert.Reference17Ideal.nD Cert.Reference17Ideal.τ).loc Cert.Reference17Ideal.main_v9) = v2 c
          ∧ r.2.mem ((c.tc : Thread Cert.Reference17Ideal.nD Cert.Reference17Ideal.τ).loc Cert.Reference17Ideal.main_v15) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_v28) = v1 c
          ∧ r.2.mem ((c.tc : Thread Cert.Reference18Ideal.nD Cert.Reference18Ideal.τ).loc Cert.Reference18Ideal.main_v9) = v2 c
          ∧ r.2.mem ((c.tc : Thread Cert.Reference18Ideal.nD Cert.Reference18Ideal.τ).loc Cert.Reference18Ideal.main_v15) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_v28) = v1 c
          ∧ r.2.mem ((c.tc : Thread Cert.Reference19Ideal.nD Cert.Reference19Ideal.τ).loc Cert.Reference19Ideal.main_v9) = v2 c
          ∧ r.2.mem ((c.tc : Thread Cert.Reference19Ideal.nD Cert.Reference19Ideal.τ).loc Cert.Reference19Ideal.main_v15) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_v28) = v1 c
          ∧ r.2.mem ((c.tc : Thread Cert.Reference20Ideal.nD Cert.Reference20Ideal.τ).loc Cert.Reference20Ideal.main_v9) = v2 c
          ∧ r.2.mem ((c.tc : Thread Cert.Reference20Ideal.nD Cert.Reference20Ideal.τ).loc Cert.Reference20Ideal.main_v15) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite5 : Cert.Pre_finite5.Facts) (hPre_finite15 : Cert.Pre_finite15.Facts) (hPre_finite16 : Cert.Pre_finite16.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S8192x8x64 : Shape := ⟨3, ![8192, 8, 64]⟩
abbrev S8192x2x64 : Shape := ⟨3, ![8192, 2, 64]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x2x64 : S_.BroadcastsInDim S8192x2x64 (![] : Fin 0 → Fin S8192x2x64.rank)
  reducesTo_S8192x2x64_S_d0_1_2 : S8192x2x64.ReducesTo [0, 1, 2] S_

variable [Facts]

def fn_part1 {F : FTy → Type} [FloatOps F] (main_v13 : IVec S_ 1) (main_v16 : IVec S8192x8x64 1) : IVec S_ 1 :=
  let main_c_5 : IVec S_ 1 := constantI S_ 1 1#1
  let main_v17 : IVec S_ 1 := (fun x v => Host.reduce IntOp.andi x v reducesTo_S8192x8x64_S_d0_1_2 h_S_) main_v16 main_c_5
  let main_v18 : IVec S_ 1 := andi main_v13 main_v17
  main_v18

def fn {F : FTy → Type} [FloatOps F] (main_arg0 : FVec F S8192x8x64 .f32) (main_arg1 : FVec F S8192x2x64 .f32) (main_arg2 : FVec F S8192x2x64 .f32) (main_arg3 : FVec F S8192x8x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x2x64 .f32 := Host.absf main_arg1
  let main_cst_0 : FVec F S_ .f32 := constant S_ .f32 0x7F800000#32
  let main_v5 : FVec F S8192x2x64 .f32 := broadcastInDim S8192x2x64 ![] bcast_S_S8192x2x64 main_cst_0
  let main_v6 : IVec S8192x2x64 1 := cmpf .olt main_v4 main_v5
  let main_c_1 : IVec S_ 1 := constantI S_ 1 1#1
  let main_v7 : IVec S_ 1 := (fun x v => Host.reduce IntOp.andi x v reducesTo_S8192x2x64_S_d0_1_2 h_S_) main_v6 main_c_1
  let main_v8 : IVec S_ 1 := andi main_v3 main_v7
  let main_v9 : FVec F S8192x2x64 .f32 := Host.absf main_arg2
  let main_cst_2 : FVec F S_ .f32 := constant S_ .f32 0x7F800000#32
  let main_v10 : FVec F S8192x2x64 .f32 := broadcastInDim S8192x2x64 ![] bcast_S_S8192x2x64 main_cst_2
  let main_v11 : IVec S8192x2x64 1 := cmpf .olt main_v9 main_v10
  let main_c_3 : IVec S_ 1 := constantI S_ 1 1#1
  let main_v12 : IVec S_ 1 := (fun x v => Host.reduce IntOp.andi x v reducesTo_S8192x2x64_S_d0_1_2 h_S_) main_v11 main_c_3
  let main_v13 : IVec S_ 1 := andi main_v8 main_v12
  let main_v14 : FVec F S8192x8x64 .f32 := Host.absf main_arg3
  let main_cst_4 : FVec F S_ .f32 := constant S_ .f32 0x7F800000#32
  let main_v15 : FVec F S8192x8x64 .f32 := broadcastInDim S8192x8x64 ![] bcast_S_S8192x8x64 main_cst_4
  let main_v16 : IVec S8192x8x64 1 := cmpf .olt main_v14 main_v15
  fn_part1 (F := F) main_v13 main_v16
-- ==== Pre_finite15.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S8192x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg4 : FVec F S1024 .f32) (main_arg5 : FVec F S1024 .f32) (main_arg6 : FVec F S1024 .f32) (main_arg7 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8192x2816 .f32) (main_arg1 : FVec F S2816x1024 .f32) (main_arg2 : FVec F S8192x1024 .f32) (main_arg3 : FVec F S1024 .f32) (main_arg4 : FVec F S1024 .f32) (main_arg5 : FVec F S1024 .f32) (main_arg6 : FVec F S1024 .f32) (main_arg7 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Pre_finite16.lean ====
abbrev S8192x8x64 : Shape := ⟨3, ![8192, 8, 64]⟩
abbrev S8192x2x64 : Shape := ⟨3, ![8192, 2, 64]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x2x64 : S_.BroadcastsInDim S8192x2x64 (![] : Fin 0 → Fin S8192x2x64.rank)
  reducesTo_S8192x2x64_S_d0_1_2 : S8192x2x64.ReducesTo [0, 1, 2] S_

variable [Facts]

def fn {F : FTy → Type} [FloatOps F] (main_arg0 : FVec F S8192x8x64 .f32) (main_arg1 : FVec F S8192x2x64 .f32) (main_arg2 : FVec F S8192x2x64 .f32) : IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x2x64 .f32 := Host.absf main_arg1
  let main_cst_0 : FVec F S_ .f32 := constant S_ .f32 0x7F800000#32
  let main_v5 : FVec F S8192x2x64 .f32 := broadcastInDim S8192x2x64 ![] bcast_S_S8192x2x64 main_cst_0
  let main_v6 : IVec S8192x2x64 1 := cmpf .olt main_v4 main_v5
  let main_c_1 : IVec S_ 1 := constantI S_ 1 1#1
  let main_v7 : IVec S_ 1 := (fun x v => Host.reduce IntOp.andi x v reducesTo_S8192x2x64_S_d0_1_2 h_S_) main_v6 main_c_1
  let main_v8 : IVec S_ 1 := andi main_v3 main_v7
  let main_v9 : FVec F S8192x2x64 .f32 := Host.absf main_arg2
  let main_cst_2 : FVec F S_ .f32 := constant S_ .f32 0x7F800000#32
  let main_v10 : FVec F S8192x2x64 .f32 := broadcastInDim S8192x2x64 ![] bcast_S_S8192x2x64 main_cst_2
  let main_v11 : IVec S8192x2x64 1 := cmpf .olt main_v9 main_v10
  let main_c_3 : IVec S_ 1 := constantI S_ 1 1#1
  let main_v12 : IVec S_ 1 := (fun x v => Host.reduce IntOp.andi x v reducesTo_S8192x2x64_S_d0_1_2 h_S_) main_v11 main_c_3
  let main_v13 : IVec S_ 1 := andi main_v8 main_v12
  main_v13
-- ==== Pre_finite5.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg5 : FVec F S8192x2816 .f32) (main_arg6 : FVec F S8192x2816 .f32) (main_arg7 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S8192x2816 .f32 := Host.absf main_arg5
  let main_cst_6 : FVec F S_ .f32 := constant S_ .f32 0x7F800000#32
  let main_v20 : FVec F S8192x2816 .f32 := broadcastInDim S8192x2816 ![] bcast_S_S8192x2816 main_cst_6
  let main_v21 : IVec S8192x2816 1 := cmpf .olt main_v19 main_v20
  let main_c_7 : IVec S_ 1 := constantI S_ 1 1#1
  let main_v22 : IVec S_ 1 := (fun x v => Host.reduce IntOp.andi x v reducesTo_S8192x2816_S_d0_1 h_S_) main_v21 main_c_7
  let main_v23 : IVec S_ 1 := andi main_v18 main_v22
  let main_v24 : FVec F S8192x2816 .f32 := Host.absf main_arg6
  let main_cst_8 : FVec F S_ .f32 := constant S_ .f32 0x7F800000#32
  let main_v25 : FVec F S8192x2816 .f32 := broadcastInDim S8192x2816 ![] bcast_S_S8192x2816 main_cst_8
  let main_v26 : IVec S8192x2816 1 := cmpf .olt main_v24 main_v25
  let main_c_9 : IVec S_ 1 := constantI S_ 1 1#1
  let main_v27 : IVec S_ 1 := (fun x v => Host.reduce IntOp.andi x v reducesTo_S8192x2816_S_d0_1 h_S_) main_v26 main_c_9
  let main_v28 : IVec S_ 1 := andi main_v23 main_v27
  let main_v29 : FVec F S8192x1024 .f32 := Host.absf main_arg7
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S1024 .f32) (main_arg2 : FVec F S1024 .f32) (main_arg3 : FVec F S1024x2816 .f32) (main_arg4 : FVec F S1024x2816 .f32) (main_arg5 : FVec F S8192x2816 .f32) (main_arg6 : FVec F S8192x2816 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg4
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg5 main_arg6 main_arg7 main_v13 main_v16
-- ==== Kernel.lean ====
abbrev S8192x8x64 : Shape := ⟨3, ![8192, 8, 64]⟩
abbrev S8192x2x64 : Shape := ⟨3, ![8192, 2, 64]⟩
abbrev S8x64x8192 : Shape := ⟨3, ![8, 64, 8192]⟩
abbrev S_ : Shape := ⟨0, ![]⟩
abbrev S512x8192 : Shape := ⟨2, ![512, 8192]⟩
abbrev S2x64x8192 : Shape := ⟨3, ![2, 64, 8192]⟩
abbrev S128x8192 : Shape := ⟨2, ![128, 8192]⟩
abbrev S768x8192 : Shape := ⟨2, ![768, 8192]⟩
abbrev S12x64x8192 : Shape := ⟨3, ![12, 64, 8192]⟩
abbrev S2x8192x64 : Shape := ⟨3, ![2, 8192, 64]⟩
abbrev S8192x2x4x64 : Shape := ⟨4, ![8192, 2, 4, 64]⟩
abbrev S2x8192x8192x4 : Shape := ⟨4, ![2, 8192, 8192, 4]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S8x1x8192 : Shape := ⟨3, ![8, 1, 8192]⟩
abbrev S2x64x4x8192 : Shape := ⟨4, ![2, 64, 4, 8192]⟩
abbrev S2x4x64x8192 : Shape := ⟨4, ![2, 4, 64, 8192]⟩
abbrev S8x8192 : Shape := ⟨2, ![8, 8192]⟩
abbrev S1x1024x64 : Shape := ⟨3, ![1, 1024, 64]⟩
abbrev S1x64x1024 : Shape := ⟨3, ![1, 64, 1024]⟩
abbrev S1x64x8192 : Shape := ⟨3, ![1, 64, 8192]⟩
abbrev S1x1x8192 : Shape := ⟨3, ![1, 1, 8192]⟩
abbrev S4x64x8192 : Shape := ⟨3, ![4, 64, 8192]⟩
abbrev S64x1024 : Shape := ⟨2, ![64, 1024]⟩
abbrev S1024x64 : Shape := ⟨2, ![1024, 64]⟩
abbrev S1x64x256 : Shape := ⟨3, ![1, 64, 256]⟩
abbrev S64x256 : Shape := ⟨2, ![64, 256]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 54
  | .vmem => 22
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x8x64, .f32⟩
  | .hbm, ⟨4, _⟩ => ⟨S8x64x8192, .f32⟩
  | .hbm, ⟨5, _⟩ => ⟨S_, .f32⟩
  | .hbm, ⟨6, _⟩ => ⟨S_, .f32⟩
  | .hbm, ⟨7, _⟩ => ⟨S8x64x8192, .f32⟩
  | .hbm, ⟨8, _⟩ => ⟨S8x64x8192, .f32⟩
  | .hbm, ⟨9, _⟩ => ⟨S512x8192, .f32⟩
  | .hbm, ⟨10, _⟩ => ⟨S2x64x8192, .f32⟩
  | .hbm, ⟨11, _⟩ => ⟨S128x8192, .f32⟩
  | .hbm, ⟨12, _⟩ => ⟨S2x64x8192, .f32⟩
  | .hbm, ⟨13, _⟩ => ⟨S128x8192, .f32⟩
  | .hbm, ⟨14, _⟩ => ⟨S768x8192, .f32⟩
  | .hbm, ⟨15, _⟩ => ⟨S768x8192, .bf16⟩
  | .hbm, ⟨16, _⟩ => ⟨S12x64x8192, .bf16⟩
  | .hbm, ⟨17, _⟩ => ⟨S2x8192x64, .f32⟩
  | .hbm, ⟨18, _⟩ => ⟨S2x8192x64, .bf16⟩
  | .hbm, ⟨19, _⟩ => ⟨S2x8192x64, .f32⟩
  | .hbm, ⟨20, _⟩ => ⟨S2x8192x64, .bf16⟩
  | .hbm, ⟨21, _⟩ => ⟨S8192x2x4x64, .f32⟩
  | .hbm, ⟨22, _⟩ => ⟨S2x8192x8192x4, .f32⟩
  | .hbm, ⟨23, _⟩ => ⟨S2x4x8192x8192, .f32⟩
  | .hbm, ⟨24, _⟩ => ⟨S_, .f32⟩
  | .hbm, ⟨25, _⟩ => ⟨S2x4x8192, .f32⟩
  | .hbm, ⟨26, _⟩ => ⟨S2x4x8192x1, .f32⟩
  | .hbm, ⟨27, _⟩ => ⟨S2x4x8192x8192, .f32⟩
  | .hbm, ⟨28, _⟩ => ⟨S2x4x8192x8192, .f32⟩
  | .hbm, ⟨29, _⟩ => ⟨S2x4x8192x8192, .f32⟩
  | .hbm, ⟨30, _⟩ => ⟨S_, .f32⟩
  | .hbm, ⟨31, _⟩ => ⟨S2x4x8192, .f32⟩
  | .hbm, ⟨32, _⟩ => ⟨S2x4x8192, .f32⟩
  | .hbm, ⟨33, _⟩ => ⟨S2x4x8192, .f32⟩
  | .hbm, ⟨34, _⟩ => ⟨S_, .f32⟩
  | .hbm, ⟨35, _⟩ => ⟨S_, .f32⟩
  | .hbm, ⟨36, _⟩ => ⟨S2x4x8192, .f32⟩
  | .hbm, ⟨37, _⟩ => ⟨S2x4x8192, .f32⟩
  | .hbm, ⟨38, _⟩ => ⟨S8x1x8192, .f32⟩
  | .hbm, ⟨39, _⟩ => ⟨S2x4x8192x1, .f32⟩
  | .hbm, ⟨40, _⟩ => ⟨S2x4x8192x8192, .f32⟩
  | .hbm, ⟨41, _⟩ => ⟨S2x4x8192x8192, .f32⟩
  | .hbm, ⟨42, _⟩ => ⟨S2x64x4x8192, .f32⟩
  | .hbm, ⟨43, _⟩ => ⟨S2x4x64x8192, .f32⟩
  | .hbm, ⟨44, _⟩ => ⟨S8x64x8192, .f32⟩
  | .hbm, ⟨45, _⟩ => ⟨S8x64x8192, .f32⟩
  | .hbm, ⟨46, _⟩ => ⟨S8x64x8192, .f32⟩
  | .hbm, ⟨47, _⟩ => ⟨S_, .f32⟩
  | .hbm, ⟨48, _⟩ => ⟨S8x8192, .f32⟩
  | .hbm, ⟨49, _⟩ => ⟨S8x1x8192, .f32⟩
  | .hbm, ⟨50, _⟩ => ⟨S8x64x8192, .bf16⟩
  | .hbm, ⟨51, _⟩ => ⟨S2x64x8192, .f32⟩
  | .hbm, ⟨52, _⟩ => ⟨S2x64x8192, .f32⟩
  | .hbm, ⟨53, _⟩ => ⟨S8x64x8192, .f32⟩
  | .local _ .vmem, ⟨0, _⟩ => ⟨S1x1024x64, .bf16⟩
  | .local _ .vmem, ⟨1, _⟩ => ⟨S1x1024x64, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x64x8192, .bf16⟩
  | .local _ .vmem, ⟨7, _⟩ => ⟨S1x64x8192, .bf16⟩
  | .local _ .vmem, ⟨8, _⟩ => ⟨S1x64x8192, .bf16⟩
  | .local _ .vmem, ⟨9, _⟩ => ⟨S1x64x8192, .bf16⟩
  | .local _ .vmem, ⟨10, _⟩ => ⟨S1x1x8192, .f32⟩
  | .local _ .vmem, ⟨11, _⟩ => ⟨S1x1x8192, .f32⟩
  | .local _ .vmem, ⟨12, _⟩ => ⟨S1x1x8192, .f32⟩
  | .local _ .vmem, ⟨13, _⟩ => ⟨S1x1x8192, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .vmem, ⟨18, _⟩ => ⟨S4x64x8192, .f32⟩
  | .local _ .vmem, ⟨19, _⟩ => ⟨S4x64x8192, .f32⟩
  | .local _ .vmem, ⟨20, _⟩ => ⟨S64x1024, .f32⟩
  | .local _ .vmem, ⟨21, _⟩ => ⟨S64x1024, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42_0 : Ref sig .tc := ⟨.hbm, 51, rfl⟩
abbrev main_v42_1 : Ref sig .tc := ⟨.hbm, 52, rfl⟩
abbrev main_v42_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 8, 4], ![false, false, false]⟩

def k0_mult1 (i : grid0.Coords) : BitVec 32 :=
  let arg2 : BitVec 32 := BitVec.ofNat 32 (i 2).val
  let c1_i32 : BitVec 32 := 1#32
  let c0_i32_43 : BitVec 32 := 0#32
  let v46 : BitVec 1 := Scalar.cmpi .eq c1_i32 c0_i32_43
  let c1_i32_44 : BitVec 32 := 1#32
  let v47 : BitVec 32 := Scalar.select v46 c1_i32_44 c1_i32
  let v48 : BitVec 32 := Scalar.remsi arg2 v47
  let c0_i32_46 : BitVec 32 := 0#32
  let v50 : BitVec 1 := Scalar.cmpi .slt v48 c0_i32_46
  let c0_i32_47 : BitVec 32 := 0#32
  let v51 : BitVec 1 := Scalar.cmpi .slt v47 c0_i32_47
  let v52 : BitVec 1 := Scalar.xori v50 v51
  let c0_i32_45 : BitVec 32 := 0#32
  let v49 : BitVec 1 := Scalar.cmpi .ne v48 c0_i32_45
  let v53 : BitVec 1 := Scalar.andi v52 v49
  let v54 : BitVec 32 := Scalar.addi v48 v47
  let v55 : BitVec 32 := Scalar.select v53 v54 v48
  let c8192_i32 : BitVec 32 := 8192#32
  let v56 : BitVec 32 := Scalar.muli v55 c8192_i32
  let c0_i32_48 : BitVec 32 := 0#32
  let v57 : BitVec 32 := Scalar.addi v56 c0_i32_48
  v57
def k0_off1 (i : grid0.Coords) (c0_i32_48 : BitVec 32) : Fin 3 → Nat :=
  let arg2 : BitVec 32 := BitVec.ofNat 32 (i 2).val
  let c0_i32_50 : BitVec 32 := 0#32
  let v60 : BitVec 1 := Scalar.cmpi .sgt arg2 c0_i32_50
  let v61 : BitVec 32 := Scalar.extui v60
  let c0_i32_51 : BitVec 32 := 0#32
  let v62 : BitVec 1 := Scalar.cmpi .slt arg2 c0_i32_51
  let v63 : BitVec 32 := Scalar.extui v62
  let v64 : BitVec 32 := Scalar.subi v61 v63
  let c1_i32_49 : BitVec 32 := 1#32
  let c0_i32_52 : BitVec 32 := 0#32
  let v65 : BitVec 1 := Scalar.cmpi .sgt c1_i32_49 c0_i32_52
  let v66 : BitVec 32 := Scalar.extui v65
  let c0_i32_53 : BitVec 32 := 0#32
  let v67 : BitVec 1 := Scalar.cmpi .slt c1_i32_49 c0_i32_53
  let v68 : BitVec 32 := Scalar.extui v67
  let v69 : BitVec 32 := Scalar.subi v66 v68
  let v70 : BitVec 1 := Scalar.cmpi .ne v64 v69
  let v71 : BitVec 32 := Scalar.remsi arg2 c1_i32_49
  let c0_i32_54 : BitVec 32 := 0#32
  let v72 : BitVec 1 := Scalar.cmpi .ne v71 c0_i32_54
  let v73 : BitVec 1 := Scalar.andi v70 v72
  let v59 : BitVec 32 := Scalar.divsi arg2 c1_i32_49
  let c1_i32_55 : BitVec 32 := 1#32
  let v74 : BitVec 32 := Scalar.subi v59 c1_i32_55
  let v75 : BitVec 32 := Scalar.select v73 v74 v59
  let v76 : Index := Scalar.indexCast v75
  let c0_56 : Index := 0#32
  let c1_i32 : BitVec 32 := 1#32
  let c0_i32_43 : BitVec 32 := 0#32
  let v46 : BitVec 1 := Scalar.cmpi .eq c1_i32 c0_i32_43
  let c1_i32_44 : BitVec 32 := 1#32
  let v47 : BitVec 32 := Scalar.select v46 c1_i32_44 c1_i32
  let v48 : BitVec 32 := Scalar.remsi arg2 v47
  let c0_i32_46 : BitVec 32 := 0#32
  let v50 : BitVec 1 := Scalar.cmpi .slt v48 c0_i32_46
  let c0_i32_47 : BitVec 32 := 0#32
  let v51 : BitVec 1 := Scalar.cmpi .slt v47 c0_i32_47
  let v52 : BitVec 1 := Scalar.xori v50 v51
  let c0_i32_45 : BitVec 32 := 0#32
  let v49 : BitVec 1 := Scalar.cmpi .ne v48 c0_i32_45
  let v53 : BitVec 1 := Scalar.andi v52 v49
  let v54 : BitVec 32 := Scalar.addi v48 v47
  let v55 : BitVec 32 := Scalar.select v53 v54 v48
  let c8192_i32 : BitVec 32 := 8192#32
  let v56 : BitVec 32 := Scalar.muli v55 c8192_i32
  let v57 : BitVec 32 := Scalar.addi v56 c0_i32_48
  let v58 : BitVec 32 := v57
  let v77 : Index := Scalar.indexCast v58
  ![v76.toNat, 0, v77.toNat]
def k0_mult2 (i : grid0.Coords) : BitVec 32 :=
  let arg2 : BitVec 32 := BitVec.ofNat 32 (i 2).val
  let c1_i32_89 : BitVec 32 := 1#32
  let c0_i32_90 : BitVec 32 := 0#32
  let v119 : BitVec 1 := Scalar.cmpi .eq c1_i32_89 c0_i32_90
  let c1_i32_91 : BitVec 32 := 1#32
  let v120 : BitVec 32 := Scalar.select v119 c1_i32_91 c1_i32_89
  let v121 : BitVec 32 := Scalar.remsi arg2 v120
  let c0_i32_93 : BitVec 32 := 0#32
  let v123 : BitVec 1 := Scalar.cmpi .slt v121 c0_i32_93
  let c0_i32_94 : BitVec 32 := 0#32
  let v124 : BitVec 1 := Scalar.cmpi .slt v120 c0_i32_94
  let v125 : BitVec 1 := Scalar.xori v123 v124
  let c0_i32_92 : BitVec 32 := 0#32
  let v122 : BitVec 1 := Scalar.cmpi .ne v121 c0_i32_92
  let v126 : BitVec 1 := Scalar.andi v125 v122
  let v127 : BitVec 32 := Scalar.addi v121 v120
  let v128 : BitVec 32 := Scalar.select v126 v127 v121
  let c8192_i32_95 : BitVec 32 := 8192#32
  let v129 : BitVec 32 := Scalar.muli v128 c8192_i32_95
  let c256_i32 : BitVec 32 := 256#32
  let v130 : BitVec 32 := Scalar.addi v129 c256_i32
  v130
def k0_mult3 (i : grid0.Coords) : BitVec 32 :=
  let arg2 : BitVec 32 := BitVec.ofNat 32 (i 2).val
  let c1_i32_136 : BitVec 32 := 1#32
  let c0_i32_137 : BitVec 32 := 0#32
  let v192 : BitVec 1 := Scalar.cmpi .eq c1_i32_136 c0_i32_137
  let c1_i32_138 : BitVec 32 := 1#32
  let v193 : BitVec 32 := Scalar.select v192 c1_i32_138 c1_i32_136
  let v194 : BitVec 32 := Scalar.remsi arg2 v193
  let c0_i32_140 : BitVec 32 := 0#32
  let v196 : BitVec 1 := Scalar.cmpi .slt v194 c0_i32_140
  let c0_i32_141 : BitVec 32 := 0#32
  let v197 : BitVec 1 := Scalar.cmpi .slt v193 c0_i32_141
  let v198 : BitVec 1 := Scalar.xori v196 v197
  let c0_i32_139 : BitVec 32 := 0#32
  let v195 : BitVec 1 := Scalar.cmpi .ne v194 c0_i32_139
  let v199 : BitVec 1 := Scalar.andi v198 v195
  let v200 : BitVec 32 := Scalar.addi v194 v193
  let v201 : BitVec 32 := Scalar.select v199 v200 v194
  let c8192_i32_142 : BitVec 32 := 8192#32
  let v202 : BitVec 32 := Scalar.muli v201 c8192_i32_142
  let c512_i32 : BitVec 32 := 512#32
  let v203 : BitVec 32 := Scalar.addi v202 c512_i32
  v203
def k0_mult4 (i : grid0.Coords) : BitVec 32 :=
  let arg2 : BitVec 32 := BitVec.ofNat 32 (i 2).val
  let c1_i32_183 : BitVec 32 := 1#32
  let c0_i32_184 : BitVec 32 := 0#32
  let v265 : BitVec 1 := Scalar.cmpi .eq c1_i32_183 c0_i32_184
  let c1_i32_185 : BitVec 32 := 1#32
  let v266 : BitVec 32 := Scalar.select v265 c1_i32_185 c1_i32_183
  let v267 : BitVec 32 := Scalar.remsi arg2 v266
  let c0_i32_187 : BitVec 32 := 0#32
  let v269 : BitVec 1 := Scalar.cmpi .slt v267 c0_i32_187
  let c0_i32_188 : BitVec 32 := 0#32
  let v270 : BitVec 1 := Scalar.cmpi .slt v266 c0_i32_188
  let v271 : BitVec 1 := Scalar.xori v269 v270
  let c0_i32_186 : BitVec 32 := 0#32
  let v268 : BitVec 1 := Scalar.cmpi .ne v267 c0_i32_186
  let v272 : BitVec 1 := Scalar.andi v271 v268
  let v273 : BitVec 32 := Scalar.addi v267 v266
  let v274 : BitVec 32 := Scalar.select v272 v273 v267
  let c8192_i32_189 : BitVec 32 := 8192#32
  let v275 : BitVec 32 := Scalar.muli v274 c8192_i32_189
  let c768_i32 : BitVec 32 := 768#32
  let v276 : BitVec 32 := Scalar.addi v275 c768_i32
  v276
def k0_mult5 (i : grid0.Coords) : BitVec 32 :=
  let arg2 : BitVec 32 := BitVec.ofNat 32 (i 2).val
  let c1_i32_230 : BitVec 32 := 1#32
  let c0_i32_231 : BitVec 32 := 0#32
  let v338 : BitVec 1 := Scalar.cmpi .eq c1_i32_230 c0_i32_231
  let c1_i32_232 : BitVec 32 := 1#32
  let v339 : BitVec 32 := Scalar.select v338 c1_i32_232 c1_i32_230
  let v340 : BitVec 32 := Scalar.remsi arg2 v339
  let c0_i32_234 : BitVec 32 := 0#32
  let v342 : BitVec 1 := Scalar.cmpi .slt v340 c0_i32_234
  let c0_i32_235 : BitVec 32 := 0#32
  let v343 : BitVec 1 := Scalar.cmpi .slt v339 c0_i32_235
  let v344 : BitVec 1 := Scalar.xori v342 v343
  let c0_i32_233 : BitVec 32 := 0#32
  let v341 : BitVec 1 := Scalar.cmpi .ne v340 c0_i32_233
  let v345 : BitVec 1 := Scalar.andi v344 v341
  let v346 : BitVec 32 := Scalar.addi v340 v339
  let v347 : BitVec 32 := Scalar.select v345 v346 v340
  let c8192_i32_236 : BitVec 32 := 8192#32
  let v348 : BitVec 32 := Scalar.muli v347 c8192_i32_236
  let c1024_i32 : BitVec 32 := 1024#32
  let v349 : BitVec 32 := Scalar.addi v348 c1024_i32
  v349
def k0_mult6 (i : grid0.Coords) : BitVec 32 :=
  let arg2 : BitVec 32 := BitVec.ofNat 32 (i 2).val
  let c1_i32_277 : BitVec 32 := 1#32
  let c0_i32_278 : BitVec 32 := 0#32
  let v411 : BitVec 1 := Scalar.cmpi .eq c1_i32_277 c0_i32_278
  let c1_i32_279 : BitVec 32 := 1#32
  let v412 : BitVec 32 := Scalar.select v411 c1_i32_279 c1_i32_277
  let v413 : BitVec 32 := Scalar.remsi arg2 v412
  let c0_i32_281 : BitVec 32 := 0#32
  let v415 : BitVec 1 := Scalar.cmpi .slt v413 c0_i32_281
  let c0_i32_282 : BitVec 32 := 0#32
  let v416 : BitVec 1 := Scalar.cmpi .slt v412 c0_i32_282
  let v417 : BitVec 1 := Scalar.xori v415 v416
  let c0_i32_280 : BitVec 32 := 0#32
  let v414 : BitVec 1 := Scalar.cmpi .ne v413 c0_i32_280
  let v418 : BitVec 1 := Scalar.andi v417 v414
  let v419 : BitVec 32 := Scalar.addi v413 v412
  let v420 : BitVec 32 := Scalar.select v418 v419 v413
  let c8192_i32_283 : BitVec 32 := 8192#32
  let v421 : BitVec 32 := Scalar.muli v420 c8192_i32_283
  let c1280_i32 : BitVec 32 := 1280#32
  let v422 : BitVec 32 := Scalar.addi v421 c1280_i32
  v422
def k0_mult7 (i : grid0.Coords) : BitVec 32 :=
  let arg2 : BitVec 32 := BitVec.ofNat 32 (i 2).val
  let c1_i32_324 : BitVec 32 := 1#32
  let c0_i32_325 : BitVec 32 := 0#32
  let v484 : BitVec 1 := Scalar.cmpi .eq c1_i32_324 c0_i32_325
  let c1_i32_326 : BitVec 32 := 1#32
  let v485 : BitVec 32 := Scalar.select v484 c1_i32_326 c1_i32_324
  let v486 : BitVec 32 := Scalar.remsi arg2 v485
  let c0_i32_328 : BitVec 32 := 0#32
  let v488 : BitVec 1 := Scalar.cmpi .slt v486 c0_i32_328
  let c0_i32_329 : BitVec 32 := 0#32
  let v489 : BitVec 1 := Scalar.cmpi .slt v485 c0_i32_329
  let v490 : BitVec 1 := Scalar.xori v488 v489
  let c0_i32_327 : BitVec 32 := 0#32
  let v487 : BitVec 1 := Scalar.cmpi .ne v486 c0_i32_327
  let v491 : BitVec 1 := Scalar.andi v490 v487
  let v492 : BitVec 32 := Scalar.addi v486 v485
  let v493 : BitVec 32 := Scalar.select v491 v492 v486
  let c8192_i32_330 : BitVec 32 := 8192#32
  let v494 : BitVec 32 := Scalar.muli v493 c8192_i32_330
  let c1536_i32 : BitVec 32 := 1536#32
  let v495 : BitVec 32 := Scalar.addi v494 c1536_i32
  v495
def k0_mult8 (i : grid0.Coords) : BitVec 32 :=
  let arg2 : BitVec 32 := BitVec.ofNat 32 (i 2).val
  let c1_i32_371 : BitVec 32 := 1#32
  let c0_i32_372 : BitVec 32 := 0#32
  let v557 : BitVec 1 := Scalar.cmpi .eq c1_i32_371 c0_i32_372
  let c1_i32_373 : BitVec 32 := 1#32
  let v558 : BitVec 32 := Scalar.select v557 c1_i32_373 c1_i32_371
  let v559 : BitVec 32 := Scalar.remsi arg2 v558
  let c0_i32_375 : BitVec 32 := 0#32
  let v561 : BitVec 1 := Scalar.cmpi .slt v559 c0_i32_375
  let c0_i32_376 : BitVec 32 := 0#32
  let v562 : BitVec 1 := Scalar.cmpi .slt v558 c0_i32_376
  let v563 : BitVec 1 := Scalar.xori v561 v562
  let c0_i32_374 : BitVec 32 := 0#32
  let v560 : BitVec 1 := Scalar.cmpi .ne v559 c0_i32_374
  let v564 : BitVec 1 := Scalar.andi v563 v560
  let v565 : BitVec 32 := Scalar.addi v559 v558
  let v566 : BitVec 32 := Scalar.select v564 v565 v559
  let c8192_i32_377 : BitVec 32 := 8192#32
  let v567 : BitVec 32 := Scalar.muli v566 c8192_i32_377
  let c1792_i32 : BitVec 32 := 1792#32
  let v568 : BitVec 32 := Scalar.addi v567 c1792_i32
  v568
def k0_mult9 (i : grid0.Coords) : BitVec 32 :=
  let arg2 : BitVec 32 := BitVec.ofNat 32 (i 2).val
  let c1_i32_418 : BitVec 32 := 1#32
  let c0_i32_419 : BitVec 32 := 0#32
  let v630 : BitVec 1 := Scalar.cmpi .eq c1_i32_418 c0_i32_419
  let c1_i32_420 : BitVec 32 := 1#32
  let v631 : BitVec 32 := Scalar.select v630 c1_i32_420 c1_i32_418
  let v632 : BitVec 32 := Scalar.remsi arg2 v631
  let c0_i32_422 : BitVec 32 := 0#32
  let v634 : BitVec 1 := Scalar.cmpi .slt v632 c0_i32_422
  let c0_i32_423 : BitVec 32 := 0#32
  let v635 : BitVec 1 := Scalar.cmpi .slt v631 c0_i32_423
  let v636 : BitVec 1 := Scalar.xori v634 v635
  let c0_i32_421 : BitVec 32 := 0#32
  let v633 : BitVec 1 := Scalar.cmpi .ne v632 c0_i32_421
  let v637 : BitVec 1 := Scalar.andi v636 v633
  let v638 : BitVec 32 := Scalar.addi v632 v631
  let v639 : BitVec 32 := Scalar.select v637 v638 v632
  let c8192_i32_424 : BitVec 32 := 8192#32
  let v640 : BitVec 32 := Scalar.muli v639 c8192_i32_424
  let c2048_i32 : BitVec 32 := 2048#32
  let v641 : BitVec 32 := Scalar.addi v640 c2048_i32
  v641
def k0_mult10 (i : grid0.Coords) : BitVec 32 :=
  let arg2 : BitVec 32 := BitVec.ofNat 32 (i 2).val
  let c1_i32_465 : BitVec 32 := 1#32
  let c0_i32_466 : BitVec 32 := 0#32
  let v703 : BitVec 1 := Scalar.cmpi .eq c1_i32_465 c0_i32_466
  let c1_i32_467 : BitVec 32 := 1#32
  let v704 : BitVec 32 := Scalar.select v703 c1_i32_467 c1_i32_465
  let v705 : BitVec 32 := Scalar.remsi arg2 v704
  let c0_i32_469 : BitVec 32 := 0#32
  let v707 : BitVec 1 := Scalar.cmpi .slt v705 c0_i32_469
  let c0_i32_470 : BitVec 32 := 0#32
  let v708 : BitVec 1 := Scalar.cmpi .slt v704 c0_i32_470
  let v709 : BitVec 1 := Scalar.xori v707 v708
  let c0_i32_468 : BitVec 32 := 0#32
  let v706 : BitVec 1 := Scalar.cmpi .ne v705 c0_i32_468
  let v710 : BitVec 1 := Scalar.andi v709 v706
  let v711 : BitVec 32 := Scalar.addi v705 v704
  let v712 : BitVec 32 := Scalar.select v710 v711 v705
  let c8192_i32_471 : BitVec 32 := 8192#32
  let v713 : BitVec 32 := Scalar.muli v712 c8192_i32_471
  let c2304_i32 : BitVec 32 := 2304#32
  let v714 : BitVec 32 := Scalar.addi v713 c2304_i32
  v714
def k0_mult11 (i : grid0.Coords) : BitVec 32 :=
  let arg2 : BitVec 32 := BitVec.ofNat 32 (i 2).val
  let c1_i32_512 : BitVec 32 := 1#32
  let c0_i32_513 : BitVec 32 := 0#32
  let v776 : BitVec 1 := Scalar.cmpi .eq c1_i32_512 c0_i32_513
  let c1_i32_514 : BitVec 32 := 1#32
  let v777 : BitVec 32 := Scalar.select v776 c1_i32_514 c1_i32_512
  let v778 : BitVec 32 := Scalar.remsi arg2 v777
  let c0_i32_516 : BitVec 32 := 0#32
  let v780 : BitVec 1 := Scalar.cmpi .slt v778 c0_i32_516
  let c0_i32_517 : BitVec 32 := 0#32
  let v781 : BitVec 1 := Scalar.cmpi .slt v777 c0_i32_517
  let v782 : BitVec 1 := Scalar.xori v780 v781
  let c0_i32_515 : BitVec 32 := 0#32
  let v779 : BitVec 1 := Scalar.cmpi .ne v778 c0_i32_515
  let v783 : BitVec 1 := Scalar.andi v782 v779
  let v784 : BitVec 32 := Scalar.addi v778 v777
  let v785 : BitVec 32 := Scalar.select v783 v784 v778
  let c8192_i32_518 : BitVec 32 := 8192#32
  let v786 : BitVec 32 := Scalar.muli v785 c8192_i32_518
  let c2560_i32 : BitVec 32 := 2560#32
  let v787 : BitVec 32 := Scalar.addi v786 c2560_i32
  v787
def k0_mult12 (i : grid0.Coords) : BitVec 32 :=
  let arg2 : BitVec 32 := BitVec.ofNat 32 (i 2).val
  let c1_i32_559 : BitVec 32 := 1#32
  let c0_i32_560 : BitVec 32 := 0#32
  let v849 : BitVec 1 := Scalar.cmpi .eq c1_i32_559 c0_i32_560
  let c1_i32_561 : BitVec 32 := 1#32
  let v850 : BitVec 32 := Scalar.select v849 c1_i32_561 c1_i32_559
  let v851 : BitVec 32 := Scalar.remsi arg2 v850
  let c0_i32_563 : BitVec 32 := 0#32
  let v853 : BitVec 1 := Scalar.cmpi .slt v851 c0_i32_563
  let c0_i32_564 : BitVec 32 := 0#32
  let v854 : BitVec 1 := Scalar.cmpi .slt v850 c0_i32_564
  let v855 : BitVec 1 := Scalar.xori v853 v854
  let c0_i32_562 : BitVec 32 := 0#32
  let v852 : BitVec 1 := Scalar.cmpi .ne v851 c0_i32_562
  let v856 : BitVec 1 := Scalar.andi v855 v852
  let v857 : BitVec 32 := Scalar.addi v851 v850
  let v858 : BitVec 32 := Scalar.select v856 v857 v851
  let c8192_i32_565 : BitVec 32 := 8192#32
  let v859 : BitVec 32 := Scalar.muli v858 c8192_i32_565
  let c2816_i32 : BitVec 32 := 2816#32
  let v860 : BitVec 32 := Scalar.addi v859 c2816_i32
  v860
def k0_mult13 (i : grid0.Coords) : BitVec 32 :=
  let arg2 : BitVec 32 := BitVec.ofNat 32 (i 2).val
  let c1_i32_606 : BitVec 32 := 1#32
  let c0_i32_607 : BitVec 32 := 0#32
  let v922 : BitVec 1 := Scalar.cmpi .eq c1_i32_606 c0_i32_607
  let c1_i32_608 : BitVec 32 := 1#32
  let v923 : BitVec 32 := Scalar.select v922 c1_i32_608 c1_i32_606
  let v924 : BitVec 32 := Scalar.remsi arg2 v923
  let c0_i32_610 : BitVec 32 := 0#32
  let v926 : BitVec 1 := Scalar.cmpi .slt v924 c0_i32_610
  let c0_i32_611 : BitVec 32 := 0#32
  let v927 : BitVec 1 := Scalar.cmpi .slt v923 c0_i32_611
  let v928 : BitVec 1 := Scalar.xori v926 v927
  let c0_i32_609 : BitVec 32 := 0#32
  let v925 : BitVec 1 := Scalar.cmpi .ne v924 c0_i32_609
  let v929 : BitVec 1 := Scalar.andi v928 v925
  let v930 : BitVec 32 := Scalar.addi v924 v923
  let v931 : BitVec 32 := Scalar.select v929 v930 v924
  let c8192_i32_612 : BitVec 32 := 8192#32
  let v932 : BitVec 32 := Scalar.muli v931 c8192_i32_612
  let c3072_i32 : BitVec 32 := 3072#32
  let v933 : BitVec 32 := Scalar.addi v932 c3072_i32
  v933
def k0_mult14 (i : grid0.Coords) : BitVec 32 :=
  let arg2 : BitVec 32 := BitVec.ofNat 32 (i 2).val
  let c1_i32_653 : BitVec 32 := 1#32
  let c0_i32_654 : BitVec 32 := 0#32
  let v995 : BitVec 1 := Scalar.cmpi .eq c1_i32_653 c0_i32_654
  let c1_i32_655 : BitVec 32 := 1#32
  let v996 : BitVec 32 := Scalar.select v995 c1_i32_655 c1_i32_653
  let v997 : BitVec 32 := Scalar.remsi arg2 v996
  let c0_i32_657 : BitVec 32 := 0#32
  let v999 : BitVec 1 := Scalar.cmpi .slt v997 c0_i32_657
  let c0_i32_658 : BitVec 32 := 0#32
  let v1000 : BitVec 1 := Scalar.cmpi .slt v996 c0_i32_658
  let v1001 : BitVec 1 := Scalar.xori v999 v1000
  let c0_i32_656 : BitVec 32 := 0#32
  let v998 : BitVec 1 := Scalar.cmpi .ne v997 c0_i32_656
  let v1002 : BitVec 1 := Scalar.andi v1001 v998
  let v1003 : BitVec 32 := Scalar.addi v997 v996
  let v1004 : BitVec 32 := Scalar.select v1002 v1003 v997
  let c8192_i32_659 : BitVec 32 := 8192#32
  let v1005 : BitVec 32 := Scalar.muli v1004 c8192_i32_659
  let c3328_i32 : BitVec 32 := 3328#32
  let v1006 : BitVec 32 := Scalar.addi v1005 c3328_i32
  v1006
def k0_mult15 (i : grid0.Coords) : BitVec 32 :=
  let arg2 : BitVec 32 := BitVec.ofNat 32 (i 2).val
  let c1_i32_700 : BitVec 32 := 1#32
  let c0_i32_701 : BitVec 32 := 0#32
  let v1068 : BitVec 1 := Scalar.cmpi .eq c1_i32_700 c0_i32_701
  let c1_i32_702 : BitVec 32 := 1#32
  let v1069 : BitVec 32 := Scalar.select v1068 c1_i32_702 c1_i32_700
  let v1070 : BitVec 32 := Scalar.remsi arg2 v1069
  let c0_i32_704 : BitVec 32 := 0#32
  let v1072 : BitVec 1 := Scalar.cmpi .slt v1070 c0_i32_704
  let c0_i32_705 : BitVec 32 := 0#32
  let v1073 : BitVec 1 := Scalar.cmpi .slt v1069 c0_i32_705
  let v1074 : BitVec 1 := Scalar.xori v1072 v1073
  let c0_i32_703 : BitVec 32 := 0#32
  let v1071 : BitVec 1 := Scalar.cmpi .ne v1070 c0_i32_703
  let v1075 : BitVec 1 := Scalar.andi v1074 v1071
  let v1076 : BitVec 32 := Scalar.addi v1070 v1069
  let v1077 : BitVec 32 := Scalar.select v1075 v1076 v1070
  let c8192_i32_706 : BitVec 32 := 8192#32
  let v1078 : BitVec 32 := Scalar.muli v1077 c8192_i32_706
  let c3584_i32 : BitVec 32 := 3584#32
  let v1079 : BitVec 32 := Scalar.addi v1078 c3584_i32
  v1079
def k0_mult16 (i : grid0.Coords) : BitVec 32 :=
  let arg2 : BitVec 32 := BitVec.ofNat 32 (i 2).val
  let c1_i32_747 : BitVec 32 := 1#32
  let c0_i32_748 : BitVec 32 := 0#32
  let v1141 : BitVec 1 := Scalar.cmpi .eq c1_i32_747 c0_i32_748
  let c1_i32_749 : BitVec 32 := 1#32
  let v1142 : BitVec 32 := Scalar.select v1141 c1_i32_749 c1_i32_747
  let v1143 : BitVec 32 := Scalar.remsi arg2 v1142
  let c0_i32_751 : BitVec 32 := 0#32
  let v1145 : BitVec 1 := Scalar.cmpi .slt v1143 c0_i32_751
  let c0_i32_752 : BitVec 32 := 0#32
  let v1146 : BitVec 1 := Scalar.cmpi .slt v1142 c0_i32_752
  let v1147 : BitVec 1 := Scalar.xori v1145 v1146
  let c0_i32_750 : BitVec 32 := 0#32
  let v1144 : BitVec 1 := Scalar.cmpi .ne v1143 c0_i32_750
  let v1148 : BitVec 1 := Scalar.andi v1147 v1144
  let v1149 : BitVec 32 := Scalar.addi v1143 v1142
  let v1150 : BitVec 32 := Scalar.select v1148 v1149 v1143
  let c8192_i32_753 : BitVec 32 := 8192#32
  let v1151 : BitVec 32 := Scalar.muli v1150 c8192_i32_753
  let c3840_i32 : BitVec 32 := 3840#32
  let v1152 : BitVec 32 := Scalar.addi v1151 c3840_i32
  v1152
def k0_mult17 (i : grid0.Coords) : BitVec 32 :=
  let arg2 : BitVec 32 := BitVec.ofNat 32 (i 2).val
  let c1_i32_794 : BitVec 32 := 1#32
  let c0_i32_795 : BitVec 32 := 0#32
  let v1214 : BitVec 1 := Scalar.cmpi .eq c1_i32_794 c0_i32_795
  let c1_i32_796 : BitVec 32 := 1#32
  let v1215 : BitVec 32 := Scalar.select v1214 c1_i32_796 c1_i32_794
  let v1216 : BitVec 32 := Scalar.remsi arg2 v1215
  let c0_i32_798 : BitVec 32 := 0#32
  let v1218 : BitVec 1 := Scalar.cmpi .slt v1216 c0_i32_798
  let c0_i32_799 : BitVec 32 := 0#32
  let v1219 : BitVec 1 := Scalar.cmpi .slt v1215 c0_i32_799
  let v1220 : BitVec 1 := Scalar.xori v1218 v1219
  let c0_i32_797 : BitVec 32 := 0#32
  let v1217 : BitVec 1 := Scalar.cmpi .ne v1216 c0_i32_797
  let v1221 : BitVec 1 := Scalar.andi v1220 v1217
  let v1222 : BitVec 32 := Scalar.addi v1216 v1215
  let v1223 : BitVec 32 := Scalar.select v1221 v1222 v1216
  let c8192_i32_800 : BitVec 32 := 8192#32
  let v1224 : BitVec 32 := Scalar.muli v1223 c8192_i32_800
  let c4096_i32 : BitVec 32 := 4096#32
  let v1225 : BitVec 32 := Scalar.addi v1224 c4096_i32
  v1225
def k0_mult18 (i : grid0.Coords) : BitVec 32 :=
  let arg2 : BitVec 32 := BitVec.ofNat 32 (i 2).val
  let c1_i32_841 : BitVec 32 := 1#32
  let c0_i32_842 : BitVec 32 := 0#32
  let v1287 : BitVec 1 := Scalar.cmpi .eq c1_i32_841 c0_i32_842
  let c1_i32_843 : BitVec 32 := 1#32
  let v1288 : BitVec 32 := Scalar.select v1287 c1_i32_843 c1_i32_841
  let v1289 : BitVec 32 := Scalar.remsi arg2 v1288
  let c0_i32_845 : BitVec 32 := 0#32
  let v1291 : BitVec 1 := Scalar.cmpi .slt v1289 c0_i32_845
  let c0_i32_846 : BitVec 32 := 0#32
  let v1292 : BitVec 1 := Scalar.cmpi .slt v1288 c0_i32_846
  let v1293 : BitVec 1 := Scalar.xori v1291 v1292
  let c0_i32_844 : BitVec 32 := 0#32
  let v1290 : BitVec 1 := Scalar.cmpi .ne v1289 c0_i32_844
  let v1294 : BitVec 1 := Scalar.andi v1293 v1290
  let v1295 : BitVec 32 := Scalar.addi v1289 v1288
  let v1296 : BitVec 32 := Scalar.select v1294 v1295 v1289
  let c8192_i32_847 : BitVec 32 := 8192#32
  let v1297 : BitVec 32 := Scalar.muli v1296 c8192_i32_847
  let c4352_i32 : BitVec 32 := 4352#32
  let v1298 : BitVec 32 := Scalar.addi v1297 c4352_i32
  v1298
def k0_mult19 (i : grid0.Coords) : BitVec 32 :=
  let arg2 : BitVec 32 := BitVec.ofNat 32 (i 2).val
  let c1_i32_888 : BitVec 32 := 1#32
  let c0_i32_889 : BitVec 32 := 0#32
  let v1360 : BitVec 1 := Scalar.cmpi .eq c1_i32_888 c0_i32_889
  let c1_i32_890 : BitVec 32 := 1#32
  let v1361 : BitVec 32 := Scalar.select v1360 c1_i32_890 c1_i32_888
  let v1362 : BitVec 32 := Scalar.remsi arg2 v1361
  let c0_i32_892 : BitVec 32 := 0#32
  let v1364 : BitVec 1 := Scalar.cmpi .slt v1362 c0_i32_892
  let c0_i32_893 : BitVec 32 := 0#32
  let v1365 : BitVec 1 := Scalar.cmpi .slt v1361 c0_i32_893
  let v1366 : BitVec 1 := Scalar.xori v1364 v1365
  let c0_i32_891 : BitVec 32 := 0#32
  let v1363 : BitVec 1 := Scalar.cmpi .ne v1362 c0_i32_891
  let v1367 : BitVec 1 := Scalar.andi v1366 v1363
  let v1368 : BitVec 32 := Scalar.addi v1362 v1361
  let v1369 : BitVec 32 := Scalar.select v1367 v1368 v1362
  let c8192_i32_894 : BitVec 32 := 8192#32
  let v1370 : BitVec 32 := Scalar.muli v1369 c8192_i32_894
  let c4608_i32 : BitVec 32 := 4608#32
  let v1371 : BitVec 32 := Scalar.addi v1370 c4608_i32
  v1371
def k0_mult20 (i : grid0.Coords) : BitVec 32 :=
  let arg2 : BitVec 32 := BitVec.ofNat 32 (i 2).val
  let c1_i32_935 : BitVec 32 := 1#32
  let c0_i32_936 : BitVec 32 := 0#32
  let v1433 : BitVec 1 := Scalar.cmpi .eq c1_i32_935 c0_i32_936
  let c1_i32_937 : BitVec 32 := 1#32
  let v1434 : BitVec 32 := Scalar.select v1433 c1_i32_937 c1_i32_935
  let v1435 : BitVec 32 := Scalar.remsi arg2 v1434
  let c0_i32_939 : BitVec 32 := 0#32
  let v1437 : BitVec 1 := Scalar.cmpi .slt v1435 c0_i32_939
  let c0_i32_940 : BitVec 32 := 0#32
  let v1438 : BitVec 1 := Scalar.cmpi .slt v1434 c0_i32_940
  let v1439 : BitVec 1 := Scalar.xori v1437 v1438
  let c0_i32_938 : BitVec 32 := 0#32
  let v1436 : BitVec 1 := Scalar.cmpi .ne v1435 c0_i32_938
  let v1440 : BitVec 1 := Scalar.andi v1439 v1436
  let v1441 : BitVec 32 := Scalar.addi v1435 v1434
  let v1442 : BitVec 32 := Scalar.select v1440 v1441 v1435
  let c8192_i32_941 : BitVec 32 := 8192#32
  let v1443 : BitVec 32 := Scalar.muli v1442 c8192_i32_941
  let c4864_i32 : BitVec 32 := 4864#32
  let v1444 : BitVec 32 := Scalar.addi v1443 c4864_i32
  v1444
def k0_mult21 (i : grid0.Coords) : BitVec 32 :=
  let arg2 : BitVec 32 := BitVec.ofNat 32 (i 2).val
  let c1_i32_982 : BitVec 32 := 1#32
  let c0_i32_983 : BitVec 32 := 0#32
  let v1506 : BitVec 1 := Scalar.cmpi .eq c1_i32_982 c0_i32_983
  let c1_i32_984 : BitVec 32 := 1#32
  let v1507 : BitVec 32 := Scalar.select v1506 c1_i32_984 c1_i32_982
  let v1508 : BitVec 32 := Scalar.remsi arg2 v1507
  let c0_i32_986 : BitVec 32 := 0#32
  let v1510 : BitVec 1 := Scalar.cmpi .slt v1508 c0_i32_986
  let c0_i32_987 : BitVec 32 := 0#32
  let v1511 : BitVec 1 := Scalar.cmpi .slt v1507 c0_i32_987
  let v1512 : BitVec 1 := Scalar.xori v1510 v1511
  let c0_i32_985 : BitVec 32 := 0#32
  let v1509 : BitVec 1 := Scalar.cmpi .ne v1508 c0_i32_985
  let v1513 : BitVec 1 := Scalar.andi v1512 v1509
  let v1514 : BitVec 32 := Scalar.addi v1508 v1507
  let v1515 : BitVec 32 := Scalar.select v1513 v1514 v1508
  let c8192_i32_988 : BitVec 32 := 8192#32
  let v1516 : BitVec 32 := Scalar.muli v1515 c8192_i32_988
  let c5120_i32 : BitVec 32 := 5120#32
  let v1517 : BitVec 32 := Scalar.addi v1516 c5120_i32
  v1517
def k0_mult22 (i : grid0.Coords) : BitVec 32 :=
  let arg2 : BitVec 32 := BitVec.ofNat 32 (i 2).val
  let c1_i32_1029 : BitVec 32 := 1#32
  let c0_i32_1030 : BitVec 32 := 0#32
  let v1579 : BitVec 1 := Scalar.cmpi .eq c1_i32_1029 c0_i32_1030
  let c1_i32_1031 : BitVec 32 := 1#32
  let v1580 : BitVec 32 := Scalar.select v1579 c1_i32_1031 c1_i32_1029
  let v1581 : BitVec 32 := Scalar.remsi arg2 v1580
  let c0_i32_1033 : BitVec 32 := 0#32
  let v1583 : BitVec 1 := Scalar.cmpi .slt v1581 c0_i32_1033
  let c0_i32_1034 : BitVec 32 := 0#32
  let v1584 : BitVec 1 := Scalar.cmpi .slt v1580 c0_i32_1034
  let v1585 : BitVec 1 := Scalar.xori v1583 v1584
  let c0_i32_1032 : BitVec 32 := 0#32
  let v1582 : BitVec 1 := Scalar.cmpi .ne v1581 c0_i32_1032
  let v1586 : BitVec 1 := Scalar.andi v1585 v1582
  let v1587 : BitVec 32 := Scalar.addi v1581 v1580
  let v1588 : BitVec 32 := Scalar.select v1586 v1587 v1581
  let c8192_i32_1035 : BitVec 32 := 8192#32
  let v1589 : BitVec 32 := Scalar.muli v1588 c8192_i32_1035
  let c5376_i32 : BitVec 32 := 5376#32
  let v1590 : BitVec 32 := Scalar.addi v1589 c5376_i32
  v1590
def k0_mult23 (i : grid0.Coords) : BitVec 32 :=
  let arg2 : BitVec 32 := BitVec.ofNat 32 (i 2).val
  let c1_i32_1076 : BitVec 32 := 1#32
  let c0_i32_1077 : BitVec 32 := 0#32
  let v1652 : BitVec 1 := Scalar.cmpi .eq c1_i32_1076 c0_i32_1077
  let c1_i32_1078 : BitVec 32 := 1#32
  let v1653 : BitVec 32 := Scalar.select v1652 c1_i32_1078 c1_i32_1076
  let v1654 : BitVec 32 := Scalar.remsi arg2 v1653
  let c0_i32_1080 : BitVec 32 := 0#32
  let v1656 : BitVec 1 := Scalar.cmpi .slt v1654 c0_i32_1080
  let c0_i32_1081 : BitVec 32 := 0#32
  let v1657 : BitVec 1 := Scalar.cmpi .slt v1653 c0_i32_1081
  let v1658 : BitVec 1 := Scalar.xori v1656 v1657
  let c0_i32_1079 : BitVec 32 := 0#32
  let v1655 : BitVec 1 := Scalar.cmpi .ne v1654 c0_i32_1079
  let v1659 : BitVec 1 := Scalar.andi v1658 v1655
  let v1660 : BitVec 32 := Scalar.addi v1654 v1653
  let v1661 : BitVec 32 := Scalar.select v1659 v1660 v1654
  let c8192_i32_1082 : BitVec 32 := 8192#32
  let v1662 : BitVec 32 := Scalar.muli v1661 c8192_i32_1082
  let c5632_i32 : BitVec 32 := 5632#32
  let v1663 : BitVec 32 := Scalar.addi v1662 c5632_i32
  v1663
def k0_mult24 (i : grid0.Coords) : BitVec 32 :=
  let arg2 : BitVec 32 := BitVec.ofNat 32 (i 2).val
  let c1_i32_1123 : BitVec 32 := 1#32
  let c0_i32_1124 : BitVec 32 := 0#32
  let v1725 : BitVec 1 := Scalar.cmpi .eq c1_i32_1123 c0_i32_1124
  let c1_i32_1125 : BitVec 32 := 1#32
  let v1726 : BitVec 32 := Scalar.select v1725 c1_i32_1125 c1_i32_1123
  let v1727 : BitVec 32 := Scalar.remsi arg2 v1726
  let c0_i32_1127 : BitVec 32 := 0#32
  let v1729 : BitVec 1 := Scalar.cmpi .slt v1727 c0_i32_1127
  let c0_i32_1128 : BitVec 32 := 0#32
  let v1730 : BitVec 1 := Scalar.cmpi .slt v1726 c0_i32_1128
  let v1731 : BitVec 1 := Scalar.xori v1729 v1730
  let c0_i32_1126 : BitVec 32 := 0#32
  let v1728 : BitVec 1 := Scalar.cmpi .ne v1727 c0_i32_1126
  let v1732 : BitVec 1 := Scalar.andi v1731 v1728
  let v1733 : BitVec 32 := Scalar.addi v1727 v1726
  let v1734 : BitVec 32 := Scalar.select v1732 v1733 v1727
  let c8192_i32_1129 : BitVec 32 := 8192#32
  let v1735 : BitVec 32 := Scalar.muli v1734 c8192_i32_1129
  let c5888_i32 : BitVec 32 := 5888#32
  let v1736 : BitVec 32 := Scalar.addi v1735 c5888_i32
  v1736
def k0_mult25 (i : grid0.Coords) : BitVec 32 :=
  let arg2 : BitVec 32 := BitVec.ofNat 32 (i 2).val
  let c1_i32_1170 : BitVec 32 := 1#32
  let c0_i32_1171 : BitVec 32 := 0#32
  let v1798 : BitVec 1 := Scalar.cmpi .eq c1_i32_1170 c0_i32_1171
  let c1_i32_1172 : BitVec 32 := 1#32
  let v1799 : BitVec 32 := Scalar.select v1798 c1_i32_1172 c1_i32_1170
  let v1800 : BitVec 32 := Scalar.remsi arg2 v1799
  let c0_i32_1174 : BitVec 32 := 0#32
  let v1802 : BitVec 1 := Scalar.cmpi .slt v1800 c0_i32_1174
  let c0_i32_1175 : BitVec 32 := 0#32
  let v1803 : BitVec 1 := Scalar.cmpi .slt v1799 c0_i32_1175
  let v1804 : BitVec 1 := Scalar.xori v1802 v1803
  let c0_i32_1173 : BitVec 32 := 0#32
  let v1801 : BitVec 1 := Scalar.cmpi .ne v1800 c0_i32_1173
  let v1805 : BitVec 1 := Scalar.andi v1804 v1801
  let v1806 : BitVec 32 := Scalar.addi v1800 v1799
  let v1807 : BitVec 32 := Scalar.select v1805 v1806 v1800
  let c8192_i32_1176 : BitVec 32 := 8192#32
  let v1808 : BitVec 32 := Scalar.muli v1807 c8192_i32_1176
  let c6144_i32 : BitVec 32 := 6144#32
  let v1809 : BitVec 32 := Scalar.addi v1808 c6144_i32
  v1809
def k0_mult26 (i : grid0.Coords) : BitVec 32 :=
  let arg2 : BitVec 32 := BitVec.ofNat 32 (i 2).val
  let c1_i32_1217 : BitVec 32 := 1#32
  let c0_i32_1218 : BitVec 32 := 0#32
  let v1871 : BitVec 1 := Scalar.cmpi .eq c1_i32_1217 c0_i32_1218
  let c1_i32_1219 : BitVec 32 := 1#32
  let v1872 : BitVec 32 := Scalar.select v1871 c1_i32_1219 c1_i32_1217
  let v1873 : BitVec 32 := Scalar.remsi arg2 v1872
  let c0_i32_1221 : BitVec 32 := 0#32
  let v1875 : BitVec 1 := Scalar.cmpi .slt v1873 c0_i32_1221
  let c0_i32_1222 : BitVec 32 := 0#32
  let v1876 : BitVec 1 := Scalar.cmpi .slt v1872 c0_i32_1222
  let v1877 : BitVec 1 := Scalar.xori v1875 v1876
  let c0_i32_1220 : BitVec 32 := 0#32
  let v1874 : BitVec 1 := Scalar.cmpi .ne v1873 c0_i32_1220
  let v1878 : BitVec 1 := Scalar.andi v1877 v1874
  let v1879 : BitVec 32 := Scalar.addi v1873 v1872
  let v1880 : BitVec 32 := Scalar.select v1878 v1879 v1873
  let c8192_i32_1223 : BitVec 32 := 8192#32
  let v1881 : BitVec 32 := Scalar.muli v1880 c8192_i32_1223
  let c6400_i32 : BitVec 32 := 6400#32
  let v1882 : BitVec 32 := Scalar.addi v1881 c6400_i32
  v1882
def k0_mult27 (i : grid0.Coords) : BitVec 32 :=
  let arg2 : BitVec 32 := BitVec.ofNat 32 (i 2).val
  let c1_i32_1264 : BitVec 32 := 1#32
  let c0_i32_1265 : BitVec 32 := 0#32
  let v1944 : BitVec 1 := Scalar.cmpi .eq c1_i32_1264 c0_i32_1265
  let c1_i32_1266 : BitVec 32 := 1#32
  let v1945 : BitVec 32 := Scalar.select v1944 c1_i32_1266 c1_i32_1264
  let v1946 : BitVec 32 := Scalar.remsi arg2 v1945
  let c0_i32_1268 : BitVec 32 := 0#32
  let v1948 : BitVec 1 := Scalar.cmpi .slt v1946 c0_i32_1268
  let c0_i32_1269 : BitVec 32 := 0#32
  let v1949 : BitVec 1 := Scalar.cmpi .slt v1945 c0_i32_1269
  let v1950 : BitVec 1 := Scalar.xori v1948 v1949
  let c0_i32_1267 : BitVec 32 := 0#32
  let v1947 : BitVec 1 := Scalar.cmpi .ne v1946 c0_i32_1267
  let v1951 : BitVec 1 := Scalar.andi v1950 v1947
  let v1952 : BitVec 32 := Scalar.addi v1946 v1945
  let v1953 : BitVec 32 := Scalar.select v1951 v1952 v1946
  let c8192_i32_1270 : BitVec 32 := 8192#32
  let v1954 : BitVec 32 := Scalar.muli v1953 c8192_i32_1270
  let c6656_i32 : BitVec 32 := 6656#32
  let v1955 : BitVec 32 := Scalar.addi v1954 c6656_i32
  v1955
def k0_mult28 (i : grid0.Coords) : BitVec 32 :=
  let arg2 : BitVec 32 := BitVec.ofNat 32 (i 2).val
  let c1_i32_1311 : BitVec 32 := 1#32
  let c0_i32_1312 : BitVec 32 := 0#32
  let v2017 : BitVec 1 := Scalar.cmpi .eq c1_i32_1311 c0_i32_1312
  let c1_i32_1313 : BitVec 32 := 1#32
  let v2018 : BitVec 32 := Scalar.select v2017 c1_i32_1313 c1_i32_1311
  let v2019 : BitVec 32 := Scalar.remsi arg2 v2018
  let c0_i32_1315 : BitVec 32 := 0#32
  let v2021 : BitVec 1 := Scalar.cmpi .slt v2019 c0_i32_1315
  let c0_i32_1316 : BitVec 32 := 0#32
  let v2022 : BitVec 1 := Scalar.cmpi .slt v2018 c0_i32_1316
  let v2023 : BitVec 1 := Scalar.xori v2021 v2022
  let c0_i32_1314 : BitVec 32 := 0#32
  let v2020 : BitVec 1 := Scalar.cmpi .ne v2019 c0_i32_1314
  let v2024 : BitVec 1 := Scalar.andi v2023 v2020
  let v2025 : BitVec 32 := Scalar.addi v2019 v2018
  let v2026 : BitVec 32 := Scalar.select v2024 v2025 v2019
  let c8192_i32_1317 : BitVec 32 := 8192#32
  let v2027 : BitVec 32 := Scalar.muli v2026 c8192_i32_1317
  let c6912_i32 : BitVec 32 := 6912#32
  let v2028 : BitVec 32 := Scalar.addi v2027 c6912_i32
  v2028
def k0_mult29 (i : grid0.Coords) : BitVec 32 :=
  let arg2 : BitVec 32 := BitVec.ofNat 32 (i 2).val
  let c1_i32_1358 : BitVec 32 := 1#32
  let c0_i32_1359 : BitVec 32 := 0#32
  let v2090 : BitVec 1 := Scalar.cmpi .eq c1_i32_1358 c0_i32_1359
  let c1_i32_1360 : BitVec 32 := 1#32
  let v2091 : BitVec 32 := Scalar.select v2090 c1_i32_1360 c1_i32_1358
  let v2092 : BitVec 32 := Scalar.remsi arg2 v2091
  let c0_i32_1362 : BitVec 32 := 0#32
  let v2094 : BitVec 1 := Scalar.cmpi .slt v2092 c0_i32_1362
  let c0_i32_1363 : BitVec 32 := 0#32
  let v2095 : BitVec 1 := Scalar.cmpi .slt v2091 c0_i32_1363
  let v2096 : BitVec 1 := Scalar.xori v2094 v2095
  let c0_i32_1361 : BitVec 32 := 0#32
  let v2093 : BitVec 1 := Scalar.cmpi .ne v2092 c0_i32_1361
  let v2097 : BitVec 1 := Scalar.andi v2096 v2093
  let v2098 : BitVec 32 := Scalar.addi v2092 v2091
  let v2099 : BitVec 32 := Scalar.select v2097 v2098 v2092
  let c8192_i32_1364 : BitVec 32 := 8192#32
  let v2100 : BitVec 32 := Scalar.muli v2099 c8192_i32_1364
  let c7168_i32 : BitVec 32 := 7168#32
  let v2101 : BitVec 32 := Scalar.addi v2100 c7168_i32
  v2101
def k0_mult30 (i : grid0.Coords) : BitVec 32 :=
  let arg2 : BitVec 32 := BitVec.ofNat 32 (i 2).val
  let c1_i32_1405 : BitVec 32 := 1#32
  let c0_i32_1406 : BitVec 32 := 0#32
  let v2163 : BitVec 1 := Scalar.cmpi .eq c1_i32_1405 c0_i32_1406
  let c1_i32_1407 : BitVec 32 := 1#32
  let v2164 : BitVec 32 := Scalar.select v2163 c1_i32_1407 c1_i32_1405
  let v2165 : BitVec 32 := Scalar.remsi arg2 v2164
  let c0_i32_1409 : BitVec 32 := 0#32
  let v2167 : BitVec 1 := Scalar.cmpi .slt v2165 c0_i32_1409
  let c0_i32_1410 : BitVec 32 := 0#32
  let v2168 : BitVec 1 := Scalar.cmpi .slt v2164 c0_i32_1410
  let v2169 : BitVec 1 := Scalar.xori v2167 v2168
  let c0_i32_1408 : BitVec 32 := 0#32
  let v2166 : BitVec 1 := Scalar.cmpi .ne v2165 c0_i32_1408
  let v2170 : BitVec 1 := Scalar.andi v2169 v2166
  let v2171 : BitVec 32 := Scalar.addi v2165 v2164
  let v2172 : BitVec 32 := Scalar.select v2170 v2171 v2165
  let c8192_i32_1411 : BitVec 32 := 8192#32
  let v2173 : BitVec 32 := Scalar.muli v2172 c8192_i32_1411
  let c7424_i32 : BitVec 32 := 7424#32
  let v2174 : BitVec 32 := Scalar.addi v2173 c7424_i32
  v2174
def k0_mult31 (i : grid0.Coords) : BitVec 32 :=
  let arg2 : BitVec 32 := BitVec.ofNat 32 (i 2).val
  let c1_i32_1452 : BitVec 32 := 1#32
  let c0_i32_1453 : BitVec 32 := 0#32
  let v2236 : BitVec 1 := Scalar.cmpi .eq c1_i32_1452 c0_i32_1453
  let c1_i32_1454 : BitVec 32 := 1#32
  let v2237 : BitVec 32 := Scalar.select v2236 c1_i32_1454 c1_i32_1452
  let v2238 : BitVec 32 := Scalar.remsi arg2 v2237
  let c0_i32_1456 : BitVec 32 := 0#32
  let v2240 : BitVec 1 := Scalar.cmpi .slt v2238 c0_i32_1456
  let c0_i32_1457 : BitVec 32 := 0#32
  let v2241 : BitVec 1 := Scalar.cmpi .slt v2237 c0_i32_1457
  let v2242 : BitVec 1 := Scalar.xori v2240 v2241
  let c0_i32_1455 : BitVec 32 := 0#32
  let v2239 : BitVec 1 := Scalar.cmpi .ne v2238 c0_i32_1455
  let v2243 : BitVec 1 := Scalar.andi v2242 v2239
  let v2244 : BitVec 32 := Scalar.addi v2238 v2237
  let v2245 : BitVec 32 := Scalar.select v2243 v2244 v2238
  let c8192_i32_1458 : BitVec 32 := 8192#32
  let v2246 : BitVec 32 := Scalar.muli v2245 c8192_i32_1458
  let c7680_i32 : BitVec 32 := 7680#32
  let v2247 : BitVec 32 := Scalar.addi v2246 c7680_i32
  v2247
def k0_mult32 (i : grid0.Coords) : BitVec 32 :=
  let arg2 : BitVec 32 := BitVec.ofNat 32 (i 2).val
  let c1_i32_1486 : BitVec 32 := 1#32
  let c0_i32_1487 : BitVec 32 := 0#32
  let v2299 : BitVec 1 := Scalar.cmpi .eq c1_i32_1486 c0_i32_1487
  let c1_i32_1488 : BitVec 32 := 1#32
  let v2300 : BitVec 32 := Scalar.select v2299 c1_i32_1488 c1_i32_1486
  let v2301 : BitVec 32 := Scalar.remsi arg2 v2300
  let c0_i32_1490 : BitVec 32 := 0#32
  let v2303 : BitVec 1 := Scalar.cmpi .slt v2301 c0_i32_1490
  let c0_i32_1491 : BitVec 32 := 0#32
  let v2304 : BitVec 1 := Scalar.cmpi .slt v2300 c0_i32_1491
  let v2305 : BitVec 1 := Scalar.xori v2303 v2304
  let c0_i32_1489 : BitVec 32 := 0#32
  let v2302 : BitVec 1 := Scalar.cmpi .ne v2301 c0_i32_1489
  let v2306 : BitVec 1 := Scalar.andi v2305 v2302
  let v2307 : BitVec 32 := Scalar.addi v2301 v2300
  let v2308 : BitVec 32 := Scalar.select v2306 v2307 v2301
  let c8192_i32_1492 : BitVec 32 := 8192#32
  let v2309 : BitVec 32 := Scalar.muli v2308 c8192_i32_1492
  let c7936_i32 : BitVec 32 := 7936#32
  let v2310 : BitVec 32 := Scalar.addi v2309 c7936_i32
  v2310
def k0_cond3 (i : grid0.Coords) : BitVec 1 :=
  let arg2 : BitVec 32 := BitVec.ofNat 32 (i 2).val
  let c3_i32 : BitVec 32 := 3#32
  let v2352 : BitVec 1 := Scalar.cmpi .eq arg2 c3_i32
  let v2353 : BitVec 32 := Scalar.extui v2352
  let c0_i32_1514 : BitVec 32 := 0#32
  let v2354 : BitVec 1 := Scalar.cmpi .ne v2353 c0_i32_1514
  v2354

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![v0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.divsi arg2 c1_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg2 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.divsi arg2 c1_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg2 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.divsi arg2 c1_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg2 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.divsi arg2 c1_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg2 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x64x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S4x64x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== KernelIdeal.lean ====
abbrev S8192x8x64 : Shape := ⟨3, ![8192, 8, 64]⟩
abbrev S8192x2x64 : Shape := ⟨3, ![8192, 2, 64]⟩
abbrev S8x64x8192 : Shape := ⟨3, ![8, 64, 8192]⟩
abbrev S_ : Shape := ⟨0, ![]⟩
abbrev S512x8192 : Shape := ⟨2, ![512, 8192]⟩
abbrev S2x64x8192 : Shape := ⟨3, ![2, 64, 8192]⟩
abbrev S128x8192 : Shape := ⟨2, ![128, 8192]⟩
abbrev S768x8192 : Shape := ⟨2, ![768, 8192]⟩
abbrev S12x64x8192 : Shape := ⟨3, ![12, 64, 8192]⟩
abbrev S2x8192x64 : Shape := ⟨3, ![2, 8192, 64]⟩
abbrev S8192x2x4x64 : Shape := ⟨4, ![8192, 2, 4, 64]⟩
abbrev S2x8192x8192x4 : Shape := ⟨4, ![2, 8192, 8192, 4]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S8x1x8192 : Shape := ⟨3, ![8, 1, 8192]⟩
abbrev S2x64x4x8192 : Shape := ⟨4, ![2, 64, 4, 8192]⟩
abbrev S2x4x64x8192 : Shape := ⟨4, ![2, 4, 64, 8192]⟩
abbrev S8x8192 : Shape := ⟨2, ![8, 8192]⟩
abbrev S1x1024x64 : Shape := ⟨3, ![1, 1024, 64]⟩
abbrev S1x64x1024 : Shape := ⟨3, ![1, 64, 1024]⟩
abbrev S1x64x8192 : Shape := ⟨3, ![1, 64, 8192]⟩
abbrev S1x1x8192 : Shape := ⟨3, ![1, 1, 8192]⟩
abbrev S4x64x8192 : Shape := ⟨3, ![4, 64, 8192]⟩
abbrev S64x1024 : Shape := ⟨2, ![64, 1024]⟩
abbrev S1024x64 : Shape := ⟨2, ![1024, 64]⟩
abbrev S1x64x256 : Shape := ⟨3, ![1, 64, 256]⟩
abbrev S64x256 : Shape := ⟨2, ![64, 256]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 54
  | .vmem => 22
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x8x64, .f32⟩
  | .hbm, ⟨4, _⟩ => ⟨S8x64x8192, .f32⟩
  | .hbm, ⟨5, _⟩ => ⟨S_, .f32⟩
  | .hbm, ⟨6, _⟩ => ⟨S_, .f32⟩
  | .hbm, ⟨7, _⟩ => ⟨S8x64x8192, .f32⟩
  | .hbm, ⟨8, _⟩ => ⟨S8x64x8192, .f32⟩
  | .hbm, ⟨9, _⟩ => ⟨S512x8192, .f32⟩
  | .hbm, ⟨10, _⟩ => ⟨S2x64x8192, .f32⟩
  | .hbm, ⟨11, _⟩ => ⟨S128x8192, .f32⟩
  | .hbm, ⟨12, _⟩ => ⟨S2x64x8192, .f32⟩
  | .hbm, ⟨13, _⟩ => ⟨S128x8192, .f32⟩
  | .hbm, ⟨14, _⟩ => ⟨S768x8192, .f32⟩
  | .hbm, ⟨15, _⟩ => ⟨S768x8192, .bf16⟩
  | .hbm, ⟨16, _⟩ => ⟨S12x64x8192, .bf16⟩
  | .hbm, ⟨17, _⟩ => ⟨S2x8192x64, .f32⟩
  | .hbm, ⟨18, _⟩ => ⟨S2x8192x64, .bf16⟩
  | .hbm, ⟨19, _⟩ => ⟨S2x8192x64, .f32⟩
  | .hbm, ⟨20, _⟩ => ⟨S2x8192x64, .bf16⟩
  | .hbm, ⟨21, _⟩ => ⟨S8192x2x4x64, .f32⟩
  | .hbm, ⟨22, _⟩ => ⟨S2x8192x8192x4, .f32⟩
  | .hbm, ⟨23, _⟩ => ⟨S2x4x8192x8192, .f32⟩
  | .hbm, ⟨24, _⟩ => ⟨S_, .f32⟩
  | .hbm, ⟨25, _⟩ => ⟨S2x4x8192, .f32⟩
  | .hbm, ⟨26, _⟩ => ⟨S2x4x8192x1, .f32⟩
  | .hbm, ⟨27, _⟩ => ⟨S2x4x8192x8192, .f32⟩
  | .hbm, ⟨28, _⟩ => ⟨S2x4x8192x8192, .f32⟩
  | .hbm, ⟨29, _⟩ => ⟨S2x4x8192x8192, .f32⟩
  | .hbm, ⟨30, _⟩ => ⟨S_, .f32⟩
  | .hbm, ⟨31, _⟩ => ⟨S2x4x8192, .f32⟩
  | .hbm, ⟨32, _⟩ => ⟨S2x4x8192, .f32⟩
  | .hbm, ⟨33, _⟩ => ⟨S2x4x8192, .f32⟩
  | .hbm, ⟨34, _⟩ => ⟨S_, .f32⟩
  | .hbm, ⟨35, _⟩ => ⟨S_, .f32⟩
  | .hbm, ⟨36, _⟩ => ⟨S2x4x8192, .f32⟩
  | .hbm, ⟨37, _⟩ => ⟨S2x4x8192, .f32⟩
  | .hbm, ⟨38, _⟩ => ⟨S8x1x8192, .f32⟩
  | .hbm, ⟨39, _⟩ => ⟨S2x4x8192x1, .f32⟩
  | .hbm, ⟨40, _⟩ => ⟨S2x4x8192x8192, .f32⟩
  | .hbm, ⟨41, _⟩ => ⟨S2x4x8192x8192, .f32⟩
  | .hbm, ⟨42, _⟩ => ⟨S2x64x4x8192, .f32⟩
  | .hbm, ⟨43, _⟩ => ⟨S2x4x64x8192, .f32⟩
  | .hbm, ⟨44, _⟩ => ⟨S8x64x8192, .f32⟩
  | .hbm, ⟨45, _⟩ => ⟨S8x64x8192, .f32⟩
  | .hbm, ⟨46, _⟩ => ⟨S8x64x8192, .f32⟩
  | .hbm, ⟨47, _⟩ => ⟨S_, .f32⟩
  | .hbm, ⟨48, _⟩ => ⟨S8x8192, .f32⟩
  | .hbm, ⟨49, _⟩ => ⟨S8x1x8192, .f32⟩
  | .hbm, ⟨50, _⟩ => ⟨S8x64x8192, .bf16⟩
  | .hbm, ⟨51, _⟩ => ⟨S2x64x8192, .f32⟩
  | .hbm, ⟨52, _⟩ => ⟨S2x64x8192, .f32⟩
  | .hbm, ⟨53, _⟩ => ⟨S8x64x8192, .f32⟩
  | .local _ .vmem, ⟨0, _⟩ => ⟨S1x1024x64, .bf16⟩
  | .local _ .vmem, ⟨1, _⟩ => ⟨S1x1024x64, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x64x1024, .bf16⟩
  | .local _ .vmem, ⟨5, _⟩ => ⟨S1x64x1024, .bf16⟩
  | .local _ .vmem, ⟨6, _⟩ => ⟨S1x64x8192, .bf16⟩
  | .local _ .vmem, ⟨7, _⟩ => ⟨S1x64x8192, .bf16⟩
  | .local _ .vmem, ⟨8, _⟩ => ⟨S1x64x8192, .bf16⟩
  | .local _ .vmem, ⟨9, _⟩ => ⟨S1x64x8192, .bf16⟩
  | .local _ .vmem, ⟨10, _⟩ => ⟨S1x1x8192, .f32⟩
  | .local _ .vmem, ⟨11, _⟩ => ⟨S1x1x8192, .f32⟩
  | .local _ .vmem, ⟨12, _⟩ => ⟨S1x1x8192, .f32⟩
  | .local _ .vmem, ⟨13, _⟩ => ⟨S1x1x8192, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .vmem, ⟨18, _⟩ => ⟨S4x64x8192, .f32⟩
  | .local _ .vmem, ⟨19, _⟩ => ⟨S4x64x8192, .f32⟩
  | .local _ .vmem, ⟨20, _⟩ => ⟨S64x1024, .f32⟩
  | .local _ .vmem, ⟨21, _⟩ => ⟨S64x1024, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42_0 : Ref sig .tc := ⟨.hbm, 51, rfl⟩
abbrev main_v42_1 : Ref sig .tc := ⟨.hbm, 52, rfl⟩
abbrev main_v42_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := ⟨3, ![2, 8, 4], ![false, false, false]⟩

def k0_mult1 (i : grid0.Coords) : BitVec 32 :=
  let arg2 : BitVec 32 := BitVec.ofNat 32 (i 2).val
  let c1_i32 : BitVec 32 := 1#32
  let c0_i32_43 : BitVec 32 := 0#32
  let v46 : BitVec 1 := Scalar.cmpi .eq c1_i32 c0_i32_43
  let c1_i32_44 : BitVec 32 := 1#32
  let v47 : BitVec 32 := Scalar.select v46 c1_i32_44 c1_i32
  let v48 : BitVec 32 := Scalar.remsi arg2 v47
  let c0_i32_46 : BitVec 32 := 0#32
  let v50 : BitVec 1 := Scalar.cmpi .slt v48 c0_i32_46
  let c0_i32_47 : BitVec 32 := 0#32
  let v51 : BitVec 1 := Scalar.cmpi .slt v47 c0_i32_47
  let v52 : BitVec 1 := Scalar.xori v50 v51
  let c0_i32_45 : BitVec 32 := 0#32
  let v49 : BitVec 1 := Scalar.cmpi .ne v48 c0_i32_45
  let v53 : BitVec 1 := Scalar.andi v52 v49
  let v54 : BitVec 32 := Scalar.addi v48 v47
  let v55 : BitVec 32 := Scalar.select v53 v54 v48
  let c8192_i32 : BitVec 32 := 8192#32
  let v56 : BitVec 32 := Scalar.muli v55 c8192_i32
  let c0_i32_48 : BitVec 32 := 0#32
  let v57 : BitVec 32 := Scalar.addi v56 c0_i32_48
  v57
def k0_off1 (i : grid0.Coords) (c0_i32_48 : BitVec 32) : Fin 3 → Nat :=
  let arg2 : BitVec 32 := BitVec.ofNat 32 (i 2).val
  let c0_i32_50 : BitVec 32 := 0#32
  let v60 : BitVec 1 := Scalar.cmpi .sgt arg2 c0_i32_50
  let v61 : BitVec 32 := Scalar.extui v60
  let c0_i32_51 : BitVec 32 := 0#32
  let v62 : BitVec 1 := Scalar.cmpi .slt arg2 c0_i32_51
  let v63 : BitVec 32 := Scalar.extui v62
  let v64 : BitVec 32 := Scalar.subi v61 v63
  let c1_i32_49 : BitVec 32 := 1#32
  let c0_i32_52 : BitVec 32 := 0#32
  let v65 : BitVec 1 := Scalar.cmpi .sgt c1_i32_49 c0_i32_52
  let v66 : BitVec 32 := Scalar.extui v65
  let c0_i32_53 : BitVec 32 := 0#32
  let v67 : BitVec 1 := Scalar.cmpi .slt c1_i32_49 c0_i32_53
  let v68 : BitVec 32 := Scalar.extui v67
  let v69 : BitVec 32 := Scalar.subi v66 v68
  let v70 : BitVec 1 := Scalar.cmpi .ne v64 v69
  let v71 : BitVec 32 := Scalar.remsi arg2 c1_i32_49
  let c0_i32_54 : BitVec 32 := 0#32
  let v72 : BitVec 1 := Scalar.cmpi .ne v71 c0_i32_54
  let v73 : BitVec 1 := Scalar.andi v70 v72
  let v59 : BitVec 32 := Scalar.divsi arg2 c1_i32_49
  let c1_i32_55 : BitVec 32 := 1#32
  let v74 : BitVec 32 := Scalar.subi v59 c1_i32_55
  let v75 : BitVec 32 := Scalar.select v73 v74 v59
  let v76 : Index := Scalar.indexCast v75
  let c0_56 : Index := 0#32
  let c1_i32 : BitVec 32 := 1#32
  let c0_i32_43 : BitVec 32 := 0#32
  let v46 : BitVec 1 := Scalar.cmpi .eq c1_i32 c0_i32_43
  let c1_i32_44 : BitVec 32 := 1#32
  let v47 : BitVec 32 := Scalar.select v46 c1_i32_44 c1_i32
  let v48 : BitVec 32 := Scalar.remsi arg2 v47
  let c0_i32_46 : BitVec 32 := 0#32
  let v50 : BitVec 1 := Scalar.cmpi .slt v48 c0_i32_46
  let c0_i32_47 : BitVec 32 := 0#32
  let v51 : BitVec 1 := Scalar.cmpi .slt v47 c0_i32_47
  let v52 : BitVec 1 := Scalar.xori v50 v51
  let c0_i32_45 : BitVec 32 := 0#32
  let v49 : BitVec 1 := Scalar.cmpi .ne v48 c0_i32_45
  let v53 : BitVec 1 := Scalar.andi v52 v49
  let v54 : BitVec 32 := Scalar.addi v48 v47
  let v55 : BitVec 32 := Scalar.select v53 v54 v48
  let c8192_i32 : BitVec 32 := 8192#32
  let v56 : BitVec 32 := Scalar.muli v55 c8192_i32
  let v57 : BitVec 32 := Scalar.addi v56 c0_i32_48
  let v58 : BitVec 32 := v57
  let v77 : Index := Scalar.indexCast v58
  ![v76.toNat, 0, v77.toNat]
def k0_mult2 (i : grid0.Coords) : BitVec 32 :=
  let arg2 : BitVec 32 := BitVec.ofNat 32 (i 2).val
  let c1_i32_89 : BitVec 32 := 1#32
  let c0_i32_90 : BitVec 32 := 0#32
  let v119 : BitVec 1 := Scalar.cmpi .eq c1_i32_89 c0_i32_90
  let c1_i32_91 : BitVec 32 := 1#32
  let v120 : BitVec 32 := Scalar.select v119 c1_i32_91 c1_i32_89
  let v121 : BitVec 32 := Scalar.remsi arg2 v120
  let c0_i32_93 : BitVec 32 := 0#32
  let v123 : BitVec 1 := Scalar.cmpi .slt v121 c0_i32_93
  let c0_i32_94 : BitVec 32 := 0#32
  let v124 : BitVec 1 := Scalar.cmpi .slt v120 c0_i32_94
  let v125 : BitVec 1 := Scalar.xori v123 v124
  let c0_i32_92 : BitVec 32 := 0#32
  let v122 : BitVec 1 := Scalar.cmpi .ne v121 c0_i32_92
  let v126 : BitVec 1 := Scalar.andi v125 v122
  let v127 : BitVec 32 := Scalar.addi v121 v120
  let v128 : BitVec 32 := Scalar.select v126 v127 v121
  let c8192_i32_95 : BitVec 32 := 8192#32
  let v129 : BitVec 32 := Scalar.muli v128 c8192_i32_95
  let c256_i32 : BitVec 32 := 256#32
  let v130 : BitVec 32 := Scalar.addi v129 c256_i32
  v130
def k0_mult3 (i : grid0.Coords) : BitVec 32 :=
  let arg2 : BitVec 32 := BitVec.ofNat 32 (i 2).val
  let c1_i32_136 : BitVec 32 := 1#32
  let c0_i32_137 : BitVec 32 := 0#32
  let v192 : BitVec 1 := Scalar.cmpi .eq c1_i32_136 c0_i32_137
  let c1_i32_138 : BitVec 32 := 1#32
  let v193 : BitVec 32 := Scalar.select v192 c1_i32_138 c1_i32_136
  let v194 : BitVec 32 := Scalar.remsi arg2 v193
  let c0_i32_140 : BitVec 32 := 0#32
  let v196 : BitVec 1 := Scalar.cmpi .slt v194 c0_i32_140
  let c0_i32_141 : BitVec 32 := 0#32
  let v197 : BitVec 1 := Scalar.cmpi .slt v193 c0_i32_141
  let v198 : BitVec 1 := Scalar.xori v196 v197
  let c0_i32_139 : BitVec 32 := 0#32
  let v195 : BitVec 1 := Scalar.cmpi .ne v194 c0_i32_139
  let v199 : BitVec 1 := Scalar.andi v198 v195
  let v200 : BitVec 32 := Scalar.addi v194 v193
  let v201 : BitVec 32 := Scalar.select v199 v200 v194
  let c8192_i32_142 : BitVec 32 := 8192#32
  let v202 : BitVec 32 := Scalar.muli v201 c8192_i32_142
  let c512_i32 : BitVec 32 := 512#32
  let v203 : BitVec 32 := Scalar.addi v202 c512_i32
  v203
def k0_mult4 (i : grid0.Coords) : BitVec 32 :=
  let arg2 : BitVec 32 := BitVec.ofNat 32 (i 2).val
  let c1_i32_183 : BitVec 32 := 1#32
  let c0_i32_184 : BitVec 32 := 0#32
  let v265 : BitVec 1 := Scalar.cmpi .eq c1_i32_183 c0_i32_184
  let c1_i32_185 : BitVec 32 := 1#32
  let v266 : BitVec 32 := Scalar.select v265 c1_i32_185 c1_i32_183
  let v267 : BitVec 32 := Scalar.remsi arg2 v266
  let c0_i32_187 : BitVec 32 := 0#32
  let v269 : BitVec 1 := Scalar.cmpi .slt v267 c0_i32_187
  let c0_i32_188 : BitVec 32 := 0#32
  let v270 : BitVec 1 := Scalar.cmpi .slt v266 c0_i32_188
  let v271 : BitVec 1 := Scalar.xori v269 v270
  let c0_i32_186 : BitVec 32 := 0#32
  let v268 : BitVec 1 := Scalar.cmpi .ne v267 c0_i32_186
  let v272 : BitVec 1 := Scalar.andi v271 v268
  let v273 : BitVec 32 := Scalar.addi v267 v266
  let v274 : BitVec 32 := Scalar.select v272 v273 v267
  let c8192_i32_189 : BitVec 32 := 8192#32
  let v275 : BitVec 32 := Scalar.muli v274 c8192_i32_189
  let c768_i32 : BitVec 32 := 768#32
  let v276 : BitVec 32 := Scalar.addi v275 c768_i32
  v276
def k0_mult5 (i : grid0.Coords) : BitVec 32 :=
  let arg2 : BitVec 32 := BitVec.ofNat 32 (i 2).val
  let c1_i32_230 : BitVec 32 := 1#32
  let c0_i32_231 : BitVec 32 := 0#32
  let v338 : BitVec 1 := Scalar.cmpi .eq c1_i32_230 c0_i32_231
  let c1_i32_232 : BitVec 32 := 1#32
  let v339 : BitVec 32 := Scalar.select v338 c1_i32_232 c1_i32_230
  let v340 : BitVec 32 := Scalar.remsi arg2 v339
  let c0_i32_234 : BitVec 32 := 0#32
  let v342 : BitVec 1 := Scalar.cmpi .slt v340 c0_i32_234
  let c0_i32_235 : BitVec 32 := 0#32
  let v343 : BitVec 1 := Scalar.cmpi .slt v339 c0_i32_235
  let v344 : BitVec 1 := Scalar.xori v342 v343
  let c0_i32_233 : BitVec 32 := 0#32
  let v341 : BitVec 1 := Scalar.cmpi .ne v340 c0_i32_233
  let v345 : BitVec 1 := Scalar.andi v344 v341
  let v346 : BitVec 32 := Scalar.addi v340 v339
  let v347 : BitVec 32 := Scalar.select v345 v346 v340
  let c8192_i32_236 : BitVec 32 := 8192#32
  let v348 : BitVec 32 := Scalar.muli v347 c8192_i32_236
  let c1024_i32 : BitVec 32 := 1024#32
  let v349 : BitVec 32 := Scalar.addi v348 c1024_i32
  v349
def k0_mult6 (i : grid0.Coords) : BitVec 32 :=
  let arg2 : BitVec 32 := BitVec.ofNat 32 (i 2).val
  let c1_i32_277 : BitVec 32 := 1#32
  let c0_i32_278 : BitVec 32 := 0#32
  let v411 : BitVec 1 := Scalar.cmpi .eq c1_i32_277 c0_i32_278
  let c1_i32_279 : BitVec 32 := 1#32
  let v412 : BitVec 32 := Scalar.select v411 c1_i32_279 c1_i32_277
  let v413 : BitVec 32 := Scalar.remsi arg2 v412
  let c0_i32_281 : BitVec 32 := 0#32
  let v415 : BitVec 1 := Scalar.cmpi .slt v413 c0_i32_281
  let c0_i32_282 : BitVec 32 := 0#32
  let v416 : BitVec 1 := Scalar.cmpi .slt v412 c0_i32_282
  let v417 : BitVec 1 := Scalar.xori v415 v416
  let c0_i32_280 : BitVec 32 := 0#32
  let v414 : BitVec 1 := Scalar.cmpi .ne v413 c0_i32_280
  let v418 : BitVec 1 := Scalar.andi v417 v414
  let v419 : BitVec 32 := Scalar.addi v413 v412
  let v420 : BitVec 32 := Scalar.select v418 v419 v413
  let c8192_i32_283 : BitVec 32 := 8192#32
  let v421 : BitVec 32 := Scalar.muli v420 c8192_i32_283
  let c1280_i32 : BitVec 32 := 1280#32
  let v422 : BitVec 32 := Scalar.addi v421 c1280_i32
  v422
def k0_mult7 (i : grid0.Coords) : BitVec 32 :=
  let arg2 : BitVec 32 := BitVec.ofNat 32 (i 2).val
  let c1_i32_324 : BitVec 32 := 1#32
  let c0_i32_325 : BitVec 32 := 0#32
  let v484 : BitVec 1 := Scalar.cmpi .eq c1_i32_324 c0_i32_325
  let c1_i32_326 : BitVec 32 := 1#32
  let v485 : BitVec 32 := Scalar.select v484 c1_i32_326 c1_i32_324
  let v486 : BitVec 32 := Scalar.remsi arg2 v485
  let c0_i32_328 : BitVec 32 := 0#32
  let v488 : BitVec 1 := Scalar.cmpi .slt v486 c0_i32_328
  let c0_i32_329 : BitVec 32 := 0#32
  let v489 : BitVec 1 := Scalar.cmpi .slt v485 c0_i32_329
  let v490 : BitVec 1 := Scalar.xori v488 v489
  let c0_i32_327 : BitVec 32 := 0#32
  let v487 : BitVec 1 := Scalar.cmpi .ne v486 c0_i32_327
  let v491 : BitVec 1 := Scalar.andi v490 v487
  let v492 : BitVec 32 := Scalar.addi v486 v485
  let v493 : BitVec 32 := Scalar.select v491 v492 v486
  let c8192_i32_330 : BitVec 32 := 8192#32
  let v494 : BitVec 32 := Scalar.muli v493 c8192_i32_330
  let c1536_i32 : BitVec 32 := 1536#32
  let v495 : BitVec 32 := Scalar.addi v494 c1536_i32
  v495
def k0_mult8 (i : grid0.Coords) : BitVec 32 :=
  let arg2 : BitVec 32 := BitVec.ofNat 32 (i 2).val
  let c1_i32_371 : BitVec 32 := 1#32
  let c0_i32_372 : BitVec 32 := 0#32
  let v557 : BitVec 1 := Scalar.cmpi .eq c1_i32_371 c0_i32_372
  let c1_i32_373 : BitVec 32 := 1#32
  let v558 : BitVec 32 := Scalar.select v557 c1_i32_373 c1_i32_371
  let v559 : BitVec 32 := Scalar.remsi arg2 v558
  let c0_i32_375 : BitVec 32 := 0#32
  let v561 : BitVec 1 := Scalar.cmpi .slt v559 c0_i32_375
  let c0_i32_376 : BitVec 32 := 0#32
  let v562 : BitVec 1 := Scalar.cmpi .slt v558 c0_i32_376
  let v563 : BitVec 1 := Scalar.xori v561 v562
  let c0_i32_374 : BitVec 32 := 0#32
  let v560 : BitVec 1 := Scalar.cmpi .ne v559 c0_i32_374
  let v564 : BitVec 1 := Scalar.andi v563 v560
  let v565 : BitVec 32 := Scalar.addi v559 v558
  let v566 : BitVec 32 := Scalar.select v564 v565 v559
  let c8192_i32_377 : BitVec 32 := 8192#32
  let v567 : BitVec 32 := Scalar.muli v566 c8192_i32_377
  let c1792_i32 : BitVec 32 := 1792#32
  let v568 : BitVec 32 := Scalar.addi v567 c1792_i32
  v568
def k0_mult9 (i : grid0.Coords) : BitVec 32 :=
  let arg2 : BitVec 32 := BitVec.ofNat 32 (i 2).val
  let c1_i32_418 : BitVec 32 := 1#32
  let c0_i32_419 : BitVec 32 := 0#32
  let v630 : BitVec 1 := Scalar.cmpi .eq c1_i32_418 c0_i32_419
  let c1_i32_420 : BitVec 32 := 1#32
  let v631 : BitVec 32 := Scalar.select v630 c1_i32_420 c1_i32_418
  let v632 : BitVec 32 := Scalar.remsi arg2 v631
  let c0_i32_422 : BitVec 32 := 0#32
  let v634 : BitVec 1 := Scalar.cmpi .slt v632 c0_i32_422
  let c0_i32_423 : BitVec 32 := 0#32
  let v635 : BitVec 1 := Scalar.cmpi .slt v631 c0_i32_423
  let v636 : BitVec 1 := Scalar.xori v634 v635
  let c0_i32_421 : BitVec 32 := 0#32
  let v633 : BitVec 1 := Scalar.cmpi .ne v632 c0_i32_421
  let v637 : BitVec 1 := Scalar.andi v636 v633
  let v638 : BitVec 32 := Scalar.addi v632 v631
  let v639 : BitVec 32 := Scalar.select v637 v638 v632
  let c8192_i32_424 : BitVec 32 := 8192#32
  let v640 : BitVec 32 := Scalar.muli v639 c8192_i32_424
  let c2048_i32 : BitVec 32 := 2048#32
  let v641 : BitVec 32 := Scalar.addi v640 c2048_i32
  v641
def k0_mult10 (i : grid0.Coords) : BitVec 32 :=
  let arg2 : BitVec 32 := BitVec.ofNat 32 (i 2).val
  let c1_i32_465 : BitVec 32 := 1#32
  let c0_i32_466 : BitVec 32 := 0#32
  let v703 : BitVec 1 := Scalar.cmpi .eq c1_i32_465 c0_i32_466
  let c1_i32_467 : BitVec 32 := 1#32
  let v704 : BitVec 32 := Scalar.select v703 c1_i32_467 c1_i32_465
  let v705 : BitVec 32 := Scalar.remsi arg2 v704
  let c0_i32_469 : BitVec 32 := 0#32
  let v707 : BitVec 1 := Scalar.cmpi .slt v705 c0_i32_469
  let c0_i32_470 : BitVec 32 := 0#32
  let v708 : BitVec 1 := Scalar.cmpi .slt v704 c0_i32_470
  let v709 : BitVec 1 := Scalar.xori v707 v708
  let c0_i32_468 : BitVec 32 := 0#32
  let v706 : BitVec 1 := Scalar.cmpi .ne v705 c0_i32_468
  let v710 : BitVec 1 := Scalar.andi v709 v706
  let v711 : BitVec 32 := Scalar.addi v705 v704
  let v712 : BitVec 32 := Scalar.select v710 v711 v705
  let c8192_i32_471 : BitVec 32 := 8192#32
  let v713 : BitVec 32 := Scalar.muli v712 c8192_i32_471
  let c2304_i32 : BitVec 32 := 2304#32
  let v714 : BitVec 32 := Scalar.addi v713 c2304_i32
  v714
def k0_mult11 (i : grid0.Coords) : BitVec 32 :=
  let arg2 : BitVec 32 := BitVec.ofNat 32 (i 2).val
  let c1_i32_512 : BitVec 32 := 1#32
  let c0_i32_513 : BitVec 32 := 0#32
  let v776 : BitVec 1 := Scalar.cmpi .eq c1_i32_512 c0_i32_513
  let c1_i32_514 : BitVec 32 := 1#32
  let v777 : BitVec 32 := Scalar.select v776 c1_i32_514 c1_i32_512
  let v778 : BitVec 32 := Scalar.remsi arg2 v777
  let c0_i32_516 : BitVec 32 := 0#32
  let v780 : BitVec 1 := Scalar.cmpi .slt v778 c0_i32_516
  let c0_i32_517 : BitVec 32 := 0#32
  let v781 : BitVec 1 := Scalar.cmpi .slt v777 c0_i32_517
  let v782 : BitVec 1 := Scalar.xori v780 v781
  let c0_i32_515 : BitVec 32 := 0#32
  let v779 : BitVec 1 := Scalar.cmpi .ne v778 c0_i32_515
  let v783 : BitVec 1 := Scalar.andi v782 v779
  let v784 : BitVec 32 := Scalar.addi v778 v777
  let v785 : BitVec 32 := Scalar.select v783 v784 v778
  let c8192_i32_518 : BitVec 32 := 8192#32
  let v786 : BitVec 32 := Scalar.muli v785 c8192_i32_518
  let c2560_i32 : BitVec 32 := 2560#32
  let v787 : BitVec 32 := Scalar.addi v786 c2560_i32
  v787
def k0_mult12 (i : grid0.Coords) : BitVec 32 :=
  let arg2 : BitVec 32 := BitVec.ofNat 32 (i 2).val
  let c1_i32_559 : BitVec 32 := 1#32
  let c0_i32_560 : BitVec 32 := 0#32
  let v849 : BitVec 1 := Scalar.cmpi .eq c1_i32_559 c0_i32_560
  let c1_i32_561 : BitVec 32 := 1#32
  let v850 : BitVec 32 := Scalar.select v849 c1_i32_561 c1_i32_559
  let v851 : BitVec 32 := Scalar.remsi arg2 v850
  let c0_i32_563 : BitVec 32 := 0#32
  let v853 : BitVec 1 := Scalar.cmpi .slt v851 c0_i32_563
  let c0_i32_564 : BitVec 32 := 0#32
  let v854 : BitVec 1 := Scalar.cmpi .slt v850 c0_i32_564
  let v855 : BitVec 1 := Scalar.xori v853 v854
  let c0_i32_562 : BitVec 32 := 0#32
  let v852 : BitVec 1 := Scalar.cmpi .ne v851 c0_i32_562
  let v856 : BitVec 1 := Scalar.andi v855 v852
  let v857 : BitVec 32 := Scalar.addi v851 v850
  let v858 : BitVec 32 := Scalar.select v856 v857 v851
  let c8192_i32_565 : BitVec 32 := 8192#32
  let v859 : BitVec 32 := Scalar.muli v858 c8192_i32_565
  let c2816_i32 : BitVec 32 := 2816#32
  let v860 : BitVec 32 := Scalar.addi v859 c2816_i32
  v860
def k0_mult13 (i : grid0.Coords) : BitVec 32 :=
  let arg2 : BitVec 32 := BitVec.ofNat 32 (i 2).val
  let c1_i32_606 : BitVec 32 := 1#32
  let c0_i32_607 : BitVec 32 := 0#32
  let v922 : BitVec 1 := Scalar.cmpi .eq c1_i32_606 c0_i32_607
  let c1_i32_608 : BitVec 32 := 1#32
  let v923 : BitVec 32 := Scalar.select v922 c1_i32_608 c1_i32_606
  let v924 : BitVec 32 := Scalar.remsi arg2 v923
  let c0_i32_610 : BitVec 32 := 0#32
  let v926 : BitVec 1 := Scalar.cmpi .slt v924 c0_i32_610
  let c0_i32_611 : BitVec 32 := 0#32
  let v927 : BitVec 1 := Scalar.cmpi .slt v923 c0_i32_611
  let v928 : BitVec 1 := Scalar.xori v926 v927
  let c0_i32_609 : BitVec 32 := 0#32
  let v925 : BitVec 1 := Scalar.cmpi .ne v924 c0_i32_609
  let v929 : BitVec 1 := Scalar.andi v928 v925
  let v930 : BitVec 32 := Scalar.addi v924 v923
  let v931 : BitVec 32 := Scalar.select v929 v930 v924
  let c8192_i32_612 : BitVec 32 := 8192#32
  let v932 : BitVec 32 := Scalar.muli v931 c8192_i32_612
  let c3072_i32 : BitVec 32 := 3072#32
  let v933 : BitVec 32 := Scalar.addi v932 c3072_i32
  v933
def k0_mult14 (i : grid0.Coords) : BitVec 32 :=
  let arg2 : BitVec 32 := BitVec.ofNat 32 (i 2).val
  let c1_i32_653 : BitVec 32 := 1#32
  let c0_i32_654 : BitVec 32 := 0#32
  let v995 : BitVec 1 := Scalar.cmpi .eq c1_i32_653 c0_i32_654
  let c1_i32_655 : BitVec 32 := 1#32
  let v996 : BitVec 32 := Scalar.select v995 c1_i32_655 c1_i32_653
  let v997 : BitVec 32 := Scalar.remsi arg2 v996
  let c0_i32_657 : BitVec 32 := 0#32
  let v999 : BitVec 1 := Scalar.cmpi .slt v997 c0_i32_657
  let c0_i32_658 : BitVec 32 := 0#32
  let v1000 : BitVec 1 := Scalar.cmpi .slt v996 c0_i32_658
  let v1001 : BitVec 1 := Scalar.xori v999 v1000
  let c0_i32_656 : BitVec 32 := 0#32
  let v998 : BitVec 1 := Scalar.cmpi .ne v997 c0_i32_656
  let v1002 : BitVec 1 := Scalar.andi v1001 v998
  let v1003 : BitVec 32 := Scalar.addi v997 v996
  let v1004 : BitVec 32 := Scalar.select v1002 v1003 v997
  let c8192_i32_659 : BitVec 32 := 8192#32
  let v1005 : BitVec 32 := Scalar.muli v1004 c8192_i32_659
  let c3328_i32 : BitVec 32 := 3328#32
  let v1006 : BitVec 32 := Scalar.addi v1005 c3328_i32
  v1006
def k0_mult15 (i : grid0.Coords) : BitVec 32 :=
  let arg2 : BitVec 32 := BitVec.ofNat 32 (i 2).val
  let c1_i32_700 : BitVec 32 := 1#32
  let c0_i32_701 : BitVec 32 := 0#32
  let v1068 : BitVec 1 := Scalar.cmpi .eq c1_i32_700 c0_i32_701
  let c1_i32_702 : BitVec 32 := 1#32
  let v1069 : BitVec 32 := Scalar.select v1068 c1_i32_702 c1_i32_700
  let v1070 : BitVec 32 := Scalar.remsi arg2 v1069
  let c0_i32_704 : BitVec 32 := 0#32
  let v1072 : BitVec 1 := Scalar.cmpi .slt v1070 c0_i32_704
  let c0_i32_705 : BitVec 32 := 0#32
  let v1073 : BitVec 1 := Scalar.cmpi .slt v1069 c0_i32_705
  let v1074 : BitVec 1 := Scalar.xori v1072 v1073
  let c0_i32_703 : BitVec 32 := 0#32
  let v1071 : BitVec 1 := Scalar.cmpi .ne v1070 c0_i32_703
  let v1075 : BitVec 1 := Scalar.andi v1074 v1071
  let v1076 : BitVec 32 := Scalar.addi v1070 v1069
  let v1077 : BitVec 32 := Scalar.select v1075 v1076 v1070
  let c8192_i32_706 : BitVec 32 := 8192#32
  let v1078 : BitVec 32 := Scalar.muli v1077 c8192_i32_706
  let c3584_i32 : BitVec 32 := 3584#32
  let v1079 : BitVec 32 := Scalar.addi v1078 c3584_i32
  v1079
def k0_mult16 (i : grid0.Coords) : BitVec 32 :=
  let arg2 : BitVec 32 := BitVec.ofNat 32 (i 2).val
  let c1_i32_747 : BitVec 32 := 1#32
  let c0_i32_748 : BitVec 32 := 0#32
  let v1141 : BitVec 1 := Scalar.cmpi .eq c1_i32_747 c0_i32_748
  let c1_i32_749 : BitVec 32 := 1#32
  let v1142 : BitVec 32 := Scalar.select v1141 c1_i32_749 c1_i32_747
  let v1143 : BitVec 32 := Scalar.remsi arg2 v1142
  let c0_i32_751 : BitVec 32 := 0#32
  let v1145 : BitVec 1 := Scalar.cmpi .slt v1143 c0_i32_751
  let c0_i32_752 : BitVec 32 := 0#32
  let v1146 : BitVec 1 := Scalar.cmpi .slt v1142 c0_i32_752
  let v1147 : BitVec 1 := Scalar.xori v1145 v1146
  let c0_i32_750 : BitVec 32 := 0#32
  let v1144 : BitVec 1 := Scalar.cmpi .ne v1143 c0_i32_750
  let v1148 : BitVec 1 := Scalar.andi v1147 v1144
  let v1149 : BitVec 32 := Scalar.addi v1143 v1142
  let v1150 : BitVec 32 := Scalar.select v1148 v1149 v1143
  let c8192_i32_753 : BitVec 32 := 8192#32
  let v1151 : BitVec 32 := Scalar.muli v1150 c8192_i32_753
  let c3840_i32 : BitVec 32 := 3840#32
  let v1152 : BitVec 32 := Scalar.addi v1151 c3840_i32
  v1152
def k0_mult17 (i : grid0.Coords) : BitVec 32 :=
  let arg2 : BitVec 32 := BitVec.ofNat 32 (i 2).val
  let c1_i32_794 : BitVec 32 := 1#32
  let c0_i32_795 : BitVec 32 := 0#32
  let v1214 : BitVec 1 := Scalar.cmpi .eq c1_i32_794 c0_i32_795
  let c1_i32_796 : BitVec 32 := 1#32
  let v1215 : BitVec 32 := Scalar.select v1214 c1_i32_796 c1_i32_794
  let v1216 : BitVec 32 := Scalar.remsi arg2 v1215
  let c0_i32_798 : BitVec 32 := 0#32
  let v1218 : BitVec 1 := Scalar.cmpi .slt v1216 c0_i32_798
  let c0_i32_799 : BitVec 32 := 0#32
  let v1219 : BitVec 1 := Scalar.cmpi .slt v1215 c0_i32_799
  let v1220 : BitVec 1 := Scalar.xori v1218 v1219
  let c0_i32_797 : BitVec 32 := 0#32
  let v1217 : BitVec 1 := Scalar.cmpi .ne v1216 c0_i32_797
  let v1221 : BitVec 1 := Scalar.andi v1220 v1217
  let v1222 : BitVec 32 := Scalar.addi v1216 v1215
  let v1223 : BitVec 32 := Scalar.select v1221 v1222 v1216
  let c8192_i32_800 : BitVec 32 := 8192#32
  let v1224 : BitVec 32 := Scalar.muli v1223 c8192_i32_800
  let c4096_i32 : BitVec 32 := 4096#32
  let v1225 : BitVec 32 := Scalar.addi v1224 c4096_i32
  v1225
def k0_mult18 (i : grid0.Coords) : BitVec 32 :=
  let arg2 : BitVec 32 := BitVec.ofNat 32 (i 2).val
  let c1_i32_841 : BitVec 32 := 1#32
  let c0_i32_842 : BitVec 32 := 0#32
  let v1287 : BitVec 1 := Scalar.cmpi .eq c1_i32_841 c0_i32_842
  let c1_i32_843 : BitVec 32 := 1#32
  let v1288 : BitVec 32 := Scalar.select v1287 c1_i32_843 c1_i32_841
  let v1289 : BitVec 32 := Scalar.remsi arg2 v1288
  let c0_i32_845 : BitVec 32 := 0#32
  let v1291 : BitVec 1 := Scalar.cmpi .slt v1289 c0_i32_845
  let c0_i32_846 : BitVec 32 := 0#32
  let v1292 : BitVec 1 := Scalar.cmpi .slt v1288 c0_i32_846
  let v1293 : BitVec 1 := Scalar.xori v1291 v1292
  let c0_i32_844 : BitVec 32 := 0#32
  let v1290 : BitVec 1 := Scalar.cmpi .ne v1289 c0_i32_844
  let v1294 : BitVec 1 := Scalar.andi v1293 v1290
  let v1295 : BitVec 32 := Scalar.addi v1289 v1288
  let v1296 : BitVec 32 := Scalar.select v1294 v1295 v1289
  let c8192_i32_847 : BitVec 32 := 8192#32
  let v1297 : BitVec 32 := Scalar.muli v1296 c8192_i32_847
  let c4352_i32 : BitVec 32 := 4352#32
  let v1298 : BitVec 32 := Scalar.addi v1297 c4352_i32
  v1298
def k0_mult19 (i : grid0.Coords) : BitVec 32 :=
  let arg2 : BitVec 32 := BitVec.ofNat 32 (i 2).val
  let c1_i32_888 : BitVec 32 := 1#32
  let c0_i32_889 : BitVec 32 := 0#32
  let v1360 : BitVec 1 := Scalar.cmpi .eq c1_i32_888 c0_i32_889
  let c1_i32_890 : BitVec 32 := 1#32
  let v1361 : BitVec 32 := Scalar.select v1360 c1_i32_890 c1_i32_888
  let v1362 : BitVec 32 := Scalar.remsi arg2 v1361
  let c0_i32_892 : BitVec 32 := 0#32
  let v1364 : BitVec 1 := Scalar.cmpi .slt v1362 c0_i32_892
  let c0_i32_893 : BitVec 32 := 0#32
  let v1365 : BitVec 1 := Scalar.cmpi .slt v1361 c0_i32_893
  let v1366 : BitVec 1 := Scalar.xori v1364 v1365
  let c0_i32_891 : BitVec 32 := 0#32
  let v1363 : BitVec 1 := Scalar.cmpi .ne v1362 c0_i32_891
  let v1367 : BitVec 1 := Scalar.andi v1366 v1363
  let v1368 : BitVec 32 := Scalar.addi v1362 v1361
  let v1369 : BitVec 32 := Scalar.select v1367 v1368 v1362
  let c8192_i32_894 : BitVec 32 := 8192#32
  let v1370 : BitVec 32 := Scalar.muli v1369 c8192_i32_894
  let c4608_i32 : BitVec 32 := 4608#32
  let v1371 : BitVec 32 := Scalar.addi v1370 c4608_i32
  v1371
def k0_mult20 (i : grid0.Coords) : BitVec 32 :=
  let arg2 : BitVec 32 := BitVec.ofNat 32 (i 2).val
  let c1_i32_935 : BitVec 32 := 1#32
  let c0_i32_936 : BitVec 32 := 0#32
  let v1433 : BitVec 1 := Scalar.cmpi .eq c1_i32_935 c0_i32_936
  let c1_i32_937 : BitVec 32 := 1#32
  let v1434 : BitVec 32 := Scalar.select v1433 c1_i32_937 c1_i32_935
  let v1435 : BitVec 32 := Scalar.remsi arg2 v1434
  let c0_i32_939 : BitVec 32 := 0#32
  let v1437 : BitVec 1 := Scalar.cmpi .slt v1435 c0_i32_939
  let c0_i32_940 : BitVec 32 := 0#32
  let v1438 : BitVec 1 := Scalar.cmpi .slt v1434 c0_i32_940
  let v1439 : BitVec 1 := Scalar.xori v1437 v1438
  let c0_i32_938 : BitVec 32 := 0#32
  let v1436 : BitVec 1 := Scalar.cmpi .ne v1435 c0_i32_938
  let v1440 : BitVec 1 := Scalar.andi v1439 v1436
  let v1441 : BitVec 32 := Scalar.addi v1435 v1434
  let v1442 : BitVec 32 := Scalar.select v1440 v1441 v1435
  let c8192_i32_941 : BitVec 32 := 8192#32
  let v1443 : BitVec 32 := Scalar.muli v1442 c8192_i32_941
  let c4864_i32 : BitVec 32 := 4864#32
  let v1444 : BitVec 32 := Scalar.addi v1443 c4864_i32
  v1444
def k0_mult21 (i : grid0.Coords) : BitVec 32 :=
  let arg2 : BitVec 32 := BitVec.ofNat 32 (i 2).val
  let c1_i32_982 : BitVec 32 := 1#32
  let c0_i32_983 : BitVec 32 := 0#32
  let v1506 : BitVec 1 := Scalar.cmpi .eq c1_i32_982 c0_i32_983
  let c1_i32_984 : BitVec 32 := 1#32
  let v1507 : BitVec 32 := Scalar.select v1506 c1_i32_984 c1_i32_982
  let v1508 : BitVec 32 := Scalar.remsi arg2 v1507
  let c0_i32_986 : BitVec 32 := 0#32
  let v1510 : BitVec 1 := Scalar.cmpi .slt v1508 c0_i32_986
  let c0_i32_987 : BitVec 32 := 0#32
  let v1511 : BitVec 1 := Scalar.cmpi .slt v1507 c0_i32_987
  let v1512 : BitVec 1 := Scalar.xori v1510 v1511
  let c0_i32_985 : BitVec 32 := 0#32
  let v1509 : BitVec 1 := Scalar.cmpi .ne v1508 c0_i32_985
  let v1513 : BitVec 1 := Scalar.andi v1512 v1509
  let v1514 : BitVec 32 := Scalar.addi v1508 v1507
  let v1515 : BitVec 32 := Scalar.select v1513 v1514 v1508
  let c8192_i32_988 : BitVec 32 := 8192#32
  let v1516 : BitVec 32 := Scalar.muli v1515 c8192_i32_988
  let c5120_i32 : BitVec 32 := 5120#32
  let v1517 : BitVec 32 := Scalar.addi v1516 c5120_i32
  v1517
def k0_mult22 (i : grid0.Coords) : BitVec 32 :=
  let arg2 : BitVec 32 := BitVec.ofNat 32 (i 2).val
  let c1_i32_1029 : BitVec 32 := 1#32
  let c0_i32_1030 : BitVec 32 := 0#32
  let v1579 : BitVec 1 := Scalar.cmpi .eq c1_i32_1029 c0_i32_1030
  let c1_i32_1031 : BitVec 32 := 1#32
  let v1580 : BitVec 32 := Scalar.select v1579 c1_i32_1031 c1_i32_1029
  let v1581 : BitVec 32 := Scalar.remsi arg2 v1580
  let c0_i32_1033 : BitVec 32 := 0#32
  let v1583 : BitVec 1 := Scalar.cmpi .slt v1581 c0_i32_1033
  let c0_i32_1034 : BitVec 32 := 0#32
  let v1584 : BitVec 1 := Scalar.cmpi .slt v1580 c0_i32_1034
  let v1585 : BitVec 1 := Scalar.xori v1583 v1584
  let c0_i32_1032 : BitVec 32 := 0#32
  let v1582 : BitVec 1 := Scalar.cmpi .ne v1581 c0_i32_1032
  let v1586 : BitVec 1 := Scalar.andi v1585 v1582
  let v1587 : BitVec 32 := Scalar.addi v1581 v1580
  let v1588 : BitVec 32 := Scalar.select v1586 v1587 v1581
  let c8192_i32_1035 : BitVec 32 := 8192#32
  let v1589 : BitVec 32 := Scalar.muli v1588 c8192_i32_1035
  let c5376_i32 : BitVec 32 := 5376#32
  let v1590 : BitVec 32 := Scalar.addi v1589 c5376_i32
  v1590
def k0_mult23 (i : grid0.Coords) : BitVec 32 :=
  let arg2 : BitVec 32 := BitVec.ofNat 32 (i 2).val
  let c1_i32_1076 : BitVec 32 := 1#32
  let c0_i32_1077 : BitVec 32 := 0#32
  let v1652 : BitVec 1 := Scalar.cmpi .eq c1_i32_1076 c0_i32_1077
  let c1_i32_1078 : BitVec 32 := 1#32
  let v1653 : BitVec 32 := Scalar.select v1652 c1_i32_1078 c1_i32_1076
  let v1654 : BitVec 32 := Scalar.remsi arg2 v1653
  let c0_i32_1080 : BitVec 32 := 0#32
  let v1656 : BitVec 1 := Scalar.cmpi .slt v1654 c0_i32_1080
  let c0_i32_1081 : BitVec 32 := 0#32
  let v1657 : BitVec 1 := Scalar.cmpi .slt v1653 c0_i32_1081
  let v1658 : BitVec 1 := Scalar.xori v1656 v1657
  let c0_i32_1079 : BitVec 32 := 0#32
  let v1655 : BitVec 1 := Scalar.cmpi .ne v1654 c0_i32_1079
  let v1659 : BitVec 1 := Scalar.andi v1658 v1655
  let v1660 : BitVec 32 := Scalar.addi v1654 v1653
  let v1661 : BitVec 32 := Scalar.select v1659 v1660 v1654
  let c8192_i32_1082 : BitVec 32 := 8192#32
  let v1662 : BitVec 32 := Scalar.muli v1661 c8192_i32_1082
  let c5632_i32 : BitVec 32 := 5632#32
  let v1663 : BitVec 32 := Scalar.addi v1662 c5632_i32
  v1663
def k0_mult24 (i : grid0.Coords) : BitVec 32 :=
  let arg2 : BitVec 32 := BitVec.ofNat 32 (i 2).val
  let c1_i32_1123 : BitVec 32 := 1#32
  let c0_i32_1124 : BitVec 32 := 0#32
  let v1725 : BitVec 1 := Scalar.cmpi .eq c1_i32_1123 c0_i32_1124
  let c1_i32_1125 : BitVec 32 := 1#32
  let v1726 : BitVec 32 := Scalar.select v1725 c1_i32_1125 c1_i32_1123
  let v1727 : BitVec 32 := Scalar.remsi arg2 v1726
  let c0_i32_1127 : BitVec 32 := 0#32
  let v1729 : BitVec 1 := Scalar.cmpi .slt v1727 c0_i32_1127
  let c0_i32_1128 : BitVec 32 := 0#32
  let v1730 : BitVec 1 := Scalar.cmpi .slt v1726 c0_i32_1128
  let v1731 : BitVec 1 := Scalar.xori v1729 v1730
  let c0_i32_1126 : BitVec 32 := 0#32
  let v1728 : BitVec 1 := Scalar.cmpi .ne v1727 c0_i32_1126
  let v1732 : BitVec 1 := Scalar.andi v1731 v1728
  let v1733 : BitVec 32 := Scalar.addi v1727 v1726
  let v1734 : BitVec 32 := Scalar.select v1732 v1733 v1727
  let c8192_i32_1129 : BitVec 32 := 8192#32
  let v1735 : BitVec 32 := Scalar.muli v1734 c8192_i32_1129
  let c5888_i32 : BitVec 32 := 5888#32
  let v1736 : BitVec 32 := Scalar.addi v1735 c5888_i32
  v1736
def k0_mult25 (i : grid0.Coords) : BitVec 32 :=
  let arg2 : BitVec 32 := BitVec.ofNat 32 (i 2).val
  let c1_i32_1170 : BitVec 32 := 1#32
  let c0_i32_1171 : BitVec 32 := 0#32
  let v1798 : BitVec 1 := Scalar.cmpi .eq c1_i32_1170 c0_i32_1171
  let c1_i32_1172 : BitVec 32 := 1#32
  let v1799 : BitVec 32 := Scalar.select v1798 c1_i32_1172 c1_i32_1170
  let v1800 : BitVec 32 := Scalar.remsi arg2 v1799
  let c0_i32_1174 : BitVec 32 := 0#32
  let v1802 : BitVec 1 := Scalar.cmpi .slt v1800 c0_i32_1174
  let c0_i32_1175 : BitVec 32 := 0#32
  let v1803 : BitVec 1 := Scalar.cmpi .slt v1799 c0_i32_1175
  let v1804 : BitVec 1 := Scalar.xori v1802 v1803
  let c0_i32_1173 : BitVec 32 := 0#32
  let v1801 : BitVec 1 := Scalar.cmpi .ne v1800 c0_i32_1173
  let v1805 : BitVec 1 := Scalar.andi v1804 v1801
  let v1806 : BitVec 32 := Scalar.addi v1800 v1799
  let v1807 : BitVec 32 := Scalar.select v1805 v1806 v1800
  let c8192_i32_1176 : BitVec 32 := 8192#32
  let v1808 : BitVec 32 := Scalar.muli v1807 c8192_i32_1176
  let c6144_i32 : BitVec 32 := 6144#32
  let v1809 : BitVec 32 := Scalar.addi v1808 c6144_i32
  v1809
def k0_mult26 (i : grid0.Coords) : BitVec 32 :=
  let arg2 : BitVec 32 := BitVec.ofNat 32 (i 2).val
  let c1_i32_1217 : BitVec 32 := 1#32
  let c0_i32_1218 : BitVec 32 := 0#32
  let v1871 : BitVec 1 := Scalar.cmpi .eq c1_i32_1217 c0_i32_1218
  let c1_i32_1219 : BitVec 32 := 1#32
  let v1872 : BitVec 32 := Scalar.select v1871 c1_i32_1219 c1_i32_1217
  let v1873 : BitVec 32 := Scalar.remsi arg2 v1872
  let c0_i32_1221 : BitVec 32 := 0#32
  let v1875 : BitVec 1 := Scalar.cmpi .slt v1873 c0_i32_1221
  let c0_i32_1222 : BitVec 32 := 0#32
  let v1876 : BitVec 1 := Scalar.cmpi .slt v1872 c0_i32_1222
  let v1877 : BitVec 1 := Scalar.xori v1875 v1876
  let c0_i32_1220 : BitVec 32 := 0#32
  let v1874 : BitVec 1 := Scalar.cmpi .ne v1873 c0_i32_1220
  let v1878 : BitVec 1 := Scalar.andi v1877 v1874
  let v1879 : BitVec 32 := Scalar.addi v1873 v1872
  let v1880 : BitVec 32 := Scalar.select v1878 v1879 v1873
  let c8192_i32_1223 : BitVec 32 := 8192#32
  let v1881 : BitVec 32 := Scalar.muli v1880 c8192_i32_1223
  let c6400_i32 : BitVec 32 := 6400#32
  let v1882 : BitVec 32 := Scalar.addi v1881 c6400_i32
  v1882
def k0_mult27 (i : grid0.Coords) : BitVec 32 :=
  let arg2 : BitVec 32 := BitVec.ofNat 32 (i 2).val
  let c1_i32_1264 : BitVec 32 := 1#32
  let c0_i32_1265 : BitVec 32 := 0#32
  let v1944 : BitVec 1 := Scalar.cmpi .eq c1_i32_1264 c0_i32_1265
  let c1_i32_1266 : BitVec 32 := 1#32
  let v1945 : BitVec 32 := Scalar.select v1944 c1_i32_1266 c1_i32_1264
  let v1946 : BitVec 32 := Scalar.remsi arg2 v1945
  let c0_i32_1268 : BitVec 32 := 0#32
  let v1948 : BitVec 1 := Scalar.cmpi .slt v1946 c0_i32_1268
  let c0_i32_1269 : BitVec 32 := 0#32
  let v1949 : BitVec 1 := Scalar.cmpi .slt v1945 c0_i32_1269
  let v1950 : BitVec 1 := Scalar.xori v1948 v1949
  let c0_i32_1267 : BitVec 32 := 0#32
  let v1947 : BitVec 1 := Scalar.cmpi .ne v1946 c0_i32_1267
  let v1951 : BitVec 1 := Scalar.andi v1950 v1947
  let v1952 : BitVec 32 := Scalar.addi v1946 v1945
  let v1953 : BitVec 32 := Scalar.select v1951 v1952 v1946
  let c8192_i32_1270 : BitVec 32 := 8192#32
  let v1954 : BitVec 32 := Scalar.muli v1953 c8192_i32_1270
  let c6656_i32 : BitVec 32 := 6656#32
  let v1955 : BitVec 32 := Scalar.addi v1954 c6656_i32
  v1955
def k0_mult28 (i : grid0.Coords) : BitVec 32 :=
  let arg2 : BitVec 32 := BitVec.ofNat 32 (i 2).val
  let c1_i32_1311 : BitVec 32 := 1#32
  let c0_i32_1312 : BitVec 32 := 0#32
  let v2017 : BitVec 1 := Scalar.cmpi .eq c1_i32_1311 c0_i32_1312
  let c1_i32_1313 : BitVec 32 := 1#32
  let v2018 : BitVec 32 := Scalar.select v2017 c1_i32_1313 c1_i32_1311
  let v2019 : BitVec 32 := Scalar.remsi arg2 v2018
  let c0_i32_1315 : BitVec 32 := 0#32
  let v2021 : BitVec 1 := Scalar.cmpi .slt v2019 c0_i32_1315
  let c0_i32_1316 : BitVec 32 := 0#32
  let v2022 : BitVec 1 := Scalar.cmpi .slt v2018 c0_i32_1316
  let v2023 : BitVec 1 := Scalar.xori v2021 v2022
  let c0_i32_1314 : BitVec 32 := 0#32
  let v2020 : BitVec 1 := Scalar.cmpi .ne v2019 c0_i32_1314
  let v2024 : BitVec 1 := Scalar.andi v2023 v2020
  let v2025 : BitVec 32 := Scalar.addi v2019 v2018
  let v2026 : BitVec 32 := Scalar.select v2024 v2025 v2019
  let c8192_i32_1317 : BitVec 32 := 8192#32
  let v2027 : BitVec 32 := Scalar.muli v2026 c8192_i32_1317
  let c6912_i32 : BitVec 32 := 6912#32
  let v2028 : BitVec 32 := Scalar.addi v2027 c6912_i32
  v2028
def k0_mult29 (i : grid0.Coords) : BitVec 32 :=
  let arg2 : BitVec 32 := BitVec.ofNat 32 (i 2).val
  let c1_i32_1358 : BitVec 32 := 1#32
  let c0_i32_1359 : BitVec 32 := 0#32
  let v2090 : BitVec 1 := Scalar.cmpi .eq c1_i32_1358 c0_i32_1359
  let c1_i32_1360 : BitVec 32 := 1#32
  let v2091 : BitVec 32 := Scalar.select v2090 c1_i32_1360 c1_i32_1358
  let v2092 : BitVec 32 := Scalar.remsi arg2 v2091
  let c0_i32_1362 : BitVec 32 := 0#32
  let v2094 : BitVec 1 := Scalar.cmpi .slt v2092 c0_i32_1362
  let c0_i32_1363 : BitVec 32 := 0#32
  let v2095 : BitVec 1 := Scalar.cmpi .slt v2091 c0_i32_1363
  let v2096 : BitVec 1 := Scalar.xori v2094 v2095
  let c0_i32_1361 : BitVec 32 := 0#32
  let v2093 : BitVec 1 := Scalar.cmpi .ne v2092 c0_i32_1361
  let v2097 : BitVec 1 := Scalar.andi v2096 v2093
  let v2098 : BitVec 32 := Scalar.addi v2092 v2091
  let v2099 : BitVec 32 := Scalar.select v2097 v2098 v2092
  let c8192_i32_1364 : BitVec 32 := 8192#32
  let v2100 : BitVec 32 := Scalar.muli v2099 c8192_i32_1364
  let c7168_i32 : BitVec 32 := 7168#32
  let v2101 : BitVec 32 := Scalar.addi v2100 c7168_i32
  v2101
def k0_mult30 (i : grid0.Coords) : BitVec 32 :=
  let arg2 : BitVec 32 := BitVec.ofNat 32 (i 2).val
  let c1_i32_1405 : BitVec 32 := 1#32
  let c0_i32_1406 : BitVec 32 := 0#32
  let v2163 : BitVec 1 := Scalar.cmpi .eq c1_i32_1405 c0_i32_1406
  let c1_i32_1407 : BitVec 32 := 1#32
  let v2164 : BitVec 32 := Scalar.select v2163 c1_i32_1407 c1_i32_1405
  let v2165 : BitVec 32 := Scalar.remsi arg2 v2164
  let c0_i32_1409 : BitVec 32 := 0#32
  let v2167 : BitVec 1 := Scalar.cmpi .slt v2165 c0_i32_1409
  let c0_i32_1410 : BitVec 32 := 0#32
  let v2168 : BitVec 1 := Scalar.cmpi .slt v2164 c0_i32_1410
  let v2169 : BitVec 1 := Scalar.xori v2167 v2168
  let c0_i32_1408 : BitVec 32 := 0#32
  let v2166 : BitVec 1 := Scalar.cmpi .ne v2165 c0_i32_1408
  let v2170 : BitVec 1 := Scalar.andi v2169 v2166
  let v2171 : BitVec 32 := Scalar.addi v2165 v2164
  let v2172 : BitVec 32 := Scalar.select v2170 v2171 v2165
  let c8192_i32_1411 : BitVec 32 := 8192#32
  let v2173 : BitVec 32 := Scalar.muli v2172 c8192_i32_1411
  let c7424_i32 : BitVec 32 := 7424#32
  let v2174 : BitVec 32 := Scalar.addi v2173 c7424_i32
  v2174
def k0_mult31 (i : grid0.Coords) : BitVec 32 :=
  let arg2 : BitVec 32 := BitVec.ofNat 32 (i 2).val
  let c1_i32_1452 : BitVec 32 := 1#32
  let c0_i32_1453 : BitVec 32 := 0#32
  let v2236 : BitVec 1 := Scalar.cmpi .eq c1_i32_1452 c0_i32_1453
  let c1_i32_1454 : BitVec 32 := 1#32
  let v2237 : BitVec 32 := Scalar.select v2236 c1_i32_1454 c1_i32_1452
  let v2238 : BitVec 32 := Scalar.remsi arg2 v2237
  let c0_i32_1456 : BitVec 32 := 0#32
  let v2240 : BitVec 1 := Scalar.cmpi .slt v2238 c0_i32_1456
  let c0_i32_1457 : BitVec 32 := 0#32
  let v2241 : BitVec 1 := Scalar.cmpi .slt v2237 c0_i32_1457
  let v2242 : BitVec 1 := Scalar.xori v2240 v2241
  let c0_i32_1455 : BitVec 32 := 0#32
  let v2239 : BitVec 1 := Scalar.cmpi .ne v2238 c0_i32_1455
  let v2243 : BitVec 1 := Scalar.andi v2242 v2239
  let v2244 : BitVec 32 := Scalar.addi v2238 v2237
  let v2245 : BitVec 32 := Scalar.select v2243 v2244 v2238
  let c8192_i32_1458 : BitVec 32 := 8192#32
  let v2246 : BitVec 32 := Scalar.muli v2245 c8192_i32_1458
  let c7680_i32 : BitVec 32 := 7680#32
  let v2247 : BitVec 32 := Scalar.addi v2246 c7680_i32
  v2247
def k0_mult32 (i : grid0.Coords) : BitVec 32 :=
  let arg2 : BitVec 32 := BitVec.ofNat 32 (i 2).val
  let c1_i32_1486 : BitVec 32 := 1#32
  let c0_i32_1487 : BitVec 32 := 0#32
  let v2299 : BitVec 1 := Scalar.cmpi .eq c1_i32_1486 c0_i32_1487
  let c1_i32_1488 : BitVec 32 := 1#32
  let v2300 : BitVec 32 := Scalar.select v2299 c1_i32_1488 c1_i32_1486
  let v2301 : BitVec 32 := Scalar.remsi arg2 v2300
  let c0_i32_1490 : BitVec 32 := 0#32
  let v2303 : BitVec 1 := Scalar.cmpi .slt v2301 c0_i32_1490
  let c0_i32_1491 : BitVec 32 := 0#32
  let v2304 : BitVec 1 := Scalar.cmpi .slt v2300 c0_i32_1491
  let v2305 : BitVec 1 := Scalar.xori v2303 v2304
  let c0_i32_1489 : BitVec 32 := 0#32
  let v2302 : BitVec 1 := Scalar.cmpi .ne v2301 c0_i32_1489
  let v2306 : BitVec 1 := Scalar.andi v2305 v2302
  let v2307 : BitVec 32 := Scalar.addi v2301 v2300
  let v2308 : BitVec 32 := Scalar.select v2306 v2307 v2301
  let c8192_i32_1492 : BitVec 32 := 8192#32
  let v2309 : BitVec 32 := Scalar.muli v2308 c8192_i32_1492
  let c7936_i32 : BitVec 32 := 7936#32
  let v2310 : BitVec 32 := Scalar.addi v2309 c7936_i32
  v2310
def k0_cond3 (i : grid0.Coords) : BitVec 1 :=
  let arg2 : BitVec 32 := BitVec.ofNat 32 (i 2).val
  let c3_i32 : BitVec 32 := 3#32
  let v2352 : BitVec 1 := Scalar.cmpi .eq arg2 c3_i32
  let v2353 : BitVec 32 := Scalar.extui v2352
  let c0_i32_1514 : BitVec 32 := 0#32
  let v2354 : BitVec 1 := Scalar.cmpi .ne v2353 c0_i32_1514
  v2354

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![v0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.divsi arg2 c1_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg2 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.divsi arg2 c1_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg2 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.divsi arg2 c1_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg2 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.divsi arg2 c1_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg2 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg2 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x64x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S4x64x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== ReferenceIdeal.lean ====
abbrev S8192x8x64 : Shape := ⟨3, ![8192, 8, 64]⟩
abbrev S8192x2x64 : Shape := ⟨3, ![8192, 2, 64]⟩
abbrev S8192x2x4x64 : Shape := ⟨4, ![8192, 2, 4, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S2x64x8192 : Shape := ⟨3, ![2, 64, 8192]⟩
abbrev S2x8192x4x64 : Shape := ⟨4, ![2, 8192, 4, 64]⟩
abbrev S2x8192x64 : Shape := ⟨3, ![2, 8192, 64]⟩
abbrev S8x64x8192 : Shape := ⟨3, ![8, 64, 8192]⟩

abbrev nBuf : Space → Nat
  | .hbm => 76
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x8x64, .f32⟩
  | .hbm, ⟨4, _⟩ => ⟨S8192x2x4x64, .f32⟩
  | .hbm, ⟨5, _⟩ => ⟨S2x8192x8192x4, .f32⟩
  | .hbm, ⟨6, _⟩ => ⟨S2x4x8192x8192, .f32⟩
  | .hbm, ⟨7, _⟩ => ⟨S_, .f32⟩
  | .hbm, ⟨8, _⟩ => ⟨S2x4x8192, .f32⟩
  | .hbm, ⟨9, _⟩ => ⟨S2x4x8192x1, .f32⟩
  | .hbm, ⟨10, _⟩ => ⟨S2x4x8192x8192, .f32⟩
  | .hbm, ⟨11, _⟩ => ⟨S2x4x8192x8192, .i1⟩
  | .hbm, ⟨12, _⟩ => ⟨S2x4x8192x8192, .f32⟩
  | .hbm, ⟨13, _⟩ => ⟨S_, .f32⟩
  | .hbm, ⟨14, _⟩ => ⟨S2x4x8192, .f32⟩
  | .hbm, ⟨15, _⟩ => ⟨S_, .f32⟩
  | .hbm, ⟨16, _⟩ => ⟨S2x4x8192, .f32⟩
  | .hbm, ⟨17, _⟩ => ⟨S2x4x8192, .f32⟩
  | .hbm, ⟨18, _⟩ => ⟨S_, .f32⟩
  | .hbm, ⟨19, _⟩ => ⟨S2x4x8192, .f32⟩
  | .hbm, ⟨20, _⟩ => ⟨S2x4x8192, .i1⟩
  | .hbm, ⟨21, _⟩ => ⟨S_, .f32⟩
  | .hbm, ⟨22, _⟩ => ⟨S2x4x8192, .f32⟩
  | .hbm, ⟨23, _⟩ => ⟨S2x4x8192, .i1⟩
  | .hbm, ⟨24, _⟩ => ⟨S_, .f32⟩
  | .hbm, ⟨25, _⟩ => ⟨S2x4x8192, .f32⟩
  | .hbm, ⟨26, _⟩ => ⟨S_, .f32⟩
  | .hbm, ⟨27, _⟩ => ⟨S2x4x8192, .f32⟩
  | .hbm, ⟨28, _⟩ => ⟨S_, .f32⟩
  | .hbm, ⟨29, _⟩ => ⟨S2x4x8192, .f32⟩
  | .hbm, ⟨30, _⟩ => ⟨S2x4x8192, .f32⟩
  | .hbm, ⟨31, _⟩ => ⟨S2x4x8192, .f32⟩
  | .hbm, ⟨32, _⟩ => ⟨S2x4x8192x1, .f32⟩
  | .hbm, ⟨33, _⟩ => ⟨S2x4x8192x8192, .f32⟩
  | .hbm, ⟨34, _⟩ => ⟨S2x4x8192x8192, .f32⟩
  | .hbm, ⟨35, _⟩ => ⟨S2x4x8192x8192, .f32⟩
  | .hbm, ⟨36, _⟩ => ⟨S_, .f32⟩
  | .hbm, ⟨37, _⟩ => ⟨S2x4x8192, .f32⟩
  | .hbm, ⟨38, _⟩ => ⟨S2x4x8192x1, .f32⟩
  | .hbm, ⟨39, _⟩ => ⟨S2x4x8192x8192, .f32⟩
  | .hbm, ⟨40, _⟩ => ⟨S2x4x8192x8192, .f32⟩
  | .hbm, ⟨41, _⟩ => ⟨S2x4x8192x1, .f32⟩
  | .hbm, ⟨42, _⟩ => ⟨S_, .f32⟩
  | .hbm, ⟨43, _⟩ => ⟨S2x4x8192x1, .f32⟩
  | .hbm, ⟨44, _⟩ => ⟨S2x4x8192x1, .f32⟩
  | .hbm, ⟨45, _⟩ => ⟨S2x64x4x8192, .f32⟩
  | .hbm, ⟨46, _⟩ => ⟨S8192x2x4x64, .f32⟩
  | .hbm, ⟨47, _⟩ => ⟨S8192x8x64, .f32⟩
  | .hbm, ⟨48, _⟩ => ⟨S8192x2x4x64, .f32⟩
  | .hbm, ⟨49, _⟩ => ⟨S2x64x4x8192, .f32⟩
  | .hbm, ⟨50, _⟩ => ⟨S2x4x8192x8192, .f32⟩
  | .hbm, ⟨51, _⟩ => ⟨S2x64x8192, .f32⟩
  | .hbm, ⟨52, _⟩ => ⟨S8192x2x64, .f32⟩
  | .hbm, ⟨53, _⟩ => ⟨S2x4x8192x8192, .f32⟩
  | .hbm, ⟨54, _⟩ => ⟨S2x4x8192x8192, .f32⟩
  | .hbm, ⟨55, _⟩ => ⟨S2x4x8192x8192, .f32⟩
  | .hbm, ⟨56, _⟩ => ⟨S_, .f32⟩
  | .hbm, ⟨57, _⟩ => ⟨S2x4x8192, .f32⟩
  | .hbm, ⟨58, _⟩ => ⟨S2x4x8192x1, .f32⟩
  | .hbm, ⟨59, _⟩ => ⟨S2x4x8192x1, .f32⟩
  | .hbm, ⟨60, _⟩ => ⟨S2x4x8192x8192, .f32⟩
  | .hbm, ⟨61, _⟩ => ⟨S2x4x8192x8192, .f32⟩
  | .hbm, ⟨62, _⟩ => ⟨S_, .f32⟩
  | .hbm, ⟨63, _⟩ => ⟨S2x4x8192, .f32⟩
  | .hbm, ⟨64, _⟩ => ⟨S2x4x8192x8192, .f32⟩
  | .hbm, ⟨65, _⟩ => ⟨S2x4x8192x8192, .f32⟩
  | .hbm, ⟨66, _⟩ => ⟨S2x4x8192x8192, .f32⟩
  | .hbm, ⟨67, _⟩ => ⟨S2x8192x8192x4, .f32⟩
  | .hbm, ⟨68, _⟩ => ⟨S2x8192x4x64, .f32⟩
  | .hbm, ⟨69, _⟩ => ⟨S8192x2x4x64, .f32⟩
  | .hbm, ⟨70, _⟩ => ⟨S2x8192x64, .f32⟩
  | .hbm, ⟨71, _⟩ => ⟨S8192x2x64, .f32⟩
  | .hbm, ⟨72, _⟩ => ⟨S8192x8x64, .f32⟩
  | .hbm, ⟨73, _⟩ => ⟨S2x64x8192, .f32⟩
  | .hbm, ⟨74, _⟩ => ⟨S2x64x8192, .f32⟩
  | .hbm, ⟨75, _⟩ => ⟨S8x64x8192, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Kernel2.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x1024, .bf16⟩
  | .hbm, ⟨4, _⟩ => ⟨S8192x2816, .bf16⟩
  | .hbm, ⟨5, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S1024x2816, .f32⟩
  | .hbm, ⟨6, _⟩ => ⟨S8192x1024, .f32⟩
  | .hbm, ⟨7, _⟩ => ⟨S1024x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S8192x1024, .bf16⟩
  | .hbm, ⟨5, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S8192x2816, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x2816 : Shape := ⟨2, ![8192, 2816]⟩
abbrev S2816x1024 : Shape := ⟨2, ![2816, 1024]⟩
abbrev S8192x1024 : Shape := ⟨2, ![8192, 1024]⟩
abbrev S512x1024 : Shape := ⟨2, ![512, 1024]⟩
abbrev S512x2816 : Shape := ⟨2, ![512, 2816]⟩

abbrev nBuf : Space → Nat
  | .hbm => 6
  | .vmem => 5
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .bf16⟩
  | .hbm, ⟨4, _⟩ => ⟨S2816x1024, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S8192x2816, .f32⟩
  | .hbm, ⟨7, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩
abbrev S256x2816 : Shape := ⟨2, ![256, 2816]⟩
abbrev S256x1024 : Shape := ⟨2, ![256, 1024]⟩
abbrev S256x1 : Shape := ⟨2, ![256, 1]⟩
abbrev S256 : Shape := ⟨1, ![256]⟩

abbrev nBuf : Space → Nat
  | .hbm => 39
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x2816, .bf16⟩
  | .hbm, ⟨32, _⟩ => ⟨S8192x2816, .bf16⟩
  | .hbm, ⟨33, _⟩ => ⟨S1024x2816, .bf16⟩
  | .hbm, ⟨34, _⟩ => ⟨S1024x2816, .bf16⟩
  | .hbm, ⟨35, _⟩ => ⟨S1x1024, .f32⟩
  | .hbm, ⟨36, _⟩ => ⟨S8192x1024, .f32⟩
  | .hbm, ⟨37, _⟩ => ⟨S8192x1024, .bf16⟩
  | .hbm, ⟨38, _⟩ => ⟨S8x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x2816, .bf16⟩
  | .local _ .vmem, ⟨5, _⟩ => ⟨S1024x2816, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v23_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Reference5Ideal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2x1024 : Shape := ⟨2, ![2, 1024]⟩
abbrev S8x1024 : Shape := ⟨2, ![8, 1024]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192, .f32⟩
  | .hbm, ⟨98, _⟩ => ⟨S8192x1024, .f32⟩
  | .hbm, ⟨99, _⟩ => ⟨S8192x1024, .f32⟩
  | .hbm, ⟨100, _⟩ => ⟨S8192x1024, .bf16⟩
  | .hbm, ⟨101, _⟩ => ⟨S1x1024, .f32⟩
  | .hbm, ⟨102, _⟩ => ⟨S1x1024, .f32⟩
  | .hbm, ⟨103, _⟩ => ⟨S2x1024, .f32⟩
  | .hbm, ⟨104, _⟩ => ⟨S_, .i32⟩
  | .hbm, ⟨105, _⟩ => ⟨S_, .f32⟩
  | .hbm, ⟨106, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_17 : Ref sig .tc := ⟨.hbm, 93, rfl⟩
abbrev main_v67 : Ref sig .tc := ⟨.hbm, 94, rfl⟩
abbrev main_v68 : Ref sig .tc := ⟨.hbm, 95, rfl⟩
abbrev main_cst_18 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c : Ref sig .tc := ⟨.hbm, 104, rfl⟩
abbrev main_call0_v0 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | .hbm, ⟨3, _⟩ => ⟨S8192x1024, .bf16⟩
  | .hbm, ⟨4, _⟩ => ⟨S8192x1536, .bf16⟩
  | .hbm, ⟨5, _⟩ => ⟨S1024x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1536 : Shape := ⟨2, ![1024, 1536]⟩
abbrev S8192x1536 : Shape := ⟨2, ![8192, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | .hbm, ⟨3, _⟩ => ⟨S8192x1536, .f32⟩
  | .hbm, ⟨4, _⟩ => ⟨S1536x1024, .f32⟩
  | .hbm, ⟨5, _⟩ => ⟨S1024x1536, .f32⟩
  | .hbm, ⟨6, _⟩ => ⟨S8192x1024, .f32⟩
  | .hbm, ⟨7, _⟩ => ⟨S1024x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | .hbm, ⟨3, _⟩ => ⟨S8192x1024, .f32⟩
  | .hbm, ⟨4, _⟩ => ⟨S8192x1536, .bf16⟩
  | .hbm, ⟨5, _⟩ => ⟨S1024x1536, .bf16⟩
  | .hbm, ⟨6, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x1024 : Shape := ⟨2, ![8192, 1024]⟩
abbrev S1024x1536 : Shape := ⟨2, ![1024, 1536]⟩
abbrev S8192x1536 : Shape := ⟨2, ![8192, 1536]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | .hbm, ⟨3, _⟩ => ⟨S8192x1024, .f32⟩
  | .hbm, ⟨4, _⟩ => ⟨S8192x1536, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Kernel10.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x1024, .bf16⟩
  | .hbm, ⟨3, _⟩ => ⟨S1024x2816, .bf16⟩
  | .hbm, ⟨4, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S512x2816, .f32⟩
  | .local _ .vmem, ⟨4, _⟩ => ⟨S512x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S8192x1024 : Shape := ⟨2, ![8192, 1024]⟩
abbrev S1024x2816 : Shape := ⟨2, ![1024, 2816]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x1024, .bf16⟩
  | .hbm, ⟨3, _⟩ => ⟨S1024x2816, .bf16⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S8192x2816, .f32⟩
  | .hbm, ⟨3, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S8192x1024 : Shape := ⟨2, ![8192, 1024]⟩
abbrev S1024x1536 : Shape := ⟨2, ![1024, 1536]⟩
abbrev S8192x1536 : Shape := ⟨2, ![8192, 1536]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1024, .bf16⟩
  | .hbm, ⟨3, _⟩ => ⟨S1024x1536, .bf16⟩
  | .hbm, ⟨4, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .f32⟩
  | .local _ .vmem, ⟨4, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x1536 : Shape := ⟨2, ![1024, 1536]⟩
abbrev S8192x1536 : Shape := ⟨2, ![8192, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 16
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1, .f32⟩
  | .hbm, ⟨15, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference13Ideal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel14.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S8192x1 : Shape := ⟨2, ![8192, 1]⟩
abbrev S256x2816 : Shape := ⟨2, ![256, 2816]⟩
abbrev S256x1024 : Shape := ⟨2, ![256, 1024]⟩
abbrev S256x1 : Shape := ⟨2, ![256, 1]⟩
abbrev S256 : Shape := ⟨1, ![256]⟩

abbrev nBuf : Space → Nat
  | .hbm => 16
  | .vmem => 15
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1, .f32⟩
  | .hbm, ⟨15, _⟩ => ⟨S8192x1024, .bf16⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1, .f32⟩
  | .local _ .vmem, ⟨12, _⟩ => ⟨S256x1, .f32⟩
  | .local _ .vmem, ⟨13, _⟩ => ⟨S256x1024, .bf16⟩
  | .local _ .vmem, ⟨14, _⟩ => ⟨S256x1024, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference14Ideal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel15.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S8x1024 : Shape := ⟨2, ![8, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 17
  | .vmem => 16
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x1024, .f32⟩
  | .hbm, ⟨8, _⟩ => ⟨S8192x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S8192x1024, .bf16⟩
  | .hbm, ⟨16, _⟩ => ⟨S8x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S8x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference15Ideal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S3x1024 : Shape := ⟨2, ![3, 1024]⟩
abbrev S8x1024 : Shape := ⟨2, ![8, 1024]⟩

abbrev nBuf : Space → Nat
  | .hbm => 131
  | .vmem => 0
  | .smem => 0
  | _ => 0

abbrev hbmTy0_0 (i : Nat) : BufTy := match i % 128 with
  | 0 => ⟨S8192x2816, .f32⟩
  | 1 => ⟨S2816x1024, .f32⟩
  | 2 => ⟨S8192x1024, .f32⟩
  | 3 => ⟨S1024, .f32⟩
  | 4 => ⟨S1024, .f32⟩
  | 5 => ⟨S1024, .f32⟩
  | 6 => ⟨S1024, .f32⟩
  | 7 => ⟨S8192x1024, .f32⟩
  | 8 => ⟨S1x1024, .f32⟩
  | 9 => ⟨S8192x1024, .f32⟩
  | 10 => ⟨S8192x1024, .f32⟩
  | 11 => ⟨S1x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x1024, .f32⟩
  | 38 => ⟨S8192x1024, .f32⟩
  | 39 => ⟨S_, .f32⟩
  | 40 => ⟨S8192x1, .f32⟩
  | 41 => ⟨S8192x1, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1024, .f32⟩
  | 48 => ⟨S8192x1024, .f32⟩
  | 49 => ⟨S1x1024, .f32⟩
  | 50 => ⟨S8192x1024, .f32⟩
  | 51 => ⟨S8192x1024, .f32⟩
  | 52 => ⟨S1x1024, .f32⟩
  | 53 => ⟨S8192x1024, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192, .f32⟩
  | 62 => ⟨S_, .f32⟩
  | 63 => ⟨S8192, .f32⟩
  | 64 => ⟨S8192, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S8192, .f32⟩
  | 73 => ⟨S_, .f32⟩
  | 74 => ⟨S8192, .f32⟩
  | 75 => ⟨S8192, .f32⟩
  | 76 => ⟨S8192x1024, .f32⟩
  | 77 => ⟨S8192x1024, .f32⟩
  | 78 => ⟨S_, .f32⟩
  | 79 => ⟨S1024, .f32⟩
  | 80 => ⟨S1x1024, .f32⟩
  | 81 => ⟨S_, .f32⟩
  | 82 => ⟨S1024, .f32⟩
  | 83 => ⟨S8192x1024, .f32⟩
  | 84 => ⟨S_, .f32⟩
  | 85 => ⟨S1024, .f32⟩
  | 86 => ⟨S1x1024, .f32⟩
  | 87 => ⟨S8192x1024, .f32⟩
  | 88 => ⟨S8192x1024, .f32⟩
  | 89 => ⟨S_, .f32⟩
  | 90 => ⟨S1024, .f32⟩
  | 91 => ⟨S8192x1024, .f32⟩
  | 92 => ⟨S_, .f32⟩
  | 93 => ⟨S8192, .f32⟩
  | 94 => ⟨S8192x1, .f32⟩
  | 95 => ⟨S8192x1024, .f32⟩
  | 96 => ⟨S8192x1024, .f32⟩
  | 97 => ⟨S8192x1, .f32⟩
  | 98 => ⟨S8192x1024, .f32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192, .f32⟩
  | 107 => ⟨S8192x1024, .f32⟩
  | 108 => ⟨S8192x1024, .f32⟩
  | 109 => ⟨S8192x1024, .f32⟩
  | 110 => ⟨S_, .f32⟩
  | 111 => ⟨S8192, .f32⟩
  | 112 => ⟨S8192x1, .f32⟩
  | 113 => ⟨S8192x1024, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x1024, .f32⟩
  | 121 => ⟨S8192x1024, .f32⟩
  | 122 => ⟨S1024, .f32⟩
  | 123 => ⟨S1x1024, .f32⟩
  | 124 => ⟨S1x1024, .f32⟩
  | 125 => ⟨S1x1024, .f32⟩
  | 126 => ⟨S3x1024, .f32⟩
  | 127 => ⟨S8192x1024, .bf16⟩
  | _ => ⟨S8192x2816, .f32⟩

abbrev hbmTy0_1 (i : Nat) : BufTy := match i % 128 with
  | 0 => ⟨S_, .i32⟩
  | 1 => ⟨S_, .f32⟩
  | 2 => ⟨S8x1024, .f32⟩
  | _ => ⟨S8192x2816, .f32⟩

abbrev hbmTy (i : Nat) : BufTy := match i / 128 with
  | 0 => hbmTy0_0 i
  | 1 => hbmTy0_1 i
  | _ => ⟨S8192x2816, .f32⟩

abbrev bufTy : (tb : Table) → Fin (tcTables nBuf tb) → BufTy
  | .hbm, ⟨i, _⟩ => hbmTy i
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_cst_12 : Ref sig .tc := ⟨.hbm, 69, rfl⟩
abbrev main_cst_13 : Ref sig .tc := ⟨.hbm, 70, rfl⟩
abbrev main_v48 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_18 : Ref sig .tc := ⟨.hbm, 89, rfl⟩
abbrev main_v62 : Ref sig .tc := ⟨.hbm, 90, rfl⟩
abbrev main_v63 : Ref sig .tc := ⟨.hbm, 91, rfl⟩
abbrev main_cst_19 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_20 : Ref sig .tc := ⟨.hbm, 99, rfl⟩
abbrev main_v70 : Ref sig .tc := ⟨.hbm, 100, rfl⟩
abbrev main_v71 : Ref sig .tc := ⟨.hbm, 101, rfl⟩
abbrev main_cst_21 : Ref sig .tc := ⟨.hbm, 102, rfl⟩
abbrev main_v72 : Ref sig .tc := ⟨.hbm, 103, rfl⟩
abbrev main_v73 : Ref sig .tc := ⟨.hbm, 104, rfl⟩
abbrev main_cst_22 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_23 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_24 : Ref sig .tc := ⟨.hbm, 115, rfl⟩
abbrev main_v82 : Ref sig .tc := ⟨.hbm, 116, rfl⟩
abbrev main_v83 : Ref sig .tc := ⟨.hbm, 117, rfl⟩
abbrev main_cst_25 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c : Ref sig .tc := ⟨.hbm, 128, rfl⟩
abbrev main_call0_v0 : Ref sig .tc := ⟨.hbm, 129, rfl⟩
abbrev main_v93 : Ref sig .tc := ⟨.hbm, 130, rfl⟩

abbrev nD : Nat := 1
abbrev τ : Topo := Topo.v7x

variable {F : FTy → Type} [FloatOps F]
-- ==== Kernel16.lean ====
abbrev S8192x8x64 : Shape := ⟨3, ![8192, 8, 64]⟩
abbrev S8192x2x64 : Shape := ⟨3, ![8192, 2, 64]⟩
abbrev S8x64x8192 : Shape := ⟨3, ![8, 64, 8192]⟩
abbrev S_ : Shape := ⟨0, ![]⟩
abbrev S512x8192 : Shape := ⟨2, ![512, 8192]⟩
abbrev S2x64x8192 : Shape := ⟨3, ![2, 64, 8192]⟩
abbrev S128x8192 : Shape := ⟨2, ![128, 8192]⟩
abbrev S768x8192 : Shape := ⟨2, ![768, 8192]⟩
abbrev S12x64x8192 : Shape := ⟨3, ![12, 64, 8192]⟩
abbrev S2x8192x64 : Shape := ⟨3, ![2, 8192, 64]⟩
abbrev S8x1x8192 : Shape := ⟨3, ![8, 1, 8192]⟩
abbrev S1x2048x64 : Shape := ⟨3, ![1, 2048, 64]⟩
abbrev S1x64x8192 : Shape := ⟨3, ![1, 64, 8192]⟩
abbrev S1x64x2048 : Shape := ⟨3, ![1, 64, 2048]⟩
abbrev S1x1x8192 : Shape := ⟨3, ![1, 1, 8192]⟩
abbrev S1x8192 : Shape := ⟨2, ![1, 8192]⟩
abbrev S80x8192 : Shape := ⟨2, ![80, 8192]⟩
abbrev S64x2048 : Shape := ⟨2, ![64, 2048]⟩
abbrev S16x2048 : Shape := ⟨2, ![16, 2048]⟩
abbrev S80x2048 : Shape := ⟨2, ![80, 2048]⟩
abbrev S2048x64 : Shape := ⟨2, ![2048, 64]⟩
abbrev S1x64x512 : Shape := ⟨3, ![1, 64, 512]⟩
abbrev S64x512 : Shape := ⟨2, ![64, 512]⟩
abbrev S2048x512 : Shape := ⟨2, ![2048, 512]⟩
abbrev S1x512 : Shape := ⟨2, ![1, 512]⟩
abbrev S512 : Shape := ⟨1, ![512]⟩
abbrev S80x512 : Shape := ⟨2, ![80, 512]⟩
abbrev S64x8192 : Shape := ⟨2, ![64, 8192]⟩

abbrev nBuf : Space → Nat
  | .hbm => 20
  | .vmem => 12
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8x64x8192, .f32⟩
  | .hbm, ⟨4, _⟩ => ⟨S_, .f32⟩
  | .hbm, ⟨5, _⟩ => ⟨S_, .f32⟩
  | .hbm, ⟨6, _⟩ => ⟨S8x64x8192, .f32⟩
  | .hbm, ⟨7, _⟩ => ⟨S8x64x8192, .f32⟩
  | .hbm, ⟨8, _⟩ => ⟨S512x8192, .f32⟩
  | .hbm, ⟨9, _⟩ => ⟨S2x64x8192, .f32⟩
  | .hbm, ⟨10, _⟩ => ⟨S128x8192, .f32⟩
  | .hbm, ⟨11, _⟩ => ⟨S2x64x8192, .f32⟩
  | .hbm, ⟨12, _⟩ => ⟨S128x8192, .f32⟩
  | .hbm, ⟨13, _⟩ => ⟨S768x8192, .f32⟩
  | .hbm, ⟨14, _⟩ => ⟨S768x8192, .bf16⟩
  | .hbm, ⟨15, _⟩ => ⟨S12x64x8192, .bf16⟩
  | .hbm, ⟨16, _⟩ => ⟨S2x8192x64, .f32⟩
  | .hbm, ⟨17, _⟩ => ⟨S2x8192x64, .bf16⟩
  | .hbm, ⟨18, _⟩ => ⟨S8x64x8192, .f32⟩
  | .hbm, ⟨19, _⟩ => ⟨S8x1x8192, .f32⟩
  | .local _ .vmem, ⟨0, _⟩ => ⟨S1x2048x64, .bf16⟩
  | .local _ .vmem, ⟨1, _⟩ => ⟨S1x2048x64, .bf16⟩
  | .local _ .vmem, ⟨2, _⟩ => ⟨S1x64x8192, .bf16⟩
  | .local _ .vmem, ⟨3, _⟩ => ⟨S1x64x8192, .bf16⟩
  | .local _ .vmem, ⟨4, _⟩ => ⟨S1x64x2048, .bf16⟩
  | .local _ .vmem, ⟨5, _⟩ => ⟨S1x64x2048, .bf16⟩
  | .local _ .vmem, ⟨6, _⟩ => ⟨S1x64x8192, .f32⟩
  | .local _ .vmem, ⟨7, _⟩ => ⟨S1x64x8192, .f32⟩
  | .local _ .vmem, ⟨8, _⟩ => ⟨S1x1x8192, .f32⟩
  | .local _ .vmem, ⟨9, _⟩ => ⟨S1x1x8192, .f32⟩
  | .local _ .vmem, ⟨10, _⟩ => ⟨S1x8192, .f32⟩
  | .local _ .vmem, ⟨11, _⟩ => ⟨S80x8192, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v423 : BitVec 1 := Scalar.cmpi .eq arg2 c3_i32
  let v424 : BitVec 32 := Scalar.extui v423
  let c0_i32_260 : BitVec 32 := 0#32
  let v425 : BitVec 1 := Scalar.cmpi .ne v424 c0_i32_260
  v425

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c0_i32 : BitVec 32 := 0#32
  let c0_i32_0 : BitVec 32 := 0#32
  ![v0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x64x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Kernel16Ideal.lean ====
variable {F : FTy → Type} [FloatOps F] [Named F]
def κ : String → Option EReal := fun
  | "ln2" => some ((Real.log 2 : ℝ) : EReal)
  | _ => none
-- ==== Reference16Ideal.lean ====
abbrev S8192x8x64 : Shape := ⟨3, ![8192, 8, 64]⟩
abbrev S8192x2x64 : Shape := ⟨3, ![8192, 2, 64]⟩
abbrev S8192x2x4x64 : Shape := ⟨4, ![8192, 2, 4, 64]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x64x4x8192 : Shape := ⟨4, ![2, 64, 4, 8192]⟩
abbrev S2x4x64x8192 : Shape := ⟨4, ![2, 4, 64, 8192]⟩
abbrev S8x64x8192 : Shape := ⟨3, ![8, 64, 8192]⟩
abbrev S8x1x8192 : Shape := ⟨3, ![8, 1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x2x4x64, .f32⟩
  | .hbm, ⟨4, _⟩ => ⟨S2x8192x8192x4, .f32⟩
  | .hbm, ⟨5, _⟩ => ⟨S2x4x8192x8192, .f32⟩
  | .hbm, ⟨6, _⟩ => ⟨S_, .f32⟩
  | .hbm, ⟨7, _⟩ => ⟨S2x4x8192, .f32⟩
  | .hbm, ⟨8, _⟩ => ⟨S_, .f32⟩
  | .hbm, ⟨9, _⟩ => ⟨S2x4x8192, .f32⟩
  | .hbm, ⟨10, _⟩ => ⟨S2x4x8192, .f32⟩
  | .hbm, ⟨11, _⟩ => ⟨S2x4x8192x1, .f32⟩
  | .hbm, ⟨12, _⟩ => ⟨S2x4x8192x8192, .f32⟩
  | .hbm, ⟨13, _⟩ => ⟨S2x4x8192x8192, .f32⟩
  | .hbm, ⟨14, _⟩ => ⟨S2x4x8192x8192, .f32⟩
  | .hbm, ⟨15, _⟩ => ⟨S_, .f32⟩
  | .hbm, ⟨16, _⟩ => ⟨S2x4x8192, .f32⟩
  | .hbm, ⟨17, _⟩ => ⟨S2x4x8192x1, .f32⟩
  | .hbm, ⟨18, _⟩ => ⟨S2x4x8192x8192, .f32⟩
  | .hbm, ⟨19, _⟩ => ⟨S2x4x8192x8192, .f32⟩
  | .hbm, ⟨20, _⟩ => ⟨S2x64x4x8192, .f32⟩
  | .hbm, ⟨21, _⟩ => ⟨S2x4x64x8192, .f32⟩
  | .hbm, ⟨22, _⟩ => ⟨S_, .f32⟩
  | .hbm, ⟨23, _⟩ => ⟨S2x4x8192, .f32⟩
  | .hbm, ⟨24, _⟩ => ⟨S2x4x8192x1, .f32⟩
  | .hbm, ⟨25, _⟩ => ⟨S2x4x8192x8192, .f32⟩
  | .hbm, ⟨26, _⟩ => ⟨S2x4x8192x8192, .f32⟩
  | .hbm, ⟨27, _⟩ => ⟨S2x4x8192x8192, .f32⟩
  | .hbm, ⟨28, _⟩ => ⟨S_, .f32⟩
  | .hbm, ⟨29, _⟩ => ⟨S2x4x8192, .f32⟩
  | .hbm, ⟨30, _⟩ => ⟨S2x4x8192, .f32⟩
  | .hbm, ⟨31, _⟩ => ⟨S2x4x8192, .f32⟩
  | .hbm, ⟨32, _⟩ => ⟨S8x64x8192, .f32⟩
  | .hbm, ⟨33, _⟩ => ⟨S_, .f32⟩
  | .hbm, ⟨34, _⟩ => ⟨S_, .f32⟩
  | .hbm, ⟨35, _⟩ => ⟨S2x4x8192, .f32⟩
  | .hbm, ⟨36, _⟩ => ⟨S2x4x8192, .f32⟩
  | .hbm, ⟨37, _⟩ => ⟨S8x1x8192, .f32⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel17.lean ====
abbrev S2048x192 : Shape := ⟨2, ![2048, 192]⟩
abbrev S8x1024x192 : Shape := ⟨3, ![8, 1024, 192]⟩
abbrev S256x192 : Shape := ⟨2, ![256, 192]⟩
abbrev S8x256x192 : Shape := ⟨3, ![8, 256, 192]⟩
abbrev S1x256x192 : Shape := ⟨3, ![1, 256, 192]⟩

abbrev nBuf : Space → Nat
  | .hbm => 9
  | .vmem => 18
  | .smem => 0
  | _ => 0

abbrev bufTy : (tb : Table) → Fin (tcTables nBuf tb) → BufTy
  | .hbm, ⟨0, _⟩ => ⟨S2048x192, .f32⟩
  | .hbm, ⟨1, _⟩ => ⟨S2048x192, .f32⟩
  | .hbm, ⟨2, _⟩ => ⟨S2048x192, .f32⟩
  | .hbm, ⟨3, _⟩ => ⟨S8x1024x192, .bf16⟩
  | .hbm, ⟨4, _⟩ => ⟨S8x1024x192, .bf16⟩
  | .hbm, ⟨5, _⟩ => ⟨S2048x192, .f32⟩
  | .hbm, ⟨6, _⟩ => ⟨S2048x192, .f32⟩
  | .hbm, ⟨7, _⟩ => ⟨S2048x192, .f32⟩
  | .hbm, ⟨8, _⟩ => ⟨S2048x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S8x256x192, .bf16⟩
  | .local _ .vmem, ⟨7, _⟩ => ⟨S8x256x192, .bf16⟩
  | .local _ .vmem, ⟨8, _⟩ => ⟨S8x256x192, .bf16⟩
  | .local _ .vmem, ⟨9, _⟩ => ⟨S8x256x192, .bf16⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | .local _ .vmem, ⟨16, _⟩ => ⟨S256x192, .f32⟩
  | .local _ .vmem, ⟨17, _⟩ => ⟨S256x192, .f32⟩
  | _, _ => ⟨S2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c4_i32_6 : BitVec 32 := 4#32
  let c0_i32_9 : BitVec 32 := 0#32
  let v26 : BitVec 1 := Scalar.cmpi .sgt c4_i32_6 c0_i32_9
  let v27 : BitVec 32 := Scalar.extui v26
  let c0_i32_10 : BitVec 32 := 0#32
  let v28 : BitVec 1 := Scalar.cmpi .slt c4_i32_6 c0_i32_10
  let v29 : BitVec 32 := Scalar.extui v28
  let v30 : BitVec 32 := Scalar.subi v27 v29
  let v31 : BitVec 1 := Scalar.cmpi .ne v25 v30
  let v32 : BitVec 32 := Scalar.remsi arg0 c4_i32_6
  let c0_i32_11 : BitVec 32 := 0#32
  let v33 : BitVec 1 := Scalar.cmpi .ne v32 c0_i32_11
  let v34 : BitVec 1 := Scalar.andi v31 v33
  let v20 : BitVec 32 := Scalar.divsi arg0 c4_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel17Ideal.lean ====
abbrev S2048x192 : Shape := ⟨2, ![2048, 192]⟩
abbrev S8x1024x192 : Shape := ⟨3, ![8, 1024, 192]⟩
abbrev S256x192 : Shape := ⟨2, ![256, 192]⟩
abbrev S8x256x192 : Shape := ⟨3, ![8, 256, 192]⟩
abbrev S1x256x192 : Shape := ⟨3, ![1, 256, 192]⟩

abbrev nBuf : Space → Nat
  | .hbm => 9
  | .vmem => 18
  | .smem => 0
  | _ => 0

abbrev bufTy : (tb : Table) → Fin (tcTables nBuf tb) → BufTy
  | .hbm, ⟨0, _⟩ => ⟨S2048x192, .f32⟩
  | .hbm, ⟨1, _⟩ => ⟨S2048x192, .f32⟩
  | .hbm, ⟨2, _⟩ => ⟨S2048x192, .f32⟩
  | .hbm, ⟨3, _⟩ => ⟨S8x1024x192, .bf16⟩
  | .hbm, ⟨4, _⟩ => ⟨S8x1024x192, .bf16⟩
  | .hbm, ⟨5, _⟩ => ⟨S2048x192, .f32⟩
  | .hbm, ⟨6, _⟩ => ⟨S2048x192, .f32⟩
  | .hbm, ⟨7, _⟩ => ⟨S2048x192, .f32⟩
  | .hbm, ⟨8, _⟩ => ⟨S2048x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S8x256x192, .bf16⟩
  | .local _ .vmem, ⟨7, _⟩ => ⟨S8x256x192, .bf16⟩
  | .local _ .vmem, ⟨8, _⟩ => ⟨S8x256x192, .bf16⟩
  | .local _ .vmem, ⟨9, _⟩ => ⟨S8x256x192, .bf16⟩
  | .local _ .vmem, ⟨10, _⟩ => ⟨S256x192, .f32⟩
  | .local _ .vmem, ⟨11, _⟩ => ⟨S256x192, .f32⟩
  | .local _ .vmem, ⟨12, _⟩ => ⟨S256x192, .f32⟩
  | .local _ .vmem, ⟨13, _⟩ => ⟨S256x192, .f32⟩
  | .local _ .vmem, ⟨14, _⟩ => ⟨S256x192, .f32⟩
  | .local _ .vmem, ⟨15, _⟩ => ⟨S256x192, .f32⟩
  | .local _ .vmem, ⟨16, _⟩ => ⟨S256x192, .f32⟩
  | .local _ .vmem, ⟨17, _⟩ => ⟨S256x192, .f32⟩
  | _, _ => ⟨S2048x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c4_i32_6 : BitVec 32 := 4#32
  let c0_i32_9 : BitVec 32 := 0#32
  let v26 : BitVec 1 := Scalar.cmpi .sgt c4_i32_6 c0_i32_9
  let v27 : BitVec 32 := Scalar.extui v26
  let c0_i32_10 : BitVec 32 := 0#32
  let v28 : BitVec 1 := Scalar.cmpi .slt c4_i32_6 c0_i32_10
  let v29 : BitVec 32 := Scalar.extui v28
  let v30 : BitVec 32 := Scalar.subi v27 v29
  let v31 : BitVec 1 := Scalar.cmpi .ne v25 v30
  let v32 : BitVec 32 := Scalar.remsi arg0 c4_i32_6
  let c0_i32_11 : BitVec 32 := 0#32
  let v33 : BitVec 1 := Scalar.cmpi .ne v32 c0_i32_11
  let v34 : BitVec 1 := Scalar.andi v31 v33
  let v20 : BitVec 32 := Scalar.divsi arg0 c4_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S2048x192 : Shape := ⟨2, ![2048, 192]⟩
abbrev S8x1024x192 : Shape := ⟨3, ![8, 1024, 192]⟩
abbrev S_ : Shape := ⟨0, ![]⟩
abbrev S1024x192 : Shape := ⟨2, ![1024, 192]⟩

abbrev nBuf : Space → Nat
  | .hbm => 45
  | .vmem => 0
  | .smem => 0
  | _ => 0

abbrev bufTy : (tb : Table) → Fin (tcTables nBuf tb) → BufTy
  | .hbm, ⟨0, _⟩ => ⟨S2048x192, .f32⟩
  | .hbm, ⟨1, _⟩ => ⟨S2048x192, .f32⟩
  | .hbm, ⟨2, _⟩ => ⟨S2048x192, .f32⟩
  | .hbm, ⟨3, _⟩ => ⟨S8x1024x192, .bf16⟩
  | .hbm, ⟨4, _⟩ => ⟨S8x1024x192, .bf16⟩
  | .hbm, ⟨5, _⟩ => ⟨S8x1024x192, .f32⟩
  | .hbm, ⟨6, _⟩ => ⟨S_, .f32⟩
  | .hbm, ⟨7, _⟩ => ⟨S1024x192, .f32⟩
  | .hbm, ⟨8, _⟩ => ⟨S8x1024x192, .f32⟩
  | .hbm, ⟨9, _⟩ => ⟨S_, .f32⟩
  | .hbm, ⟨10, _⟩ => ⟨S1024x192, .f32⟩
  | .hbm, ⟨11, _⟩ => ⟨S2048x192, .f32⟩
  | .hbm, ⟨12, _⟩ => ⟨S_, .f32⟩
  | .hbm, ⟨13, _⟩ => ⟨S2048x192, .f32⟩
  | .hbm, ⟨14, _⟩ => ⟨S2048x192, .f32⟩
  | .hbm, ⟨15, _⟩ => ⟨S_, .f32⟩
  | .hbm, ⟨16, _⟩ => ⟨S2048x192, .f32⟩
  | .hbm, ⟨17, _⟩ => ⟨S2048x192, .f32⟩
  | .hbm, ⟨18, _⟩ => ⟨S2048x192, .f32⟩
  | .hbm, ⟨19, _⟩ => ⟨S_, .f32⟩
  | .hbm, ⟨20, _⟩ => ⟨S2048x192, .f32⟩
  | .hbm, ⟨21, _⟩ => ⟨S2048x192, .f32⟩
  | .hbm, ⟨22, _⟩ => ⟨S2048x192, .f32⟩
  | .hbm, ⟨23, _⟩ => ⟨S_, .f32⟩
  | .hbm, ⟨24, _⟩ => ⟨S2048x192, .f32⟩
  | .hbm, ⟨25, _⟩ => ⟨S2048x192, .f32⟩
  | .hbm, ⟨26, _⟩ => ⟨S2048x192, .f32⟩
  | .hbm, ⟨27, _⟩ => ⟨S_, .f32⟩
  | .hbm, ⟨28, _⟩ => ⟨S2048x192, .f32⟩
  | .hbm, ⟨29, _⟩ => ⟨S2048x192, .f32⟩
  | .hbm, ⟨30, _⟩ => ⟨S_, .f32⟩
  | .hbm, ⟨31, _⟩ => ⟨S2048x192, .f32⟩
  | .hbm, ⟨32, _⟩ => ⟨S2048x192, .f32⟩
  | .hbm, ⟨33, _⟩ => ⟨S2048x192, .f32⟩
  | .hbm, ⟨34, _⟩ => ⟨S_, .f32⟩
  | .hbm, ⟨35, _⟩ => ⟨S2048x192, .f32⟩
  | .hbm, ⟨36, _⟩ => ⟨S2048x192, .f32⟩
  | .hbm, ⟨37, _⟩ => ⟨S2048x192, .f32⟩
  | .hbm, ⟨38, _⟩ => ⟨S_, .f32⟩
  | .hbm, ⟨39, _⟩ => ⟨S2048x192, .f32⟩
  | .hbm, ⟨40, _⟩ => ⟨S2048x192, .f32⟩
  | .hbm, ⟨41, _⟩ => ⟨S2048x192, .f32⟩
  | .hbm, ⟨42, _⟩ => ⟨S_, .f32⟩
  | .hbm, ⟨43, _⟩ => ⟨S2048x192, .f32⟩
  | .hbm, ⟨44, _⟩ => ⟨S2048x192, .f32⟩
  | _, _ => ⟨S2048x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel18.lean ====
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x128x1024, .bf16⟩
  | .hbm, ⟨4, _⟩ => ⟨S8x128x1024, .bf16⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32_8 : BitVec 32 := 0#32
  let v21 : BitVec 1 := Scalar.cmpi .sgt arg0 c0_i32_8
  let v22 : BitVec 32 := Scalar.extui v21
  let c0_i32_9 : BitVec 32 := 0#32
  let v23 : BitVec 1 := Scalar.cmpi .slt arg0 c0_i32_9
  let v24 : BitVec 32 := Scalar.extui v23
  let v25 : BitVec 32 := Scalar.subi v22 v24
  let c1_i32_7 : BitVec 32 := 1#32
  let c0_i32_10 : BitVec 32 := 0#32
  let v26 : BitVec 1 := Scalar.cmpi .sgt c1_i32_7 c0_i32_10
  let v27 : BitVec 32 := Scalar.extui v26
  let c0_i32_11 : BitVec 32 := 0#32
  let v28 : BitVec 1 := Scalar.cmpi .slt c1_i32_7 c0_i32_11
  let v29 : BitVec 32 := Scalar.extui v28
  let v30 : BitVec 32 := Scalar.subi v27 v29
  let v31 : BitVec 1 := Scalar.cmpi .ne v25 v30
  let v32 : BitVec 32 := Scalar.remsi arg0 c1_i32_7
  let c0_i32_12 : BitVec 32 := 0#32
  let v33 : BitVec 1 := Scalar.cmpi .ne v32 c0_i32_12
  let v34 : BitVec 1 := Scalar.andi v31 v33
  let v20 : BitVec 32 := Scalar.divsi arg0 c1_i32_7
  let c1_i32_13 : BitVec 32 := 1#32
  let v35 : BitVec 32 := Scalar.subi v20 c1_i32_13
  let v36 : BitVec 32 := Scalar.select v34 v35 v20
  let c1_i32_14 : BitVec 32 := 1#32
  let v37 : BitVec 1 := Scalar.cmpi .eq v36 c1_i32_14
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel18Ideal.lean ====
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x128x1024, .bf16⟩
  | .hbm, ⟨4, _⟩ => ⟨S8x128x1024, .bf16⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32_8 : BitVec 32 := 0#32
  let v21 : BitVec 1 := Scalar.cmpi .sgt arg0 c0_i32_8
  let v22 : BitVec 32 := Scalar.extui v21
  let c0_i32_9 : BitVec 32 := 0#32
  let v23 : BitVec 1 := Scalar.cmpi .slt arg0 c0_i32_9
  let v24 : BitVec 32 := Scalar.extui v23
  let v25 : BitVec 32 := Scalar.subi v22 v24
  let c1_i32_7 : BitVec 32 := 1#32
  let c0_i32_10 : BitVec 32 := 0#32
  let v26 : BitVec 1 := Scalar.cmpi .sgt c1_i32_7 c0_i32_10
  let v27 : BitVec 32 := Scalar.extui v26
  let c0_i32_11 : BitVec 32 := 0#32
  let v28 : BitVec 1 := Scalar.cmpi .slt c1_i32_7 c0_i32_11
  let v29 : BitVec 32 := Scalar.extui v28
  let v30 : BitVec 32 := Scalar.subi v27 v29
  let v31 : BitVec 1 := Scalar.cmpi .ne v25 v30
  let v32 : BitVec 32 := Scalar.remsi arg0 c1_i32_7
  let c0_i32_12 : BitVec 32 := 0#32
  let v33 : BitVec 1 := Scalar.cmpi .ne v32 c0_i32_12
  let v34 : BitVec 1 := Scalar.andi v31 v33
  let v20 : BitVec 32 := Scalar.divsi arg0 c1_i32_7
  let c1_i32_13 : BitVec 32 := 1#32
  let v35 : BitVec 32 := Scalar.subi v20 c1_i32_13
  let v36 : BitVec 32 := Scalar.select v34 v35 v20
  let c1_i32_14 : BitVec 32 := 1#32
  let v37 : BitVec 1 := Scalar.cmpi .eq v36 c1_i32_14
  let v38 : BitVec 32 := Scalar.extui v37
  let c0_i32_15 : BitVec 32 := 0#32
  let v39 : BitVec 1 := Scalar.cmpi .ne v38 c0_i32_15
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S256x1024 : Shape := ⟨2, ![256, 1024]⟩
abbrev S8x128x1024 : Shape := ⟨3, ![8, 128, 1024]⟩
abbrev S_ : Shape := ⟨0, ![]⟩
abbrev S128x1024 : Shape := ⟨2, ![128, 1024]⟩

abbrev nBuf : Space → Nat
  | .hbm => 45
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S8x128x1024, .bf16⟩
  | .hbm, ⟨4, _⟩ => ⟨S8x128x1024, .bf16⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel19.lean ====
abbrev S2048x352 : Shape := ⟨2, ![2048, 352]⟩
abbrev S8x1024x352 : Shape := ⟨3, ![8, 1024, 352]⟩
abbrev S256x352 : Shape := ⟨2, ![256, 352]⟩
abbrev S8x256x352 : Shape := ⟨3, ![8, 256, 352]⟩
abbrev S1x256x352 : Shape := ⟨3, ![1, 256, 352]⟩

abbrev nBuf : Space → Nat
  | .hbm => 9
  | .vmem => 18
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S8x1024x352, .bf16⟩
  | .hbm, ⟨4, _⟩ => ⟨S8x1024x352, .bf16⟩
  | .hbm, ⟨5, _⟩ => ⟨S2048x352, .f32⟩
  | .hbm, ⟨6, _⟩ => ⟨S2048x352, .f32⟩
  | .hbm, ⟨7, _⟩ => ⟨S2048x352, .f32⟩
  | .hbm, ⟨8, _⟩ => ⟨S2048x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S8x256x352, .bf16⟩
  | .local _ .vmem, ⟨7, _⟩ => ⟨S8x256x352, .bf16⟩
  | .local _ .vmem, ⟨8, _⟩ => ⟨S8x256x352, .bf16⟩
  | .local _ .vmem, ⟨9, _⟩ => ⟨S8x256x352, .bf16⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | .local _ .vmem, ⟨14, _⟩ => ⟨S256x352, .f32⟩
  | .local _ .vmem, ⟨15, _⟩ => ⟨S256x352, .f32⟩
  | .local _ .vmem, ⟨16, _⟩ => ⟨S256x352, .f32⟩
  | .local _ .vmem, ⟨17, _⟩ => ⟨S256x352, .f32⟩
  | _, _ => ⟨S2048x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c4_i32_6 : BitVec 32 := 4#32
  let c0_i32_9 : BitVec 32 := 0#32
  let v26 : BitVec 1 := Scalar.cmpi .sgt c4_i32_6 c0_i32_9
  let v27 : BitVec 32 := Scalar.extui v26
  let c0_i32_10 : BitVec 32 := 0#32
  let v28 : BitVec 1 := Scalar.cmpi .slt c4_i32_6 c0_i32_10
  let v29 : BitVec 32 := Scalar.extui v28
  let v30 : BitVec 32 := Scalar.subi v27 v29
  let v31 : BitVec 1 := Scalar.cmpi .ne v25 v30
  let v32 : BitVec 32 := Scalar.remsi arg0 c4_i32_6
  let c0_i32_11 : BitVec 32 := 0#32
  let v33 : BitVec 1 := Scalar.cmpi .ne v32 c0_i32_11
  let v34 : BitVec 1 := Scalar.andi v31 v33
  let v20 : BitVec 32 := Scalar.divsi arg0 c4_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x352 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel19Ideal.lean ====
abbrev S2048x352 : Shape := ⟨2, ![2048, 352]⟩
abbrev S8x1024x352 : Shape := ⟨3, ![8, 1024, 352]⟩
abbrev S256x352 : Shape := ⟨2, ![256, 352]⟩
abbrev S8x256x352 : Shape := ⟨3, ![8, 256, 352]⟩
abbrev S1x256x352 : Shape := ⟨3, ![1, 256, 352]⟩

abbrev nBuf : Space → Nat
  | .hbm => 9
  | .vmem => 18
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S8x1024x352, .bf16⟩
  | .hbm, ⟨4, _⟩ => ⟨S8x1024x352, .bf16⟩
  | .hbm, ⟨5, _⟩ => ⟨S2048x352, .f32⟩
  | .hbm, ⟨6, _⟩ => ⟨S2048x352, .f32⟩
  | .hbm, ⟨7, _⟩ => ⟨S2048x352, .f32⟩
  | .hbm, ⟨8, _⟩ => ⟨S2048x352, .f32⟩
  | .local _ .vmem, ⟨0, _⟩ => ⟨S256x352, .f32⟩
  | .local _ .vmem, ⟨1, _⟩ => ⟨S256x352, .f32⟩
  | .local _ .vmem, ⟨2, _⟩ => ⟨S256x352, .f32⟩
  | .local _ .vmem, ⟨3, _⟩ => ⟨S256x352, .f32⟩
  | .local _ .vmem, ⟨4, _⟩ => ⟨S256x352, .f32⟩
  | .local _ .vmem, ⟨5, _⟩ => ⟨S256x352, .f32⟩
  | .local _ .vmem, ⟨6, _⟩ => ⟨S8x256x352, .bf16⟩
  | .local _ .vmem, ⟨7, _⟩ => ⟨S8x256x352, .bf16⟩
  | .local _ .vmem, ⟨8, _⟩ => ⟨S8x256x352, .bf16⟩
  | .local _ .vmem, ⟨9, _⟩ => ⟨S8x256x352, .bf16⟩
  | .local _ .vmem, ⟨10, _⟩ => ⟨S256x352, .f32⟩
  | .local _ .vmem, ⟨11, _⟩ => ⟨S256x352, .f32⟩
  | .local _ .vmem, ⟨12, _⟩ => ⟨S256x352, .f32⟩
  | .local _ .vmem, ⟨13, _⟩ => ⟨S256x352, .f32⟩
  | .local _ .vmem, ⟨14, _⟩ => ⟨S256x352, .f32⟩
  | .local _ .vmem, ⟨15, _⟩ => ⟨S256x352, .f32⟩
  | .local _ .vmem, ⟨16, _⟩ => ⟨S256x352, .f32⟩
  | .local _ .vmem, ⟨17, _⟩ => ⟨S256x352, .f32⟩
  | _, _ => ⟨S2048x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c4_i32_6 : BitVec 32 := 4#32
  let c0_i32_9 : BitVec 32 := 0#32
  let v26 : BitVec 1 := Scalar.cmpi .sgt c4_i32_6 c0_i32_9
  let v27 : BitVec 32 := Scalar.extui v26
  let c0_i32_10 : BitVec 32 := 0#32
  let v28 : BitVec 1 := Scalar.cmpi .slt c4_i32_6 c0_i32_10
  let v29 : BitVec 32 := Scalar.extui v28
  let v30 : BitVec 32 := Scalar.subi v27 v29
  let v31 : BitVec 1 := Scalar.cmpi .ne v25 v30
  let v32 : BitVec 32 := Scalar.remsi arg0 c4_i32_6
  let c0_i32_11 : BitVec 32 := 0#32
  let v33 : BitVec 1 := Scalar.cmpi .ne v32 c0_i32_11
  let v34 : BitVec 1 := Scalar.andi v31 v33
  let v20 : BitVec 32 := Scalar.divsi arg0 c4_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x352 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x352 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S2048x352 : Shape := ⟨2, ![2048, 352]⟩
abbrev S8x1024x352 : Shape := ⟨3, ![8, 1024, 352]⟩
abbrev S_ : Shape := ⟨0, ![]⟩
abbrev S1024x352 : Shape := ⟨2, ![1024, 352]⟩

abbrev nBuf : Space → Nat
  | .hbm => 45
  | .vmem => 0
  | .smem => 0
  | _ => 0

abbrev bufTy : (tb : Table) → Fin (tcTables nBuf tb) → BufTy
  | .hbm, ⟨0, _⟩ => ⟨S2048x352, .f32⟩
  | .hbm, ⟨1, _⟩ => ⟨S2048x352, .f32⟩
  | .hbm, ⟨2, _⟩ => ⟨S2048x352, .f32⟩
  | .hbm, ⟨3, _⟩ => ⟨S8x1024x352, .bf16⟩
  | .hbm, ⟨4, _⟩ => ⟨S8x1024x352, .bf16⟩
  | .hbm, ⟨5, _⟩ => ⟨S8x1024x352, .f32⟩
  | .hbm, ⟨6, _⟩ => ⟨S_, .f32⟩
  | .hbm, ⟨7, _⟩ => ⟨S1024x352, .f32⟩
  | .hbm, ⟨8, _⟩ => ⟨S8x1024x352, .f32⟩
  | .hbm, ⟨9, _⟩ => ⟨S_, .f32⟩
  | .hbm, ⟨10, _⟩ => ⟨S1024x352, .f32⟩
  | .hbm, ⟨11, _⟩ => ⟨S2048x352, .f32⟩
  | .hbm, ⟨12, _⟩ => ⟨S_, .f32⟩
  | .hbm, ⟨13, _⟩ => ⟨S2048x352, .f32⟩
  | .hbm, ⟨14, _⟩ => ⟨S2048x352, .f32⟩
  | .hbm, ⟨15, _⟩ => ⟨S_, .f32⟩
  | .hbm, ⟨16, _⟩ => ⟨S2048x352, .f32⟩
  | .hbm, ⟨17, _⟩ => ⟨S2048x352, .f32⟩
  | .hbm, ⟨18, _⟩ => ⟨S2048x352, .f32⟩
  | .hbm, ⟨19, _⟩ => ⟨S_, .f32⟩
  | .hbm, ⟨20, _⟩ => ⟨S2048x352, .f32⟩
  | .hbm, ⟨21, _⟩ => ⟨S2048x352, .f32⟩
  | .hbm, ⟨22, _⟩ => ⟨S2048x352, .f32⟩
  | .hbm, ⟨23, _⟩ => ⟨S_, .f32⟩
  | .hbm, ⟨24, _⟩ => ⟨S2048x352, .f32⟩
  | .hbm, ⟨25, _⟩ => ⟨S2048x352, .f32⟩
  | .hbm, ⟨26, _⟩ => ⟨S2048x352, .f32⟩
  | .hbm, ⟨27, _⟩ => ⟨S_, .f32⟩
  | .hbm, ⟨28, _⟩ => ⟨S2048x352, .f32⟩
  | .hbm, ⟨29, _⟩ => ⟨S2048x352, .f32⟩
  | .hbm, ⟨30, _⟩ => ⟨S_, .f32⟩
  | .hbm, ⟨31, _⟩ => ⟨S2048x352, .f32⟩
  | .hbm, ⟨32, _⟩ => ⟨S2048x352, .f32⟩
  | .hbm, ⟨33, _⟩ => ⟨S2048x352, .f32⟩
  | .hbm, ⟨34, _⟩ => ⟨S_, .f32⟩
  | .hbm, ⟨35, _⟩ => ⟨S2048x352, .f32⟩
  | .hbm, ⟨36, _⟩ => ⟨S2048x352, .f32⟩
  | .hbm, ⟨37, _⟩ => ⟨S2048x352, .f32⟩
  | .hbm, ⟨38, _⟩ => ⟨S_, .f32⟩
  | .hbm, ⟨39, _⟩ => ⟨S2048x352, .f32⟩
  | .hbm, ⟨40, _⟩ => ⟨S2048x352, .f32⟩
  | .hbm, ⟨41, _⟩ => ⟨S2048x352, .f32⟩
  | .hbm, ⟨42, _⟩ => ⟨S_, .f32⟩
  | .hbm, ⟨43, _⟩ => ⟨S2048x352, .f32⟩
  | .hbm, ⟨44, _⟩ => ⟨S2048x352, .f32⟩
  | _, _ => ⟨S2048x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel20.lean ====
abbrev S704x1024 : Shape := ⟨2, ![704, 1024]⟩
abbrev S8x352x1024 : Shape := ⟨3, ![8, 352, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S8x352x1024, .bf16⟩
  | .hbm, ⟨4, _⟩ => ⟨S8x352x1024, .bf16⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S8x176x1024, .bf16⟩
  | .local _ .vmem, ⟨9, _⟩ => ⟨S8x176x1024, .bf16⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg0 c2_i32_6
  let c0_i32_11 : BitVec 32 := 0#32
  let v33 : BitVec 1 := Scalar.cmpi .ne v32 c0_i32_11
  let v34 : BitVec 1 := Scalar.andi v31 v33
  let v20 : BitVec 32 := Scalar.divsi arg0 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference20Ideal.lean ====
abbrev S704x1024 : Shape := ⟨2, ![704, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S8x352x1024, .bf16⟩
  | .hbm, ⟨4, _⟩ => ⟨S8x352x1024, .bf16⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel21.lean ====
abbrev S264x128 : Shape := ⟨2, ![264, 128]⟩
abbrev S8x264x128 : Shape := ⟨3, ![8, 264, 128]⟩
abbrev S88x128 : Shape := ⟨2, ![88, 128]⟩
abbrev S8x88x128 : Shape := ⟨3, ![8, 88, 128]⟩
abbrev S1x88x128 : Shape := ⟨3, ![1, 88, 128]⟩

abbrev nBuf : Space → Nat
  | .hbm => 8
  | .vmem => 16
  | .smem => 0
  | _ => 0

abbrev bufTy : (tb : Table) → Fin (tcTables nBuf tb) → BufTy
  | .hbm, ⟨0, _⟩ => ⟨S264x128, .f32⟩
  | .hbm, ⟨1, _⟩ => ⟨S264x128, .f32⟩
  | .hbm, ⟨2, _⟩ => ⟨S264x128, .f32⟩
  | .hbm, ⟨3, _⟩ => ⟨S8x264x128, .f32⟩
  | .hbm, ⟨4, _⟩ => ⟨S264x128, .f32⟩
  | .hbm, ⟨5, _⟩ => ⟨S264x128, .f32⟩
  | .hbm, ⟨6, _⟩ => ⟨S264x128, .f32⟩
  | .hbm, ⟨7, _⟩ => ⟨S264x128, .f32⟩
  | .local _ .vmem, ⟨0, _⟩ => ⟨S88x128, .f32⟩
  | .local _ .vmem, ⟨1, _⟩ => ⟨S88x128, .f32⟩
  | .local _ .vmem, ⟨2, _⟩ => ⟨S88x128, .f32⟩
  | .local _ .vmem, ⟨3, _⟩ => ⟨S88x128, .f32⟩
  | .local _ .vmem, ⟨4, _⟩ => ⟨S88x128, .f32⟩
  | .local _ .vmem, ⟨5, _⟩ => ⟨S88x128, .f32⟩
  | .local _ .vmem, ⟨6, _⟩ => ⟨S8x88x128, .f32⟩
  | .local _ .vmem, ⟨7, _⟩ => ⟨S8x88x128, .f32⟩
  | .local _ .vmem, ⟨8, _⟩ => ⟨S88x128, .f32⟩
  | .local _ .vmem, ⟨9, _⟩ => ⟨S88x128, .f32⟩
  | .local _ .vmem, ⟨10, _⟩ => ⟨S88x128, .f32⟩
  | .local _ .vmem, ⟨11, _⟩ => ⟨S88x128, .f32⟩
  | .local _ .vmem, ⟨12, _⟩ => ⟨S88x128, .f32⟩
  | .local _ .vmem, ⟨13, _⟩ => ⟨S88x128, .f32⟩
  | .local _ .vmem, ⟨14, _⟩ => ⟨S88x128, .f32⟩
  | .local _ .vmem, ⟨15, _⟩ => ⟨S88x128, .f32⟩
  | _, _ => ⟨S264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x88x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S264x128 : Shape := ⟨2, ![264, 128]⟩
abbrev S8x264x128 : Shape := ⟨3, ![8, 264, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S264x128, .f32⟩
  | .hbm, ⟨1, _⟩ => ⟨S264x128, .f32⟩
  | .hbm, ⟨2, _⟩ => ⟨S264x128, .f32⟩
  | .hbm, ⟨3, _⟩ => ⟨S8x264x128, .f32⟩
  | .hbm, ⟨4, _⟩ => ⟨S_, .f32⟩
  | .hbm, ⟨5, _⟩ => ⟨S264x128, .f32⟩
  | .hbm, ⟨6, _⟩ => ⟨S_, .f32⟩
  | .hbm, ⟨7, _⟩ => ⟨S264x128, .f32⟩
  | .hbm, ⟨8, _⟩ => ⟨S264x128, .f32⟩
  | .hbm, ⟨9, _⟩ => ⟨S_, .f32⟩
  | .hbm, ⟨10, _⟩ => ⟨S264x128, .f32⟩
  | .hbm, ⟨11, _⟩ => ⟨S264x128, .f32⟩
  | .hbm, ⟨12, _⟩ => ⟨S264x128, .f32⟩
  | .hbm, ⟨13, _⟩ => ⟨S_, .f32⟩
  | .hbm, ⟨14, _⟩ => ⟨S264x128, .f32⟩
  | .hbm, ⟨15, _⟩ => ⟨S264x128, .f32⟩
  | .hbm, ⟨16, _⟩ => ⟨S264x128, .f32⟩
  | .hbm, ⟨17, _⟩ => ⟨S_, .f32⟩
  | .hbm, ⟨18, _⟩ => ⟨S264x128, .f32⟩
  | .hbm, ⟨19, _⟩ => ⟨S264x128, .f32⟩
  | .hbm, ⟨20, _⟩ => ⟨S264x128, .f32⟩
  | .hbm, ⟨21, _⟩ => ⟨S_, .f32⟩
  | .hbm, ⟨22, _⟩ => ⟨S264x128, .f32⟩
  | .hbm, ⟨23, _⟩ => ⟨S264x128, .f32⟩
  | .hbm, ⟨24, _⟩ => ⟨S_, .f32⟩
  | .hbm, ⟨25, _⟩ => ⟨S264x128, .f32⟩
  | .hbm, ⟨26, _⟩ => ⟨S264x128, .f32⟩
  | .hbm, ⟨27, _⟩ => ⟨S264x128, .f32⟩
  | .hbm, ⟨28, _⟩ => ⟨S_, .f32⟩
  | .hbm, ⟨29, _⟩ => ⟨S264x128, .f32⟩
  | .hbm, ⟨30, _⟩ => ⟨S264x128, .f32⟩
  | .hbm, ⟨31, _⟩ => ⟨S264x128, .f32⟩
  | .hbm, ⟨32, _⟩ => ⟨S_, .f32⟩
  | .hbm, ⟨33, _⟩ => ⟨S264x128, .f32⟩
  | .hbm, ⟨34, _⟩ => ⟨S264x128, .f32⟩
  | .hbm, ⟨35, _⟩ => ⟨S264x128, .f32⟩
  | .hbm, ⟨36, _⟩ => ⟨S_, .f32⟩
  | .hbm, ⟨37, _⟩ => ⟨S264x128, .f32⟩
  | .hbm, ⟨38, _⟩ => ⟨S264x128, .f32⟩
  | _, _ => ⟨S264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.AttnBits.Offsets.lean ====
/- The offsets of the slab of the gradient of q that one chunk adds to, in closed form. -/
module

public import proofs.«01_k».proof.Proof.Gen.Kernel.Skeleton
public import Idealize.ShloMosaic.Lib.Tactic

@[expose] public section

namespace Cert.Kernel.Attn

open Idealize.ShloMosaic Cert.Kernel Cert.Kernel.Gen

/-- The chunk at column `b` of the point adds to the columns from `b` of the head that the point's last coordinate names. -/
theorem off_eq (i : grid0.Coords) (b : BitVec 32) : k0_off1 i b = ![(i 2).val, 0, b.toNat] := by
  have hb : ∀ x : BitVec 32, Scalar.indexCast (Scalar.addi 0#32 x) = x := fun x => by
    simp [Scalar.indexCast, Scalar.addi, IntOp.addi]
  have h : ∀ (a : Fin 4) (i : grid0.Coords), i 2 = a → k0_off1 i b = ![a.val, 0, b.toNat] := by
    intro a i ha
    unfold k0_off1
    rw [ha]
    fin_cases a <;> exact congrArg (fun n : ℕ => ![_, 0, n]) (congrArg BitVec.toNat (hb b))
  exact h (i 2) i rfl

instance closedOff (i : grid0.Coords) (n : ℕ) : ClosedOff (k0_off1 i (BitVec.ofNat 32 n)) :=
  ⟨![(i 2).val, 0, n % 4294967296], off_eq i (BitVec.ofNat 32 n)⟩

end Cert.Kernel.Attn
-- ==== Proof.Grad.Reals.lean ====
/- The gradient of grouped attention over the reals, and the reals among the extended reals. -/
module

public import Idealize.ShloMosaic.PureOps
public import Idealize.ShloMosaic.Lib.Pointwise

@[expose] public section

noncomputable section

namespace Cert.Grad

open Idealize.ShloMosaic

/-! ## Real numbers among the extended reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The largest of finitely many reals, of which there is at least one, is a real. -/
theorem fold_max_coe {n : ℕ} (f : Fin (n + 1) → ℝ) :
    ∃ M : ℝ, Finset.fold max (⊥ : EReal) (fun k => (f k : EReal)) Finset.univ = (M : EReal) := by
  classical
  have key : ∀ s : Finset (Fin (n + 1)), s.Nonempty → ∃ M : ℝ, Finset.fold max (⊥ : EReal) (fun k => (f k : EReal)) s = (M : EReal) := by
    intro s hs
    induction hs using Finset.Nonempty.cons_induction with
    | singleton a => exact ⟨f a, by simp⟩
    | cons a s ha hs ih =>
      obtain ⟨M, hM⟩ := ih
      refine ⟨max (f a) M, ?_⟩
      rw [Finset.fold_cons, hM, (EReal.coe_strictMono.monotone.map_max : ((max (f a) M : ℝ) : EReal) = _)]
  exact key _ Finset.univ_nonempty

theorem div_real (x : ℝ) {y : ℝ} (h : y ≠ 0) : Ideal.div (x : EReal) (y : EReal) = ((x / y : ℝ) : EReal) := by
  rw [Ideal.div_coe h, ← EReal.coe_mul, mul_one_div]

/-! ## The attention and its gradient -/

/-- Queries, keys, values and the cotangent of the output: eight heads of queries share two heads of keys and values. -/
structure Data where
  q : Fin 8192 → Fin 8 → Fin 64 → ℝ
  k : Fin 8192 → Fin 2 → Fin 64 → ℝ
  v : Fin 8192 → Fin 2 → Fin 64 → ℝ
  ct : Fin 8192 → Fin 8 → Fin 64 → ℝ

/-- Head `h` of the four that share the keys' head `g`. -/
abbrev qHead (g : Fin 2) (h : Fin 4) : Fin 8 := ⟨g.val * 4 + h.val, by omega⟩

variable (X : Data)

/-- The score of key `b` for query `a`. -/
def score (g : Fin 2) (h : Fin 4) (a b : Fin 8192) : ℝ := ∑ d : Fin 64, X.k b g d * X.q a (qHead g h) d

/-- The softmax of a query's scores. -/
def weight (g : Fin 2) (h : Fin 4) (a b : Fin 8192) : ℝ := Real.exp (score X g h a b) / ∑ b' : Fin 8192, Real.exp (score X g h a b')

/-- The cotangent of a weight. -/
def dweight (g : Fin 2) (h : Fin 4) (a b : Fin 8192) : ℝ := ∑ d : Fin 64, X.ct a (qHead g h) d * X.v b g d

/-- A query's weights times their cotangents. -/
def rowdot (g : Fin 2) (h : Fin 4) (a : Fin 8192) : ℝ := ∑ b : Fin 8192, weight X g h a b * dweight X g h a b

/-- The cotangent of a score. -/
def dscore (g : Fin 2) (h : Fin 4) (a b : Fin 8192) : ℝ := weight X g h a b * (dweight X g h a b - rowdot X g h a)

/-- The gradient of the queries, -/
def gradQ (g : Fin 2) (h : Fin 4) (d : Fin 64) (a : Fin 8192) : ℝ := ∑ b : Fin 8192, X.k b g d * dscore X g h a b

/-- of the keys, -/
def gradK (g : Fin 2) (d : Fin 64) (b : Fin 8192) : ℝ := ∑ h : Fin 4, ∑ a : Fin 8192, X.q a (qHead g h) d * dscore X g h a b

/-- and of the values. -/
def gradV (g : Fin 2) (d : Fin 64) (b : Fin 8192) : ℝ := ∑ h : Fin 4, ∑ a : Fin 8192, X.ct a (qHead g h) d * weight X g h a b

theorem sum_exp_pos (g : Fin 2) (h : Fin 4) (a : Fin 8192) (M : ℝ) : 0 < ∑ b : Fin 8192, Real.exp (score X g h a b - M) :=
  Finset.sum_pos (fun _ _ => Real.exp_pos _) Finset.univ_nonempty

/-- Scores less any number of the query's own have the same softmax. -/
theorem weight_shift (g : Fin 2) (h : Fin 4) (a b : Fin 8192) (M : ℝ) :
    Real.exp (score X g h a b - M) / ∑ b' : Fin 8192, Real.exp (score X g h a b' - M) = weight X g h a b := by
  simp only [Real.exp_sub, ← Finset.sum_div, weight]
  rw [div_div_div_cancel_right₀ (Real.exp_pos M).ne']

/-- The weight is one exponential, of the score less the logarithm of the query's sum. -/
theorem weight_exp (g : Fin 2) (h : Fin 4) (a b : Fin 8192) (M : ℝ) :
    Real.exp (score X g h a b - (M + Real.log (∑ b' : Fin 8192, Real.exp (score X g h a b' - M)))) = weight X g h a b := by
  rw [← sub_sub, Real.exp_sub, Real.exp_log (sum_exp_pos X g h a M), weight_shift]

/-- The same, to base two. -/
theorem weight_exp2 (g : Fin 2) (h : Fin 4) (a b : Fin 8192) (M : ℝ) :
    Real.rpow 2 (score X g h a b / Real.log 2 - (M + Real.log (∑ b' : Fin 8192, Real.exp (score X g h a b' - M))) / Real.log 2) = weight X g h a b := by
  have h2 : Real.log 2 ≠ 0 := (Real.log_pos (by norm_num)).ne'
  rw [← weight_exp X g h a b M, ← sub_div]
  show (2 : ℝ) ^ (_ : ℝ) = _
  rw [Real.rpow_def_of_pos (by norm_num), mul_div_cancel₀ _ h2]

/-- A query's weights times their cotangents, from the attention's output. -/
theorem rowdot_eq (g : Fin 2) (h : Fin 4) (a : Fin 8192) :
    ∑ d : Fin 64, X.ct a (qHead g h) d * ∑ b : Fin 8192, weight X g h a b * X.v b g d = rowdot X g h a := by
  simp only [rowdot, dweight, Finset.mul_sum]
  rw [Finset.sum_comm]
  exact Finset.sum_congr rfl fun b _ => Finset.sum_congr rfl fun d _ => by ring

end Cert.Grad

end
-- ==== Proof.Grad.Reference.lean ====
/- What the reference computes, at an index: the gradient of grouped attention over the reals. -/
module

public import proofs.«01_k».proof.Proof.Gen.ReferenceIdeal.Run
public import proofs.«01_k».proof.Proof.Grad.Reals

@[expose] public section

set_option maxRecDepth 16384

noncomputable section

namespace Cert.Grad

open Idealize.ShloMosaic Idealize.ShloMosaic.TcCoe
open Cert.ReferenceIdeal Cert.ReferenceIdeal.Gen

/-! ## The reference's arrays, one after another -/

/-- Every query's scores. -/
def scores (q : FVec Ideal S8192x8x64 .f32) (k : FVec Ideal S8192x2x64 .f32) : FVec Ideal S2x4x8192x8192 .f32 :=
  transpose S2x4x8192x8192 [0, 3, 2, 1] (Host.dotGeneral dot_S8192x2x64_S8192x2x4x64_S2x8192x8192x4_2_3_0_02_1_1 none k (shapeCast _ q shapeCasts_S8192x8x64_S8192x2x4x64)) transposes_S2x8192x8192x4_S2x4x8192x8192_0_3_2_1

/-- The largest score of each query. -/
def largest (s : FVec Ideal S2x4x8192x8192 .f32) : FVec Ideal S2x4x8192 .f32 :=
  Host.reduce FloatOps.maximumf s (constant S_ .f32 0xFF800000#32) reducesTo_S2x4x8192x8192_S2x4x8192_d3 h_S_

/-- The exponentials of the scores less the query's largest. -/
def exps (s : FVec Ideal S2x4x8192x8192 .f32) (M : FVec Ideal S2x4x8192 .f32) : FVec Ideal S2x4x8192x8192 .f32 :=
  Host.exp (subf s (broadcastInDim S2x4x8192x8192 ![0, 1, 2, 3] bcast_S2x4x8192x1_S2x4x8192x8192_0_1_2_3 (broadcastInDim S2x4x8192x1 ![0, 1, 2] bcast_S2x4x8192_S2x4x8192x1_0_1_2 M)))

/-- The reference's bound on a query's scores, of the largest. -/
def bound (M : FVec Ideal S2x4x8192 .f32) : FVec Ideal S2x4x8192 .f32 :=
  maximumf (broadcastInDim S2x4x8192 ![] bcast_S_S2x4x8192 (constant S_ .f32 0xFF800000#32)) M

/-- Each query's sum of its exponentials. -/
def sums (e : FVec Ideal S2x4x8192x8192 .f32) : FVec Ideal S2x4x8192 .f32 :=
  Host.reduceAdd e (constant S_ .f32 0x00000000#32) reducesTo_S2x4x8192x8192_S2x4x8192_d3 h_S_

/-- A row's number along the row. -/
def along (l : FVec Ideal S2x4x8192x1 .f32) : FVec Ideal S2x4x8192x8192 .f32 :=
  broadcastInDim S2x4x8192x8192 ![0, 1, 2, 3] bcast_S2x4x8192x1_S2x4x8192x8192_0_1_2_3 l

def column (l : FVec Ideal S2x4x8192 .f32) : FVec Ideal S2x4x8192x1 .f32 :=
  broadcastInDim S2x4x8192x1 ![0, 1, 2] bcast_S2x4x8192_S2x4x8192x1_0_1_2 l

/-- The cotangent, by head. -/
def cts (ct : FVec Ideal S8192x8x64 .f32) : FVec Ideal S2x64x4x8192 .f32 :=
  transpose S2x64x4x8192 [1, 3, 2, 0] (shapeCast _ ct shapeCasts_S8192x8x64_S8192x2x4x64) transposes_S8192x2x4x64_S2x64x4x8192_1_3_2_0

/-- The cotangents of the weights. -/
def dweights (ct : FVec Ideal S8192x8x64 .f32) (v : FVec Ideal S8192x2x64 .f32) : FVec Ideal S2x4x8192x8192 .f32 :=
  Host.dotGeneral dot_S2x64x4x8192_S8192x2x64_S2x4x8192x8192_1_2_23_0_0_1 none (cts ct) v

/-- The cotangents of the scores, from the exponentials, their sums and the cotangents of the weights. -/
def dscores (e : FVec Ideal S2x4x8192x8192 .f32) (l : FVec Ideal S2x4x8192 .f32) (dp : FVec Ideal S2x4x8192x8192 .f32) : FVec Ideal S2x8192x8192x4 .f32 :=
  transpose S2x8192x8192x4 [0, 3, 2, 1] (mulf (addf (Host.divf dp (along (column l)))
    (broadcastInDim S2x4x8192x8192 ![0, 1, 2] bcast_S2x4x8192_S2x4x8192x8192_0_1_2 (Host.reduceAdd (Host.negf (shapeCast _ (Host.reduceAdd (mulf (mulf dp
      (along (Host.divf (broadcastInDim S2x4x8192x1 ![] bcast_S_S2x4x8192x1 (constant S_ .f32 0x3F800000#32)) (mulf (column l) (column l))))) e)
      (constant S_ .f32 0x00000000#32) reducesTo_S2x4x8192x8192_S2x4x8192_d3 h_S_) shapeCasts_S2x4x8192_S2x4x8192x1)) (constant S_ .f32 0x00000000#32) reducesTo_S2x4x8192x1_S2x4x8192_d3 h_S_))) e)
    transposes_S2x4x8192x8192_S2x8192x8192x4_0_3_2_1

/-- The queries' gradient, -/
def outQ (ds : FVec Ideal S2x8192x8192x4 .f32) (k : FVec Ideal S8192x2x64 .f32) : FVec Ideal S8x64x8192 .f32 :=
  transpose S8x64x8192 [1, 2, 0] (shapeCast S8192x8x64 (transpose S8192x2x4x64 [1, 0, 2, 3] (Host.dotGeneral dot_S2x8192x8192x4_S8192x2x64_S2x8192x4x64_1_0_23_2_0_1 none ds k) transposes_S2x8192x4x64_S8192x2x4x64_1_0_2_3) shapeCasts_S8192x2x4x64_S8192x8x64) transposes_S8192x8x64_S8x64x8192_1_2_0

/-- the keys', -/
def outK (ds : FVec Ideal S2x8192x8192x4 .f32) (q : FVec Ideal S8192x8x64 .f32) : FVec Ideal S2x64x8192 .f32 :=
  transpose S2x64x8192 [1, 2, 0] (transpose S8192x2x64 [1, 0, 2] (Host.dotGeneral dot_S2x8192x8192x4_S8192x2x4x64_S2x8192x64_23_02_1_3_0_1 none ds (shapeCast _ q shapeCasts_S8192x8x64_S8192x2x4x64)) transposes_S2x8192x64_S8192x2x64_1_0_2) transposes_S8192x2x64_S2x64x8192_1_2_0

/-- and the values'. -/
def outV (e : FVec Ideal S2x4x8192x8192 .f32) (l : FVec Ideal S2x4x8192 .f32) (ct : FVec Ideal S8192x8x64 .f32) : FVec Ideal S2x64x8192 .f32 :=
  transpose S2x64x8192 [1, 2, 0] (transpose S8192x2x64 [2, 0, 1] (Host.dotGeneral dot_S2x64x4x8192_S2x4x8192x8192_S2x64x8192_23_12_1_3_0_0 none (cts ct) (Host.divf e (along (column l)))) transposes_S2x64x8192_S8192x2x64_2_0_1) transposes_S8192x2x64_S2x64x8192_1_2_0

/-! ## Their values, of real arguments -/

/-- The arguments are the reals of `X`. -/
structure Reals (X : Data) (q : FVec Ideal S8192x8x64 .f32) (k v : FVec Ideal S8192x2x64 .f32) (ct : FVec Ideal S8192x8x64 .f32) : Prop where
  q : ∀ a h d, q (ix3 a h d) = (X.q a h d : EReal)
  k : ∀ a g d, k (ix3 a g d) = (X.k a g d : EReal)
  v : ∀ a g d, v (ix3 a g d) = (X.v a g d : EReal)
  ct : ∀ a h d, ct (ix3 a h d) = (X.ct a h d : EReal)

variable {X : Data} {q : FVec Ideal S8192x8x64 .f32} {k v : FVec Ideal S8192x2x64 .f32} {ct : FVec Ideal S8192x8x64 .f32}

theorem scores_at (H : Reals X q k v ct) (g : Fin 2) (h : Fin 4) (a b : Fin 8192) : scores q k (ix4 g h a b) = (score X g h a b : EReal) := by
  pointwise [scores]
  simp only [H.q, H.k, ← EReal.coe_mul, coe_sum, score]

theorem minus_infinity : Ideal.ofBits .f32 0xFF800000#32 = ⊥ := by
  simp [Ideal.ofBits, Ideal.ieee]

theorem largest_at {s : FVec Ideal S2x4x8192x8192 .f32} {r : Fin 2 → Fin 4 → Fin 8192 → Fin 8192 → ℝ} (hs : ∀ g h a b, s (ix4 g h a b) = (r g h a b : EReal)) (g : Fin 2) (h : Fin 4) (a : Fin 8192) :
    ∃ M : ℝ, largest s (ix3 g h a) = (M : EReal) := by
  pointwise [largest]
  simp only [hs, minus_infinity]
  exact fold_max_coe _

theorem bound_at (M : FVec Ideal S2x4x8192 .f32) (g : Fin 2) (h : Fin 4) (a : Fin 8192) : bound M (ix3 g h a) = M (ix3 g h a) := by
  pointwise [bound]
  simp only [minus_infinity, bot_le, max_eq_right]

/-- The exponentials, at the largest score `M` of each query. -/
theorem exps_at {s : FVec Ideal S2x4x8192x8192 .f32} {N : FVec Ideal S2x4x8192 .f32} {M : Fin 2 → Fin 4 → Fin 8192 → ℝ}
    (hs : ∀ g h a b, s (ix4 g h a b) = (score X g h a b : EReal)) (hN : ∀ g h a, N (ix3 g h a) = (M g h a : EReal)) (g : Fin 2) (h : Fin 4) (a b : Fin 8192) :
    exps s N (ix4 g h a b) = (Real.exp (score X g h a b - M g h a) : EReal) := by
  pointwise [exps]
  rw [hs, hN, ← EReal.coe_sub, Ideal.exp_coe]

theorem sums_at {e : FVec Ideal S2x4x8192x8192 .f32} {M : Fin 2 → Fin 4 → Fin 8192 → ℝ}
    (he : ∀ g h a b, e (ix4 g h a b) = (Real.exp (score X g h a b - M g h a) : EReal)) (g : Fin 2) (h : Fin 4) (a : Fin 8192) :
    sums e (ix3 g h a) = ((∑ b : Fin 8192, Real.exp (score X g h a b - M g h a) : ℝ) : EReal) := by
  pointwise [sums]
  simp only [he, coe_sum]

theorem dweights_at (H : Reals X q k v ct) (g : Fin 2) (h : Fin 4) (a b : Fin 8192) : dweights ct v (ix4 g h a b) = (dweight X g h a b : EReal) := by
  pointwise [dweights, cts]
  simp only [H.ct, H.v, ← EReal.coe_mul, coe_sum, dweight]

theorem dscores_at {e : FVec Ideal S2x4x8192x8192 .f32} {l : FVec Ideal S2x4x8192 .f32} {dp : FVec Ideal S2x4x8192x8192 .f32} {M : Fin 2 → Fin 4 → Fin 8192 → ℝ}
    (he : ∀ g h a b, e (ix4 g h a b) = (Real.exp (score X g h a b - M g h a) : EReal))
    (hl : ∀ g h a, l (ix3 g h a) = ((∑ b : Fin 8192, Real.exp (score X g h a b - M g h a) : ℝ) : EReal))
    (hdp : ∀ g h a b, dp (ix4 g h a b) = (dweight X g h a b : EReal))
    (g : Fin 2) (h : Fin 4) (a b : Fin 8192) : dscores e l dp (ix4 g b a h) = (dscore X g h a b : EReal) := by
  pointwise [dscores, along, column]
  have hL := (sum_exp_pos X g h a (M g h a)).ne'
  simp only [he, hl, hdp]
  generalize hS : ∑ b : Fin 8192, Real.exp (score X g h a b - M g h a) = L at hL
  have hw : ∀ b, Real.exp (score X g h a b - M g h a) / L = weight X g h a b := fun b => by rw [← hS, weight_shift]
  rw [← EReal.coe_one, ← EReal.coe_mul, div_real _ (mul_ne_zero hL hL), div_real _ hL]
  simp only [← EReal.coe_mul, coe_sum, ← EReal.coe_neg, ← EReal.coe_add, Finset.univ_unique, Finset.sum_singleton]
  congr 1
  have hr : ∑ b, dweight X g h a b * (1 / (L * L)) * Real.exp (score X g h a b - M g h a) = rowdot X g h a / L := by
    rw [rowdot, Finset.sum_div]
    refine Finset.sum_congr rfl fun b _ => ?_
    rw [← hw b]
    field_simp
  rw [hr, dscore, ← hw b]
  field_simp
  ring

theorem outQ_at (H : Reals X q k v ct) {ds : FVec Ideal S2x8192x8192x4 .f32} (hds : ∀ g h a b, ds (ix4 g b a h) = (dscore X g h a b : EReal))
    (g : Fin 2) (h : Fin 4) (d : Fin 64) (a : Fin 8192) : outQ ds k (ix3 (qHead g h) d a) = (gradQ X g h d a : EReal) := by
  pointwise [outQ]
  simp only [hds, H.k, ← EReal.coe_mul, coe_sum, gradQ, mul_comm (dscore X g h a _)]

theorem outK_at (H : Reals X q k v ct) {ds : FVec Ideal S2x8192x8192x4 .f32} (hds : ∀ g h a b, ds (ix4 g b a h) = (dscore X g h a b : EReal))
    (g : Fin 2) (d : Fin 64) (b : Fin 8192) : outK ds q (ix3 g d b) = (gradK X g d b : EReal) := by
  pointwise [outK]
  rw [Finset.sum_comm]
  simp only [hds, H.q, ← EReal.coe_mul, coe_sum, gradK, mul_comm (dscore X g _ _ b)]

theorem outV_at (H : Reals X q k v ct) {e : FVec Ideal S2x4x8192x8192 .f32} {l : FVec Ideal S2x4x8192 .f32} {M : Fin 2 → Fin 4 → Fin 8192 → ℝ}
    (he : ∀ g h a b, e (ix4 g h a b) = (Real.exp (score X g h a b - M g h a) : EReal))
    (hl : ∀ g h a, l (ix3 g h a) = ((∑ b : Fin 8192, Real.exp (score X g h a b - M g h a) : ℝ) : EReal))
    (g : Fin 2) (d : Fin 64) (b : Fin 8192) : outV e l ct (ix3 g d b) = (gradV X g d b : EReal) := by
  have hd : ∀ h a b, Ideal.div ((Real.exp (score X g h a b - M g h a) : ℝ) : EReal) ((∑ b : Fin 8192, Real.exp (score X g h a b - M g h a) : ℝ) : EReal) = (weight X g h a b : EReal) := fun h a b => by
    rw [div_real _ (sum_exp_pos X g h a (M g h a)).ne', weight_shift]
  pointwise [outV, along, column, cts]
  simp only [he, hl, hd, H.ct, ← EReal.coe_mul, coe_sum, gradV]

/-! ## The reference's results -/

section Results

variable (m : (ℓ : Loc nD τ sig) → Buf (Elt Ideal) ℓ) (c : Dev nD)

/-- The exponentials that the reference computes, -/
abbrev refExps : FVec Ideal S2x4x8192x8192 .f32 :=
  exps (scores (m ((c.tc : Thread nD τ).loc main_arg0)) (m ((c.tc : Thread nD τ).loc main_arg1))) (bound (largest (scores (m ((c.tc : Thread nD τ).loc main_arg0)) (m ((c.tc : Thread nD τ).loc main_arg1)))))

/-- and the cotangents of the scores. -/
abbrev refDscores : FVec Ideal S2x8192x8192x4 .f32 :=
  dscores (refExps m c) (sums (refExps m c)) (dweights (m ((c.tc : Thread nD τ).loc main_arg3)) (m ((c.tc : Thread nD τ).loc main_arg2)))

theorem res_K : Value.res_main_v57 m c = outK (refDscores m c) (m ((c.tc : Thread nD τ).loc main_arg0)) := by
  unfold Value.res_main_v57; rfl

theorem res_Q : Value.res_main_v59 m c = outQ (refDscores m c) (m ((c.tc : Thread nD τ).loc main_arg1)) := by
  unfold Value.res_main_v59; rfl

variable (H : Reals X (m ((c.tc : Thread nD τ).loc main_arg0)) (m ((c.tc : Thread nD τ).loc main_arg1)) (m ((c.tc : Thread nD τ).loc main_arg2)) (m ((c.tc : Thread nD τ).loc main_arg3)))

include H

theorem refExps_at : ∃ M : Fin 2 → Fin 4 → Fin 8192 → ℝ, ∀ g h a b, refExps m c (ix4 g h a b) = (Real.exp (score X g h a b - M g h a) : EReal) := by
  have hM := fun g h a => largest_at (scores_at H) g h a
  choose M hM using hM
  exact ⟨M, exps_at (scores_at H) fun g h a => (bound_at _ g h a).trans (hM g h a)⟩

theorem refDscores_at (g : Fin 2) (h : Fin 4) (a b : Fin 8192) : refDscores m c (ix4 g b a h) = (dscore X g h a b : EReal) := by
  obtain ⟨M, hM⟩ := refExps_at m c H
  exact dscores_at hM (sums_at hM) (dweights_at H) g h a b

/-- The reference's gradient of the keys, -/
theorem refK_at (g : Fin 2) (d : Fin 64) (b : Fin 8192) : Value.res_main_v57 m c (ix3 g d b) = (gradK X g d b : EReal) := by
  rw [res_K]; exact outK_at H (refDscores_at m c H) g d b

/-- of the values -/
theorem refV_at (g : Fin 2) (d : Fin 64) (b : Fin 8192) : outV (refExps m c) (sums (refExps m c)) (m ((c.tc : Thread nD τ).loc main_arg3)) (ix3 g d b) = (gradV X g d b : EReal) := by
  obtain ⟨M, hM⟩ := refExps_at m c H
  exact outV_at H hM (sums_at hM) g d b

/-- and of the queries. -/
theorem refQ_at (g : Fin 2) (h : Fin 4) (d : Fin 64) (a : Fin 8192) : Value.res_main_v59 m c (ix3 (qHead g h) d a) = (gradQ X g h d a : EReal) := by
  rw [res_Q]; exact outQ_at H (refDscores_at m c H) g h d a

end Results

end Cert.Grad

end
-- ==== Proof.Grad.Finite.lean ====
/- Arguments that meet the precondition are arrays of reals. -/
module

public import proofs.«01_k».proof.Proof.Gen.Pre_finite
public import proofs.«01_k».proof.Proof.Grad.Reference
public import Idealize.ShloMosaic.Lib.Pipeline.ValueKit

@[expose] public section

noncomputable section

namespace Cert.Grad

open Idealize.ShloMosaic
open Cert.Pre_finite Cert.Pre_finite.Facts

theorem and_both {a b : BitVec 1} (h : IntOp.andi a b = 1#1) : a = 1#1 ∧ b = 1#1 := by
  revert a b; decide

/-- A chain of conjunctions that ends at one starts at one, and each of its terms is one. -/
theorem chain_one {β : Type} (f : β → BitVec 1) : ∀ (l : List β) (a : BitVec 1), l.foldl (fun r n => IntOp.andi r (f n)) a = 1#1 → a = 1#1 ∧ ∀ n ∈ l, f n = 1#1
  | [], a, h => ⟨h, nofun⟩
  | n :: l, a, h => by
    obtain ⟨h1, h2⟩ := chain_one f l _ h
    obtain ⟨ha, hn⟩ := and_both h1
    exact ⟨ha, List.forall_mem_cons.mpr ⟨hn, h2⟩⟩

/-- The conjunction of a whole array. -/
theorem all_one {s : Shape} {axes : List (Fin s.rank)} (x : s.Idx → BitVec 1) (init : S_.Idx → BitVec 1) (h : s.ReducesTo axes S_) (hu : 0 < S_.numel) (j : S_.Idx)
    (H : Host.reduce IntOp.andi x init h hu j = 1#1) (i : s.Idx) : x i = 1#1 := by
  have hj : h.drop i = j := funext fun a => a.elim0
  have := (chain_one (fun n => x (s.rowMajor.symm n)) _ _ H).2 (s.rowMajor i)
    (List.mem_filter.mpr ⟨List.mem_finRange _, by simpa using hj⟩)
  simpa using this

theorem infinity : Ideal.ofBits .f32 0x7F800000#32 = ⊤ := by
  simp [Ideal.ofBits, Ideal.ieee]

/-- A magnitude under infinity is a real's. -/
theorem real_of_lt {x : EReal} (h : Ideal.cmp .olt (max x (-x)) ⊤ = 1#1) : x = (x.toReal : EReal) := by
  have h' : max x (-x) < ⊤ := by
    by_contra hn
    simp [Ideal.cmp, hn] at h
  refine (EReal.coe_toReal ?_ ?_).symm
  · rintro rfl; simp at h'
  · rintro rfl; simp at h'

/-- What the precondition says of one argument. -/
theorem reals_of {s : Shape} {axes : List (Fin s.rank)} (x : FVec Ideal s .f32) (hb : S_.BroadcastsInDim s ![]) (h : s.ReducesTo axes S_) (hu : 0 < S_.numel) (j : S_.Idx)
    (H : Host.reduce IntOp.andi (cmpf .olt (Host.absf x) (broadcastInDim s ![] hb (constant S_ .f32 0x7F800000#32))) (constantI S_ 1 1#1) h hu j = 1#1) (i : s.Idx) :
    x i = ((x i).toReal : EReal) := by
  have := all_one _ _ h hu j H i
  refine real_of_lt ?_
  rw [← infinity]
  exact this

/-- The reals of four arrays. -/
def dataOf (q : FVec Ideal S8192x8x64 .f32) (k v : FVec Ideal S8192x2x64 .f32) (ct : FVec Ideal S8192x8x64 .f32) : Data where
  q a h d := (q (ix3 a h d)).toReal
  k a g d := (k (ix3 a g d)).toReal
  v a g d := (v (ix3 a g d)).toReal
  ct a h d := (ct (ix3 a h d)).toReal

theorem reals_of_finite (q : FVec Ideal S8192x8x64 .f32) (k v : FVec Ideal S8192x2x64 .f32) (ct : FVec Ideal S8192x8x64 .f32)
    (H : Cert.Pre_finite.fn (F := Ideal) q k v ct = fun _ => 1#1) : Reals (dataOf q k v ct) q k v ct := by
  have h0 := congrFun H (fun a => a.elim0)
  obtain ⟨h1, hct⟩ := and_both h0
  obtain ⟨h2, hv⟩ := and_both h1
  obtain ⟨hq, hk⟩ := and_both h2
  exact ⟨fun a h d => reals_of q _ _ _ _ hq _, fun a g d => reals_of k _ _ _ _ hk _, fun a g d => reals_of v _ _ _ _ hv _, fun a h d => reals_of ct _ _ _ _ hct _⟩

end Cert.Grad

end
-- ==== Proof.Attn.Offsets.lean ====
/- The offsets of the slab of the gradient of q that one chunk adds to, in closed form. -/
module

public import proofs.«01_k».proof.Proof.Gen.KernelIdeal.Skeleton
public import Idealize.ShloMosaic.Lib.Tactic

@[expose] public section

namespace Cert.KernelIdeal.Attn

open Idealize.ShloMosaic Cert.KernelIdeal Cert.KernelIdeal.Gen

/-- The chunk at column `b` of the point adds to the columns from `b` of the head that the point's last coordinate names. -/
theorem off_eq (i : grid0.Coords) (b : BitVec 32) : k0_off1 i b = ![(i 2).val, 0, b.toNat] := by
  have hb : ∀ x : BitVec 32, Scalar.indexCast (Scalar.addi 0#32 x) = x := fun x => by
    simp [Scalar.indexCast, Scalar.addi, IntOp.addi]
  have h : ∀ (a : Fin 4) (i : grid0.Coords), i 2 = a → k0_off1 i b = ![a.val, 0, b.toNat] := by
    intro a i ha
    unfold k0_off1
    rw [ha]
    fin_cases a <;> exact congrArg (fun n : ℕ => ![_, 0, n]) (congrArg BitVec.toNat (hb b))
  exact h (i 2) i rfl

instance closedOff (i : grid0.Coords) (n : ℕ) : ClosedOff (k0_off1 i (BitVec.ofNat 32 n)) :=
  ⟨![(i 2).val, 0, n % 4294967296], off_eq i (BitVec.ofNat 32 n)⟩

end Cert.KernelIdeal.Attn
-- ==== Proof.Attn.Model.lean ====
module

public import proofs.«01_k».proof.Proof.Attn.Offsets
public import proofs.«01_k».proof.Proof.Gen.KernelIdeal.Frame

/-!
  What one grid point of the attention's backward kernel computes, as functions of the blocks it is handed. The query
  axis of a block, 8192 columns, is taken in 32 chunks of 256 columns; the functions below name what a chunk gives and
  how the chunks add up.
-/

@[expose] public section

noncomputable section

namespace Cert.KernelIdeal.Attn

open Cert.KernelIdeal Cert.KernelIdeal.Gen
open Idealize.ShloMosaic

variable {F : FTy → Type} [FloatOps F] [Named F]

/-- A chunk's columns lie in a row of 64 heads' entries. -/
theorem inQ (c : Nat) (a : Fin 3) : (![0, 0, 256 * (c % 32)] : Fin 3 → Nat) a + S1x64x256.size a ≤ S1x64x8192.size a := by
  fin_cases a <;> simp [S1x64x256, S1x64x8192]; omega

/-- A chunk's columns lie in a row of one entry each. -/
theorem inR (c : Nat) (a : Fin 3) : (![0, 0, 256 * (c % 32)] : Fin 3 → Nat) a + S1x1x256.size a ≤ S1x1x8192.size a := by
  fin_cases a <;> simp [S1x1x256, S1x1x8192]; omega

/-- The box of `x` at the corner `o`. -/
def cutQ (x : Vec F S1x64x8192 .bf16) (o : Fin 3 → Nat) (h : ∀ a, o a + S1x64x256.size a ≤ S1x64x8192.size a) : Vec F S1x64x256 .bf16 :=
  fun y => x ((Rect.unit (s := S1x64x8192) o S1x64x256.size h).toLoadRect.idx y)

/-- The box of `x` at the corner `o`. -/
def cutR (x : Vec F S1x1x8192 .f32) (o : Fin 3 → Nat) (h : ∀ a, o a + S1x1x256.size a ≤ S1x1x8192.size a) : Vec F S1x1x256 .f32 :=
  fun y => x ((Rect.unit (s := S1x1x8192) o S1x1x256.size h).toLoadRect.idx y)

/-- The box of `x` at the corner `o`. -/
def cutD (x : Vec F S4x64x8192 .f32) (o : Fin 3 → Nat) (h : ∀ a, o a + S1x64x256.size a ≤ S4x64x8192.size a) : Vec F S1x64x256 .f32 :=
  fun y => x ((Rect.unit (s := S4x64x8192) o S1x64x256.size h).toLoadRect.idx y)

/-- Chunk `c` of the queries or of the cotangent. -/
abbrev chQ (x : Vec F S1x64x8192 .bf16) (c : Nat) : Vec F S1x64x256 .bf16 := cutQ x ![0, 0, 256 * (c % 32)] (inQ c)

/-- Chunk `c` of the rows' logarithms or of the rows' products. -/
abbrev chR (x : Vec F S1x1x8192 .f32) (c : Nat) : Vec F S1x1x256 .f32 := cutR x ![0, 0, 256 * (c % 32)] (inR c)

/-- The blocks a grid point reads: keys, values, keys transposed, queries, cotangent, the rows' logarithms and the rows'
products of output and cotangent. -/
structure Blocks (F : FTy → Type) where
  k : Vec F S1x1024x64 .bf16
  v : Vec F S1x1024x64 .bf16
  kT : Vec F S1x64x1024 .bf16
  q : Vec F S1x64x8192 .bf16
  ct : Vec F S1x64x8192 .bf16
  lse : Vec F S1x1x8192 .f32
  dl : Vec F S1x1x8192 .f32

/-- A chunk's scores. -/
def sT (b : Blocks F) (c : Nat) : FVec F S1024x256 .f32 := k0_pay8 b.k (chQ b.q c)

/-- A chunk's cotangents of the weights. -/
def dpT (b : Blocks F) (c : Nat) : FVec F S1024x256 .f32 := k0_pay9 b.v (chQ b.ct c)

/-- A chunk's cotangents of the scores. -/
def dsT (b : Blocks F) (c : Nat) : FVec F S1024x256 .bf16 := k0_pay14 (sT b c) (dpT b c) (chR b.lse c) (chR b.dl c)

/-- What a chunk adds to the values' gradient. -/
def dvC (b : Blocks F) (c : Nat) : FVec F S64x1024 .f32 := k0_pay15 (sT b c) (chR b.lse c) (chQ b.ct c)

/-- What a chunk adds to the keys' gradient. -/
def dkC (b : Blocks F) (c : Nat) : FVec F S64x1024 .f32 := k0_pay16 (sT b c) (dpT b c) (chR b.lse c) (chR b.dl c) (chQ b.q c)

/-- The values' gradient over the chunks up to `n`. -/
def dvS (b : Blocks F) : Nat → FVec F S64x1024 .f32
  | 0 => dvC b 0
  | n + 1 => addf (dvS b n) (dvC b (n + 1))

/-- The keys' gradient over the chunks up to `n`. -/
def dkS (b : Blocks F) : Nat → FVec F S64x1024 .f32
  | 0 => dkC b 0
  | n + 1 => addf (dkS b n) (dkC b (n + 1))

/-- The store of chunk `c` of the queries' gradient, of which `x` is what was there before. -/
def slab (b : Blocks F) (i : grid0.Coords) (x : Vec F S4x64x8192 .f32) (c : Nat) : View.Piece (Elt F) S4x64x8192 .f32 :=
  ⟨Rect.unit (s := S4x64x8192) (k0_off1 i (BitVec.ofNat 32 (256 * (c % 32)))) S1x64x256.size (k0_off1_inb i ⟨c % 32, Nat.mod_lt _ (by decide)⟩),
    k0_pay17 (dsT b c) (cutD x (k0_off1 i (BitVec.ofNat 32 (256 * (c % 32)))) (k0_off1_inb i ⟨c % 32, Nat.mod_lt _ (by decide)⟩)) b.kT⟩

/-- The first `n` chunks' stores into the queries' gradient, the newest first. -/
def slabs (b : Blocks F) (i : grid0.Coords) (x : Vec F S4x64x8192 .f32) : Nat → List (View.Piece (Elt F) S4x64x8192 .f32)
  | 0 => []
  | n + 1 => slab b i x n :: slabs b i x n

/-- The keys' gradient held for a block of keys, after a grid point. -/
def nextK (b : Blocks F) (s : Vec F S64x1024 .f32) : FVec F S64x1024 .f32 := k0_pay1 (addf s (dkS b 31))

/-- The values' gradient held for a block of keys, after a grid point. -/
def nextV (b : Blocks F) (s : Vec F S64x1024 .f32) : FVec F S64x1024 .f32 := k0_pay2 (dvS b 31) s

/-- The first point of a head group clears the queries' gradient. -/
abbrev first (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1

/-- The first head of a group clears what is held for the block of keys. -/
abbrev head (i : grid0.Coords) : Prop := (Scalar.cmpi .ne (Scalar.extui (Scalar.cmpi .eq (BitVec.ofNat 32 (i 2).val) 0#32)) 0#32) = 1#1

/-- The last head of a group stores the block of keys' gradients. -/
abbrev last (i : grid0.Coords) : Prop := k0_cond3 i = 1#1

/-- What the queries' gradient starts a point from. -/
def fromQ (i : grid0.Coords) (x : Vec F S4x64x8192 .f32) : Vec F S4x64x8192 .f32 := if first i then k0_pay5 else x

/-- What the keys' gradient starts a point from. -/
def fromK (i : grid0.Coords) (x : Vec F S64x1024 .f32) : Vec F S64x1024 .f32 := if head i then k0_pay6 else x

/-- What the values' gradient starts a point from. -/
def fromV (i : grid0.Coords) (x : Vec F S64x1024 .f32) : Vec F S64x1024 .f32 := if head i then k0_pay7 else x

end Cert.KernelIdeal.Attn

end
-- ==== Proof.Attn.Start.lean ====
module

public import proofs.«01_k».proof.Proof.Attn.Model
public import Idealize.ShloMosaic.Lib.WholeRead

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A load of a whole buffer reads what it holds. -/
theorem whole_load {sp : Space} {s : Shape} {e : EltTy} {m : Memref sig .tc sp s e} (h : m.IsWhole) (x : Vec F s e)
    {o : Fin s.rank → ℕ} (inb : ∀ a, o a + s.size a ≤ s.size a) :
    m.view.readAt (Elt F) (Rect.unit (s := s) o s.size inb).toLoadRect (h.unread x) = x := by
  funext y
  rw [h.readAt_unread]
  refine congrArg x (funext fun a => Fin.ext ?_)
  have ha := inb a
  show o a + 1 * (y a).val = (y a).val
  omega

/-- The contents after a store of a whole buffer. -/
theorem whole_store {sp : Space} {s : Shape} {e : EltTy} {m : Memref sig .tc sp s e} (h : m.IsWhole) (f : m.view.ty.Contents (Elt F)) (x : Vec F s e)
    {o : Fin s.rank → ℕ} (inb : ∀ a, o a + s.size a ≤ s.size a) (L : List (View.Piece (Elt F) s e)) :
    m.view.writes (Elt F) f (⟨Rect.unit (s := s) o s.size inb, x⟩ :: L) = h.unread x := by
  refine h.eq_unread (funext fun y => ?_)
  have := View.read_writes_cons_emb m.view f (Rect.unit (s := s) o s.size inb) x L y
  have he : (Rect.unit (s := s) o s.size inb).emb y = y := funext fun a => Fin.ext (by
    have ha := inb a
    show o a + 1 * (y a).val = (y a).val
    omega)
  rwa [he] at this

/-- A load of a whole buffer after a store of all of it reads what was stored. -/
theorem whole_cov {sp : Space} {s : Shape} {e : EltTy} {m : Memref sig .tc sp s e} (h : m.IsWhole) (x : Vec F s e)
    {o o' : Fin s.rank → ℕ} (inb : ∀ a, o a + s.size a ≤ s.size a) (inb' : ∀ a, o' a + s.size a ≤ s.size a) :
    m.view.readCov [⟨Rect.unit (s := s) o s.size inb, x⟩] (Rect.unit (s := s) o' s.size inb').toLoadRect = x := by
  unfold View.readCov
  rw [whole_store h, whole_load h]

variable (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x64x1024 .bf16) (harg5 : arg5.IsWhole) (arg6 : Memref sig .tc .vmem S1x64x8192 .bf16) (harg6 : arg6.IsWhole) (arg7 : Memref sig .tc .vmem S1x64x8192 .bf16) (harg7 : arg7.IsWhole) (arg8 : Memref sig .tc .vmem S1x1x8192 .f32) (harg8 : arg8.IsWhole) (arg9 : Memref sig .tc .vmem S1x1x8192 .f32) (harg9 : arg9.IsWhole) (arg10 : Memref sig .tc .vmem S1x64x1024 .f32) (harg10 : arg10.IsWhole) (arg11 : Memref sig .tc .vmem S1x64x1024 .f32) (harg11 : arg11.IsWhole) (arg12 : Memref sig .tc .vmem S4x64x8192 .f32) (harg12 : arg12.IsWhole) (arg13 : Memref sig .tc .vmem S64x1024 .f32) (harg13 : arg13.IsWhole) (arg14 : Memref sig .tc .vmem S64x1024 .f32) (harg14 : arg14.IsWhole)

set_option maxHeartbeats 4000000 in
/-- The opening of a point: it clears what it begins, and takes the first chunks' scores. -/
theorem start_spec (E : Set ℕ) (b : Blocks F) (xQ : Vec F S4x64x8192 .f32) (xK xV : Vec F S64x1024 .f32) :
    (iprop((arg3.view.loc (c : Thread nD τ) ↦[arg3.view.set]{fullShare} harg3.unread b.k) ∗ (arg4.view.loc (c : Thread nD τ) ↦[arg4.view.set]{fullShare} harg4.unread b.v) ∗ (arg5.view.loc (c : Thread nD τ) ↦[arg5.view.set]{fullShare} harg5.unread b.kT) ∗ (arg6.view.loc (c : Thread nD τ) ↦[arg6.view.set]{fullShare} harg6.unread b.q) ∗ (arg7.view.loc (c : Thread nD τ) ↦[arg7.view.set]{fullShare} harg7.unread b.ct) ∗ (arg8.view.loc (c : Thread nD τ) ↦[arg8.view.set]{fullShare} harg8.unread b.lse) ∗ (arg9.view.loc (c : Thread nD τ) ↦[arg9.view.set]{fullShare} harg9.unread b.dl) ∗ (arg12.view.loc (c : Thread nD τ) ↦[arg12.view.set]{fullShare} harg12.unread xQ) ∗ (arg13.view.loc (c : Thread nD τ) ↦[arg13.view.set]{fullShare} harg13.unread xK) ∗ (arg14.view.loc (c : Thread nD τ) ↦[arg14.view.set]{fullShare} harg14.unread xV)) : sProp 𝕄)
      ⊢ wp frame (wpE (defs₀ (F := F)) Variants.none c none) E (k0_part1 i arg3 harg3 arg4 harg4 arg5 harg5 arg6 harg6 arg7 harg7 arg8 harg8 arg9 harg9 arg10 harg10 arg11 harg11 arg12 harg12 arg13 harg13 arg14 harg14)
          (fun r => iprop(⌜r = ⟨BitVec.ofNat 32 (i 2).val, sT b 0, dpT b 0, sT b 1, k0_pay11 b.v⟩⌝ ∗ (arg3.view.loc (c : Thread nD τ) ↦[arg3.view.set]{fullShare} harg3.unread b.k) ∗ (arg4.view.loc (c : Thread nD τ) ↦[arg4.view.set]{fullShare} harg4.unread b.v) ∗ (arg5.view.loc (c : Thread nD τ) ↦[arg5.view.set]{fullShare} harg5.unread b.kT) ∗ (arg6.view.loc (c : Thread nD τ) ↦[arg6.view.set]{fullShare} harg6.unread b.q) ∗ (arg7.view.loc (c : Thread nD τ) ↦[arg7.view.set]{fullShare} harg7.unread b.ct) ∗ (arg8.view.loc (c : Thread nD τ) ↦[arg8.view.set]{fullShare} harg8.unread b.lse) ∗ (arg9.view.loc (c : Thread nD τ) ↦[arg9.view.set]{fullShare} harg9.unread b.dl) ∗ (arg12.view.loc (c : Thread nD τ) ↦[arg12.view.set]{fullShare} harg12.unread (fromQ i xQ)) ∗ (arg13.view.loc (c : Thread nD τ) ↦[arg13.view.set]{fullShare} harg13.unread (fromK i xK)) ∗ (arg14.view.loc (c : Thread nD τ) ↦[arg14.view.set]{fullShare} harg14.unread (fromV i xV)))) := by
  have h3 : ∀ inb, arg3.view.readAt (Elt F) (Rect.unit (s := S1x1024x64) ![0, 0, 0] S1x1024x64.size inb).toLoadRect (harg3.unread b.k) = b.k := fun inb => whole_load harg3 b.k inb
  have h4 : ∀ inb, arg4.view.readAt (Elt F) (Rect.unit (s := S1x1024x64) ![0, 0, 0] S1x1024x64.size inb).toLoadRect (harg4.unread b.v) = b.v := fun inb => whole_load harg4 b.v inb
  have h5 : ∀ inb, arg5.view.readAt (Elt F) (Rect.unit (s := S1x64x1024) ![0, 0, 0] S1x64x1024.size inb).toLoadRect (harg5.unread b.kT) = b.kT := fun inb => whole_load harg5 b.kT inb
  have h6 : ∀ o inb, arg6.view.readAt (Elt F) (Rect.unit (s := S1x64x8192) o S1x64x256.size inb).toLoadRect (harg6.unread b.q) = cutQ b.q o inb := fun o inb => funext fun y => harg6.readAt_unread b.q _ y
  have h7 : ∀ o inb, arg7.view.readAt (Elt F) (Rect.unit (s := S1x64x8192) o S1x64x256.size inb).toLoadRect (harg7.unread b.ct) = cutQ b.ct o inb := fun o inb => funext fun y => harg7.readAt_unread b.ct _ y
  have h8 : ∀ o inb, arg8.view.readAt (Elt F) (Rect.unit (s := S1x1x8192) o S1x1x256.size inb).toLoadRect (harg8.unread b.lse) = cutR b.lse o inb := fun o inb => funext fun y => harg8.readAt_unread b.lse _ y
  have h9 : ∀ o inb, arg9.view.readAt (Elt F) (Rect.unit (s := S1x1x8192) o S1x1x256.size inb).toLoadRect (harg9.unread b.dl) = cutR b.dl o inb := fun o inb => funext fun y => harg9.readAt_unread b.dl _ y
  unfold fromQ fromK fromV
  iintro ⟨H3, H4, H5, H6, H7, H8, H9, HQ, HK, HV⟩
  by_cases hA : first i <;> by_cases hB : head i
  all_goals
    (try rw [if_pos hA]); (try rw [if_neg hA]); (try rw [if_pos hB]); (try rw [if_neg hB]); (try rw [if_pos hB]); (try rw [if_neg hB])
    sl_exec (disch := first | sl_exact hA | sl_exact hB)
    sl_step
    try rw [whole_store harg12]
    try rw [whole_store harg13]
    try rw [whole_store harg14]
    isplitr; · ipureintro; rfl
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HQ]; · iexact HQ
    isplitl [HK]; · iexact HK
    iexact HV

end Cert.KernelIdeal.Attn

end
-- ==== Proof.Attn.Body.lean ====
module

public import proofs.«01_k».proof.Proof.Attn.Start
public import Idealize.ShloMosaic.Lib.WholeRead

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords) (arg3 : Memref sig .tc .vmem S1x1024x64 .bf16) (harg3 : arg3.IsWhole) (arg4 : Memref sig .tc .vmem S1x1024x64 .bf16) (harg4 : arg4.IsWhole) (arg5 : Memref sig .tc .vmem S1x64x1024 .bf16) (harg5 : arg5.IsWhole) (arg6 : Memref sig .tc .vmem S1x64x8192 .bf16) (harg6 : arg6.IsWhole) (arg7 : Memref sig .tc .vmem S1x64x8192 .bf16) (harg7 : arg7.IsWhole) (arg8 : Memref sig .tc .vmem S1x1x8192 .f32) (harg8 : arg8.IsWhole) (arg9 : Memref sig .tc .vmem S1x1x8192 .f32) (harg9 : arg9.IsWhole) (arg10 : Memref sig .tc .vmem S1x64x1024 .f32) (harg10 : arg10.IsWhole) (arg11 : Memref sig .tc .vmem S1x64x1024 .f32) (harg11 : arg11.IsWhole) (arg12 : Memref sig .tc .vmem S4x64x8192 .f32) (harg12 : arg12.IsWhole) (arg13 : Memref sig .tc .vmem S64x1024 .f32) (harg13 : arg13.IsWhole) (arg14 : Memref sig .tc .vmem S64x1024 .f32) (harg14 : arg14.IsWhole)

set_option maxHeartbeats 20000000 in
/-- A grid point's run. -/
theorem body_run (E : Set ℕ) (b : Blocks F) (x7 x8 : Vec F S1x64x1024 .f32) (xQ : Vec F S4x64x8192 .f32) (xK xV : Vec F S64x1024 .f32) (K : PUnit → sProp 𝕄) :
    (iprop((arg3.view.loc (c : Thread nD τ) ↦[arg3.view.set]{fullShare} harg3.unread b.k) ∗ (arg4.view.loc (c : Thread nD τ) ↦[arg4.view.set]{fullShare} harg4.unread b.v) ∗ (arg5.view.loc (c : Thread nD τ) ↦[arg5.view.set]{fullShare} harg5.unread b.kT) ∗ (arg6.view.loc (c : Thread nD τ) ↦[arg6.view.set]{fullShare} harg6.unread b.q) ∗ (arg7.view.loc (c : Thread nD τ) ↦[arg7.view.set]{fullShare} harg7.unread b.ct) ∗ (arg8.view.loc (c : Thread nD τ) ↦[arg8.view.set]{fullShare} harg8.unread b.lse) ∗ (arg9.view.loc (c : Thread nD τ) ↦[arg9.view.set]{fullShare} harg9.unread b.dl) ∗ (arg10.view.loc (c : Thread nD τ) ↦[arg10.view.set]{fullShare} harg10.unread x7) ∗ (arg11.view.loc (c : Thread nD τ) ↦[arg11.view.set]{fullShare} harg11.unread x8) ∗ (arg12.view.loc (c : Thread nD τ) ↦[arg12.view.set]{fullShare} harg12.unread xQ) ∗ (arg13.view.loc (c : Thread nD τ) ↦[arg13.view.set]{fullShare} harg13.unread xK) ∗ (arg14.view.loc (c : Thread nD τ) ↦[arg14.view.set]{fullShare} harg14.unread xV) ∗ (((arg3.view.loc (c : Thread nD τ) ↦[arg3.view.set]{fullShare} harg3.unread b.k) ∗ (arg4.view.loc (c : Thread nD τ) ↦[arg4.view.set]{fullShare} harg4.unread b.v) ∗ (arg5.view.loc (c : Thread nD τ) ↦[arg5.view.set]{fullShare} harg5.unread b.kT) ∗ (arg6.view.loc (c : Thread nD τ) ↦[arg6.view.set]{fullShare} harg6.unread b.q) ∗ (arg7.view.loc (c : Thread nD τ) ↦[arg7.view.set]{fullShare} harg7.unread b.ct) ∗ (arg8.view.loc (c : Thread nD τ) ↦[arg8.view.set]{fullShare} harg8.unread b.lse) ∗ (arg9.view.loc (c : Thread nD τ) ↦[arg9.view.set]{fullShare} harg9.unread b.dl) ∗ (arg10.view.loc (c : Thread nD τ) ↦[arg10.view.set]{fullShare} harg10.unread (if last i then k0_pay3 (nextK b (fromK i xK)) else x7)) ∗ (arg11.view.loc (c : Thread nD τ) ↦[arg11.view.set]{fullShare} harg11.unread (if last i then k0_pay4 (nextV b (fromV i xV)) else x8)) ∗ (arg12.view.loc (c : Thread nD τ) ↦[arg12.view.set]{fullShare} arg12.view.writes (Elt F) (harg12.unread (fromQ i xQ)) (slabs b i (fromQ i xQ) 32)) ∗ (arg13.view.loc (c : Thread nD τ) ↦[arg13.view.set]{fullShare} harg13.unread (nextK b (fromK i xK))) ∗ (arg14.view.loc (c : Thread nD τ) ↦[arg14.view.set]{fullShare} harg14.unread (nextV b (fromV i xV)))) -∗ K ⟨⟩)) : sProp 𝕄)
      ⊢ wp frame (wpE (defs₀ (F := F)) Variants.none c none) E (cc0_attn_a_bwd i arg3 harg3 arg4 harg4 arg5 harg5 arg6 harg6 arg7 harg7 arg8 harg8 arg9 harg9 arg10 harg10 arg11 harg11 arg12 harg12 arg13 harg13 arg14 harg14) K := by
  have h3 : ∀ inb, arg3.view.readAt (Elt F) (Rect.unit (s := S1x1024x64) ![0, 0, 0] S1x1024x64.size inb).toLoadRect (harg3.unread b.k) = b.k := fun inb => whole_load harg3 b.k inb
  have h4 : ∀ inb, arg4.view.readAt (Elt F) (Rect.unit (s := S1x1024x64) ![0, 0, 0] S1x1024x64.size inb).toLoadRect (harg4.unread b.v) = b.v := fun inb => whole_load harg4 b.v inb
  have h5 : ∀ inb, arg5.view.readAt (Elt F) (Rect.unit (s := S1x64x1024) ![0, 0, 0] S1x64x1024.size inb).toLoadRect (harg5.unread b.kT) = b.kT := fun inb => whole_load harg5 b.kT inb
  have h6 : ∀ o inb, arg6.view.readAt (Elt F) (Rect.unit (s := S1x64x8192) o S1x64x256.size inb).toLoadRect (harg6.unread b.q) = cutQ b.q o inb := fun o inb => funext fun y => harg6.readAt_unread b.q _ y
  have h7 : ∀ o inb, arg7.view.readAt (Elt F) (Rect.unit (s := S1x64x8192) o S1x64x256.size inb).toLoadRect (harg7.unread b.ct) = cutQ b.ct o inb := fun o inb => funext fun y => harg7.readAt_unread b.ct _ y
  have h8 : ∀ o inb, arg8.view.readAt (Elt F) (Rect.unit (s := S1x1x8192) o S1x1x256.size inb).toLoadRect (harg8.unread b.lse) = cutR b.lse o inb := fun o inb => funext fun y => harg8.readAt_unread b.lse _ y
  have h9 : ∀ o inb, arg9.view.readAt (Elt F) (Rect.unit (s := S1x1x8192) o S1x1x256.size inb).toLoadRect (harg9.unread b.dl) = cutR b.dl o inb := fun o inb => funext fun y => harg9.readAt_unread b.dl _ y
  have h12 : ∀ o inb, arg12.view.readAt (Elt F) (Rect.unit (s := S4x64x8192) o S1x64x256.size inb).toLoadRect (harg12.unread (fromQ i xQ)) = cutD (fromQ i xQ) o inb := fun o inb => funext fun y => harg12.readAt_unread _ _ y
  have h13 : ∀ inb, arg13.view.readAt (Elt F) (Rect.unit (s := S64x1024) ![0, 0] S64x1024.size inb).toLoadRect (harg13.unread (fromK i xK)) = fromK i xK := fun inb => whole_load harg13 _ inb
  have h14 : ∀ inb, arg14.view.readAt (Elt F) (Rect.unit (s := S64x1024) ![0, 0] S64x1024.size inb).toLoadRect (harg14.unread (fromV i xV)) = fromV i xV := fun inb => whole_load harg14 _ inb
  have hcut := start_spec c i arg3 harg3 arg4 harg4 arg5 harg5 arg6 harg6 arg7 harg7 arg8 harg8 arg9 harg9 arg10 harg10 arg11 harg11 arg12 harg12 arg13 harg13 arg14 harg14 E b xQ xK xV
  iintro ⟨H3, H4, H5, H6, H7, H8, H9, H10, H11, HQ, HK, HV, Hk⟩
  sl_exec_parts
  sl_step
  clear hcut h3 h4 h5 h6 h7 h8 h9 h12 h13 h14
  cases hk0_part1_0
  have eK : body_run.sl.Hk0_part1_9_1 i b xK (sT b 0) (dpT b 0) (sT b 1) (k0_pay11 b.v) = [⟨Rect.unit (s := S64x1024) ![0, 0] S64x1024.size inb_S64x1024_S64x1024_0_0, nextK b (fromK i xK)⟩] := by
    rfl
  have eV : body_run.sl.Hk0_part1_10_1 i b xV (sT b 0) (sT b 1) = [⟨Rect.unit (s := S64x1024) ![0, 0] S64x1024.size inb_S64x1024_S64x1024_0_0, nextV b (fromV i xV)⟩] := by
    rfl
  have eQ : body_run.sl.Hk0_part1_8_32 i b xQ (sT b 0) (dpT b 0) (sT b 1) (k0_pay11 b.v) = slabs b i (fromQ i xQ) 32 := by
    rfl
  have e10 : body_run.sl.v2355 i arg13 b xK (sT b 0) (dpT b 0) (sT b 1) (k0_pay11 b.v) = nextK b (fromK i xK) := by
    unfold body_run.sl.v2355
    rw [eK]; exact whole_cov harg13 _ _ _
  have e11 : body_run.sl.v2361 i arg14 b xV (sT b 0) (sT b 1) = nextV b (fromV i xV) := by
    unfold body_run.sl.v2361
    rw [eV]; exact whole_cov harg14 _ _ _
  rw [e10, e11, eK, eV, eQ, whole_store harg13, whole_store harg14, whole_store harg10, whole_store harg11]
  by_cases hl : last i
  · simp only [dif_pos hl, if_pos hl]
    iapply Hk
    isplitl [Hk0_part1_1]; · iexact Hk0_part1_1
    isplitl [Hk0_part1_2]; · iexact Hk0_part1_2
    isplitl [Hk0_part1_3]; · iexact Hk0_part1_3
    isplitl [Hk0_part1_4]; · iexact Hk0_part1_4
    isplitl [Hk0_part1_5]; · iexact Hk0_part1_5
    isplitl [Hk0_part1_6]; · iexact Hk0_part1_6
    isplitl [Hk0_part1_7]; · iexact Hk0_part1_7
    isplitl [H10]; · iexact H10
    isplitl [H11]; · iexact H11
    isplitl [Hk0_part1_8]; · iexact Hk0_part1_8
    isplitl [Hk0_part1_9]; · iexact Hk0_part1_9
    iexact Hk0_part1_10
  · simp only [dif_neg hl, if_neg hl]
    iapply Hk
    isplitl [Hk0_part1_1]; · iexact Hk0_part1_1
    isplitl [Hk0_part1_2]; · iexact Hk0_part1_2
    isplitl [Hk0_part1_3]; · iexact Hk0_part1_3
    isplitl [Hk0_part1_4]; · iexact Hk0_part1_4
    isplitl [Hk0_part1_5]; · iexact Hk0_part1_5
    isplitl [Hk0_part1_6]; · iexact Hk0_part1_6
    isplitl [Hk0_part1_7]; · iexact Hk0_part1_7
    isplitl [H10]; · iexact H10
    isplitl [H11]; · iexact H11
    isplitl [Hk0_part1_8]; · iexact Hk0_part1_8
    isplitl [Hk0_part1_9]; · iexact Hk0_part1_9
    iexact Hk0_part1_10

end Cert.KernelIdeal.Attn

end
-- ==== Proof.Attn.Slabs.lean ====
module

public import proofs.«01_k».proof.Proof.Attn.Model
public import Idealize.ShloMosaic.Lib.WholeRead
public import Idealize.ShloMosaic.Lib.Pointwise.Index

/-! What the queries' gradient holds after a grid point: the head that the point works on has each of its 32 chunks
replaced by the sum of what was there and what the point adds; the other heads stay. -/

@[expose] public section

noncomputable section

namespace Cert.KernelIdeal.Attn

open Cert.KernelIdeal Cert.KernelIdeal.Gen
open Idealize.ShloMosaic

variable {F : FTy → Type} [FloatOps F] [Named F]

/-- The place of column `n` within its chunk. -/
abbrev inChunk (d : Fin 64) (n : Nat) : S1x64x256.Idx := ix3 (n0 := 1) (n1 := 64) (n2 := 256) 0 d ⟨n % 256, Nat.mod_lt _ (by decide)⟩

/-- The queries' gradient after a point, of which `x` is what was there before. -/
def updQ (b : Blocks F) (i : grid0.Coords) (x : Vec F S4x64x8192 .f32) : Vec F S4x64x8192 .f32 := fun y =>
  if (y 0).val = (i 2).val then (slab b i x ((y 2).val / 256)).2 (inChunk (y 1) (y 2).val) else x y

/-- The columns the chunk `c` holds, read after the first `n` chunks' stores. -/
theorem read_slabs (b : Blocks F) (i : grid0.Coords) (x : Vec F S4x64x8192 .f32) {m : Memref sig .tc .vmem S4x64x8192 .f32} (h : m.IsWhole)
    (y : S4x64x8192.Idx) : ∀ n : Nat, n ≤ 32 → m.view.read (Elt F) (m.view.writes (Elt F) (h.unread x) (slabs b i x n)) y
      = if (y 0).val = (i 2).val ∧ (y 2).val < 256 * n then (slab b i x ((y 2).val / 256)).2 (inChunk (y 1) (y 2).val) else x y := by
  intro n
  induction n with
  | zero =>
    intro _
    rw [if_neg (by omega)]
    exact congrFun (h.read_unread x) y
  | succ n ih =>
    intro hn
    have hy : (y 2).val < 8192 := (y 2).isLt
    have hoff : (slab b i x n).1.off = ![(i 2).val, 0, 256 * n] := by
      show k0_off1 i (BitVec.ofNat 32 (256 * (n % 32))) = _
      rw [off_eq, Nat.mod_eq_of_lt (show n < 32 by omega), BitVec.toNat_ofNat, Nat.mod_eq_of_lt (by omega)]
    show m.view.read (Elt F) (m.view.writes (Elt F) (h.unread x) (slab b i x n :: slabs b i x n)) y = _
    by_cases h0 : (y 0).val = (i 2).val
    · by_cases h2 : 256 * n ≤ (y 2).val
      · by_cases h3 : (y 2).val < 256 * (n + 1)
        · rw [if_pos ⟨h0, h3⟩, show (y 2).val / 256 = n by omega]
          refine View.read_writes_cons_hit m.view (h.unread x) (slab b i x n).1 (slab b i x n).2 _ (inChunk (y 1) (y 2).val) y ((slab b i x n).1.emb_eq_of_coords _ _ fun a => ?_)
          rw [hoff]
          match a with
          | 0 => show (y 0).val = (i 2).val + 1 * 0; omega
          | 1 => show (y 1).val = 0 + 1 * (y 1).val; omega
          | 2 => show (y 2).val = 256 * n + 1 * ((y 2).val % 256); omega
        · rw [View.read_writes_cons_miss_of_axis m.view (h.unread x) _ _ y 2 (256 * n) 256 (by rw [hoff]; rfl) rfl rfl (by omega), ih (by omega),
            if_neg (by omega), if_neg (by omega)]
      · rw [View.read_writes_cons_miss_of_axis m.view (h.unread x) _ _ y 2 (256 * n) 256 (by rw [hoff]; rfl) rfl rfl (by omega), ih (by omega)]
        by_cases h4 : (y 2).val < 256 * n
        · rw [if_pos ⟨h0, h4⟩, if_pos ⟨h0, by omega⟩]
        · omega
    · rw [View.read_writes_cons_miss_of_axis m.view (h.unread x) _ _ y 0 (i 2).val 1 (by rw [hoff]; rfl) rfl rfl (by omega), ih (by omega),
        if_neg (by omega), if_neg (by omega)]

/-- The stores of a point leave `updQ`. -/
theorem writes_slabs (b : Blocks F) (i : grid0.Coords) (x : Vec F S4x64x8192 .f32) {m : Memref sig .tc .vmem S4x64x8192 .f32} (h : m.IsWhole) :
    m.view.writes (Elt F) (h.unread x) (slabs b i x 32) = h.unread (updQ b i x) := by
  refine h.eq_unread (funext fun y => ?_)
  rw [read_slabs b i x h y 32 le_rfl]
  have hy : (y 2).val < 8192 := (y 2).isLt
  unfold updQ
  by_cases h0 : (y 0).val = (i 2).val
  · rw [if_pos ⟨h0, by omega⟩, if_pos h0]
  · rw [if_neg (by omega), if_neg h0]

end Cert.KernelIdeal.Attn

end
-- ==== Proof.Attn.Launch.lean ====
module

public import proofs.«01_k».proof.Proof.Attn.Body
public import proofs.«01_k».proof.Proof.Attn.Slabs
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F] [Named F]

variable (m : (ℓ : Loc nD τ sig) → Buf (Elt F) ℓ) (ρ : Dev nD → PrngReg)

local notation "𝕄" => MT nD τ sig Unit (Elt F) ℕ (UR sig nD τ) ℕ

/-! ## The conditions on the point -/

theorem pt (t : Fin cfg0.N) : t.val < 64 := lt_of_lt_of_eq t.isLt N_0
theorem co0 (t : Fin cfg0.N) : (grid0.coords t 0).val = t.val / 32 % 2 := Pipeline.Grid.coords_val t 0 (by decide) rfl
theorem co1 (t : Fin cfg0.N) : (grid0.coords t 1).val = t.val / 4 % 8 := Pipeline.Grid.coords_val t 1 (by decide) rfl
theorem co2 (t : Fin cfg0.N) : (grid0.coords t 2).val = t.val / 1 % 4 := Pipeline.Grid.coords_val t 2 (by decide) rfl

theorem first_iff (t : Fin cfg0.N) : first (grid0.coords t) ↔ t.val % 32 = 0 := by
  have := pt t
  simp only [first, co1, co2]
  word_cmp

theorem head_iff (t : Fin cfg0.N) : head (grid0.coords t) ↔ t.val % 4 = 0 := by
  have := pt t
  simp only [head, co2]
  word_cmp

theorem last_iff (t : Fin cfg0.N) : last (grid0.coords t) ↔ t.val % 4 = 3 := by
  have := pt t
  simp only [last, k0_cond3, co2]
  word_cmp

/-! ## What is carried from point to point -/

/-- What the points carry: the queries' gradient of the head group, and the gradients of the block of keys and of values. -/
structure Carried (F : FTy → Type) where
  Q : Vec F S4x64x8192 .f32
  K : Vec F S64x1024 .f32
  V : Vec F S64x1024 .f32

/-- The blocks that point `t` reads. -/
def blocks (c : Dev nD) (t : Fin cfg0.N) : Blocks F where
  k := iblk m c 0 t
  v := iblk m c 1 t
  kT := iblk m c 2 t
  q := iblk m c 3 t
  ct := iblk m c 4 t
  lse := iblk m c 5 t
  dl := iblk m c 6 t

/-- A point's work on what is carried. -/
def step (c : Dev nD) (t : Fin cfg0.N) (x : Carried F) : Carried F where
  Q := updQ (blocks m c t) (grid0.coords t) (fromQ (grid0.coords t) x.Q)
  K := nextK (blocks m c t) (fromK (grid0.coords t) x.K)
  V := nextV (blocks m c t) (fromV (grid0.coords t) x.V)

/-- What is carried before the first point; the first point clears all of it. -/
def nothing : Carried F := ⟨k0_pay5, k0_pay6, k0_pay7⟩

/-- What is carried out of point `n`. -/
def carried (c : Dev nD) : (n : ℕ) → n < cfg0.N → Carried F
  | 0, h => step m c ⟨0, h⟩ nothing
  | n + 1, h => step m c ⟨n + 1, h⟩ (carried c n (Nat.lt_of_succ_lt h))

/-- What is carried into point `t`. -/
def into (c : Dev nD) (t : Fin cfg0.N) : Carried F := if h : t.val = 0 then nothing else carried m c (t.val - 1) (by omega)

theorem carried_eq (c : Dev nD) (t : Fin cfg0.N) : carried m c t.val t.isLt = step m c t (into m c t) := by
  obtain ⟨n, hn⟩ := t
  cases n with
  | zero => rfl
  | succ n => rfl

/-- The kernel's own buffers for the block of keys and for the block of values. -/
abbrev scK : Memref sig .tc .vmem S64x1024 .f32 := Memref.whole cc0_scratch0
abbrev scV : Memref sig .tc .vmem S64x1024 .f32 := Memref.whole cc0_scratch1

theorem PhiA_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

/-- The invariant before position `n`: the kernel's own buffers hold what was carried out of the point before. -/
def Inv (c : Dev nD) : (n : ℕ) → n ≤ cfg0.N → sProp 𝕄
  | 0, _ => Pipeline.ΦA spec0 c
  | n + 1, hn => iprop(iprop(owns (c : Thread nD τ) scK fullShare (carried m c n hn).K ∗ owns (c : Thread nD τ) scV fullShare (carried m c n hn).V) ∗ (∃ r, prngReg c r))

/-! ## The pipeline's data -/

/-- The arrays as the call finds them; after a point, each input's block as it was, and each output's block as computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay3 (carried m c t.val t.isLt).K
    | ⟨8, _⟩ => k0_pay4 (carried m c t.val t.isLt).V
    | ⟨9, _⟩ => (carried m c t.val t.isLt).Q
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = k0_pay3 (carried m c t.val t.isLt).K := by dsimp only [dats]
theorem after_8 (c : Dev nD) (t : Fin cfg0.N) : (dats m 0 c).after 8 t = k0_pay4 (carried m c t.val t.isLt).V := by dsimp only [dats]
theorem after_9 (c : Dev nD) (t : Fin cfg0.N) : (dats m 0 c).after 9 t = (carried m c t.val t.isLt).Q := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The queries' gradient is found as the point before left it, or at the first point of a head group is cleared. -/
theorem fromQ_before (c : Dev nD) (t : Fin cfg0.N) (d) :
    fromQ (grid0.coords t) ((dats m 0 c).before 9 t d) = fromQ (grid0.coords t) (into m c t).Q := by
  unfold fromQ
  by_cases h : first (grid0.coords t)
  · rw [if_pos h, if_pos h]
  · rw [if_neg h, if_neg h]
    have h32 : ¬ t.val % 32 = 0 := fun e => h ((first_iff t).mpr e)
    have h0 : t.val ≠ 0 := fun e => h32 (by rw [e])
    rw [Pipeline.Dat.before_of_pos _ 9 t h0 rfl, if_neg (fun e => absurd ((flush0_9 _).mp e) (show ¬ (t.val - 1) % 32 = 31 by omega))]
    unfold into
    rw [dif_neg h0]
    rfl

/-- The kernel's own buffers are found as the point before left them, or are cleared. -/
theorem Inv_open (c : Dev nD) (t : Fin cfg0.N) :
    Inv m c t.val (Nat.le_of_lt t.isLt) ⊢ iprop(∃ xK, ∃ xV, ⌜fromK (grid0.coords t) xK = fromK (grid0.coords t) (into m c t).K
      ∧ fromV (grid0.coords t) xV = fromV (grid0.coords t) (into m c t).V⌝
      ∗ owns (c : Thread nD τ) scK fullShare xK ∗ owns (c : Thread nD τ) scV fullShare xV ∗ (∃ r, prngReg c r)) := by
  obtain ⟨n, hn⟩ := t
  cases n with
  | zero =>
    have h : head (grid0.coords ⟨0, hn⟩) := (head_iff _).mpr rfl
    show (Pipeline.ΦA spec0 c : sProp 𝕄) ⊢ _
    rw [PhiA_eq]
    iintro ⟨⟨⟨%xK, HK⟩, ⟨%xV, HV⟩⟩, Hg⟩
    iexists xK; iexists xV
    isplitr
    · ipureintro
      unfold fromK fromV
      simp only [if_pos h, and_self]
    isplitl [HK]; · iexact HK
    isplitl [HV]; · iexact HV
    iexact Hg
  | succ n =>
    show iprop(iprop(owns (c : Thread nD τ) scK fullShare (carried m c n (Nat.lt_of_succ_lt hn)).K ∗ owns (c : Thread nD τ) scV fullShare (carried m c n (Nat.lt_of_succ_lt hn)).V) ∗ (∃ r, prngReg c r)) ⊢ _
    iintro ⟨⟨HK, HV⟩, Hg⟩
    iexists _; iexists _
    isplitr
    · ipureintro
      exact ⟨rfl, rfl⟩
    isplitl [HK]; · iexact HK
    isplitl [HV]; · iexact HV
    iexact Hg

/-! ## The body at a point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (grid0.coords t) = false from rfl, after_6]
theorem leaves_9 (c : Dev nD) (t : Fin cfg0.N) : (dats m 0 c).leavesExact 9 t = owns (c : Thread nD τ) (win0_9.stage (cfg0.slots t 9)) fullShare (carried m c t.val t.isLt).Q := by
  unfold Dat.leavesExact; rw [show cfg0.idle 9 (grid0.coords t) = false from rfl, after_9]

theorem leaves_7 (c : Dev nD) (t : Fin cfg0.N) (d) (x) (hx : x = (carried m c t.val t.isLt).K) :
    owns (c : Thread nD τ) (win0_7.stage (cfg0.slots t 7)) fullShare (if last (grid0.coords t) then k0_pay3 x else (dats m 0 c).before 7 t d) ⊢ (dats m 0 c).leavesExact 7 t := by
  subst hx
  by_cases h : last (grid0.coords t)
  · rw [if_pos h]
    unfold Dat.leavesExact
    rw [show cfg0.idle 7 (grid0.coords t) = false from by show (!(k0_cond3 (grid0.coords t) == 1#1)) = false; rw [show k0_cond3 (grid0.coords t) = 1#1 from h]; rfl, after_7]
  · rw [if_neg h, Dat.leavesExact_idle _ 7 t (by show (!(k0_cond3 (grid0.coords t) == 1#1)) = true; rw [beq_false_of_ne h]; rfl)
      (Bool.eq_false_iff.mpr fun e => h ((last_iff t).mpr ((flush0_7 t).mp e)))]
    iintro H
    iexists d
    iexact H

theorem leaves_8 (c : Dev nD) (t : Fin cfg0.N) (d) (x) (hx : x = (carried m c t.val t.isLt).V) :
    owns (c : Thread nD τ) (win0_8.stage (cfg0.slots t 8)) fullShare (if last (grid0.coords t) then k0_pay4 x else (dats m 0 c).before 8 t d) ⊢ (dats m 0 c).leavesExact 8 t := by
  subst hx
  by_cases h : last (grid0.coords t)
  · rw [if_pos h]
    unfold Dat.leavesExact
    rw [show cfg0.idle 8 (grid0.coords t) = false from by show (!(k0_cond3 (grid0.coords t) == 1#1)) = false; rw [show k0_cond3 (grid0.coords t) = 1#1 from h]; rfl, after_8]
  · rw [if_neg h, Dat.leavesExact_idle _ 8 t (by show (!(k0_cond3 (grid0.coords t) == 1#1)) = true; rw [beq_false_of_ne h]; rfl)
      (Bool.eq_false_iff.mpr fun e => h ((last_iff t).mpr ((flush0_8 t).mp e)))]
    iintro H
    iexists d
    iexact H

/-- A whole buffer owned at `x` is held at the contents that read `x`. -/
theorem unread_of_owns {c : Dev nD} {sp : Space} {s : Shape} {e : EltTy} {m : Memref sig .tc sp s e} (h : m.IsWhole) (x : Vec F s e) :
    (owns (c : Thread nD τ) m fullShare x : sProp 𝕄) ⊢ (m.view.loc (c : Thread nD τ) ↦[m.view.set]{fullShare} h.unread x) := by
  unfold owns
  iintro ⟨%f, %hf, H⟩
  obtain rfl := h.eq_unread hf
  iexact H

/-- and back. -/
theorem owns_of_unread {c : Dev nD} {sp : Space} {s : Shape} {e : EltTy} {m : Memref sig .tc sp s e} (h : m.IsWhole) (x : Vec F s e) :
    (m.view.loc (c : Thread nD τ) ↦[m.view.set]{fullShare} h.unread x) ⊢ (owns (c : Thread nD τ) m fullShare x : sProp 𝕄) := by
  unfold owns
  iintro H
  iexists _
  isplitr
  · ipureintro; exact h.read_unread x
  iexact H

set_option maxHeartbeats 4000000 in
/-- The body at any point does that point's work on what is carried. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, leaves_0, leaves_1, leaves_2, leaves_3, leaves_4, leaves_5, leaves_6, leaves_9]
  rw [show (dats m 0 c).owesAt () t.succ = (dats m 0 c).owesAt () t.castSucc from rfl, Inv_castSucc]
  rw [show (dats m 0 c).Φ t.succ = iprop(iprop(owns (c : Thread nD τ) scK fullShare (carried m c t.val t.isLt).K ∗ owns (c : Thread nD τ) scV fullShare (carried m c t.val t.isLt).V) ∗ (∃ r, prngReg c r)) from rfl]
  iintro ⟨Hi, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave Hj := (Inv_open m c t) $$ Hi
  icases Hj with ⟨%xK, %xV, %hx, HK, HV, Hg⟩
  have hQ := fromQ_before m c t d9
  have hc := carried_eq m c t
  have hcQ : (carried m c t.val t.isLt).Q = updQ (blocks m c t) (grid0.coords t) (fromQ (grid0.coords t) ((dats m 0 c).before 9 t d9)) := by rw [hQ, hc]; rfl
  have hcK : nextK (blocks m c t) (fromK (grid0.coords t) xK) = (carried m c t.val t.isLt).K := by rw [hx.1, hc]; rfl
  have hcV : nextV (blocks m c t) (fromV (grid0.coords t) xV) = (carried m c t.val t.isLt).V := by rw [hx.2, hc]; rfl
  iapply (body_run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (Memref.isWhole_whole cc0_scratch0) _ (Memref.isWhole_whole cc0_scratch1) Set.univ (blocks m c t) ((dats m 0 c).before 7 t d7) ((dats m 0 c).before 8 t d8) ((dats m 0 c).before 9 t d9) xK xV _)
  isplitl [H0]; · iapply (unread_of_owns (hstage0_0 ((cfg0.slots t 0).cast nbuf0_0)) _); iexact H0
  isplitl [H1]; · iapply (unread_of_owns (hstage0_1 ((cfg0.slots t 1).cast nbuf0_1)) _); iexact H1
  isplitl [H2]; · iapply (unread_of_owns (hstage0_2 ((cfg0.slots t 2).cast nbuf0_2)) _); iexact H2
  isplitl [H3]; · iapply (unread_of_owns (hstage0_3 ((cfg0.slots t 3).cast nbuf0_3)) _); iexact H3
  isplitl [H4]; · iapply (unread_of_owns (hstage0_4 ((cfg0.slots t 4).cast nbuf0_4)) _); iexact H4
  isplitl [H5]; · iapply (unread_of_owns (hstage0_5 ((cfg0.slots t 5).cast nbuf0_5)) _); iexact H5
  isplitl [H6]; · iapply (unread_of_owns (hstage0_6 ((cfg0.slots t 6).cast nbuf0_6)) _); iexact H6
  isplitl [H7]; · iapply (unread_of_owns (hstage0_7 ((cfg0.slots t 7).cast nbuf0_7)) _); iexact H7
  isplitl [H8]; · iapply (unread_of_owns (hstage0_8 ((cfg0.slots t 8).cast nbuf0_8)) _); iexact H8
  isplitl [H9]; · iapply (unread_of_owns (hstage0_9 ((cfg0.slots t 9).cast nbuf0_9)) _); iexact H9
  isplitl [HK]; · iapply (unread_of_owns (Memref.isWhole_whole cc0_scratch0) _); iexact HK
  isplitl [HV]; · iapply (unread_of_owns (Memref.isWhole_whole cc0_scratch1) _); iexact HV
  rw [writes_slabs, hcK, hcV, ← hcQ]
  iintro ⟨H0, H1, H2, H3, H4, H5, H6, H7, H8, H9, HK, HV⟩
  isplitl [HK HV Hg]
  · isplitl [HK HV]
    · isplitl [HK]
      · iapply (owns_of_unread (Memref.isWhole_whole cc0_scratch0) _); iexact HK
      iapply (owns_of_unread (Memref.isWhole_whole cc0_scratch1) _); iexact HV
    iexact Hg
  isplitl [Ho]; · iexact Ho
  isplitl [H0]; · iapply (owns_of_unread (hstage0_0 ((cfg0.slots t 0).cast nbuf0_0)) _); iexact H0
  isplitl [H1]; · iapply (owns_of_unread (hstage0_1 ((cfg0.slots t 1).cast nbuf0_1)) _); iexact H1
  isplitl [H2]; · iapply (owns_of_unread (hstage0_2 ((cfg0.slots t 2).cast nbuf0_2)) _); iexact H2
  isplitl [H3]; · iapply (owns_of_unread (hstage0_3 ((cfg0.slots t 3).cast nbuf0_3)) _); iexact H3
  isplitl [H4]; · iapply (owns_of_unread (hstage0_4 ((cfg0.slots t 4).cast nbuf0_4)) _); iexact H4
  isplitl [H5]; · iapply (owns_of_unread (hstage0_5 ((cfg0.slots t 5).cast nbuf0_5)) _); iexact H5
  isplitl [H6]; · iapply (owns_of_unread (hstage0_6 ((cfg0.slots t 6).cast nbuf0_6)) _); iexact H6
  isplitl [H7]; · iapply (leaves_7 m c t d7 _ rfl); iapply (owns_of_unread (hstage0_7 ((cfg0.slots t 7).cast nbuf0_7)) _); iexact H7
  isplitl [H8]; · iapply (leaves_8 m c t d8 _ rfl); iapply (owns_of_unread (hstage0_8 ((cfg0.slots t 8).cast nbuf0_8)) _); iexact H8
  iapply (owns_of_unread (hstage0_9 ((cfg0.slots t 9).cast nbuf0_9)) _); iexact H9

theorem body_row (t : Fin cfg0.N) : defs₀ (F := F) .tc cfg0.body (cfg0.bodyArgs t (cfg0.slots t)) = bodyAt0 t := by
  unfold defs₀; rw [Defs.onTc_tc]

/-- What the launch asks of the body. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦA spec0 c ⊢ (dats m 0 c).Φ 0 := by
  rw [show (dats m 0 c).Φ 0 = Inv m c 0 (Nat.zero_le _) from rfl]
  exact Entails.refl _

theorem inv_out (c : Dev nD) : (dats m 0 c).Φ (Fin.last cfg0.N) ⊢ Pipeline.ΦA spec0 c := by
  rw [show (dats m 0 c).Φ (Fin.last cfg0.N) = iprop(iprop(owns (c : Thread nD τ) scK fullShare (carried m c 63 (by decide)).K ∗ owns (c : Thread nD τ) scV fullShare (carried m c 63 (by decide)).V) ∗ (∃ r, prngReg c r)) from rfl, PhiA_eq]
  iintro ⟨⟨HK, HV⟩, Hg⟩
  isplitl [HK HV]
  · isplitl [HK]
    · iexists _; iexact HK
    iexists _; iexact HV
  iexact Hg

/-! ## The launch -/

set_option backward.isDefEq.respectTransparency.types false in
/-- Every run of the program ends with the call's arrays as the points leave them and every counter at zero. -/
theorem launch : θ_run defs (onTc (τ := τ) (main (F := F))) (s₀ m ρ) (fun r => Pipeline.FramePost cfgs (dats m) 0 (V m) r ∧ r.2.sem = fun _ => 0) :=
  Pipeline.θ_run_frame_track_shared cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := inv_in m) (hout := inv_out m)
    (Q' := _) (hQ' := fun _ h => h)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (launch m ρ)))
    ((θ_run defs _ _).mono (fun _ h => h.2) (launch m ρ))

end Cert.KernelIdeal.Attn

end
-- ==== Proof.Grad.Host.lean ====
/- What the host prepares for the call, at an index. -/
module

public import proofs.«01_k».proof.Proof.Gen.KernelIdeal.Frame
public import proofs.«01_k».proof.Proof.Grad.Reference
public import Idealize.ShloMosaic.Lib.Pipeline.ValueKit

@[expose] public section

set_option maxRecDepth 16384

noncomputable section

namespace Cert.Grad

open Idealize.ShloMosaic Idealize.ShloMosaic.TcCoe
open Cert.KernelIdeal Cert.KernelIdeal.Gen

/-! ## The arrays -/

/-- Keys or values by head, -/
def byHead (k : FVec Ideal S8192x2x64 .f32) : FVec Ideal S2x8192x64 .bf16 :=
  truncf .bf16 (transpose S2x8192x64 [1, 0, 2] k transposes_S8192x2x64_S2x8192x64_1_0_2) bitsLt_bf16_f32

/-- transposed, -/
def wide (k : FVec Ideal S8192x2x64 .f32) : FVec Ideal S128x8192 .f32 :=
  shapeCast S128x8192 (transpose S2x64x8192 [1, 2, 0] k transposes_S8192x2x64_S2x64x8192_1_2_0) shapeCasts_S2x64x8192_S128x8192

/-- the logarithm of two, -/
def logTwo : FVec Ideal S_ .f32 := Host.log (constant S_ .f32 0x40000000#32)

/-- and the heads of queries, keys and values, transposed, the queries over the logarithm of two. -/
def heads (q : FVec Ideal S8192x8x64 .f32) (k v : FVec Ideal S8192x2x64 .f32) : FVec Ideal S12x64x8192 .bf16 :=
  shapeCast S12x64x8192 (truncf .bf16 (concatenate S768x8192 0 [⟨S512x8192, shapeCast S512x8192 (Host.divf (transpose S8x64x8192 [1, 2, 0] q transposes_S8192x8x64_S8x64x8192_1_2_0) (broadcastInDim S8x64x8192 ![] bcast_S_S8x64x8192 logTwo)) shapeCasts_S8x64x8192_S512x8192⟩, ⟨S128x8192, wide k⟩, ⟨S128x8192, wide v⟩] concatenates_S512x8192_S128x8192_S128x8192_S768x8192_d0) bitsLt_bf16_f32) shapeCasts_S768x8192_S12x64x8192

/-- The cotangent, transposed. -/
def ctT (ct : FVec Ideal S8192x8x64 .f32) : FVec Ideal S8x64x8192 .f32 := transpose S8x64x8192 [1, 2, 0] ct transposes_S8192x8x64_S8x64x8192_1_2_0

/-- The logarithm to base two of each query's sum of exponentials. -/
def logSums (M l : FVec Ideal S2x4x8192 .f32) : FVec Ideal S8x1x8192 .f32 :=
  shapeCast S8x1x8192 (Host.divf (addf M (Host.log l)) (broadcastInDim S2x4x8192 ![] bcast_S_S2x4x8192 logTwo)) shapeCasts_S2x4x8192_S8x1x8192

/-- The attention's output, transposed. -/
def output (v : FVec Ideal S8192x2x64 .f32) (e : FVec Ideal S2x4x8192x8192 .f32) (l : FVec Ideal S2x4x8192 .f32) : FVec Ideal S8x64x8192 .f32 :=
  shapeCast S8x64x8192 (transpose S2x4x64x8192 [0, 2, 1, 3] (Host.dotGeneral dot_S8192x2x64_S2x4x8192x8192_S2x64x4x8192_0_3_2_12_1_0 none v (Host.divf e (along (column l)))) transposes_S2x64x4x8192_S2x4x64x8192_0_2_1_3) shapeCasts_S2x4x64x8192_S8x64x8192

/-- Each query's output times its cotangent. -/
def deltas (ct o : FVec Ideal S8x64x8192 .f32) : FVec Ideal S8x1x8192 .f32 :=
  shapeCast S8x1x8192 (Host.reduceAdd (mulf ct o) (constant S_ .f32 0x00000000#32) reducesTo_S8x64x8192_S8x8192_d1 h_S_) shapeCasts_S8x8192_S8x1x8192

/-! ## Their values, of real arguments -/

variable {X : Data} {q : FVec Ideal S8192x8x64 .f32} {k v : FVec Ideal S8192x2x64 .f32} {ct : FVec Ideal S8192x8x64 .f32}

theorem fin_div (g : Fin 2) (h : Fin 4) (p : (g.val * 4 + h.val) / 4 < 2) : (⟨(g.val * 4 + h.val) / 4, p⟩ : Fin 2) = g := Fin.ext (by show (g.val * 4 + h.val) / 4 = g.val; omega)
theorem fin_mod (g : Fin 2) (h : Fin 4) (p : (g.val * 4 + h.val) % 4 < 4) : (⟨(g.val * 4 + h.val) % 4, p⟩ : Fin 4) = h := Fin.ext (by show (g.val * 4 + h.val) % 4 = h.val; omega)

theorem log_two_ne : Real.log 2 ≠ 0 := (Real.log_pos (by norm_num)).ne'

theorem two : Ideal.ofBits .f32 0x40000000#32 = ((2 : ℝ) : EReal) := by
  simp [Ideal.ofBits, Ideal.ieee, -EReal.coe_mul]; norm_num

theorem logTwo_at (j : S_.Idx) : logTwo j = (Real.log 2 : EReal) := by
  pointwise [logTwo]
  rw [two, Ideal.log_coe, if_neg (by norm_num)]

theorem byHead_at (k : FVec Ideal S8192x2x64 .f32) (g : Fin 2) (b : Fin 8192) (d : Fin 64) : byHead k (ix3 g b d) = k (ix3 b g d) := by
  pointwise [byHead]

/-- A head of queries among all the heads. -/
def upto (h : Fin 8) : Fin 12 := ⟨h.val, by omega⟩

theorem heads_q (H : Reals X q k v ct) (h : Fin 8) (d : Fin 64) (a : Fin 8192) :
    heads q k v (ix3 (upto h) d a) = ((X.q a h d / Real.log 2 : ℝ) : EReal) := by
  unfold upto
  pointwise [heads, wide]
  rw [dif_pos (by omega), H.q, logTwo_at, div_real _ log_two_ne]

theorem heads_k (H : Reals X q k v ct) (g : Fin 2) (d : Fin 64) (a : Fin 8192) :
    heads q k v (ix3 (⟨8 + g.val, by omega⟩ : Fin 12) d a) = (X.k a g d : EReal) := by
  pointwise [heads, wide]
  rw [dif_neg (by omega), dif_pos (by omega), ← H.k]
  blk_ext []

theorem ctT_at (h : Fin 8) (d : Fin 64) (a : Fin 8192) : ctT ct (ix3 h d a) = ct (ix3 a h d) := by
  pointwise [ctT]

theorem logSums_at {e : FVec Ideal S2x4x8192x8192 .f32} {N : FVec Ideal S2x4x8192 .f32} {M : Fin 2 → Fin 4 → Fin 8192 → ℝ}
    (he : ∀ g h a b, e (ix4 g h a b) = (Real.exp (score X g h a b - M g h a) : EReal)) (hN : ∀ g h a, N (ix3 g h a) = (M g h a : EReal))
    (g : Fin 2) (h : Fin 4) (a : Fin 8192) :
    logSums N (sums e) (ix3 (qHead g h) 0 a) = (((M g h a + Real.log (∑ b : Fin 8192, Real.exp (score X g h a b - M g h a))) / Real.log 2 : ℝ) : EReal) := by
  pointwise [logSums]
  rw [fin_div g h, fin_mod g h, hN, sums_at he, logTwo_at, Ideal.log_coe, if_neg (not_le.mpr (sum_exp_pos X g h a (M g h a))), ← EReal.coe_add, div_real _ log_two_ne]

theorem output_at (H : Reals X q k v ct) {e : FVec Ideal S2x4x8192x8192 .f32} {M : Fin 2 → Fin 4 → Fin 8192 → ℝ}
    (he : ∀ g h a b, e (ix4 g h a b) = (Real.exp (score X g h a b - M g h a) : EReal)) (g : Fin 2) (h : Fin 4) (d : Fin 64) (a : Fin 8192) :
    output v e (sums e) (ix3 (qHead g h) d a) = ((∑ b : Fin 8192, weight X g h a b * X.v b g d : ℝ) : EReal) := by
  have hd : ∀ b, Ideal.div ((Real.exp (score X g h a b - M g h a) : ℝ) : EReal) ((∑ b : Fin 8192, Real.exp (score X g h a b - M g h a) : ℝ) : EReal) = (weight X g h a b : EReal) := fun b => by
    rw [div_real _ (sum_exp_pos X g h a (M g h a)).ne', weight_shift]
  have hs := sums_at he
  generalize sums e = l at hs
  pointwise [output, along, column]
  simp only [fin_div g h, fin_mod g h, H.v, he, hs, hd, ← EReal.coe_mul, coe_sum, mul_comm (X.v _ g d)]

theorem deltas_at (ct o : FVec Ideal S8x64x8192 .f32) (h : Fin 8) (a : Fin 8192) :
    deltas ct o (ix3 h 0 a) = ∑ d : Fin 64, ct (ix3 h d a) * o (ix3 h d a) := by
  pointwise [deltas]

theorem deltas_row (H : Reals X q k v ct) {e : FVec Ideal S2x4x8192x8192 .f32} {M : Fin 2 → Fin 4 → Fin 8192 → ℝ}
    (he : ∀ g h a b, e (ix4 g h a b) = (Real.exp (score X g h a b - M g h a) : EReal)) (g : Fin 2) (h : Fin 4) (a : Fin 8192) :
    deltas (ctT ct) (output v e (sums e)) (ix3 (qHead g h) 0 a) = (rowdot X g h a : EReal) := by
  have ho := fun d => output_at H he g h d a
  generalize output v e (sums e) = o at ho
  rw [deltas_at]
  simp only [ho, ctT_at, H.ct, ← EReal.coe_mul, coe_sum, rowdot_eq]

/-! ## They are what the call finds -/

section Entry
variable (m : (ℓ : Loc nD τ sig) → Buf (Elt Ideal) ℓ) (c : Dev nD)

abbrev argQ : FVec Ideal S8192x8x64 .f32 := m ((c.tc : Thread nD τ).loc main_arg0)
abbrev argK : FVec Ideal S8192x2x64 .f32 := m ((c.tc : Thread nD τ).loc main_arg1)
abbrev argV : FVec Ideal S8192x2x64 .f32 := m ((c.tc : Thread nD τ).loc main_arg2)
abbrev argCt : FVec Ideal S8192x8x64 .f32 := m ((c.tc : Thread nD τ).loc main_arg3)

theorem V_k : V m c main_v13 = byHead (argK m c) := by
  unfold V hostOps0; after_results_simp <;> rfl
theorem V_v : V m c main_v15 = byHead (argV m c) := by
  unfold V hostOps0; after_results_simp <;> rfl
theorem V_h : V m c main_v11 = heads (argQ m c) (argK m c) (argV m c) := by
  unfold V hostOps0; after_results_simp <;> rfl
theorem V_ct : V m c main_v41 = ctT (argCt m c) := by
  unfold V hostOps0; after_results_simp <;> rfl

abbrev theLargest : FVec Ideal S2x4x8192 .f32 := largest (scores (argQ m c) (argK m c))
abbrev theExps : FVec Ideal S2x4x8192x8192 .f32 := exps (scores (argQ m c) (argK m c)) (theLargest m c)

theorem V_lse : V m c main_v30 = logSums (theLargest m c) (sums (theExps m c)) := by
  unfold V hostOps0; after_results_simp <;> rfl
theorem V_delta : V m c main_v40 = deltas (ctT (argCt m c)) (output (argV m c) (theExps m c) (sums (theExps m c))) := by
  unfold V hostOps0; after_results_simp <;> rfl

end Entry

end Cert.Grad

end
-- ==== Proof.Grad.Point.lean ====
/- What a grid point computes, at an index, of the blocks it is handed. -/
module

public import proofs.«01_k».proof.Proof.Attn.Slabs
public import proofs.«01_k».proof.Proof.Grad.Reals
public import Idealize.ShloMosaic.Lib.Pointwise
public import Idealize.ShloMosaic.Lib.Pipeline.ValueKit

@[expose] public section

set_option maxRecDepth 16384

noncomputable section

namespace Cert.Grad

open Idealize.ShloMosaic Idealize.ShloMosaic.TcCoe
open Cert.KernelIdeal Cert.KernelIdeal.Gen Cert.KernelIdeal.Attn

/-- Row `a` of the keys' block `j`. -/
def key (j : ℕ) (a : Fin 1024) : Fin 8192 := ⟨j % 8 * 1024 + a.val, by omega⟩

/-- Column `x` of chunk `c`. -/
def query (c : ℕ) (x : Fin 256) : Fin 8192 := ⟨c % 32 * 256 + x.val, by omega⟩

/-- The blocks of head `h` of group `g` and the keys' block `j`. -/
structure Known (X : Data) (L : Fin 8192 → ℝ) (g : Fin 2) (h : Fin 4) (j : ℕ) (b : Blocks Ideal) : Prop where
  k : ∀ a d, b.k (ix3 0 a d) = (X.k (key j a) g d : EReal)
  v : ∀ a d, b.v (ix3 0 a d) = (X.v (key j a) g d : EReal)
  kT : ∀ d a, b.kT (ix3 0 d a) = (X.k (key j a) g d : EReal)
  q : ∀ d a, b.q (ix3 0 d a) = ((X.q a (qHead g h) d / Real.log 2 : ℝ) : EReal)
  ct : ∀ d a, b.ct (ix3 0 d a) = (X.ct a (qHead g h) d : EReal)
  lse : ∀ a, b.lse (ix3 0 0 a) = (L a : EReal)
  dl : ∀ a, b.dl (ix3 0 0 a) = (rowdot X g h a : EReal)
  exp : ∀ a b, Real.rpow 2 (score X g h a b / Real.log 2 - L a) = weight X g h a b

theorem chQ_at (x : Vec Ideal S1x64x8192 .bf16) (c : ℕ) (d : Fin 64) (y : Fin 256) : chQ x c (ix3 0 d y) = x (ix3 0 d (query c y)) := by
  unfold chQ cutQ query
  blk_ext []
  · show 0 + 1 * d.val = d.val
    omega
  · show 256 * (c % 32) + 1 * y.val = c % 32 * 256 + y.val
    omega

theorem chR_at (x : Vec Ideal S1x1x8192 .f32) (c : ℕ) (y : Fin 256) : chR x c (ix3 0 0 y) = x (ix3 0 0 (query c y)) := by
  unfold chR cutR query
  blk_ext []
  show 256 * (c % 32) + 1 * y.val = c % 32 * 256 + y.val
  omega

section
variable {X : Data} {L : Fin 8192 → ℝ} {g : Fin 2} {h : Fin 4} {j : ℕ} {b : Blocks Ideal} (H : Known X L g h j b) (c : ℕ)
include H

theorem sT_at (a : Fin 1024) (x : Fin 256) : sT b c (ix2 a x) = ((score X g h (query c x) (key j a) / Real.log 2 : ℝ) : EReal) := by
  pointwise [sT, k0_pay8]
  simp only [chQ_at, H.k, H.q, ← EReal.coe_mul, coe_sum, score, mul_div_assoc', Finset.sum_div]

theorem dpT_at (a : Fin 1024) (x : Fin 256) : dpT b c (ix2 a x) = (dweight X g h (query c x) (key j a) : EReal) := by
  pointwise [dpT, k0_pay9]
  simp only [chQ_at, H.v, H.ct, ← EReal.coe_mul, coe_sum, dweight, mul_comm (X.v _ g _)]

theorem p_at (a : Fin 1024) (x : Fin 256) : k0_pay13 (sT b c) (chR b.lse c) (ix2 a x) = (weight X g h (query c x) (key j a) : EReal) := by
  have hs := sT_at H c a x
  generalize sT b c = s at hs
  pointwise [k0_pay13]
  rw [hs, chR_at, H.lse, ← EReal.coe_sub]
  exact (Ideal.exp2_coe _).trans (congrArg _ (H.exp _ _))

theorem dsT_at (a : Fin 1024) (x : Fin 256) : dsT b c (ix2 a x) = (dscore X g h (query c x) (key j a) : EReal) := by
  have hs := p_at H c a x
  have hd := dpT_at H c a x
  unfold dsT
  generalize dpT b c = s at hd
  pointwise [k0_pay14]
  rw [hs, hd, chR_at, H.dl, ← EReal.coe_sub, ← EReal.coe_mul, dscore]

theorem dvC_at (d : Fin 64) (a : Fin 1024) : dvC b c (ix2 d a) = ((∑ x : Fin 256, X.ct (query c x) (qHead g h) d * weight X g h (query c x) (key j a) : ℝ) : EReal) := by
  have hs := p_at H c
  pointwise [dvC, k0_pay15]
  simp only [hs, chQ_at, H.ct, ← EReal.coe_mul, coe_sum]

theorem dkC_at (d : Fin 64) (a : Fin 1024) : dkC b c (ix2 d a) = ((∑ x : Fin 256, X.q (query c x) (qHead g h) d / Real.log 2 * dscore X g h (query c x) (key j a) : ℝ) : EReal) := by
  have hs := dsT_at H c
  unfold dsT at hs
  pointwise [dkC, k0_pay16]
  simp only [hs, chQ_at, H.q, ← EReal.coe_mul, coe_sum]

end

/-! ## The chunks together -/

/-- The chunks make up the columns. -/
theorem sum_chunks (f : Fin 8192 → ℝ) : ∑ c ∈ Finset.range 32, ∑ x : Fin 256, f (query c x) = ∑ a : Fin 8192, f a := by
  rw [← Fin.sum_univ_eq_sum_range (fun c => ∑ x : Fin 256, f (query c x)), ← Fin.sum_mul_add_fin 32 f (n := 256)]
  exact Finset.sum_congr rfl fun c _ => Finset.sum_congr rfl fun x _ => congrArg f (Fin.ext (by
    show c.val % 32 * 256 + x.val = c.val * 256 + x.val
    rw [Nat.mod_eq_of_lt c.isLt]))

/-- The blocks make up the rows. -/
theorem sum_keys (f : Fin 8192 → ℝ) : ∑ j ∈ Finset.range 8, ∑ a : Fin 1024, f (key j a) = ∑ a : Fin 8192, f a := by
  rw [← Fin.sum_univ_eq_sum_range (fun j => ∑ a : Fin 1024, f (key j a)), ← Fin.sum_mul_add_fin 8 f (n := 1024)]
  exact Finset.sum_congr rfl fun c _ => Finset.sum_congr rfl fun x _ => congrArg f (Fin.ext (by
    show c.val % 8 * 1024 + x.val = c.val * 1024 + x.val
    rw [Nat.mod_eq_of_lt c.isLt]))

/-- What a point adds to the values' gradient, -/
def addV (X : Data) (g : Fin 2) (h : Fin 4) (j : ℕ) (d : Fin 64) (a : Fin 1024) : ℝ := ∑ x : Fin 8192, X.ct x (qHead g h) d * weight X g h x (key j a)

/-- to the keys' -/
def addK (X : Data) (g : Fin 2) (h : Fin 4) (j : ℕ) (d : Fin 64) (a : Fin 1024) : ℝ := ∑ x : Fin 8192, X.q x (qHead g h) d / Real.log 2 * dscore X g h x (key j a)

/-- and to the queries'. -/
def addQ (X : Data) (g : Fin 2) (h : Fin 4) (j : ℕ) (d : Fin 64) (x : Fin 8192) : ℝ := ∑ a : Fin 1024, X.k (key j a) g d * dscore X g h x (key j a)

/-- Blocks are counted within a group. -/
theorem addQ_congr (X : Data) (g : Fin 2) (h : Fin 4) {j j' : ℕ} (e : j % 8 = j' % 8) (d : Fin 64) (x : Fin 8192) : addQ X g h j d x = addQ X g h j' d x := by
  have : key j = key j' := funext fun y => Fin.ext (by show j % 8 * 1024 + y.val = j' % 8 * 1024 + y.val; rw [e])
  unfold addQ
  rw [this]

section
variable {X : Data} {L : Fin 8192 → ℝ} {g : Fin 2} {h : Fin 4} {j : ℕ} {b : Blocks Ideal} (H : Known X L g h j b)
include H

theorem dvS_at (d : Fin 64) (a : Fin 1024) (n : ℕ) :
    dvS b n (ix2 d a) = ((∑ c ∈ Finset.range (n + 1), ∑ x : Fin 256, X.ct (query c x) (qHead g h) d * weight X g h (query c x) (key j a) : ℝ) : EReal) := by
  induction n with
  | zero => rw [Finset.sum_range_one]; exact dvC_at H 0 d a
  | succ n ih =>
    rw [Finset.sum_range_succ, EReal.coe_add, ← ih, ← dvC_at H (n + 1) d a]
    rfl

theorem dkS_at (d : Fin 64) (a : Fin 1024) (n : ℕ) :
    dkS b n (ix2 d a) = ((∑ c ∈ Finset.range (n + 1), ∑ x : Fin 256, X.q (query c x) (qHead g h) d / Real.log 2 * dscore X g h (query c x) (key j a) : ℝ) : EReal) := by
  induction n with
  | zero => rw [Finset.sum_range_one]; exact dkC_at H 0 d a
  | succ n ih =>
    rw [Finset.sum_range_succ, EReal.coe_add, ← ih, ← dkC_at H (n + 1) d a]
    rfl

theorem nextV_at (s : Vec Ideal S64x1024 .f32) (d : Fin 64) (a : Fin 1024) : nextV b s (ix2 d a) = s (ix2 d a) + (addV X g h j d a : EReal) := by
  have hs := dvS_at H d a 31
  rw [sum_chunks fun x => X.ct x (qHead g h) d * weight X g h x (key j a)] at hs
  unfold nextV addV
  generalize dvS b 31 = w at hs
  pointwise [k0_pay2]
  rw [hs]

theorem nextK_at (s : Vec Ideal S64x1024 .f32) (d : Fin 64) (a : Fin 1024) : nextK b s (ix2 d a) = s (ix2 d a) + (addK X g h j d a : EReal) := by
  have hs := dkS_at H d a 31
  rw [sum_chunks fun x => X.q x (qHead g h) d / Real.log 2 * dscore X g h x (key j a)] at hs
  unfold nextK addK
  generalize dkS b 31 = w at hs
  pointwise [k0_pay1]
  rw [hs]

theorem slab_at (i : grid0.Coords) (hi : (i 2).val = h.val) (x : Vec Ideal S4x64x8192 .f32) (c : ℕ) (hc : c < 32) (d : Fin 64) (y : Fin 256) :
    (slab b i x c).2 (ix3 (n0 := 1) 0 d y) = x (ix3 h d (query c y)) + (addQ X g h j d (query c y) : EReal) := by
  have hs := dsT_at H c
  show k0_pay17 (dsT b c) (cutD x (k0_off1 i (BitVec.ofNat 32 (256 * (c % 32)))) _) b.kT (ix3 0 d y) = _
  generalize dsT b c = w at hs
  pointwise [k0_pay17]
  have hx : cutD x (k0_off1 i (BitVec.ofNat 32 (256 * (c % 32)))) (k0_off1_inb i ⟨c % 32, Nat.mod_lt _ (by decide)⟩) (ix3 0 d y) = x (ix3 h d (query c y)) := by
    unfold cutD query
    have ho : k0_off1 i (BitVec.ofNat 32 (256 * (c % 32))) = ![(i 2).val, 0, 256 * (c % 32)] := by
      rw [off_eq, BitVec.toNat_ofNat, Nat.mod_eq_of_lt (show 256 * (c % 32) < 2 ^ 32 by omega)]
    refine congrArg x (funext fun e => Fin.ext ?_)
    show k0_off1 i (BitVec.ofNat 32 (256 * (c % 32))) e + 1 * (ix3 (n0 := 1) (n1 := 64) (n2 := 256) 0 d y e).val = _
    rw [ho]
    match e with
    | 0 => show (i 2).val + 1 * 0 = h.val; omega
    | 1 => show 0 + 1 * d.val = d.val; omega
    | 2 => show 256 * (c % 32) + 1 * y.val = c % 32 * 256 + y.val; omega
  rw [hx]
  simp only [hs, H.kT, ← EReal.coe_mul, coe_sum, addQ]

theorem updQ_at (i : grid0.Coords) (hi : (i 2).val = h.val) (x : Vec Ideal S4x64x8192 .f32) (h' : Fin 4) (d : Fin 64) (a : Fin 8192) :
    updQ b i x (ix3 h' d a) = x (ix3 h' d a) + ((if h' = h then addQ X g h' j d a else 0 : ℝ) : EReal) := by
  show (if h'.val = (i 2).val then (slab b i x (a.val / 256)).2 (ix3 (n0 := 1) 0 d ⟨a.val % 256, _⟩) else x (ix3 h' d a)) = _
  by_cases e : h' = h
  · subst e
    rw [if_pos hi.symm, if_pos rfl, slab_at H i hi x _ (by omega) d _]
    have : query (a.val / 256) ⟨a.val % 256, Nat.mod_lt _ (by decide)⟩ = a := Fin.ext (by show a.val / 256 % 32 * 256 + a.val % 256 = a.val; omega)
    rw [this]
  · rw [if_neg (fun k => e (Fin.ext (k.trans hi))), if_neg e]
    simp

end

end Cert.Grad

end
-- ==== Proof.Grad.Blocks.lean ====
/- The blocks each point reads. -/
module

public import proofs.«01_k».proof.Proof.Attn.Launch
public import proofs.«01_k».proof.Proof.Grad.Host
public import proofs.«01_k».proof.Proof.Grad.Point

@[expose] public section

set_option maxRecDepth 16384

noncomputable section

namespace Cert.Grad

open Idealize.ShloMosaic Idealize.ShloMosaic.TcCoe
open Cert.KernelIdeal Cert.KernelIdeal.Gen Cert.KernelIdeal.Attn

/-- The group, -/
def gr (n : ℕ) : Fin 2 := ⟨n / 32 % 2, Nat.mod_lt _ (by decide)⟩

/-- and the head within it, of a point. -/
def hd (n : ℕ) : Fin 4 := ⟨n % 4, Nat.mod_lt _ (by decide)⟩

theorem idx : ∀ t : Fin cfg0.N, win0_0.index t = ![t.val / 32, t.val / 4 % 8, 0] ∧ win0_1.index t = ![t.val / 32, t.val / 4 % 8, 0]
    ∧ win0_2.index t = ![8 + t.val / 32, 0, t.val / 4 % 8] ∧ win0_3.index t = ![t.val / 32 * 4 + t.val % 4, 0, 0]
    ∧ win0_4.index t = ![t.val / 32 * 4 + t.val % 4, 0, 0] ∧ win0_5.index t = ![t.val / 32 * 4 + t.val % 4, 0, 0]
    ∧ win0_6.index t = ![t.val / 32 * 4 + t.val % 4, 0, 0] := (by decide +kernel : ∀ t : Fin grid0.N, _)

variable (m : (ℓ : Loc nD τ sig) → Buf (Elt Ideal) ℓ) (c : Dev nD)

/-! ## The blocks of a point -/

theorem read_0 (t : Fin cfg0.N) (a : Fin 1024) (d : Fin 64) : (iblk m c 0 t : Vec Ideal S1x1024x64 .bf16) (ix3 0 a d) = (V m c main_v13 : FVec Ideal S2x8192x64 .bf16) (ix3 (gr t.val) (key (t.val / 4) a) d) := by
  have := pt t
  unfold gr key
  blk_ext [iblk, idx t]
  all_goals omega

theorem read_1 (t : Fin cfg0.N) (a : Fin 1024) (d : Fin 64) : (iblk m c 1 t : Vec Ideal S1x1024x64 .bf16) (ix3 0 a d) = (V m c main_v15 : FVec Ideal S2x8192x64 .bf16) (ix3 (gr t.val) (key (t.val / 4) a) d) := by
  have := pt t
  unfold gr key
  blk_ext [iblk, idx t]
  all_goals omega

theorem read_2 (t : Fin cfg0.N) (d : Fin 64) (a : Fin 1024) : (iblk m c 2 t : Vec Ideal S1x64x1024 .bf16) (ix3 0 d a) = (V m c main_v11 : FVec Ideal S12x64x8192 .bf16) (ix3 ⟨8 + (gr t.val).val, by omega⟩ d (key (t.val / 4) a)) := by
  have := pt t
  unfold gr key
  blk_ext [iblk, idx t]
  all_goals omega

theorem read_3 (t : Fin cfg0.N) (d : Fin 64) (a : Fin 8192) : (iblk m c 3 t : Vec Ideal S1x64x8192 .bf16) (ix3 0 d a) = (V m c main_v11 : FVec Ideal S12x64x8192 .bf16) (ix3 (upto (qHead (gr t.val) (hd t.val))) d a) := by
  have := pt t
  unfold upto qHead gr hd
  blk_ext [iblk, idx t]
  all_goals omega

theorem read_4 (t : Fin cfg0.N) (d : Fin 64) (a : Fin 8192) : (iblk m c 4 t : Vec Ideal S1x64x8192 .bf16) (ix3 0 d a) = (V m c main_v41 : FVec Ideal S8x64x8192 .bf16) (ix3 (qHead (gr t.val) (hd t.val)) d a) := by
  have := pt t
  unfold qHead gr hd
  blk_ext [iblk, idx t]
  all_goals omega

theorem read_5 (t : Fin cfg0.N) (a : Fin 8192) : (iblk m c 5 t : Vec Ideal S1x1x8192 .f32) (ix3 0 0 a) = (V m c main_v30 : FVec Ideal S8x1x8192 .f32) (ix3 (qHead (gr t.val) (hd t.val)) 0 a) := by
  have := pt t
  unfold qHead gr hd
  blk_ext [iblk, idx t]
  all_goals omega

theorem read_6 (t : Fin cfg0.N) (a : Fin 8192) : (iblk m c 6 t : Vec Ideal S1x1x8192 .f32) (ix3 0 0 a) = (V m c main_v40 : FVec Ideal S8x1x8192 .f32) (ix3 (qHead (gr t.val) (hd t.val)) 0 a) := by
  have := pt t
  unfold qHead gr hd
  blk_ext [iblk, idx t]
  all_goals omega

variable {X : Data} (H : Reals X (argQ m c) (argK m c) (argV m c) (argCt m c))
include H

theorem at_0 (t : Fin cfg0.N) (a : Fin 1024) (d : Fin 64) : (blocks m c t).k (ix3 0 a d) = (X.k (key (t.val / 4) a) (gr t.val) d : EReal) := by
  unfold blocks
  dsimp only
  rw [read_0, V_k, byHead_at, H.k]

theorem at_1 (t : Fin cfg0.N) (a : Fin 1024) (d : Fin 64) : (blocks m c t).v (ix3 0 a d) = (X.v (key (t.val / 4) a) (gr t.val) d : EReal) := by
  unfold blocks
  dsimp only
  rw [read_1, V_v, byHead_at, H.v]

theorem at_2 (t : Fin cfg0.N) (d : Fin 64) (a : Fin 1024) : (blocks m c t).kT (ix3 0 d a) = (X.k (key (t.val / 4) a) (gr t.val) d : EReal) := by
  unfold blocks
  dsimp only
  rw [read_2, V_h, heads_k H]

theorem at_3 (t : Fin cfg0.N) (d : Fin 64) (a : Fin 8192) : (blocks m c t).q (ix3 0 d a) = ((X.q a (qHead (gr t.val) (hd t.val)) d / Real.log 2 : ℝ) : EReal) := by
  unfold blocks
  dsimp only
  rw [read_3, V_h, heads_q H]

theorem at_4 (t : Fin cfg0.N) (d : Fin 64) (a : Fin 8192) : (blocks m c t).ct (ix3 0 d a) = (X.ct a (qHead (gr t.val) (hd t.val)) d : EReal) := by
  unfold blocks
  dsimp only
  rw [read_4, V_ct, ctT_at, H.ct]

theorem at_5 {M : Fin 2 → Fin 4 → Fin 8192 → ℝ} (hM : ∀ g h a, theLargest m c (ix3 g h a) = (M g h a : EReal)) (t : Fin cfg0.N) (a : Fin 8192) :
    (blocks m c t).lse (ix3 0 0 a) = (((M (gr t.val) (hd t.val) a + Real.log (∑ b : Fin 8192, Real.exp (score X (gr t.val) (hd t.val) a b - M (gr t.val) (hd t.val) a))) / Real.log 2 : ℝ) : EReal) := by
  unfold blocks
  dsimp only
  rw [read_5, V_lse, logSums_at (exps_at (scores_at H) hM) hM]

theorem at_6 {M : Fin 2 → Fin 4 → Fin 8192 → ℝ} (hM : ∀ g h a, theLargest m c (ix3 g h a) = (M g h a : EReal)) (t : Fin cfg0.N) (a : Fin 8192) :
    (blocks m c t).dl (ix3 0 0 a) = (rowdot X (gr t.val) (hd t.val) a : EReal) := by
  unfold blocks
  dsimp only
  rw [read_6, V_delta, deltas_row H (exps_at (scores_at H) hM)]

/-- Every point is handed the blocks of its head and of its keys. -/
theorem known : ∃ L : Fin 2 → Fin 4 → Fin 8192 → ℝ, ∀ t : Fin cfg0.N, Known X (L (gr t.val) (hd t.val)) (gr t.val) (hd t.val) (t.val / 4) (blocks m c t) := by
  have hM := fun g h a => largest_at (scores_at H) g h a
  choose M hM using hM
  obtain ⟨L, hL⟩ : ∃ L : Fin 2 → Fin 4 → Fin 8192 → ℝ, ∀ g h a, L g h a = (M g h a + Real.log (∑ b : Fin 8192, Real.exp (score X g h a b - M g h a))) / Real.log 2 := ⟨_, fun _ _ _ => rfl⟩
  exact ⟨L, fun t => ⟨at_0 m c H t, at_1 m c H t, at_2 m c H t, at_3 m c H t, at_4 m c H t, fun a => by rw [hL]; exact at_5 m c H hM t a, at_6 m c H hM t,
    fun a b => by rw [hL]; exact weight_exp2 X _ _ a b _⟩⟩

end Cert.Grad

end
-- ==== Proof.Grad.Carried.lean ====
/- What the points carry. -/
module

public import proofs.«01_k».proof.Proof.Grad.Blocks

@[expose] public section

set_option maxRecDepth 16384

noncomputable section

namespace Cert.Grad

open Idealize.ShloMosaic Idealize.ShloMosaic.TcCoe
open Cert.KernelIdeal Cert.KernelIdeal.Gen Cert.KernelIdeal.Attn

variable (m : (ℓ : Loc nD τ sig) → Buf (Elt Ideal) ℓ) (c : Dev nD) {X : Data} (H : Reals X (argQ m c) (argK m c) (argV m c) (argCt m c))
include H

/-! ## What is carried -/

omit H in
theorem into_eq (n : ℕ) (hn : n + 1 < cfg0.N) : into m c ⟨n + 1, hn⟩ = carried m c n (Nat.lt_of_succ_lt hn) := rfl

omit H in
theorem zero : Ideal.ofBits .f32 0x00000000#32 = ((0 : ℝ) : EReal) := by
  simp [Ideal.ofBits, Ideal.ieee]

omit H in
theorem clearV (d : Fin 64) (a : Fin 1024) : k0_pay7 (F := Ideal) (ix2 d a) = 0 := by pointwise [k0_pay7]
omit H in
theorem clearK (d : Fin 64) (a : Fin 1024) : k0_pay6 (F := Ideal) (ix2 d a) = 0 := by pointwise [k0_pay6]
omit H in
theorem clearQ (h : Fin 4) (d : Fin 64) (a : Fin 8192) : k0_pay5 (F := Ideal) (ix3 h d a) = 0 := by pointwise [k0_pay5]

theorem carriedV (n : ℕ) (hn : n < cfg0.N) (d : Fin 64) (a : Fin 1024) :
    (carried m c n hn).V (ix2 d a) = ((∑ h ∈ Finset.range (n % 4 + 1), addV X (gr n) (hd h) (n / 4) d a : ℝ) : EReal) := by
  obtain ⟨L, hL⟩ := known m c H
  induction n with
  | zero =>
    rw [carried_eq m c ⟨0, hn⟩]
    show nextV (blocks m c ⟨0, hn⟩) (fromV (grid0.coords ⟨0, hn⟩) _) (ix2 d a) = _
    rw [nextV_at (hL ⟨0, hn⟩), fromV, if_pos ((head_iff _).mpr rfl)]
    rw [clearV, zero_add]
    rw [Finset.sum_range_one]
  | succ n ih =>
    rw [carried_eq m c ⟨n + 1, hn⟩]
    show nextV (blocks m c ⟨n + 1, hn⟩) (fromV (grid0.coords ⟨n + 1, hn⟩) (into m c ⟨n + 1, hn⟩).V) (ix2 d a) = _
    rw [nextV_at (hL ⟨n + 1, hn⟩), fromV, into_eq]
    by_cases h4 : (n + 1) % 4 = 0
    · rw [if_pos ((head_iff _).mpr h4), h4]
      rw [clearV, zero_add]
      rw [Finset.sum_range_one, show hd (n + 1) = hd 0 from Fin.ext h4]
    · rw [if_neg (fun e => h4 ((head_iff _).mp e)), ih (Nat.lt_of_succ_lt hn),
        show (n + 1) % 4 = n % 4 + 1 by omega, Finset.sum_range_succ _ (n % 4 + 1), EReal.coe_add, show gr n = gr (n + 1) from Fin.ext (by show n / 32 % 2 = (n + 1) / 32 % 2; omega),
        show n / 4 = (n + 1) / 4 by omega, show hd (n % 4 + 1) = hd (n + 1) from Fin.ext (by show (n % 4 + 1) % 4 = (n + 1) % 4; omega)]

theorem carriedK (n : ℕ) (hn : n < cfg0.N) (d : Fin 64) (a : Fin 1024) :
    (carried m c n hn).K (ix2 d a) = ((∑ h ∈ Finset.range (n % 4 + 1), addK X (gr n) (hd h) (n / 4) d a : ℝ) : EReal) := by
  obtain ⟨L, hL⟩ := known m c H
  induction n with
  | zero =>
    rw [carried_eq m c ⟨0, hn⟩]
    show nextK (blocks m c ⟨0, hn⟩) (fromK (grid0.coords ⟨0, hn⟩) _) (ix2 d a) = _
    rw [nextK_at (hL ⟨0, hn⟩), fromK, if_pos ((head_iff _).mpr rfl)]
    rw [clearK, zero_add]
    rw [Finset.sum_range_one]
  | succ n ih =>
    rw [carried_eq m c ⟨n + 1, hn⟩]
    show nextK (blocks m c ⟨n + 1, hn⟩) (fromK (grid0.coords ⟨n + 1, hn⟩) (into m c ⟨n + 1, hn⟩).K) (ix2 d a) = _
    rw [nextK_at (hL ⟨n + 1, hn⟩), fromK, into_eq]
    by_cases h4 : (n + 1) % 4 = 0
    · rw [if_pos ((head_iff _).mpr h4), h4]
      rw [clearK, zero_add]
      rw [Finset.sum_range_one, show hd (n + 1) = hd 0 from Fin.ext h4]
    · rw [if_neg (fun e => h4 ((head_iff _).mp e)), ih (Nat.lt_of_succ_lt hn),
        show (n + 1) % 4 = n % 4 + 1 by omega, Finset.sum_range_succ _ (n % 4 + 1), EReal.coe_add, show gr n = gr (n + 1) from Fin.ext (by show n / 32 % 2 = (n + 1) / 32 % 2; omega),
        show n / 4 = (n + 1) / 4 by omega, show hd (n % 4 + 1) = hd (n + 1) from Fin.ext (by show (n % 4 + 1) % 4 = (n + 1) % 4; omega)]

theorem stepQ (t : Fin cfg0.N) (h : Fin 4) (d : Fin 64) (a : Fin 8192) : (carried m c t.val t.isLt).Q (ix3 h d a)
    = (if t.val % 32 = 0 then 0 else (into m c t).Q (ix3 h d a)) + ((if h = hd t.val then addQ X (gr t.val) h (t.val % 32 / 4) d a else 0 : ℝ) : EReal) := by
  obtain ⟨L, hL⟩ := known m c H
  have hco : (grid0.coords t 2).val = (hd t.val).val := (co2 t).trans (by show t.val / 1 % 4 = t.val % 4; rw [Nat.div_one])
  rw [carried_eq]
  show updQ (blocks m c t) (grid0.coords t) (fromQ (grid0.coords t) (into m c t).Q) (ix3 h d a) = _
  rw [updQ_at (hL t) _ hco, fromQ, addQ_congr X (gr t.val) h (show t.val / 4 % 8 = t.val % 32 / 4 % 8 by omega) d a]
  by_cases h32 : t.val % 32 = 0
  · rw [if_pos ((first_iff _).mpr h32), if_pos h32, clearQ]
  · rw [if_neg (fun k => h32 ((first_iff _).mp k)), if_neg h32]

theorem carriedQ (n : ℕ) (hn : n < cfg0.N) (h : Fin 4) (d : Fin 64) (a : Fin 8192) :
    (carried m c n hn).Q (ix3 h d a) = ((∑ j ∈ Finset.range ((n % 32 + 4 - h.val) / 4), addQ X (gr n) h j d a : ℝ) : EReal) := by
  have hh : h.val < 4 := h.isLt
  have hs := stepQ m c H ⟨n, hn⟩ h d a
  dsimp only at hs
  induction n with
  | zero =>
    rw [if_pos (Nat.zero_mod _), zero_add] at hs
    rw [hs]
    by_cases e : h = hd 0
    · have ev : h.val = 0 := congrArg Fin.val e
      rw [if_pos e, ev, show (0 % 32 + 4 - 0) / 4 = 0 + 1 from rfl, Finset.sum_range_one, Nat.zero_mod, Nat.zero_div]
    · have ev : h.val ≠ 0 := fun k => e (Fin.ext k)
      rw [if_neg e, show (0 % 32 + 4 - h.val) / 4 = 0 by omega, Finset.sum_range_zero]
  | succ n ih =>
    have ih' := ih (Nat.lt_of_succ_lt hn) (stepQ m c H ⟨n, Nat.lt_of_succ_lt hn⟩ h d a)
    rw [into_eq, ih'] at hs
    rw [hs]
    have hN : n + 1 < 64 := pt ⟨n + 1, hn⟩
    by_cases e : h = hd (n + 1)
    · have ev : h.val = (n + 1) % 4 := congrArg Fin.val e
      rw [if_pos e]
      by_cases h32 : (n + 1) % 32 = 0
      · rw [if_pos h32, zero_add, show ((n + 1) % 32 + 4 - h.val) / 4 = 0 + 1 by omega, Finset.sum_range_one, show (n + 1) % 32 / 4 = 0 by omega]
      · rw [if_neg h32, show ((n + 1) % 32 + 4 - h.val) / 4 = (n + 1) % 32 / 4 + 1 by omega,
          Finset.sum_range_succ, EReal.coe_add, show (n % 32 + 4 - h.val) / 4 = (n + 1) % 32 / 4 by omega, show gr n = gr (n + 1) from Fin.ext (by show n / 32 % 2 = (n + 1) / 32 % 2; omega)]
    · have ev : h.val ≠ (n + 1) % 4 := fun k => e (Fin.ext k)
      rw [if_neg e, EReal.coe_zero, add_zero]
      by_cases h32 : (n + 1) % 32 = 0
      · rw [if_pos h32, show ((n + 1) % 32 + 4 - h.val) / 4 = 0 by omega, Finset.sum_range_zero, EReal.coe_zero]
      · rw [if_neg h32, show ((n + 1) % 32 + 4 - h.val) / 4 = (n % 32 + 4 - h.val) / 4 by omega, show gr n = gr (n + 1) from Fin.ext (by show n / 32 % 2 = (n + 1) / 32 % 2; omega)]

end Cert.Grad

end
-- ==== Proof.Grad.Final.lean ====
/- What the call leaves: the three gradients. -/
module

public import proofs.«01_k».proof.Proof.Grad.Carried

@[expose] public section

set_option maxRecDepth 16384

noncomputable section

namespace Cert.Grad

open Idealize.ShloMosaic Idealize.ShloMosaic.TcCoe
open Cert.KernelIdeal Cert.KernelIdeal.Gen Cert.KernelIdeal.Attn

/-- The gradient of the keys, -/
def arrK (X : Data) : FVec Ideal S2x64x8192 .f32 := fun i => (gradK X (i 0) (i 1) (i 2) : EReal)

/-- of the values -/
def arrV (X : Data) : FVec Ideal S2x64x8192 .f32 := fun i => (gradV X (i 0) (i 1) (i 2) : EReal)

/-- A head's group, -/
def grp (n : Fin 8) : Fin 2 := ⟨n.val / 4, by omega⟩

/-- its place there, -/
def mem (n : Fin 8) : Fin 4 := ⟨n.val % 4, by omega⟩

/-- and the gradient of the queries. -/
def arrQ (X : Data) : FVec Ideal S8x64x8192 .f32 := fun i => (gradQ X (grp (i 0)) (mem (i 0)) (i 1) (i 2) : EReal)

/-! ## Sums over the points of a block -/

theorem sumV (X : Data) (g : Fin 2) (j : ℕ) (d : Fin 64) (a : Fin 1024) : ∑ h ∈ Finset.range 4, addV X g (hd h) j d a = gradV X g d (key j a) := by
  rw [← Fin.sum_univ_eq_sum_range (fun h => addV X g (hd h) j d a)]
  exact Finset.sum_congr rfl fun h _ => by rw [show hd h.val = h from Fin.ext (Nat.mod_eq_of_lt h.isLt)]; rfl

theorem sumK (X : Data) (g : Fin 2) (j : ℕ) (d : Fin 64) (a : Fin 1024) : (∑ h ∈ Finset.range 4, addK X g (hd h) j d a) * Real.log 2 = gradK X g d (key j a) := by
  rw [← Fin.sum_univ_eq_sum_range (fun h => addK X g (hd h) j d a), Finset.sum_mul]
  refine Finset.sum_congr rfl fun h _ => ?_
  rw [show hd h.val = h from Fin.ext (Nat.mod_eq_of_lt h.isLt), addK, Finset.sum_mul]
  refine Finset.sum_congr rfl fun x _ => ?_
  rw [mul_right_comm, div_mul_cancel₀ _ log_two_ne]

theorem sumQ (X : Data) (g : Fin 2) (h : Fin 4) (d : Fin 64) (x : Fin 8192) : ∑ j ∈ Finset.range 8, addQ X g h j d x = gradQ X g h d x :=
  sum_keys fun b => X.k b g d * dscore X g h x b

theorem payK (s : FVec Ideal S64x1024 .f32) (d : Fin 64) (a : Fin 1024) : k0_pay3 s (ix3 0 d a) = s (ix2 d a) * (Real.log 2 : EReal) := by
  pointwise [k0_pay3]
  rfl

theorem payV (s : FVec Ideal S64x1024 .f32) (d : Fin 64) (a : Fin 1024) : k0_pay4 s (ix3 0 d a) = s (ix2 d a) := by
  pointwise [k0_pay4]

theorem idxO : ∀ t : Fin cfg0.N, win0_7.index t = ![t.val / 32, 0, t.val / 4 % 8] ∧ win0_8.index t = ![t.val / 32, 0, t.val / 4 % 8]
    ∧ win0_9.index t = ![t.val / 32, 0, 0] := (by decide +kernel : ∀ t : Fin grid0.N, _)

variable (m : (ℓ : Loc nD τ sig) → Buf (Elt Ideal) ℓ) (c : Dev nD) {X : Data} (H : Reals X (argQ m c) (argK m c) (argV m c) (argCt m c))

theorem place_7 (t : Fin cfg0.N) (d : Fin 64) (a : Fin 1024) : arrK X (((cfg0.win 7).blk t).view.emb (ix3 0 d a)) = arrK X (ix3 (gr t.val) d (key (t.val / 4) a)) := by
  have := pt t
  unfold gr key
  blk_ext [idxO t]
  all_goals omega

theorem place_8 (t : Fin cfg0.N) (d : Fin 64) (a : Fin 1024) : arrV X (((cfg0.win 8).blk t).view.emb (ix3 0 d a)) = arrV X (ix3 (gr t.val) d (key (t.val / 4) a)) := by
  have := pt t
  unfold gr key
  blk_ext [idxO t]
  all_goals omega

theorem place_9 (t : Fin cfg0.N) (h : Fin 4) (d : Fin 64) (a : Fin 8192) : arrQ X (((cfg0.win 9).blk t).view.emb (ix3 h d a)) = arrQ X (ix3 (qHead (gr t.val) h) d a) := by
  have := pt t
  unfold gr qHead
  blk_ext [idxO t]
  all_goals omega

include H

theorem out_K (t : Fin cfg0.N) (h3 : t.val % 4 = 3) (d : Fin 64) (a : Fin 1024) :
    k0_pay3 (carried m c t.val t.isLt).K (ix3 0 d a) = arrK X (ix3 (gr t.val) d (key (t.val / 4) a)) := by
  rw [payK, carriedK m c H, h3, ← EReal.coe_mul, sumK]
  rfl

theorem out_V (t : Fin cfg0.N) (h3 : t.val % 4 = 3) (d : Fin 64) (a : Fin 1024) :
    k0_pay4 (carried m c t.val t.isLt).V (ix3 0 d a) = arrV X (ix3 (gr t.val) d (key (t.val / 4) a)) := by
  rw [payV, carriedV m c H, h3, sumV]
  rfl

theorem out_Q (t : Fin cfg0.N) (h31 : t.val % 32 = 31) (h : Fin 4) (d : Fin 64) (a : Fin 8192) :
    (carried m c t.val t.isLt).Q (ix3 h d a) = arrQ X (ix3 (qHead (gr t.val) h) d a) := by
  have hh : h.val < 4 := h.isLt
  rw [carriedQ m c H, h31, show (31 + 4 - h.val) / 4 = 8 by omega, sumQ]
  have e1 : grp (qHead (gr t.val) h) = gr t.val := Fin.ext (by show ((gr t.val).val * 4 + h.val) / 4 = (gr t.val).val; omega)
  have e2 : mem (qHead (gr t.val) h) = h := Fin.ext (by show ((gr t.val).val * 4 + h.val) % 4 = h.val; omega)
  show _ = ((gradQ X (grp (qHead (gr t.val) h)) (mem (qHead (gr t.val) h)) d a : ℝ) : EReal)
  rw [e1, e2]

theorem final_K : (dats m 0 c).arrAt 7 (cfgs 0).N = arrK X := by
  refine (dats m 0 c).arrAt_eq_of_covers 7 _ (by decide +kernel) fun t hf y => ?_
  have h3 := (flush0_7 t).mp hf
  blk_simp
  rw [after_7]
  idx_vars y
  obtain rfl : y0 = 0 := Subsingleton.elim _ _
  exact (out_K m c H t h3 y1 y2).trans (place_7 t y1 y2).symm

theorem final_V : (dats m 0 c).arrAt 8 (cfgs 0).N = arrV X := by
  refine (dats m 0 c).arrAt_eq_of_covers 8 _ (by decide +kernel) fun t hf y => ?_
  have h3 := (flush0_8 t).mp hf
  blk_simp
  rw [after_8]
  idx_vars y
  obtain rfl : y0 = 0 := Subsingleton.elim _ _
  exact (out_V m c H t h3 y1 y2).trans (place_8 t y1 y2).symm

theorem final_Q : (dats m 0 c).arrAt 9 (cfgs 0).N = arrQ X := by
  refine (dats m 0 c).arrAt_eq_of_covers 9 _ (by decide +kernel) fun t hf y => ?_
  have h31 := (flush0_9 t).mp hf
  blk_simp
  rw [after_9]
  idx_vars y
  exact (out_Q m c H t h31 y0 y1 y2).trans (place_9 t y0 y1 y2).symm

end Cert.Grad

end
-- ==== Proof.Grad.Equal.lean ====
/- The call's results are the reference's. -/
module

public import proofs.«01_k».proof.Proof.Grad.Final

@[expose] public section

noncomputable section

namespace Cert.Grad

open Idealize.ShloMosaic Idealize.ShloMosaic.TcCoe

section Reference

open Cert.ReferenceIdeal

variable (m : (ℓ : Loc nD τ sig) → Buf (Elt Ideal) ℓ) (c : Dev nD) {X : Data}
  (H : Reals X (m ((c.tc : Thread nD τ).loc main_arg0)) (m ((c.tc : Thread nD τ).loc main_arg1)) (m ((c.tc : Thread nD τ).loc main_arg2)) (m ((c.tc : Thread nD τ).loc main_arg3)))
include H

theorem ref_K : Value.res_main_v57 m c = arrK X := by
  funext i
  idx_vars i
  exact refK_at m c H i0 i1 i2

theorem ref_V : outV (refExps m c) (sums (refExps m c)) (m ((c.tc : Thread nD τ).loc main_arg3)) = arrV X := by
  funext i
  idx_vars i
  exact refV_at m c H i0 i1 i2

theorem ref_Q : Value.res_main_v59 m c = arrQ X := by
  funext i
  idx_vars i
  have h : qHead (grp i0) (mem i0) = i0 := Fin.ext (Nat.div_add_mod' i0.val 4)
  have := refQ_at m c H (grp i0) (mem i0) i1 i2
  rw [h] at this
  exact this

end Reference

end Cert.Grad

end
-- ==== Proof.Product.Sums.lean ====
/- What the products share: the corner of a block, and a sum over the sequence in blocks of 1024 tokens. -/
module

public import Idealize.ShloMosaic.Lib.Pointwise
public import Idealize.ShloMosaic.Lib.Pipeline.ValueKit
public import Idealize.ShloMosaic.Lib.Claim
public import Idealize.ShloMosaic.Lib.Quiescent

@[expose] public section

noncomputable section

namespace Cert.Product

theorem origin : (![0, 0] : Fin 2 → ℕ) = fun _ => 0 := funext fun a => by fin_cases a <;> rfl

/-- Token `a` of block `s`. -/
def token (s : ℕ) (a : Fin 1024) : Fin 8192 := ⟨s % 8 * 1024 + a.val, by omega⟩

/-- The sum over the eight blocks is the sum over the sequence. -/
theorem sum_tokens (f : Fin 8192 → EReal) : ∑ s ∈ Finset.range 8, ∑ a : Fin 1024, f (token s a) = ∑ k : Fin 8192, f k := by
  rw [Finset.sum_range, ← Finset.sum_product', ← Equiv.sum_comp (finProdFinEquiv (m := 8) (n := 1024)) f]
  refine Finset.sum_congr rfl fun p _ => congrArg f (Fin.ext ?_)
  have := p.1.isLt
  show p.1.val % 8 * 1024 + p.2.val = p.2.val + 1024 * p.1.val
  omega

/-- A running sum that starts afresh at every eighth point, at a point. -/
theorem running {N : ℕ} (f : (n : ℕ) → n < N → EReal) (p : ℕ → EReal) (h0 : ∀ n h, n % 8 = 0 → f n h = p n)
    (h1 : ∀ n (h : n + 1 < N), (n + 1) % 8 ≠ 0 → f (n + 1) h = f n (Nat.lt_of_succ_lt h) + p (n + 1)) (n : ℕ) (h : n < N) :
    f n h = ∑ s ∈ Finset.range (n % 8 + 1), p (n / 8 * 8 + s) := by
  induction n with
  | zero => rw [h0 0 h rfl, show 0 % 8 + 1 = 1 from rfl, Finset.sum_range_one]
  | succ n ih =>
    by_cases h8 : (n + 1) % 8 = 0
    · rw [h0 _ h h8, h8, Finset.sum_range_one, show (n + 1) / 8 * 8 + 0 = n + 1 by omega]
    · rw [h1 n h h8, ih, show (n + 1) % 8 = n % 8 + 1 by omega, Finset.sum_range_succ _ (n % 8 + 1), show (n + 1) / 8 = n / 8 by omega,
        show n / 8 * 8 + (n % 8 + 1) = n + 1 by omega]

theorem token_mod (q s : ℕ) (a : Fin 1024) : token (q * 8 + s) a = token s a := Fin.ext (by show (q * 8 + s) % 8 * 1024 + a.val = s % 8 * 1024 + a.val; omega)

end Cert.Product

end
-- ==== Proof.Product.WeightUp.lean ====
/- The gradient of w_gate and of w_up: a product over the sequence, in eight blocks of 1024 tokens that a scratch adds up. -/
module

public import proofs.«01_k».proof.Defs
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Product.Sums

@[expose] public section

set_option maxRecDepth 16384

noncomputable section

namespace Cert.Product.WeightUp

open Idealize.ShloMosaic Idealize.ShloMosaic.TcCoe Idealize.SL.Sem
open Cert.Kernel2Ideal Cert.Kernel2Ideal.Gen

/-- Input, transposed, times cotangent. -/
def product (x : FVec Ideal S8192x1024 .f32) (ct : FVec Ideal S8192x2816 .f32) : FVec Ideal S1024x2816 .bf16 :=
  fun i => ∑ k : Fin 8192, x (ix2 k (i 0)) * ct (ix2 k (i 1))

/-! ## What a grid point computes -/

theorem pay (x : Vec Ideal S1024x1024 .bf16) (y : Vec Ideal S1024x1408 .bf16) (a : Fin 1024) (b : Fin 1408) :
    k0_pay1 x y (ix2 a b) = ∑ k : Fin 1024, x (ix2 k a) * y (ix2 k b) := by
  pointwise [k0_pay1]

variable (c : Dev nD) (i : grid0.Coords) (a3 : Memref sig .tc .vmem S1024x1024 .bf16) (h3 : a3.IsWhole) (a4 : Memref sig .tc .vmem S1024x1408 .bf16) (h4 : a4.IsWhole)
  (a5 : Memref sig .tc .vmem S1024x1408 .bf16) (h5 : a5.IsWhole) (a6 : Memref sig .tc .vmem S1024x1408 .f32) (h6 : a6.IsWhole)
  (x : Vec Ideal S1024x1024 .bf16) (y : Vec Ideal S1024x1408 .bf16) (s : Vec Ideal S1024x1408 .f32)

theorem first (hc0 : cond0_0 i) (hc1 : ¬cond0_1 i) (hc2 : ¬cond0_2 i) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero origin]
  unfold k0_pay2
  simp only [View.readAt_eq_ld, h3.read_unread, h4.read_unread, View.ld_unit_zero (S := S1024x1024) origin, View.ld_unit_zero (S := S1024x1408) origin, shapeCast_self]

theorem next (hc0 : ¬cond0_0 i) (hc1 : cond0_1 i) (hc2 : ¬cond0_2 i) : sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero origin]
  unfold k0_pay3
  simp only [View.readAt_eq_ld, h3.read_unread, h4.read_unread, h6.read_unread, View.ld_unit_zero (S := S1024x1024) origin, View.ld_unit_zero (S := S1024x1408) origin, shapeCast_self]

theorem last (hc0 : ¬cond0_0 i) (hc1 : cond0_1 i) (hc2 : cond0_2 i) : sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero origin]
  unfold k0_pay3
  simp only [View.readAt_eq_ld, h3.read_unread, h4.read_unread, h6.read_unread, View.ld_unit_zero (S := S1024x1024) origin, View.ld_unit_zero (S := S1024x1408) origin, shapeCast_self]

theorem out (hc0 : ¬cond0_0 i) (hc1 : cond0_1 i) (hc2 : cond0_2 i) : out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero origin, View.readCov_unit_zero (S := S1024x1408) _ origin]
  unfold k0_pay3
  simp only [View.readAt_eq_ld, h3.read_unread, h4.read_unread, h6.read_unread, View.ld_unit_zero (S := S1024x1024) origin, View.ld_unit_zero (S := S1024x1408) origin, shapeCast_self]

/-! ## The blocks of a point -/

/-- Column `b` of half `q`. -/
def col (q : ℕ) (b : Fin 1408) : Fin 2816 := ⟨q % 2 * 1408 + b.val, by omega⟩

theorem pt (t : Fin cfg0.N) : t.val < 16 := lt_of_lt_of_eq t.isLt N_0

theorem idx : ∀ t : Fin cfg0.N, win0_0.index t = ![t.val % 8, 0] ∧ win0_1.index t = ![t.val % 8, t.val / 8] ∧ win0_2.index t = ![0, t.val / 8] :=
  (by decide +kernel : ∀ t : Fin grid0.N, _)

variable (m : (ℓ : Loc nD τ sig) → Buf (Elt Ideal) ℓ)

abbrev argX : FVec Ideal S8192x1024 .f32 := m ((c.tc : Thread nD τ).loc main_arg0)
abbrev argCt : FVec Ideal S8192x2816 .f32 := m ((c.tc : Thread nD τ).loc main_arg2)

theorem V_0 : (V m c main_v0 : FVec Ideal S8192x1024 .bf16) = argX c m := by
  unfold V hostOps0
  after_results_simp
  rfl

theorem V_1 : (V m c main_v1 : FVec Ideal S8192x2816 .bf16) = argCt c m := by
  unfold V hostOps0
  after_results_simp
  rfl

theorem read_0 (t : Fin cfg0.N) (k : Fin 1024) (a : Fin 1024) : (iblk m c 0 t : Vec Ideal S1024x1024 .bf16) (ix2 k a) = argX c m (ix2 (token t.val k) a) := by
  have := pt t
  rw [← V_0]
  unfold token
  blk_ext [iblk, idx t]
  all_goals omega

theorem read_1 (t : Fin cfg0.N) (k : Fin 1024) (b : Fin 1408) : (iblk m c 1 t : Vec Ideal S1024x1408 .bf16) (ix2 k b) = argCt c m (ix2 (token t.val k) (col (t.val / 8) b)) := by
  have := pt t
  rw [← V_1]
  unfold token col
  blk_ext [iblk, idx t]
  all_goals omega

theorem place (t : Fin cfg0.N) (a : Fin 1024) (b : Fin 1408) (G : FVec Ideal S1024x2816 .bf16) :
    G (((cfg0.win 2).blk t).view.emb (ix2 a b)) = G (ix2 a (col (t.val / 8) b)) := by
  have := pt t
  unfold col
  blk_ext [idx t]
  all_goals omega

/-! ## The sums -/

/-- What point `n` adds. -/
def part (a : Fin 1024) (b : Fin 1408) (n : ℕ) : EReal := ∑ k : Fin 1024, argX c m (ix2 (token n k) a) * argCt c m (ix2 (token n k) (col (n / 8) b))

theorem part_eq (t : Fin cfg0.N) (a : Fin 1024) (b : Fin 1408) : k0_pay1 (F := Ideal) (iblk m c 0 t) (iblk m c 1 t) (ix2 a b) = part c m a b t.val := by
  rw [pay]
  simp only [read_0, read_1, part]

theorem scratch (a : Fin 1024) (b : Fin 1408) (n : ℕ) (hn : n < cfg0.N) :
    (outsAt0 m c n hn).2 (ix2 a b) = ∑ s ∈ Finset.range (n % 8 + 1), part c m a b (n / 8 * 8 + s) := by
  refine running (fun n h => (outsAt0 m c n h).2 (ix2 a b)) (part c m a b) (fun n h h8 => ?_) (fun n h h8 => ?_) n hn
  · have hA := outsAt0_A m c ⟨n, h⟩ h8 (by dsimp only; omega) (by dsimp only; omega)
    dsimp only at hA ⊢
    rw [hA]
    dsimp only
    rw [first]
    exact part_eq c m ⟨n, h⟩ a b
  · by_cases h7 : (n + 1) % 8 = 7
    · have hC := outsAt0_C m c ⟨n + 1, h⟩ h8 (by dsimp only; omega) h7
      dsimp only at hC ⊢
      rw [hC]
      dsimp only
      rw [last]
      exact congrArg (_ + ·) (part_eq c m ⟨n + 1, h⟩ a b)
    · have hB := outsAt0_B m c ⟨n + 1, h⟩ h8 (by dsimp only; omega) h7
      dsimp only at hB ⊢
      rw [hB]
      dsimp only
      rw [next]
      exact congrArg (_ + ·) (part_eq c m ⟨n + 1, h⟩ a b)

theorem written (t : Fin cfg0.N) (h7 : t.val % 8 = 7) : (outsAt0 m c t.val t.isLt).1 = k0_pay4 (outsAt0 m c t.val t.isLt).2 := by
  have hC := outsAt0_C m c t (by omega) (by omega) h7
  rw [hC]
  dsimp only
  rw [out, last]

theorem pay_out (s : FVec Ideal S1024x1408 .f32) (a : Fin 1024) (b : Fin 1408) : @Eq EReal (k0_pay4 (F := Ideal) s (ix2 a b)) (s (ix2 a b)) := by
  pointwise [k0_pay4]

theorem final : (dats m 0 c).arrAt 2 (cfgs 0).N = product (argX c m) (argCt c m) := by
  refine (dats m 0 c).arrAt_eq_of_covers 2 _ (by decide +kernel) fun t hf y => ?_
  have h7 := (flush0_2 t).mp hf
  blk_simp
  rw [after0_2, written c m t h7]
  idx_vars y
  rw [pay_out]
  refine Eq.trans ?_ (place t y0 y1 _).symm
  rw [scratch, h7]
  show _ = ∑ k : Fin 8192, argX c m (ix2 k y0) * argCt c m (ix2 k (col (t.val / 8) y1))
  rw [← sum_tokens]
  refine Finset.sum_congr rfl fun s hs => ?_
  have := Finset.mem_range.mp hs
  simp only [part, token_mod, show (t.val / 8 * 8 + s) / 8 = t.val / 8 by omega]

/-! ## The claims -/

/-- The reference is the product. -/
theorem reference (x : FVec Ideal S8192x1024 .f32) (ct : FVec Ideal S8192x2816 .f32) :
    truncf .bf16 (transpose S1024x2816 [1, 0] (Host.dotGeneral Cert.Reference2Ideal.dot_S8192x2816_S8192x1024_S2816x1024_0_0_1_1_n_n none ct x) Cert.Reference2Ideal.Gen.transposes_S2816x1024_S1024x2816_1_0) bitsLt_bf16_f32 = product x ct := by
  funext i
  idx_vars i
  pointwise [product]
  simp only [mul_comm]

theorem frame_P : Cert.quiescent_Kernel2 := fun m g _ => Cert.Kernel2.Gen.frame m g

theorem frame_PI : Cert.quiescent_Kernel2Ideal := fun m g _ => Cert.Kernel2Ideal.Gen.frame m g

theorem frame_RI : Cert.quiescent_Reference2Ideal := fun m g _ =>
  θ_run_mono (Cert.Reference2Ideal.Value.run m g) fun r h => ⟨fun c => (h c).2, sem_eq_zero_of_no_sems (by decide) r.2⟩

/-- The call's product is the reference's. -/
theorem algebraic : Cert.algebraic_Kernel2Ideal_Reference2Ideal := by
  intro m g m' g' _ hagree
  refine ⟨fun c => product (argX c m) (argCt c m), ?_, ?_⟩
  · exact θ_run_mono (θ_run_and (run_main m g) (Cert.Kernel2Ideal.Gen.frame m g)) fun r h c => ⟨(h.1.out_eq c 2).trans (final c m), h.2.1 c⟩
  · refine θ_run_mono (Cert.Reference2Ideal.Value.run m' g') fun r h c => ⟨(h c).1.trans ?_, (h c).2⟩
    obtain ⟨h0, -, h2⟩ := hagree c
    rw [h0, h2]
    exact reference _ _

end Cert.Product.WeightUp

end
-- ==== Proof.Product.WeightDown.lean ====
/- The gradient of w_down: a product over the sequence, in eight blocks of 1024 tokens that a scratch adds up. -/
module

public import proofs.«01_k».proof.Defs
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Product.Sums

@[expose] public section

set_option maxRecDepth 16384

noncomputable section

namespace Cert.Product.WeightDown

open Idealize.ShloMosaic Idealize.ShloMosaic.TcCoe Idealize.SL.Sem
open Cert.Kernel3Ideal Cert.Kernel3Ideal.Gen

/-- Input, transposed, times cotangent. -/
def product (x : FVec Ideal S8192x2816 .f32) (ct : FVec Ideal S8192x1024 .f32) : FVec Ideal S2816x1024 .bf16 :=
  fun i => ∑ k : Fin 8192, x (ix2 k (i 0)) * ct (ix2 k (i 1))

/-! ## What a grid point computes -/

theorem pay (x : Vec Ideal S1024x1408 .bf16) (y : Vec Ideal S1024x1024 .bf16) (a : Fin 1408) (b : Fin 1024) :
    k0_pay1 x y (ix2 a b) = ∑ k : Fin 1024, x (ix2 k a) * y (ix2 k b) := by
  pointwise [k0_pay1]

variable (c : Dev nD) (i : grid0.Coords) (a3 : Memref sig .tc .vmem S1024x1408 .bf16) (h3 : a3.IsWhole) (a4 : Memref sig .tc .vmem S1024x1024 .bf16) (h4 : a4.IsWhole)
  (a5 : Memref sig .tc .vmem S1408x1024 .bf16) (h5 : a5.IsWhole) (a6 : Memref sig .tc .vmem S1408x1024 .f32) (h6 : a6.IsWhole)
  (x : Vec Ideal S1024x1408 .bf16) (y : Vec Ideal S1024x1024 .bf16) (s : Vec Ideal S1408x1024 .f32)

theorem first (hc0 : cond0_0 i) (hc1 : ¬cond0_1 i) (hc2 : ¬cond0_2 i) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero origin]
  unfold k0_pay2
  simp only [View.readAt_eq_ld, h3.read_unread, h4.read_unread, View.ld_unit_zero (S := S1024x1408) origin, View.ld_unit_zero (S := S1024x1024) origin, View.ld_unit_zero (S := S1408x1024) origin, shapeCast_self]

theorem next (hc0 : ¬cond0_0 i) (hc1 : cond0_1 i) (hc2 : ¬cond0_2 i) : sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero origin]
  unfold k0_pay3
  simp only [View.readAt_eq_ld, h3.read_unread, h4.read_unread, h6.read_unread, View.ld_unit_zero (S := S1024x1408) origin, View.ld_unit_zero (S := S1024x1024) origin, View.ld_unit_zero (S := S1408x1024) origin, shapeCast_self]

theorem last (hc0 : ¬cond0_0 i) (hc1 : cond0_1 i) (hc2 : cond0_2 i) : sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero origin]
  unfold k0_pay3
  simp only [View.readAt_eq_ld, h3.read_unread, h4.read_unread, h6.read_unread, View.ld_unit_zero (S := S1024x1408) origin, View.ld_unit_zero (S := S1024x1024) origin, View.ld_unit_zero (S := S1408x1024) origin, shapeCast_self]

theorem out (hc0 : ¬cond0_0 i) (hc1 : cond0_1 i) (hc2 : cond0_2 i) : out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero origin, View.readCov_unit_zero (S := S1408x1024) _ origin]
  unfold k0_pay3
  simp only [View.readAt_eq_ld, h3.read_unread, h4.read_unread, h6.read_unread, View.ld_unit_zero (S := S1024x1408) origin, View.ld_unit_zero (S := S1024x1024) origin, View.ld_unit_zero (S := S1408x1024) origin, shapeCast_self]

/-! ## The blocks of a point -/

/-- Column `a` of half `q`. -/
def col (q : ℕ) (a : Fin 1408) : Fin 2816 := ⟨q % 2 * 1408 + a.val, by omega⟩

theorem pt (t : Fin cfg0.N) : t.val < 16 := lt_of_lt_of_eq t.isLt N_0

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

variable (m : (ℓ : Loc nD τ sig) → Buf (Elt Ideal) ℓ)

abbrev argX : FVec Ideal S8192x2816 .f32 := m ((c.tc : Thread nD τ).loc main_arg0)
abbrev argCt : FVec Ideal S8192x1024 .f32 := m ((c.tc : Thread nD τ).loc main_arg2)

theorem V_0 : (V m c main_v0 : FVec Ideal S8192x2816 .bf16) = argX c m := by
  unfold V hostOps0
  after_results_simp
  rfl

theorem V_1 : (V m c main_v1 : FVec Ideal S8192x1024 .bf16) = argCt c m := by
  unfold V hostOps0
  after_results_simp
  rfl

theorem read_0 (t : Fin cfg0.N) (k : Fin 1024) (a : Fin 1408) : (iblk m c 0 t : Vec Ideal S1024x1408 .bf16) (ix2 k a) = argX c m (ix2 (token t.val k) (col (t.val / 8) a)) := by
  have := pt t
  rw [← V_0]
  unfold token col
  blk_ext [iblk, idx t]
  all_goals omega

theorem read_1 (t : Fin cfg0.N) (k : Fin 1024) (b : Fin 1024) : (iblk m c 1 t : Vec Ideal S1024x1024 .bf16) (ix2 k b) = argCt c m (ix2 (token t.val k) b) := by
  have := pt t
  rw [← V_1]
  unfold token
  blk_ext [iblk, idx t]
  all_goals omega

theorem place (t : Fin cfg0.N) (a : Fin 1408) (b : Fin 1024) (G : FVec Ideal S2816x1024 .bf16) :
    G (((cfg0.win 2).blk t).view.emb (ix2 a b)) = G (ix2 (col (t.val / 8) a) b) := by
  have := pt t
  unfold col
  blk_ext [idx t]
  all_goals omega

/-! ## The sums -/

/-- What point `n` adds. -/
def part (a : Fin 1408) (b : Fin 1024) (n : ℕ) : EReal := ∑ k : Fin 1024, argX c m (ix2 (token n k) (col (n / 8) a)) * argCt c m (ix2 (token n k) b)

theorem part_eq (t : Fin cfg0.N) (a : Fin 1408) (b : Fin 1024) : k0_pay1 (F := Ideal) (iblk m c 0 t) (iblk m c 1 t) (ix2 a b) = part c m a b t.val := by
  rw [pay]
  simp only [read_0, read_1, part]

theorem scratch (a : Fin 1408) (b : Fin 1024) (n : ℕ) (hn : n < cfg0.N) :
    (outsAt0 m c n hn).2 (ix2 a b) = ∑ s ∈ Finset.range (n % 8 + 1), part c m a b (n / 8 * 8 + s) := by
  refine running (fun n h => (outsAt0 m c n h).2 (ix2 a b)) (part c m a b) (fun n h h8 => ?_) (fun n h h8 => ?_) n hn
  · have hA := outsAt0_A m c ⟨n, h⟩ h8 (by dsimp only; omega) (by dsimp only; omega)
    dsimp only at hA ⊢
    rw [hA]
    dsimp only
    rw [first]
    exact part_eq c m ⟨n, h⟩ a b
  · by_cases h7 : (n + 1) % 8 = 7
    · have hC := outsAt0_C m c ⟨n + 1, h⟩ h8 (by dsimp only; omega) h7
      dsimp only at hC ⊢
      rw [hC]
      dsimp only
      rw [last]
      exact congrArg (_ + ·) (part_eq c m ⟨n + 1, h⟩ a b)
    · have hB := outsAt0_B m c ⟨n + 1, h⟩ h8 (by dsimp only; omega) h7
      dsimp only at hB ⊢
      rw [hB]
      dsimp only
      rw [next]
      exact congrArg (_ + ·) (part_eq c m ⟨n + 1, h⟩ a b)

theorem written (t : Fin cfg0.N) (h7 : t.val % 8 = 7) : (outsAt0 m c t.val t.isLt).1 = k0_pay4 (outsAt0 m c t.val t.isLt).2 := by
  have hC := outsAt0_C m c t (by omega) (by omega) h7
  rw [hC]
  dsimp only
  rw [out, last]

theorem pay_out (s : FVec Ideal S1408x1024 .f32) (a : Fin 1408) (b : Fin 1024) : @Eq EReal (k0_pay4 (F := Ideal) s (ix2 a b)) (s (ix2 a b)) := by
  pointwise [k0_pay4]

theorem final : (dats m 0 c).arrAt 2 (cfgs 0).N = product (argX c m) (argCt c m) := by
  refine (dats m 0 c).arrAt_eq_of_covers 2 _ (by decide +kernel) fun t hf y => ?_
  have h7 := (flush0_2 t).mp hf
  blk_simp
  rw [after0_2, written c m t h7]
  idx_vars y
  rw [pay_out]
  refine Eq.trans ?_ (place t y0 y1 _).symm
  rw [scratch, h7]
  show _ = ∑ k : Fin 8192, argX c m (ix2 k (col (t.val / 8) y0)) * argCt c m (ix2 k y1)
  rw [← sum_tokens]
  refine Finset.sum_congr rfl fun s hs => ?_
  have := Finset.mem_range.mp hs
  simp only [part, token_mod, show (t.val / 8 * 8 + s) / 8 = t.val / 8 by omega]

/-! ## The claims -/

/-- The reference is the product. -/
theorem reference (x : FVec Ideal S8192x2816 .f32) (ct : FVec Ideal S8192x1024 .f32) :
    truncf .bf16 (transpose S2816x1024 [1, 0] (Host.dotGeneral Cert.Reference3Ideal.dot_S8192x1024_S8192x2816_S1024x2816_0_0_1_1_n_n none ct x) Cert.Reference3Ideal.Gen.transposes_S1024x2816_S2816x1024_1_0) bitsLt_bf16_f32 = product x ct := by
  funext i
  idx_vars i
  pointwise [product]
  simp only [mul_comm]

theorem frame_P : Cert.quiescent_Kernel3 := fun m g _ => Cert.Kernel3.Gen.frame m g

theorem frame_PI : Cert.quiescent_Kernel3Ideal := fun m g _ => Cert.Kernel3Ideal.Gen.frame m g

theorem frame_RI : Cert.quiescent_Reference3Ideal := fun m g _ =>
  θ_run_mono (Cert.Reference3Ideal.Value.run m g) fun r h => ⟨fun c => (h c).2, sem_eq_zero_of_no_sems (by decide) r.2⟩

/-- The call's product is the reference's. -/
theorem algebraic : Cert.algebraic_Kernel3Ideal_Reference3Ideal := by
  intro m g m' g' _ hagree
  refine ⟨fun c => product (argX c m) (argCt c m), ?_, ?_⟩
  · exact θ_run_mono (θ_run_and (run_main m g) (Cert.Kernel3Ideal.Gen.frame m g)) fun r h c => ⟨(h.1.out_eq c 2).trans (final c m), h.2.1 c⟩
  · refine θ_run_mono (Cert.Reference3Ideal.Value.run m' g') fun r h c => ⟨(h c).1.trans ?_, (h c).2⟩
    obtain ⟨h0, -, h2⟩ := hagree c
    rw [h0, h2]
    exact reference _ _

end Cert.Product.WeightDown

end
-- ==== Proof.Product.Act.lean ====
/- The gradient of the gated activation: one product, a block of 512 tokens at a time. -/
module

public import proofs.«01_k».proof.Defs
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Product.Sums

@[expose] public section

set_option maxRecDepth 16384

noncomputable section

namespace Cert.Product.Act

open Idealize.ShloMosaic Idealize.ShloMosaic.TcCoe Idealize.SL.Sem
open Cert.Kernel4Ideal Cert.Kernel4Ideal.Gen

/-- Cotangent times weight, transposed. -/
def product (ct : FVec Ideal S8192x1024 .f32) (w : FVec Ideal S2816x1024 .f32) : FVec Ideal S8192x2816 .bf16 :=
  fun i => ∑ k : Fin 1024, ct (ix2 (i 0) k) * w (ix2 (i 1) k)

/-- What a grid point computes. -/
theorem pay (x : Vec Ideal S512x1024 .bf16) (w : Vec Ideal S2816x1024 .bf16) (a : Fin 512) (b : Fin 2816) :
    k0_pay1 x w (ix2 a b) = ∑ k : Fin 1024, x (ix2 a k) * w (ix2 b k) := by
  pointwise [k0_pay1]

/-- Row `a` of block `t`. -/
def row (t : ℕ) (a : Fin 512) : Fin 8192 := ⟨t % 16 * 512 + a.val, by omega⟩

theorem pt (t : Fin cfg0.N) : t.val < 16 := lt_of_lt_of_eq t.isLt N_0

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev argW : FVec Ideal S2816x1024 .f32 := m ((c.tc : Thread nD τ).loc main_arg1)
abbrev argCt : FVec Ideal S8192x1024 .f32 := m ((c.tc : Thread nD τ).loc main_arg2)

theorem V_0 : (V m c main_v0 : FVec Ideal S8192x1024 .bf16) = argCt m c := by
  unfold V hostOps0
  after_results_simp
  rfl

theorem V_1 : (V m c main_v1 : FVec Ideal S2816x1024 .bf16) = argW m c := by
  unfold V hostOps0
  after_results_simp
  rfl

theorem read_0 (t : Fin cfg0.N) (a : Fin 512) (k : Fin 1024) : (iblk m c 0 t : Vec Ideal S512x1024 .bf16) (ix2 a k) = argCt m c (ix2 (row t.val a) k) := by
  have := pt t
  rw [← V_0]
  unfold row
  blk_ext [iblk, idx t]
  all_goals omega

theorem read_1 (t : Fin cfg0.N) (b : Fin 2816) (k : Fin 1024) : (iblk m c 1 t : Vec Ideal S2816x1024 .bf16) (ix2 b k) = argW m c (ix2 b k) := by
  rw [← V_1]
  blk_ext [iblk, idx t]
  all_goals omega

theorem place (t : Fin cfg0.N) (a : Fin 512) (b : Fin 2816) (G : FVec Ideal S8192x2816 .bf16) :
    G (((cfg0.win 2).blk t).view.emb (ix2 a b)) = G (ix2 (row t.val a) b) := by
  have := pt t
  unfold row
  blk_ext [idx t]
  all_goals omega

theorem out (x : Vec Ideal S512x1024 .bf16) (w : Vec Ideal S2816x1024 .bf16) (a : Fin 512) (b : Fin 2816) :
    out0_2 x w (ix2 a b) = ∑ k : Fin 1024, x (ix2 a k) * w (ix2 b k) := by
  unfold out0_2
  rw [View.canon_unit_zero origin, View.ld_unit_zero origin, View.ld_unit_zero origin, pay]

theorem final : (dats m 0 c).arrAt 2 (cfgs 0).N = product (argCt m c) (argW m c) := by
  refine (dats m 0 c).arrAt_eq_of_covers 2 _ (by decide +kernel) fun t hf y => ?_
  blk_simp
  rw [after0_2]
  idx_vars y
  rw [out]
  refine Eq.trans ?_ (place t y0 y1 _).symm
  simp only [read_0, read_1]
  rfl

/-- The reference is the product. -/
theorem reference (ct : FVec Ideal S8192x1024 .f32) (w : FVec Ideal S2816x1024 .f32) :
    truncf .bf16 (Host.dotGeneral Cert.Reference4Ideal.dot_S8192x1024_S2816x1024_S8192x2816_1_1_0_0_n_n none ct w) bitsLt_bf16_f32 = product ct w := by
  funext i
  idx_vars i
  pointwise [product]

theorem frame_P : Cert.quiescent_Kernel4 := fun m g _ => Cert.Kernel4.Gen.frame m g

theorem frame_PI : Cert.quiescent_Kernel4Ideal := fun m g _ => Cert.Kernel4Ideal.Gen.frame m g

theorem frame_RI : Cert.quiescent_Reference4Ideal := fun m g _ =>
  θ_run_mono (Cert.Reference4Ideal.Value.run m g) fun r h => ⟨fun c => (h c).2, sem_eq_zero_of_no_sems (by decide) r.2⟩

/-- The call's product is the reference's. -/
theorem algebraic : Cert.algebraic_Kernel4Ideal_Reference4Ideal := by
  intro m g m' g' _ hagree
  refine ⟨fun c => product (argCt m c) (argW m c), ?_, ?_⟩
  · exact θ_run_mono (Value.run_blocks m g) fun r h c => ⟨(h c).1.trans (final m c), (h c).2⟩
  · refine θ_run_mono (Cert.Reference4Ideal.Value.run m' g') fun r h c => ⟨(h c).1.trans ?_, (h c).2⟩
    obtain ⟨-, h1, h2⟩ := hagree c
    rw [h1, h2]
    exact reference _ _

end Cert.Product.Act

end
-- ==== Proof.Product.WeightOut.lean ====
/- The gradient of w_out: a product over the sequence, in eight blocks of 1024 tokens that a scratch adds up. -/
module

public import proofs.«01_k».proof.Defs
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Product.Sums

@[expose] public section

set_option maxRecDepth 16384

noncomputable section

namespace Cert.Product.WeightOut

open Idealize.ShloMosaic Idealize.ShloMosaic.TcCoe Idealize.SL.Sem
open Cert.Kernel6Ideal Cert.Kernel6Ideal.Gen

/-- Input, transposed, times cotangent. -/
def product (x : FVec Ideal S8192x1024 .f32) (ct : FVec Ideal S8192x1024 .f32) : FVec Ideal S1024x1024 .bf16 :=
  fun i => ∑ k : Fin 8192, x (ix2 k (i 0)) * ct (ix2 k (i 1))

/-! ## What a grid point computes -/

theorem pay (x : Vec Ideal S1024x1024 .bf16) (y : Vec Ideal S1024x1024 .bf16) (a : Fin 1024) (b : Fin 1024) :
    k0_pay1 x y (ix2 a b) = ∑ k : Fin 1024, x (ix2 k a) * y (ix2 k b) := by
  pointwise [k0_pay1]

variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x : Vec Ideal S1024x1024 .bf16) (y : Vec Ideal S1024x1024 .bf16) (s : Vec Ideal S1024x1024 .f32)

theorem first (hc0 : cond0_0 i) (hc1 : ¬cond0_1 i) (hc2 : ¬cond0_2 i) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero origin]
  unfold k0_pay2
  simp only [View.readAt_eq_ld, h3.read_unread, h4.read_unread, View.ld_unit_zero (S := S1024x1024) origin, shapeCast_self]

theorem next (hc0 : ¬cond0_0 i) (hc1 : cond0_1 i) (hc2 : ¬cond0_2 i) : sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero origin]
  unfold k0_pay3
  simp only [View.readAt_eq_ld, h3.read_unread, h4.read_unread, h6.read_unread, View.ld_unit_zero (S := S1024x1024) origin, shapeCast_self]

theorem last (hc0 : ¬cond0_0 i) (hc1 : cond0_1 i) (hc2 : cond0_2 i) : sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero origin]
  unfold k0_pay3
  simp only [View.readAt_eq_ld, h3.read_unread, h4.read_unread, h6.read_unread, View.ld_unit_zero (S := S1024x1024) origin, shapeCast_self]

theorem out (hc0 : ¬cond0_0 i) (hc1 : cond0_1 i) (hc2 : cond0_2 i) : out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero origin, View.readCov_unit_zero (S := S1024x1024) _ origin]
  unfold k0_pay3
  simp only [View.readAt_eq_ld, h3.read_unread, h4.read_unread, h6.read_unread, View.ld_unit_zero (S := S1024x1024) origin, shapeCast_self]

/-! ## The blocks of a point -/

theorem pt (t : Fin cfg0.N) : t.val < 8 := lt_of_lt_of_eq t.isLt N_0

theorem idx : ∀ t : Fin cfg0.N, win0_0.index t = ![t.val, 0] ∧ win0_1.index t = ![t.val, 0] ∧ win0_2.index t = ![0, 0] :=
  (by decide +kernel : ∀ t : Fin grid0.N, _)

variable (m : (ℓ : Loc nD τ sig) → Buf (Elt Ideal) ℓ)

abbrev argX : FVec Ideal S8192x1024 .f32 := m ((c.tc : Thread nD τ).loc main_arg0)
abbrev argCt : FVec Ideal S8192x1024 .f32 := m ((c.tc : Thread nD τ).loc main_arg2)

theorem V_0 : (V m c main_v0 : FVec Ideal S8192x1024 .bf16) = argX c m := by
  unfold V hostOps0
  after_results_simp
  rfl

theorem V_1 : (V m c main_v1 : FVec Ideal S8192x1024 .bf16) = argCt c m := by
  unfold V hostOps0
  after_results_simp
  rfl

theorem read_0 (t : Fin cfg0.N) (k : Fin 1024) (a : Fin 1024) : (iblk m c 0 t : Vec Ideal S1024x1024 .bf16) (ix2 k a) = argX c m (ix2 (token t.val k) a) := by
  have := pt t
  rw [← V_0]
  unfold token
  blk_ext [iblk, idx t]
  all_goals omega

theorem read_1 (t : Fin cfg0.N) (k : Fin 1024) (b : Fin 1024) : (iblk m c 1 t : Vec Ideal S1024x1024 .bf16) (ix2 k b) = argCt c m (ix2 (token t.val k) b) := by
  have := pt t
  rw [← V_1]
  unfold token
  blk_ext [iblk, idx t]
  all_goals omega

theorem place (t : Fin cfg0.N) (a : Fin 1024) (b : Fin 1024) (G : FVec Ideal S1024x1024 .bf16) :
    G (((cfg0.win 2).blk t).view.emb (ix2 a b)) = G (ix2 a b) := by
  blk_ext [idx t]
  all_goals omega

/-! ## The sums -/

/-- What point `n` adds. -/
def part (a : Fin 1024) (b : Fin 1024) (n : ℕ) : EReal := ∑ k : Fin 1024, argX c m (ix2 (token n k) a) * argCt c m (ix2 (token n k) b)

theorem part_eq (t : Fin cfg0.N) (a : Fin 1024) (b : Fin 1024) : k0_pay1 (F := Ideal) (iblk m c 0 t) (iblk m c 1 t) (ix2 a b) = part c m a b t.val := by
  rw [pay]
  simp only [read_0, read_1, part]

theorem scratch (a : Fin 1024) (b : Fin 1024) (n : ℕ) (hn : n < cfg0.N) :
    (outsAt0 m c n hn).2 (ix2 a b) = ∑ s ∈ Finset.range (n % 8 + 1), part c m a b (n / 8 * 8 + s) := by
  refine running (fun n h => (outsAt0 m c n h).2 (ix2 a b)) (part c m a b) (fun n h h8 => ?_) (fun n h h8 => ?_) n hn
  · have hA := outsAt0_A m c ⟨n, h⟩ h8 (by have := pt ⟨n, h⟩; dsimp only at this ⊢; omega) (by dsimp only; omega)
    dsimp only at hA ⊢
    rw [hA]
    dsimp only
    rw [first]
    exact part_eq c m ⟨n, h⟩ a b
  · by_cases h7 : (n + 1) % 8 = 7
    · have hC := outsAt0_C m c ⟨n + 1, h⟩ h8 (by dsimp only; omega) h7
      dsimp only at hC ⊢
      rw [hC]
      dsimp only
      rw [last]
      exact congrArg (_ + ·) (part_eq c m ⟨n + 1, h⟩ a b)
    · have hB := outsAt0_B m c ⟨n + 1, h⟩ h8 (by dsimp only; omega) h7
      dsimp only at hB ⊢
      rw [hB]
      dsimp only
      rw [next]
      exact congrArg (_ + ·) (part_eq c m ⟨n + 1, h⟩ a b)

theorem written (t : Fin cfg0.N) (h7 : t.val % 8 = 7) : (outsAt0 m c t.val t.isLt).1 = k0_pay4 (outsAt0 m c t.val t.isLt).2 := by
  have hC := outsAt0_C m c t (by omega) (by omega) h7
  rw [hC]
  dsimp only
  rw [out, last]

theorem pay_out (s : FVec Ideal S1024x1024 .f32) (a : Fin 1024) (b : Fin 1024) : @Eq EReal (k0_pay4 (F := Ideal) s (ix2 a b)) (s (ix2 a b)) := by
  pointwise [k0_pay4]

theorem final : (dats m 0 c).arrAt 2 (cfgs 0).N = product (argX c m) (argCt c m) := by
  refine (dats m 0 c).arrAt_eq_of_covers 2 _ (by decide +kernel) fun t hf y => ?_
  have h7 := (flush0_2 t).mp hf
  blk_simp
  rw [after0_2, written c m t h7]
  idx_vars y
  rw [pay_out]
  refine Eq.trans ?_ (place t y0 y1 _).symm
  rw [scratch, h7]
  show _ = ∑ k : Fin 8192, argX c m (ix2 k y0) * argCt c m (ix2 k y1)
  rw [← sum_tokens]
  refine Finset.sum_congr rfl fun s hs => ?_
  have := Finset.mem_range.mp hs
  simp only [part, token_mod]

/-! ## The claims -/

/-- The reference is the product. -/
theorem reference (x : FVec Ideal S8192x1024 .f32) (ct : FVec Ideal S8192x1024 .f32) :
    truncf .bf16 (transpose S1024x1024 [1, 0] (Host.dotGeneral Cert.Reference6Ideal.dot_S8192x1024_S8192x1024_S1024x1024_0_0_1_1_n_n none ct x) Cert.Reference6Ideal.Gen.transposes_S1024x1024_S1024x1024_1_0) bitsLt_bf16_f32 = product x ct := by
  funext i
  idx_vars i
  pointwise [product]
  simp only [mul_comm]

theorem frame_P : Cert.quiescent_Kernel6 := fun m g _ => Cert.Kernel6.Gen.frame m g

theorem frame_PI : Cert.quiescent_Kernel6Ideal := fun m g _ => Cert.Kernel6Ideal.Gen.frame m g

theorem frame_RI : Cert.quiescent_Reference6Ideal := fun m g _ =>
  θ_run_mono (Cert.Reference6Ideal.Value.run m g) fun r h => ⟨fun c => (h c).2, sem_eq_zero_of_no_sems (by decide) r.2⟩

/-- The call's product is the reference's. -/
theorem algebraic : Cert.algebraic_Kernel6Ideal_Reference6Ideal := by
  intro m g m' g' _ hagree
  refine ⟨fun c => product (argX c m) (argCt c m), ?_, ?_⟩
  · exact θ_run_mono (θ_run_and (run_main m g) (Cert.Kernel6Ideal.Gen.frame m g)) fun r h c => ⟨(h.1.out_eq c 2).trans (final c m), h.2.1 c⟩
  · refine θ_run_mono (Cert.Reference6Ideal.Value.run m' g') fun r h c => ⟨(h c).1.trans ?_, (h c).2⟩
    obtain ⟨h0, -, h2⟩ := hagree c
    rw [h0, h2]
    exact reference _ _

end Cert.Product.WeightOut

end
-- ==== Proof.Product.Cat.lean ====
/- The gradient of the joined outputs of the attentions: one product, a block of 1024 tokens at a time. -/
module

public import proofs.«01_k».proof.Defs
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Product.Sums

@[expose] public section

set_option maxRecDepth 16384

noncomputable section

namespace Cert.Product.Cat

open Idealize.ShloMosaic Idealize.ShloMosaic.TcCoe Idealize.SL.Sem
open Cert.Kernel7Ideal Cert.Kernel7Ideal.Gen

/-- Cotangent times weight, transposed. -/
def product (ct : FVec Ideal S8192x1024 .f32) (w : FVec Ideal S1024x1024 .f32) : FVec Ideal S8192x1024 .f32 :=
  fun i => ∑ k : Fin 1024, ct (ix2 (i 0) k) * w (ix2 (i 1) k)

/-- What a grid point computes. -/
theorem pay (x : Vec Ideal S1024x1024 .bf16) (w : Vec Ideal S1024x1024 .bf16) (a : Fin 1024) (b : Fin 1024) :
    k0_pay1 x w (ix2 a b) = ∑ k : Fin 1024, x (ix2 a k) * w (ix2 b k) := by
  pointwise [k0_pay1]

/-- Row `a` of block `t`. -/
def row (t : ℕ) (a : Fin 1024) : Fin 8192 := ⟨t % 8 * 1024 + a.val, by omega⟩

theorem pt (t : Fin cfg0.N) : t.val < 8 := lt_of_lt_of_eq t.isLt N_0

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev argW : FVec Ideal S1024x1024 .f32 := m ((c.tc : Thread nD τ).loc main_arg1)
abbrev argCt : FVec Ideal S8192x1024 .f32 := m ((c.tc : Thread nD τ).loc main_arg2)

theorem V_0 : (V m c main_v0 : FVec Ideal S8192x1024 .bf16) = argCt m c := by
  unfold V hostOps0
  after_results_simp
  rfl

theorem V_1 : (V m c main_v1 : FVec Ideal S1024x1024 .bf16) = argW m c := by
  unfold V hostOps0
  after_results_simp
  rfl

theorem read_0 (t : Fin cfg0.N) (a : Fin 1024) (k : Fin 1024) : (iblk m c 0 t : Vec Ideal S1024x1024 .bf16) (ix2 a k) = argCt m c (ix2 (row t.val a) k) := by
  have := pt t
  rw [← V_0]
  unfold row
  blk_ext [iblk, idx t]
  all_goals omega

theorem read_1 (t : Fin cfg0.N) (b : Fin 1024) (k : Fin 1024) : (iblk m c 1 t : Vec Ideal S1024x1024 .bf16) (ix2 b k) = argW m c (ix2 b k) := by
  rw [← V_1]
  blk_ext [iblk, idx t]
  all_goals omega

theorem place (t : Fin cfg0.N) (a : Fin 1024) (b : Fin 1024) (G : FVec Ideal S8192x1024 .f32) :
    G (((cfg0.win 2).blk t).view.emb (ix2 a b)) = G (ix2 (row t.val a) b) := by
  have := pt t
  unfold row
  blk_ext [idx t]
  all_goals omega

theorem out (x : Vec Ideal S1024x1024 .bf16) (w : Vec Ideal S1024x1024 .bf16) (a : Fin 1024) (b : Fin 1024) :
    out0_2 x w (ix2 a b) = ∑ k : Fin 1024, x (ix2 a k) * w (ix2 b k) := by
  unfold out0_2
  rw [View.canon_unit_zero origin, View.ld_unit_zero origin, View.ld_unit_zero origin, pay]

theorem final : (dats m 0 c).arrAt 2 (cfgs 0).N = product (argCt m c) (argW m c) := by
  refine (dats m 0 c).arrAt_eq_of_covers 2 _ (by decide +kernel) fun t hf y => ?_
  blk_simp
  rw [after0_2]
  idx_vars y
  rw [out]
  refine Eq.trans ?_ (place t y0 y1 _).symm
  simp only [read_0, read_1]
  rfl

/-- The reference is the product. -/
theorem reference (ct : FVec Ideal S8192x1024 .f32) (w : FVec Ideal S1024x1024 .f32) :
    Host.dotGeneral Cert.Reference7Ideal.dot_S8192x1024_S1024x1024_S8192x1024_1_1_0_0_n_n none ct w = product ct w := by
  funext i
  idx_vars i
  pointwise [product]

theorem frame_P : Cert.quiescent_Kernel7 := fun m g _ => Cert.Kernel7.Gen.frame m g

theorem frame_PI : Cert.quiescent_Kernel7Ideal := fun m g _ => Cert.Kernel7Ideal.Gen.frame m g

theorem frame_RI : Cert.quiescent_Reference7Ideal := fun m g _ =>
  θ_run_mono (Cert.Reference7Ideal.Value.run m g) fun r h => ⟨fun c => (h c).2, sem_eq_zero_of_no_sems (by decide) r.2⟩

/-- The call's product is the reference's. -/
theorem algebraic : Cert.algebraic_Kernel7Ideal_Reference7Ideal := by
  intro m g m' g' _ hagree
  refine ⟨fun c => product (argCt m c) (argW m c), ?_, ?_⟩
  · exact θ_run_mono (Value.run_blocks m g) fun r h c => ⟨(h c).1.trans (final m c), (h c).2⟩
  · refine θ_run_mono (Cert.Reference7Ideal.Value.run m' g') fun r h c => ⟨(h c).1.trans ?_, (h c).2⟩
    obtain ⟨-, h1, h2⟩ := hagree c
    rw [h1, h2]
    exact reference _ _

end Cert.Product.Cat

end
-- ==== Proof.Product.WeightIn.lean ====
/- The gradient of w_in: a product over the sequence, in eight blocks of 1024 tokens that a scratch adds up. -/
module

public import proofs.«01_k».proof.Defs
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Product.Sums

@[expose] public section

set_option maxRecDepth 16384

noncomputable section

namespace Cert.Product.WeightIn

open Idealize.ShloMosaic Idealize.ShloMosaic.TcCoe Idealize.SL.Sem
open Cert.Kernel8Ideal Cert.Kernel8Ideal.Gen

/-- Input, transposed, times cotangent. -/
def product (x : FVec Ideal S8192x1024 .f32) (ct : FVec Ideal S8192x1536 .f32) : FVec Ideal S1024x1536 .bf16 :=
  fun i => ∑ k : Fin 8192, x (ix2 k (i 0)) * ct (ix2 k (i 1))

/-! ## What a grid point computes -/

theorem pay (x : Vec Ideal S1024x1024 .bf16) (y : Vec Ideal S1024x1536 .bf16) (a : Fin 1024) (b : Fin 1536) :
    k0_pay1 x y (ix2 a b) = ∑ k : Fin 1024, x (ix2 k a) * y (ix2 k b) := by
  pointwise [k0_pay1]

variable (c : Dev nD) (i : grid0.Coords) (a3 : Memref sig .tc .vmem S1024x1024 .bf16) (h3 : a3.IsWhole) (a4 : Memref sig .tc .vmem S1024x1536 .bf16) (h4 : a4.IsWhole)
  (a5 : Memref sig .tc .vmem S1024x1536 .bf16) (h5 : a5.IsWhole) (a6 : Memref sig .tc .vmem S1024x1536 .f32) (h6 : a6.IsWhole)
  (x : Vec Ideal S1024x1024 .bf16) (y : Vec Ideal S1024x1536 .bf16) (s : Vec Ideal S1024x1536 .f32)

theorem first (hc0 : cond0_0 i) (hc1 : ¬cond0_1 i) (hc2 : ¬cond0_2 i) : sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero origin]
  unfold k0_pay2
  simp only [View.readAt_eq_ld, h3.read_unread, h4.read_unread, View.ld_unit_zero (S := S1024x1024) origin, View.ld_unit_zero (S := S1024x1536) origin, shapeCast_self]

theorem next (hc0 : ¬cond0_0 i) (hc1 : cond0_1 i) (hc2 : ¬cond0_2 i) : sout0_B_0 c i a3 h3 a4 h4 a5 h5 a6 h6 hc0 hc1 hc2 x y s = addf s (k0_pay1 x y) := by
  unfold sout0_B_0
  rw [View.read_writes_eq_canon _ _ _ (scover0_B_0 c i a3 h3 a4 h4 a5 h5 a6 h6 hc0 hc1 hc2 x y s)]
  unfold kernelRun0_B
  dsimp only
  sl_unfold_words
  rw [View.canon_unit_zero origin]
  unfold k0_pay3
  simp only [View.readAt_eq_ld, h3.read_unread, h4.read_unread, h6.read_unread, View.ld_unit_zero (S := S1024x1024) origin, View.ld_unit_zero (S := S1024x1536) origin, shapeCast_self]

theorem last (hc0 : ¬cond0_0 i) (hc1 : cond0_1 i) (hc2 : cond0_2 i) : sout0_C_0 c i a3 h3 a4 h4 a5 h5 a6 h6 hc0 hc1 hc2 x y s = addf s (k0_pay1 x y) := by
  unfold sout0_C_0
  rw [View.read_writes_eq_canon _ _ _ (scover0_C_0 c i a3 h3 a4 h4 a5 h5 a6 h6 hc0 hc1 hc2 x y s)]
  unfold kernelRun0_C
  dsimp only
  sl_unfold_words
  rw [View.canon_unit_zero origin]
  unfold k0_pay3
  simp only [View.readAt_eq_ld, h3.read_unread, h4.read_unread, h6.read_unread, View.ld_unit_zero (S := S1024x1024) origin, View.ld_unit_zero (S := S1024x1536) origin, shapeCast_self]

theorem out (hc0 : ¬cond0_0 i) (hc1 : cond0_1 i) (hc2 : cond0_2 i) : out0_C_2 c i a3 h3 a4 h4 a5 h5 a6 h6 hc0 hc1 hc2 x y s = k0_pay4 (addf s (k0_pay1 x y)) := by
  unfold out0_C_2
  rw [View.read_writes_eq_canon _ _ _ (cover0_C_2 c i a3 h3 a4 h4 a5 h5 a6 h6 hc0 hc1 hc2 x y s)]
  unfold kernelRun0_C
  dsimp only
  sl_unfold_words
  rw [View.canon_unit_zero origin, View.readCov_unit_zero (S := S1024x1536) _ origin]
  unfold k0_pay3
  simp only [View.readAt_eq_ld, h3.read_unread, h4.read_unread, h6.read_unread, View.ld_unit_zero (S := S1024x1024) origin, View.ld_unit_zero (S := S1024x1536) origin, shapeCast_self]

/-! ## The blocks of a point -/

theorem pt (t : Fin cfg0.N) : t.val < 8 := lt_of_lt_of_eq t.isLt N_0

theorem idx : ∀ t : Fin cfg0.N, win0_0.index t = ![t.val, 0] ∧ win0_1.index t = ![t.val, 0] ∧ win0_2.index t = ![0, 0] :=
  (by decide +kernel : ∀ t : Fin grid0.N, _)

variable (m : (ℓ : Loc nD τ sig) → Buf (Elt Ideal) ℓ)

abbrev argX : FVec Ideal S8192x1024 .f32 := m ((c.tc : Thread nD τ).loc main_arg0)
abbrev argCt : FVec Ideal S8192x1536 .f32 := m ((c.tc : Thread nD τ).loc main_arg2)

theorem V_0 : (V m c main_v0 : FVec Ideal S8192x1024 .bf16) = argX c m := by
  unfold V hostOps0
  after_results_simp
  rfl

theorem V_1 : (V m c main_v1 : FVec Ideal S8192x1536 .bf16) = argCt c m := by
  unfold V hostOps0
  after_results_simp
  rfl

theorem read_0 (t : Fin cfg0.N) (k : Fin 1024) (a : Fin 1024) : (iblk m c 0 t : Vec Ideal S1024x1024 .bf16) (ix2 k a) = argX c m (ix2 (token t.val k) a) := by
  have := pt t
  rw [← V_0]
  unfold token
  blk_ext [iblk, idx t]
  all_goals omega

theorem read_1 (t : Fin cfg0.N) (k : Fin 1024) (b : Fin 1536) : (iblk m c 1 t : Vec Ideal S1024x1536 .bf16) (ix2 k b) = argCt c m (ix2 (token t.val k) b) := by
  have := pt t
  rw [← V_1]
  unfold token
  blk_ext [iblk, idx t]
  all_goals omega

theorem place (t : Fin cfg0.N) (a : Fin 1024) (b : Fin 1536) (G : FVec Ideal S1024x1536 .bf16) :
    G (((cfg0.win 2).blk t).view.emb (ix2 a b)) = G (ix2 a b) := by
  blk_ext [idx t]
  all_goals omega

/-! ## The sums -/

/-- What point `n` adds. -/
def part (a : Fin 1024) (b : Fin 1536) (n : ℕ) : EReal := ∑ k : Fin 1024, argX c m (ix2 (token n k) a) * argCt c m (ix2 (token n k) b)

theorem part_eq (t : Fin cfg0.N) (a : Fin 1024) (b : Fin 1536) : k0_pay1 (F := Ideal) (iblk m c 0 t) (iblk m c 1 t) (ix2 a b) = part c m a b t.val := by
  rw [pay]
  simp only [read_0, read_1, part]

theorem scratch (a : Fin 1024) (b : Fin 1536) (n : ℕ) (hn : n < cfg0.N) :
    (outsAt0 m c n hn).2 (ix2 a b) = ∑ s ∈ Finset.range (n % 8 + 1), part c m a b (n / 8 * 8 + s) := by
  refine running (fun n h => (outsAt0 m c n h).2 (ix2 a b)) (part c m a b) (fun n h h8 => ?_) (fun n h h8 => ?_) n hn
  · have hA := outsAt0_A m c ⟨n, h⟩ h8 (by have := pt ⟨n, h⟩; dsimp only at this ⊢; omega) (by dsimp only; omega)
    dsimp only at hA ⊢
    rw [hA]
    dsimp only
    rw [first]
    exact part_eq c m ⟨n, h⟩ a b
  · by_cases h7 : (n + 1) % 8 = 7
    · have hC := outsAt0_C m c ⟨n + 1, h⟩ h8 (by dsimp only; omega) h7
      dsimp only at hC ⊢
      rw [hC]
      dsimp only
      rw [last]
      exact congrArg (_ + ·) (part_eq c m ⟨n + 1, h⟩ a b)
    · have hB := outsAt0_B m c ⟨n + 1, h⟩ h8 (by dsimp only; omega) h7
      dsimp only at hB ⊢
      rw [hB]
      dsimp only
      rw [next]
      exact congrArg (_ + ·) (part_eq c m ⟨n + 1, h⟩ a b)

theorem written (t : Fin cfg0.N) (h7 : t.val % 8 = 7) : (outsAt0 m c t.val t.isLt).1 = k0_pay4 (outsAt0 m c t.val t.isLt).2 := by
  have hC := outsAt0_C m c t (by omega) (by omega) h7
  rw [hC]
  dsimp only
  rw [out, last]

theorem pay_out (s : FVec Ideal S1024x1536 .f32) (a : Fin 1024) (b : Fin 1536) : @Eq EReal (k0_pay4 (F := Ideal) s (ix2 a b)) (s (ix2 a b)) := by
  pointwise [k0_pay4]

theorem final : (dats m 0 c).arrAt 2 (cfgs 0).N = product (argX c m) (argCt c m) := by
  refine (dats m 0 c).arrAt_eq_of_covers 2 _ (by decide +kernel) fun t hf y => ?_
  have h7 := (flush0_2 t).mp hf
  blk_simp
  rw [after0_2, written c m t h7]
  idx_vars y
  rw [pay_out]
  refine Eq.trans ?_ (place t y0 y1 _).symm
  rw [scratch, h7]
  show _ = ∑ k : Fin 8192, argX c m (ix2 k y0) * argCt c m (ix2 k y1)
  rw [← sum_tokens]
  refine Finset.sum_congr rfl fun s hs => ?_
  have := Finset.mem_range.mp hs
  simp only [part, token_mod]

/-! ## The claims -/

/-- The reference is the product. -/
theorem reference (x : FVec Ideal S8192x1024 .f32) (ct : FVec Ideal S8192x1536 .f32) :
    truncf .bf16 (transpose S1024x1536 [1, 0] (Host.dotGeneral Cert.Reference8Ideal.dot_S8192x1536_S8192x1024_S1536x1024_0_0_1_1_n_n none ct x) Cert.Reference8Ideal.Gen.transposes_S1536x1024_S1024x1536_1_0) bitsLt_bf16_f32 = product x ct := by
  funext i
  idx_vars i
  pointwise [product]
  simp only [mul_comm]

theorem frame_P : Cert.quiescent_Kernel8 := fun m g _ => Cert.Kernel8.Gen.frame m g

theorem frame_PI : Cert.quiescent_Kernel8Ideal := fun m g _ => Cert.Kernel8Ideal.Gen.frame m g

theorem frame_RI : Cert.quiescent_Reference8Ideal := fun m g _ =>
  θ_run_mono (Cert.Reference8Ideal.Value.run m g) fun r h => ⟨fun c => (h c).2, sem_eq_zero_of_no_sems (by decide) r.2⟩

/-- The call's product is the reference's. -/
theorem algebraic : Cert.algebraic_Kernel8Ideal_Reference8Ideal := by
  intro m g m' g' _ hagree
  refine ⟨fun c => product (argX c m) (argCt c m), ?_, ?_⟩
  · exact θ_run_mono (θ_run_and (run_main m g) (Cert.Kernel8Ideal.Gen.frame m g)) fun r h c => ⟨(h.1.out_eq c 2).trans (final c m), h.2.1 c⟩
  · refine θ_run_mono (Cert.Reference8Ideal.Value.run m' g') fun r h c => ⟨(h c).1.trans ?_, (h c).2⟩
    obtain ⟨h0, -, h2⟩ := hagree c
    rw [h0, h2]
    exact reference _ _

end Cert.Product.WeightIn

end
-- ==== Proof.Product.Input.lean ====
/- The gradient of a layer's input: a product and the scaled gradient of the residual, a block of 1024 tokens at a time. -/
module

public import proofs.«01_k».proof.Defs
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Product.Sums

@[expose] public section

set_option maxRecDepth 16384

noncomputable section

namespace Cert.Product.Input

open Idealize.ShloMosaic Idealize.ShloMosaic.TcCoe Idealize.SL.Sem
open Cert.Kernel9Ideal Cert.Kernel9Ideal.Gen

/-- Cotangent times weight, transposed, and the residual's gradient times the square root of two. -/
def product (ct : FVec Ideal S8192x1536 .f32) (w : FVec Ideal S1024x1536 .f32) (d : FVec Ideal S8192x1024 .f32) : FVec Ideal S8192x1024 .f32 :=
  fun i => (∑ k : Fin 1536, ct (ix2 (i 0) k) * w (ix2 (i 1) k)) + Ideal.ofBits .f32 0x3FB504F3#32 * d i

/-- What a grid point computes. -/
theorem pay (x : Vec Ideal S1024x1536 .bf16) (w : Vec Ideal S1024x1536 .bf16) (d : Vec Ideal S1024x1024 .f32) (a : Fin 1024) (b : Fin 1024) :
    k0_pay1 x w d (ix2 a b) = (∑ k : Fin 1536, x (ix2 a k) * w (ix2 b k)) + Ideal.ofBits .f32 0x3FB504F3#32 * d (ix2 a b) := by
  pointwise [k0_pay1]

/-- Row `a` of block `t`. -/
def row (t : ℕ) (a : Fin 1024) : Fin 8192 := ⟨t % 8 * 1024 + a.val, by omega⟩

theorem pt (t : Fin cfg0.N) : t.val < 8 := lt_of_lt_of_eq t.isLt N_0

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable (m : (ℓ : Loc nD τ sig) → Buf (Elt Ideal) ℓ) (c : Dev nD)

abbrev argW : FVec Ideal S1024x1536 .f32 := m ((c.tc : Thread nD τ).loc main_arg1)
abbrev argD : FVec Ideal S8192x1024 .f32 := m ((c.tc : Thread nD τ).loc main_arg3)
abbrev argCt : FVec Ideal S8192x1536 .f32 := m ((c.tc : Thread nD τ).loc main_arg2)

theorem V_0 : (V m c main_v0 : FVec Ideal S8192x1536 .bf16) = argCt m c := by
  unfold V hostOps0
  after_results_simp
  rfl

theorem V_1 : (V m c main_v1 : FVec Ideal S1024x1536 .bf16) = argW m c := by
  unfold V hostOps0
  after_results_simp
  rfl

theorem read_0 (t : Fin cfg0.N) (a : Fin 1024) (k : Fin 1536) : (iblk m c 0 t : Vec Ideal S1024x1536 .bf16) (ix2 a k) = argCt m c (ix2 (row t.val a) k) := by
  have := pt t
  rw [← V_0]
  unfold row
  blk_ext [iblk, idx t]
  all_goals omega

theorem read_1 (t : Fin cfg0.N) (b : Fin 1024) (k : Fin 1536) : (iblk m c 1 t : Vec Ideal S1024x1536 .bf16) (ix2 b k) = argW m c (ix2 b k) := by
  rw [← V_1]
  blk_ext [iblk, idx t]
  all_goals omega

theorem read_2 (t : Fin cfg0.N) (a : Fin 1024) (b : Fin 1024) : (iblk m c 2 t : Vec Ideal S1024x1024 .f32) (ix2 a b) = argD m c (ix2 (row t.val a) b) := by
  have := pt t
  unfold row argD
  rw [← V_main_arg3 m c]
  blk_ext [iblk, idx t]
  all_goals omega

theorem place (t : Fin cfg0.N) (a : Fin 1024) (b : Fin 1024) (G : FVec Ideal S8192x1024 .f32) :
    G (((cfg0.win 3).blk t).view.emb (ix2 a b)) = G (ix2 (row t.val a) b) := by
  have := pt t
  unfold row
  blk_ext [idx t]
  all_goals omega

theorem out (x : Vec Ideal S1024x1536 .bf16) (w : Vec Ideal S1024x1536 .bf16) (d : Vec Ideal S1024x1024 .f32) (a : Fin 1024) (b : Fin 1024) :
    out0_3 x w d (ix2 a b) = (∑ k : Fin 1536, x (ix2 a k) * w (ix2 b k)) + Ideal.ofBits .f32 0x3FB504F3#32 * d (ix2 a b) := by
  unfold out0_3
  rw [View.canon_unit_zero origin, View.ld_unit_zero origin, View.ld_unit_zero origin, View.ld_unit_zero origin, pay]

theorem final : (dats m 0 c).arrAt 3 (cfgs 0).N = product (argCt m c) (argW m c) (argD m c) := by
  refine (dats m 0 c).arrAt_eq_of_covers 3 _ (by decide +kernel) fun t hf y => ?_
  blk_simp
  rw [after0_3]
  idx_vars y
  rw [out]
  refine Eq.trans ?_ (place t y0 y1 _).symm
  simp only [read_0, read_1, read_2]
  rfl

/-- The reference is the product and the residual's part. -/
theorem reference (ct : FVec Ideal S8192x1536 .f32) (w : FVec Ideal S1024x1536 .f32) (d : FVec Ideal S8192x1024 .f32) :
    addf (mulf (broadcastInDim S8192x1024 ![] Cert.Reference9Ideal.Gen.bcast_S_S8192x1024 (constant Cert.Reference9Ideal.S_ .f32 0x3FB504F3#32)) d)
      (Host.dotGeneral Cert.Reference9Ideal.dot_S8192x1536_S1024x1536_S8192x1024_1_1_0_0_n_n none ct w) = product ct w d := by
  funext i
  idx_vars i
  pointwise [product]
  rw [add_comm]

theorem frame_P : Cert.quiescent_Kernel9 := fun m g _ => Cert.Kernel9.Gen.frame m g

theorem frame_PI : Cert.quiescent_Kernel9Ideal := fun m g _ => Cert.Kernel9Ideal.Gen.frame m g

theorem frame_RI : Cert.quiescent_Reference9Ideal := fun m g _ =>
  θ_run_mono (Cert.Reference9Ideal.Value.run m g) fun r h => ⟨fun c => (h c).2, sem_eq_zero_of_no_sems (by decide) r.2⟩

/-- The call's product is the reference's. -/
theorem algebraic : Cert.algebraic_Kernel9Ideal_Reference9Ideal := by
  intro m g m' g' _ hagree
  refine ⟨fun c => product (argCt m c) (argW m c) (argD m c), ?_, ?_⟩
  · exact θ_run_mono (Value.run_blocks m g) fun r h c => ⟨(h c).1.trans (final m c), (h c).2⟩
  · refine θ_run_mono (Cert.Reference9Ideal.Value.run m' g') fun r h c => ⟨(h c).1.trans ?_, (h c).2⟩
    obtain ⟨-, h1, h2, h3⟩ := hagree c
    rw [h1, h2, h3]
    exact reference _ _ _

end Cert.Product.Input

end
-- ==== Proof.Product.Gate.lean ====
/- The gate of the feed-forward: one product, a block of 512 tokens at a time. -/
module

public import proofs.«01_k».proof.Defs
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Product.Sums

@[expose] public section

set_option maxRecDepth 16384

noncomputable section

namespace Cert.Product.Gate

open Idealize.ShloMosaic Idealize.ShloMosaic.TcCoe Idealize.SL.Sem
open Cert.Kernel10Ideal Cert.Kernel10Ideal.Gen

/-- Input times weight. -/
def product (x : FVec Ideal S8192x1024 .f32) (w : FVec Ideal S1024x2816 .f32) : FVec Ideal S8192x2816 .f32 :=
  fun i => ∑ k : Fin 1024, x (ix2 (i 0) k) * w (ix2 k (i 1))

/-- What a grid point computes. -/
theorem pay (x : Vec Ideal S512x1024 .bf16) (w : Vec Ideal S1024x2816 .bf16) (a : Fin 512) (b : Fin 2816) :
    k0_pay1 x w (ix2 a b) = ∑ k : Fin 1024, x (ix2 a k) * w (ix2 k b) := by
  pointwise [k0_pay1]

/-- Row `a` of block `t`. -/
def row (t : ℕ) (a : Fin 512) : Fin 8192 := ⟨t % 16 * 512 + a.val, by omega⟩

theorem pt (t : Fin cfg0.N) : t.val < 16 := lt_of_lt_of_eq t.isLt N_0

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev argW : FVec Ideal S1024x2816 .f32 := m ((c.tc : Thread nD τ).loc main_arg1)
abbrev argX : FVec Ideal S8192x1024 .f32 := m ((c.tc : Thread nD τ).loc main_arg0)

theorem V_0 : (V m c main_v0 : FVec Ideal S8192x1024 .bf16) = argX m c := by
  unfold V hostOps0
  after_results_simp
  rfl

theorem V_1 : (V m c main_v1 : FVec Ideal S1024x2816 .bf16) = argW m c := by
  unfold V hostOps0
  after_results_simp
  rfl

theorem read_0 (t : Fin cfg0.N) (a : Fin 512) (k : Fin 1024) : (iblk m c 0 t : Vec Ideal S512x1024 .bf16) (ix2 a k) = argX m c (ix2 (row t.val a) k) := by
  have := pt t
  rw [← V_0]
  unfold row
  blk_ext [iblk, idx t]
  all_goals omega

theorem read_1 (t : Fin cfg0.N) (b : Fin 2816) (k : Fin 1024) : (iblk m c 1 t : Vec Ideal S1024x2816 .bf16) (ix2 k b) = argW m c (ix2 k b) := by
  rw [← V_1]
  blk_ext [iblk, idx t]
  all_goals omega

theorem place (t : Fin cfg0.N) (a : Fin 512) (b : Fin 2816) (G : FVec Ideal S8192x2816 .f32) :
    G (((cfg0.win 2).blk t).view.emb (ix2 a b)) = G (ix2 (row t.val a) b) := by
  have := pt t
  unfold row
  blk_ext [idx t]
  all_goals omega

theorem out (x : Vec Ideal S512x1024 .bf16) (w : Vec Ideal S1024x2816 .bf16) (a : Fin 512) (b : Fin 2816) :
    out0_2 x w (ix2 a b) = ∑ k : Fin 1024, x (ix2 a k) * w (ix2 k b) := by
  unfold out0_2
  rw [View.canon_unit_zero origin, View.ld_unit_zero origin, View.ld_unit_zero origin, pay]

theorem final : (dats m 0 c).arrAt 2 (cfgs 0).N = product (argX m c) (argW m c) := by
  refine (dats m 0 c).arrAt_eq_of_covers 2 _ (by decide +kernel) fun t hf y => ?_
  blk_simp
  rw [after0_2]
  idx_vars y
  rw [out]
  refine Eq.trans ?_ (place t y0 y1 _).symm
  simp only [read_0, read_1]
  rfl

/-- The reference is the product. -/
theorem reference (x : FVec Ideal S8192x1024 .f32) (w : FVec Ideal S1024x2816 .f32) :
    Host.dotGeneral Cert.Reference10Ideal.dot_S8192x1024_S1024x2816_S8192x2816_1_0_0_1_n_n none x w = product x w := by
  funext i
  idx_vars i
  pointwise [product]

theorem frame_P : Cert.quiescent_Kernel10 := fun m g _ => Cert.Kernel10.Gen.frame m g

theorem frame_PI : Cert.quiescent_Kernel10Ideal := fun m g _ => Cert.Kernel10Ideal.Gen.frame m g

theorem frame_RI : Cert.quiescent_Reference10Ideal := fun m g _ =>
  θ_run_mono (Cert.Reference10Ideal.Value.run m g) fun r h => ⟨fun c => (h c).2, sem_eq_zero_of_no_sems (by decide) r.2⟩

/-- The call's product is the reference's. -/
theorem algebraic : Cert.algebraic_Kernel10Ideal_Reference10Ideal := by
  intro m g m' g' _ hagree
  refine ⟨fun c => product (argX m c) (argW m c), ?_, ?_⟩
  · exact θ_run_mono (Value.run_blocks m g) fun r h c => ⟨(h c).1.trans (final m c), (h c).2⟩
  · refine θ_run_mono (Cert.Reference10Ideal.Value.run m' g') fun r h c => ⟨(h c).1.trans ?_, (h c).2⟩
    obtain ⟨h0, h1⟩ := hagree c
    rw [h0, h1]
    exact reference _ _

end Cert.Product.Gate

end
-- ==== Proof.Product.Up.lean ====
/- The other branch of the feed-forward: one product, a block of 512 tokens at a time. -/
module

public import proofs.«01_k».proof.Defs
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Product.Sums

@[expose] public section

set_option maxRecDepth 16384

noncomputable section

namespace Cert.Product.Up

open Idealize.ShloMosaic Idealize.ShloMosaic.TcCoe Idealize.SL.Sem
open Cert.Kernel11Ideal Cert.Kernel11Ideal.Gen

/-- Input times weight. -/
def product (x : FVec Ideal S8192x1024 .f32) (w : FVec Ideal S1024x2816 .f32) : FVec Ideal S8192x2816 .bf16 :=
  fun i => ∑ k : Fin 1024, x (ix2 (i 0) k) * w (ix2 k (i 1))

/-- What a grid point computes. -/
theorem pay (x : Vec Ideal S512x1024 .bf16) (w : Vec Ideal S1024x2816 .bf16) (a : Fin 512) (b : Fin 2816) :
    k0_pay1 x w (ix2 a b) = ∑ k : Fin 1024, x (ix2 a k) * w (ix2 k b) := by
  pointwise [k0_pay1]

/-- Row `a` of block `t`. -/
def row (t : ℕ) (a : Fin 512) : Fin 8192 := ⟨t % 16 * 512 + a.val, by omega⟩

theorem pt (t : Fin cfg0.N) : t.val < 16 := lt_of_lt_of_eq t.isLt N_0

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev argW : FVec Ideal S1024x2816 .f32 := m ((c.tc : Thread nD τ).loc main_arg1)
abbrev argX : FVec Ideal S8192x1024 .f32 := m ((c.tc : Thread nD τ).loc main_arg0)

theorem V_0 : (V m c main_v0 : FVec Ideal S8192x1024 .bf16) = argX m c := by
  unfold V hostOps0
  after_results_simp
  rfl

theorem V_1 : (V m c main_v1 : FVec Ideal S1024x2816 .bf16) = argW m c := by
  unfold V hostOps0
  after_results_simp
  rfl

theorem read_0 (t : Fin cfg0.N) (a : Fin 512) (k : Fin 1024) : (iblk m c 0 t : Vec Ideal S512x1024 .bf16) (ix2 a k) = argX m c (ix2 (row t.val a) k) := by
  have := pt t
  rw [← V_0]
  unfold row
  blk_ext [iblk, idx t]
  all_goals omega

theorem read_1 (t : Fin cfg0.N) (b : Fin 2816) (k : Fin 1024) : (iblk m c 1 t : Vec Ideal S1024x2816 .bf16) (ix2 k b) = argW m c (ix2 k b) := by
  rw [← V_1]
  blk_ext [iblk, idx t]
  all_goals omega

theorem place (t : Fin cfg0.N) (a : Fin 512) (b : Fin 2816) (G : FVec Ideal S8192x2816 .bf16) :
    G (((cfg0.win 2).blk t).view.emb (ix2 a b)) = G (ix2 (row t.val a) b) := by
  have := pt t
  unfold row
  blk_ext [idx t]
  all_goals omega

theorem out (x : Vec Ideal S512x1024 .bf16) (w : Vec Ideal S1024x2816 .bf16) (a : Fin 512) (b : Fin 2816) :
    out0_2 x w (ix2 a b) = ∑ k : Fin 1024, x (ix2 a k) * w (ix2 k b) := by
  unfold out0_2
  rw [View.canon_unit_zero origin, View.ld_unit_zero origin, View.ld_unit_zero origin, pay]

theorem final : (dats m 0 c).arrAt 2 (cfgs 0).N = product (argX m c) (argW m c) := by
  refine (dats m 0 c).arrAt_eq_of_covers 2 _ (by decide +kernel) fun t hf y => ?_
  blk_simp
  rw [after0_2]
  idx_vars y
  rw [out]
  refine Eq.trans ?_ (place t y0 y1 _).symm
  simp only [read_0, read_1]
  rfl

/-- The reference is the product. -/
theorem reference (x : FVec Ideal S8192x1024 .f32) (w : FVec Ideal S1024x2816 .f32) :
    truncf .bf16 (Host.dotGeneral Cert.Reference11Ideal.dot_S8192x1024_S1024x2816_S8192x2816_1_0_0_1_n_n none x w) bitsLt_bf16_f32 = product x w := by
  funext i
  idx_vars i
  pointwise [product]

theorem frame_P : Cert.quiescent_Kernel11 := fun m g _ => Cert.Kernel11.Gen.frame m g

theorem frame_PI : Cert.quiescent_Kernel11Ideal := fun m g _ => Cert.Kernel11Ideal.Gen.frame m g

theorem frame_RI : Cert.quiescent_Reference11Ideal := fun m g _ =>
  θ_run_mono (Cert.Reference11Ideal.Value.run m g) fun r h => ⟨fun c => (h c).2, sem_eq_zero_of_no_sems (by decide) r.2⟩

/-- The call's product is the reference's. -/
theorem algebraic : Cert.algebraic_Kernel11Ideal_Reference11Ideal := by
  intro m g m' g' _ hagree
  refine ⟨fun c => product (argX m c) (argW m c), ?_, ?_⟩
  · exact θ_run_mono (Value.run_blocks m g) fun r h c => ⟨(h c).1.trans (final m c), (h c).2⟩
  · refine θ_run_mono (Cert.Reference11Ideal.Value.run m' g') fun r h c => ⟨(h c).1.trans ?_, (h c).2⟩
    obtain ⟨h0, h1⟩ := hagree c
    rw [h0, h1]
    exact reference _ _

end Cert.Product.Up

end
-- ==== Proof.Product.Projection.lean ====
/- The projection to queries, keys and values: one product, a block of 1024 tokens at a time. -/
module

public import proofs.«01_k».proof.Defs
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Product.Sums

@[expose] public section

set_option maxRecDepth 16384

noncomputable section

namespace Cert.Product.Projection

open Idealize.ShloMosaic Idealize.ShloMosaic.TcCoe Idealize.SL.Sem
open Cert.Kernel12Ideal Cert.Kernel12Ideal.Gen

/-- Input times weight. -/
def product (x : FVec Ideal S8192x1024 .f32) (w : FVec Ideal S1024x1536 .f32) : FVec Ideal S8192x1536 .f32 :=
  fun i => ∑ k : Fin 1024, x (ix2 (i 0) k) * w (ix2 k (i 1))

/-- What a grid point computes. -/
theorem pay (x : Vec Ideal S1024x1024 .bf16) (w : Vec Ideal S1024x1536 .bf16) (a : Fin 1024) (b : Fin 1536) :
    k0_pay1 x w (ix2 a b) = ∑ k : Fin 1024, x (ix2 a k) * w (ix2 k b) := by
  pointwise [k0_pay1]

/-- Row `a` of block `t`. -/
def row (t : ℕ) (a : Fin 1024) : Fin 8192 := ⟨t % 8 * 1024 + a.val, by omega⟩

theorem pt (t : Fin cfg0.N) : t.val < 8 := lt_of_lt_of_eq t.isLt N_0

theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

abbrev argW : FVec Ideal S1024x1536 .f32 := m ((c.tc : Thread nD τ).loc main_arg1)
abbrev argX : FVec Ideal S8192x1024 .f32 := m ((c.tc : Thread nD τ).loc main_arg0)

theorem V_0 : (V m c main_v0 : FVec Ideal S8192x1024 .bf16) = argX m c := by
  unfold V hostOps0
  after_results_simp
  rfl

theorem V_1 : (V m c main_v1 : FVec Ideal S1024x1536 .bf16) = argW m c := by
  unfold V hostOps0
  after_results_simp
  rfl

theorem read_0 (t : Fin cfg0.N) (a : Fin 1024) (k : Fin 1024) : (iblk m c 0 t : Vec Ideal S1024x1024 .bf16) (ix2 a k) = argX m c (ix2 (row t.val a) k) := by
  have := pt t
  rw [← V_0]
  unfold row
  blk_ext [iblk, idx t]
  all_goals omega

theorem read_1 (t : Fin cfg0.N) (b : Fin 1536) (k : Fin 1024) : (iblk m c 1 t : Vec Ideal S1024x1536 .bf16) (ix2 k b) = argW m c (ix2 k b) := by
  rw [← V_1]
  blk_ext [iblk, idx t]
  all_goals omega

theorem place (t : Fin cfg0.N) (a : Fin 1024) (b : Fin 1536) (G : FVec Ideal S8192x1536 .f32) :
    G (((cfg0.win 2).blk t).view.emb (ix2 a b)) = G (ix2 (row t.val a) b) := by
  have := pt t
  unfold row
  blk_ext [idx t]
  all_goals omega

theorem out (x : Vec Ideal S1024x1024 .bf16) (w : Vec Ideal S1024x1536 .bf16) (a : Fin 1024) (b : Fin 1536) :
    out0_2 x w (ix2 a b) = ∑ k : Fin 1024, x (ix2 a k) * w (ix2 k b) := by
  unfold out0_2
  rw [View.canon_unit_zero origin, View.ld_unit_zero origin, View.ld_unit_zero origin, pay]

theorem final : (dats m 0 c).arrAt 2 (cfgs 0).N = product (argX m c) (argW m c) := by
  refine (dats m 0 c).arrAt_eq_of_covers 2 _ (by decide +kernel) fun t hf y => ?_
  blk_simp
  rw [after0_2]
  idx_vars y
  rw [out]
  refine Eq.trans ?_ (place t y0 y1 _).symm
  simp only [read_0, read_1]
  rfl

/-- The reference is the product. -/
theorem reference (x : FVec Ideal S8192x1024 .f32) (w : FVec Ideal S1024x1536 .f32) :
    Host.dotGeneral Cert.Reference12Ideal.dot_S8192x1024_S1024x1536_S8192x1536_1_0_0_1_n_n none x w = product x w := by
  funext i
  idx_vars i
  pointwise [product]

theorem frame_P : Cert.quiescent_Kernel12 := fun m g _ => Cert.Kernel12.Gen.frame m g

theorem frame_PI : Cert.quiescent_Kernel12Ideal := fun m g _ => Cert.Kernel12Ideal.Gen.frame m g

theorem frame_RI : Cert.quiescent_Reference12Ideal := fun m g _ =>
  θ_run_mono (Cert.Reference12Ideal.Value.run m g) fun r h => ⟨fun c => (h c).2, sem_eq_zero_of_no_sems (by decide) r.2⟩

/-- The call's product is the reference's. -/
theorem algebraic : Cert.algebraic_Kernel12Ideal_Reference12Ideal := by
  intro m g m' g' _ hagree
  refine ⟨fun c => product (argX m c) (argW m c), ?_, ?_⟩
  · exact θ_run_mono (Value.run_blocks m g) fun r h c => ⟨(h c).1.trans (final m c), (h c).2⟩
  · refine θ_run_mono (Cert.Reference12Ideal.Value.run m' g') fun r h c => ⟨(h c).1.trans ?_, (h c).2⟩
    obtain ⟨h0, h1⟩ := hagree c
    rw [h0, h1]
    exact reference _ _

end Cert.Product.Projection

end
-- ==== Proof.Norm.Frame.lean ====
/- The gradient of the norm before the feed-forward: the runs, and what they leave. -/
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run

@[expose] public section

noncomputable section

namespace Cert.Norm

open Idealize.ShloMosaic Idealize.SL.Sem

theorem frame_P : Cert.quiescent_Kernel5 := fun m g _ => Cert.Kernel5.Gen.frame m g

theorem frame_PI : Cert.quiescent_Kernel5Ideal := fun m g _ => Cert.Kernel5Ideal.Gen.frame m g

theorem frame_RI : Cert.quiescent_Reference5Ideal := fun m g _ =>
  θ_run_mono (Cert.Reference5Ideal.Value.run m g) fun r h => ⟨fun c => (h c).2.2.2, sem_eq_zero_of_no_sems (by decide) r.2⟩

end Cert.Norm

end
-- ==== Proof.Norm.Spec.lean ====
/- The norm before the feed-forward and its gradient, over the extended reals. -/
module

public import proofs.«01_k».proof.Proof.Norm.Frame
public import Idealize.ShloMosaic.Lib.Pointwise

@[expose] public section

noncomputable section

namespace Cert.Norm

open Idealize.ShloMosaic
open Cert.Kernel5Ideal

/-- The width of the model, the norm's epsilon and the residual's scale, as the programs hold them. -/
def width : EReal := Ideal.ofBits .f32 0x44800000#32
def epsilon : EReal := Ideal.ofBits .f32 0x3727C5AC#32
def alpha : EReal := Ideal.ofBits .f32 0x3FB504F3#32

/-- The gradient of the norm's output: through both products and the residual. -/
def dx (wg wu : FVec Ideal S1024x2816 .f32) (dg du : FVec Ideal S8192x2816 .f32) (dr : FVec Ideal S8192x1024 .f32) (s : Fin 8192) (j : Fin 1024) : EReal :=
  (∑ k : Fin 2816, dg (ix2 s k) * wg (ix2 j k)) + (∑ k : Fin 2816, du (ix2 s k) * wu (ix2 j k)) + alpha * dr (ix2 s j)

variable (z : FVec Ideal S8192x1024 .f32)

def mean (s : Fin 8192) : EReal := Ideal.div (∑ k : Fin 1024, z (ix2 s k)) width
def centred (s : Fin 8192) (j : Fin 1024) : EReal := z (ix2 s j) - mean z s
def spread (s : Fin 8192) : EReal := Ideal.div (∑ k : Fin 1024, centred z s k * centred z s k) width + epsilon
def rstd (s : Fin 8192) : EReal := Ideal.rsqrt (spread z s)
def xhat (s : Fin 8192) (j : Fin 1024) : EReal := centred z s j * rstd z s

/-- The gradient of the norm's input, as the kernel writes it. -/
def dz (g : FVec Ideal S1024 .f32) (d : Fin 8192 → Fin 1024 → EReal) (s : Fin 8192) (j : Fin 1024) : EReal :=
  rstd z s * (d s j * g (ix1 j) - Ideal.div (∑ k : Fin 1024, d s k * g (ix1 k)) width
    - xhat z s j * Ideal.div (∑ k : Fin 1024, d s k * g (ix1 k) * xhat z s k) width)

/-- The gradients of the gain and the bias, above six rows of zeros. -/
def gains (d : Fin 8192 → Fin 1024 → EReal) (a : Fin 8) (j : Fin 1024) : EReal :=
  if a.val = 1 then ∑ s : Fin 8192, d s j else if a.val = 0 then ∑ s : Fin 8192, d s j * xhat z s j else 0

end Cert.Norm

end
-- ==== Proof.Norm.Point.lean ====
/- The gradient of the norm before the feed-forward: what a grid point computes. -/
module

public import proofs.«01_k».proof.Proof.Norm.Frame
public import proofs.«01_k».proof.Proof.Product.Sums
public import Idealize.ShloMosaic.Lib.WritesUnit
public import Idealize.ShloMosaic.Lib.Pipeline.ReadBack

@[expose] public section

set_option maxRecDepth 16384

noncomputable section

namespace Cert.Norm

open Idealize.ShloMosaic Idealize.ShloMosaic.TcCoe Cert.Product
open Cert.Kernel5Ideal Cert.Kernel5Ideal.Gen

/-! ## Payloads -/

/-- The gradient of the norm's output, of 256 tokens. -/
def dxBlock (x0 x1 : Vec Ideal S256x2816 .bf16) (x2 x3 : Vec Ideal S1024x2816 .bf16) (x4 : Vec Ideal S256x1024 .f32) : FVec Ideal S256x1024 .f32 :=
  k0_pay4 x0 x2 x1 x3 x4

theorem dx_at (x0 x1 : Vec Ideal S256x2816 .bf16) (x2 x3 : Vec Ideal S1024x2816 .bf16) (x4 : Vec Ideal S256x1024 .f32) (s : Fin 256) (j : Fin 1024) :
    dxBlock x0 x1 x2 x3 x4 (ix2 s j) = (∑ k : Fin 2816, x0 (ix2 s k) * x2 (ix2 j k)) + (∑ k : Fin 2816, x1 (ix2 s k) * x3 (ix2 j k)) + Ideal.ofBits .f32 0x3FB504F3#32 * x4 (ix2 s j) := by
  unfold dxBlock
  pointwise [k0_pay4]

theorem dz_at (dx x5 : Vec Ideal S256x1024 .f32) (x7 : Vec Ideal S1x1024 .f32) (x6 : Vec Ideal S256x1 .f32) (s : Fin 256) (j : Fin 1024) :
    k0_pay2 (F := Ideal) dx (k0_pay6 x5) x7 x6 (ix2 s j)
      = x6 (ix2 s 0) * (dx (ix2 s j) * x7 (ix2 0 j) - Ideal.div (∑ k : Fin 1024, dx (ix2 s k) * x7 (ix2 0 k)) (Ideal.ofBits .f32 0x44800000#32)
          - x5 (ix2 s j) * Ideal.div (∑ k : Fin 1024, dx (ix2 s k) * x7 (ix2 0 k) * x5 (ix2 s k)) (Ideal.ofBits .f32 0x44800000#32)) := by
  pointwise [k0_pay2, k0_pay6]

theorem dz16_at (dx x5 : Vec Ideal S256x1024 .f32) (x7 : Vec Ideal S1x1024 .f32) (x6 : Vec Ideal S256x1 .f32) (s : Fin 256) (j : Fin 1024) :
    @Eq EReal (k0_pay3 (F := Ideal) dx (k0_pay6 x5) x7 x6 (ix2 s j)) (k0_pay2 (F := Ideal) dx (k0_pay6 x5) x7 x6 (ix2 s j)) := by
  unfold k0_pay3
  rfl

theorem dg_at (x0 x1 : Vec Ideal S256x2816 .bf16) (x2 x3 : Vec Ideal S1024x2816 .bf16) (x4 x5 : Vec Ideal S256x1024 .f32) (v : Vec Ideal S1x1024 .f32) (z : Fin 1) (j : Fin 1024) :
    k0_pay7 (F := Ideal) x0 x2 x1 x3 x4 x5 v (ix2 z j) = v (ix2 z j) + ∑ s : Fin 256, dxBlock x0 x1 x2 x3 x4 (ix2 s j) * x5 (ix2 s j) := by
  unfold k0_pay7
  show _ = v (ix2 z j) + ∑ s : Fin 256, k0_pay4 x0 x2 x1 x3 x4 (ix2 s j) * x5 (ix2 s j)
  generalize k0_pay4 x0 x2 x1 x3 x4 = dx
  pointwise [k0_pay6]

theorem db_at (x0 x1 : Vec Ideal S256x2816 .bf16) (x2 x3 : Vec Ideal S1024x2816 .bf16) (x4 : Vec Ideal S256x1024 .f32) (v : Vec Ideal S1x1024 .f32) (z : Fin 1) (j : Fin 1024) :
    k0_pay1 (F := Ideal) (k0_pay8 v) (k0_pay9 x0 x2 x1 x3 x4) (ix2 z j) = v (ix2 z j) + ∑ s : Fin 256, dxBlock x0 x1 x2 x3 x4 (ix2 s j) := by
  unfold k0_pay9
  show _ = v (ix2 z j) + ∑ s : Fin 256, k0_pay4 x0 x2 x1 x3 x4 (ix2 s j)
  generalize k0_pay4 x0 x2 x1 x3 x4 = dx
  pointwise [k0_pay1, k0_pay8]

/-! ## The point's stores -/

variable (c : Dev nD) (i : grid0.Coords) (a3 : Memref sig .tc .vmem S256x2816 .bf16) (h3 : a3.IsWhole) (a4 : Memref sig .tc .vmem S256x2816 .bf16) (h4 : a4.IsWhole)
  (a5 : Memref sig .tc .vmem S1024x2816 .bf16) (h5 : a5.IsWhole) (a6 : Memref sig .tc .vmem S1024x2816 .bf16) (h6 : a6.IsWhole) (a7 : Memref sig .tc .vmem S256x1024 .f32) (h7 : a7.IsWhole)
  (a8 : Memref sig .tc .vmem S256x1024 .f32) (h8 : a8.IsWhole) (a9 : Memref sig .tc .vmem S256x1 .f32) (h9 : a9.IsWhole) (a10 : Memref sig .tc .vmem S1x1024 .f32) (h10 : a10.IsWhole)
  (a11 : Memref sig .tc .vmem S256x1024 .f32) (h11 : a11.IsWhole) (a12 : Memref sig .tc .vmem S256x1024 .bf16) (h12 : a12.IsWhole) (a13 : Memref sig .tc .vmem S8x1024 .f32) (h13 : a13.IsWhole)
  (x0 x1 : Vec Ideal S256x2816 .bf16) (x2 x3 : Vec Ideal S1024x2816 .bf16) (x4 x5 : Vec Ideal S256x1024 .f32) (x6 : Vec Ideal S256x1 .f32) (x7 : Vec Ideal S1x1024 .f32) (old : Vec Ideal S8x1024 .f32)

theorem first_dz (hc0 : cond0_0 i) : out0_A_8 c i a3 h3 a4 h4 a5 h5 a6 h6 a7 h7 a8 h8 a9 h9 a10 h10 a11 h11 a12 h12 a13 h13 hc0 x0 x1 x2 x3 x4 x5 x6 x7
    = k0_pay2 (dxBlock x0 x1 x2 x3 x4) (k0_pay6 x5) x7 x6 := by
  frame_out
  rfl

theorem next_dz (hc0 : ¬cond0_0 i) : out0_B_8 c i a3 h3 a4 h4 a5 h5 a6 h6 a7 h7 a8 h8 a9 h9 a10 h10 a11 h11 a12 h12 a13 h13 hc0 x0 x1 x2 x3 x4 x5 x6 x7 old
    = k0_pay2 (dxBlock x0 x1 x2 x3 x4) (k0_pay6 x5) x7 x6 := by
  frame_out
  rfl

theorem first_dz16 (hc0 : cond0_0 i) : out0_A_9 c i a3 h3 a4 h4 a5 h5 a6 h6 a7 h7 a8 h8 a9 h9 a10 h10 a11 h11 a12 h12 a13 h13 hc0 x0 x1 x2 x3 x4 x5 x6 x7
    = k0_pay3 (dxBlock x0 x1 x2 x3 x4) (k0_pay6 x5) x7 x6 := by
  frame_out
  rfl

theorem next_dz16 (hc0 : ¬cond0_0 i) : out0_B_9 c i a3 h3 a4 h4 a5 h5 a6 h6 a7 h7 a8 h8 a9 h9 a10 h10 a11 h11 a12 h12 a13 h13 hc0 x0 x1 x2 x3 x4 x5 x6 x7 old
    = k0_pay3 (dxBlock x0 x1 x2 x3 x4) (k0_pay6 x5) x7 x6 := by
  frame_out
  rfl

/-- The two rows of sums after a point: that of the gain's gradient and that of the bias's. -/
def sums (dx xh : Vec Ideal S256x1024 .f32) (old : Vec Ideal S8x1024 .f32) : Vec Ideal S8x1024 .f32 := fun i =>
  if (i 0).val = 1 then old i + ∑ s : Fin 256, dx (ix2 s (i 1)) else if (i 0).val = 0 then old i + ∑ s : Fin 256, dx (ix2 s (i 1)) * xh (ix2 s (i 1)) else old i

/-- A buffer whose rows 1 and 0 are stored last. -/
theorem two_rows {κ : Kind} {sp : Space} (v : View sig κ sp S8x1024 .f32) (f : v.ty.Contents (Elt Ideal)) (w1 w0 : Vec Ideal S1x1024 .f32) (L : List (View.Piece (Elt Ideal) S8x1024 .f32))
    (a : Fin 8) (b : Fin 1024) :
    v.read (Elt Ideal) (v.writes (Elt Ideal) f (⟨Rect.unit ![1, 0] ![1, 1024] inb_S8x1024_S1x1024_1_0, w1⟩ :: ⟨Rect.unit ![0, 0] ![1, 1024] inb_S8x1024_S1x1024_0_0, w0⟩ :: L)) (ix2 a b)
      = if a.val = 1 then w1 (ix2 0 b) else if a.val = 0 then w0 (ix2 0 b) else v.read (Elt Ideal) (v.writes (Elt Ideal) f L) (ix2 a b) := by
  split_ifs with h1 h0
  · obtain rfl : a = 1 := Fin.ext h1
    exact View.read_writes_cons_rows_of_mem (d := ![8, 1024]) v f (o := 1) _ _ _ _ (ix2 0 b) rfl rfl rfl
  · obtain rfl : a = 0 := Fin.ext h0
    refine (View.read_writes_cons_unit_of_not_mem v f _ _ _ _ rfl 0 (Or.inl Nat.zero_lt_one)).trans ?_
    exact View.read_writes_cons_rows_of_mem (d := ![8, 1024]) v f (o := 0) _ _ _ _ (ix2 0 b) rfl rfl rfl
  · have ha : 2 ≤ a.val := by
      omega
    refine (View.read_writes_cons_unit_of_not_mem v f _ _ _ _ rfl 0 (Or.inr ha)).trans ?_
    exact View.read_writes_cons_unit_of_not_mem v f _ _ _ _ rfl 0 (Or.inr (Nat.le_of_succ_le ha))

theorem row_one (old : Vec Ideal S8x1024 .f32) (b : Fin 1024) : View.ld old (Rect.unit ![1, 0] ![1, 1024] inb_S8x1024_S1x1024_1_0) (ix2 0 b) = old (ix2 1 b) := by
  refine congrArg old (funext fun a => Fin.ext ?_)
  fin_cases a
  · rfl
  · show 0 + 1 * b.val = b.val
    omega

theorem row_zero (old : Vec Ideal S8x1024 .f32) (b : Fin 1024) : View.ld old (Rect.unit ![0, 0] ![1, 1024] inb_S8x1024_S1x1024_0_0) (ix2 0 b) = old (ix2 0 b) := by
  refine congrArg old (funext fun a => Fin.ext ?_)
  fin_cases a
  · rfl
  · show 0 + 1 * b.val = b.val
    omega

theorem cleared (i : S8x1024.Idx) : k0_pay5 (F := Ideal) i = 0 := by
  idx_vars i
  pointwise [k0_pay5]

theorem first_sums (hc0 : cond0_0 i) (a : Fin 8) (b : Fin 1024) : out0_A_10 c i a3 h3 a4 h4 a5 h5 a6 h6 a7 h7 a8 h8 a9 h9 a10 h10 a11 h11 a12 h12 a13 h13 hc0 x0 x1 x2 x3 x4 x5 x6 x7 (ix2 a b)
    = sums (dxBlock x0 x1 x2 x3 x4) x5 (fun _ => 0) (ix2 a b) := by
  frame_out
  rw [← View.read_writes_junk_eq_canon a13.view, two_rows, db_at, dg_at, View.readCov_skip _ _ _ _ _ rfl, View.readCov_fill (s := S8x1024) _ _ _ _ _ (by decide),
    View.readCov_fill (s := S8x1024) _ _ _ _ _ (by decide), row_one, row_zero, View.read_writes_junk_eq_canon, View.canon_unit_zero origin]
  simp only [cleared]
  rfl

theorem next_sums (hc0 : ¬cond0_0 i) (a : Fin 8) (b : Fin 1024) : out0_B_10 c i a3 h3 a4 h4 a5 h5 a6 h6 a7 h7 a8 h8 a9 h9 a10 h10 a11 h11 a12 h12 a13 h13 hc0 x0 x1 x2 x3 x4 x5 x6 x7 old (ix2 a b)
    = sums (dxBlock x0 x1 x2 x3 x4) x5 old (ix2 a b) := by
  frame_out
  rw [two_rows, db_at, dg_at, row_one, row_zero]
  show _ = if a.val = 1 then old (ix2 a b) + _ else if a.val = 0 then old (ix2 a b) + _ else old (ix2 a b)
  split_ifs with h1 h0
  · obtain rfl : a = 1 := Fin.ext h1
    rfl
  · obtain rfl : a = 0 := Fin.ext h0
    rfl
  · exact congrFun (h13.read_unread old) _

end Cert.Norm

end
-- ==== Proof.Norm.Host.lean ====
/- The gradient of the norm before the feed-forward: what the launch is given, and its blocks. -/
module

public import proofs.«01_k».proof.Proof.Norm.Spec
public import proofs.«01_k».proof.Proof.Norm.Point

@[expose] public section

set_option maxRecDepth 16384

noncomputable section

namespace Cert.Norm

open Idealize.ShloMosaic Idealize.ShloMosaic.TcCoe Cert.Product
open Cert.Kernel5Ideal Cert.Kernel5Ideal.Gen

variable (m : (ℓ : Loc nD τ sig) → Buf (Elt Ideal) ℓ) (c : Dev nD)

abbrev argZ : FVec Ideal S8192x1024 .f32 := m ((c.tc : Thread nD τ).loc main_arg0)
abbrev argG : FVec Ideal S1024 .f32 := m ((c.tc : Thread nD τ).loc main_arg1)
abbrev argWg : FVec Ideal S1024x2816 .f32 := m ((c.tc : Thread nD τ).loc main_arg3)
abbrev argWu : FVec Ideal S1024x2816 .f32 := m ((c.tc : Thread nD τ).loc main_arg4)
abbrev argDg : FVec Ideal S8192x2816 .f32 := m ((c.tc : Thread nD τ).loc main_arg5)
abbrev argDu : FVec Ideal S8192x2816 .f32 := m ((c.tc : Thread nD τ).loc main_arg6)
abbrev argDr : FVec Ideal S8192x1024 .f32 := m ((c.tc : Thread nD τ).loc main_arg7)

theorem V_18 : (V m c main_v18 : FVec Ideal S8192x2816 .bf16) = argDg m c := by
  unfold V hostOps0
  after_results_simp
  rfl

theorem V_19 : (V m c main_v19 : FVec Ideal S8192x2816 .bf16) = argDu m c := by
  unfold V hostOps0
  after_results_simp
  rfl

theorem V_20 : (V m c main_v20 : FVec Ideal S1024x2816 .bf16) = argWg m c := by
  unfold V hostOps0
  after_results_simp
  rfl

theorem V_21 : (V m c main_v21 : FVec Ideal S1024x2816 .bf16) = argWu m c := by
  unfold V hostOps0
  after_results_simp
  rfl

theorem V_22 (z : Fin 1) (j : Fin 1024) : (V m c main_v22 : FVec Ideal S1x1024 .f32) (ix2 z j) = argG m c (ix1 j) := by
  unfold V hostOps0
  after_results_simp
  pointwise

theorem V_13 (s : Fin 8192) (z : Fin 1) : (V m c main_v13 : FVec Ideal S8192x1 .f32) (ix2 s z) = rstd (argZ m c) s := by
  unfold V hostOps0
  after_results_simp
  pointwise [rstd, spread, centred, mean, width, epsilon]

theorem V_17 (s : Fin 8192) (j : Fin 1024) : (V m c main_v17 : FVec Ideal S8192x1024 .f32) (ix2 s j) = xhat (argZ m c) s j := by
  unfold V hostOps0
  after_results_simp
  pointwise [xhat, rstd, spread, centred, mean, width, epsilon]

/-! ## The blocks of a point -/

/-- Token `s` of the block of 256 that point `n` works on. -/
def tok (n : ℕ) (s : Fin 256) : Fin 8192 := ⟨(256 * n + s.val) % 8192, Nat.mod_lt _ (by norm_num)⟩

theorem pt (t : Fin cfg0.N) : t.val < 32 := lt_of_lt_of_eq t.isLt N_0

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] ∧ win0_7.index t = ![0, 0]
    ∧ win0_8.index t = ![t.val, 0] ∧ win0_9.index t = ![t.val, 0] ∧ win0_10.index t = ![0, 0] :=
  (by decide +kernel : ∀ t : Fin grid0.N, _)

theorem read_0 (t : Fin cfg0.N) (s : Fin 256) (k : Fin 2816) : (iblk m c 0 t : Vec Ideal S256x2816 .bf16) (ix2 s k) = argDg m c (ix2 (tok t.val s) k) := by
  have := pt t
  rw [← V_18]
  unfold tok
  blk_ext [iblk, idx t]
  all_goals omega

theorem read_1 (t : Fin cfg0.N) (s : Fin 256) (k : Fin 2816) : (iblk m c 1 t : Vec Ideal S256x2816 .bf16) (ix2 s k) = argDu m c (ix2 (tok t.val s) k) := by
  have := pt t
  rw [← V_19]
  unfold tok
  blk_ext [iblk, idx t]
  all_goals omega

theorem read_2 (t : Fin cfg0.N) (j : Fin 1024) (k : Fin 2816) : (iblk m c 2 t : Vec Ideal S1024x2816 .bf16) (ix2 j k) = argWg m c (ix2 j k) := by
  rw [← V_20]
  blk_ext [iblk, idx t]
  all_goals omega

theorem read_3 (t : Fin cfg0.N) (j : Fin 1024) (k : Fin 2816) : (iblk m c 3 t : Vec Ideal S1024x2816 .bf16) (ix2 j k) = argWu m c (ix2 j k) := by
  rw [← V_21]
  blk_ext [iblk, idx t]
  all_goals omega

theorem read_4 (t : Fin cfg0.N) (s : Fin 256) (j : Fin 1024) : (iblk m c 4 t : Vec Ideal S256x1024 .f32) (ix2 s j) = argDr m c (ix2 (tok t.val s) j) := by
  have := pt t
  unfold argDr tok
  rw [← V_main_arg7 m c]
  blk_ext [iblk, idx t]
  all_goals omega

theorem read_5 (t : Fin cfg0.N) (s : Fin 256) (j : Fin 1024) : (iblk m c 5 t : Vec Ideal S256x1024 .f32) (ix2 s j) = xhat (argZ m c) (tok t.val s) j := by
  have := pt t
  rw [← V_17]
  unfold tok
  blk_ext [iblk, idx t]
  all_goals omega

theorem read_6 (t : Fin cfg0.N) (s : Fin 256) (z : Fin 1) : (iblk m c 6 t : Vec Ideal S256x1 .f32) (ix2 s z) = rstd (argZ m c) (tok t.val s) := by
  have := pt t
  rw [← V_13 m c _ z]
  unfold tok
  blk_ext [iblk, idx t]
  all_goals omega

theorem read_7 (t : Fin cfg0.N) (z : Fin 1) (j : Fin 1024) : (iblk m c 7 t : Vec Ideal S1x1024 .f32) (ix2 z j) = argG m c (ix1 j) := by
  rw [← V_22 m c z]
  blk_ext [iblk, idx t]
  all_goals omega

theorem place_8 (t : Fin cfg0.N) (s : Fin 256) (j : Fin 1024) (G : FVec Ideal S8192x1024 .f32) :
    G (((cfg0.win 8).blk t).view.emb (ix2 s j)) = G (ix2 (tok t.val s) j) := by
  have := pt t
  unfold tok
  blk_ext [idx t]
  all_goals omega

theorem place_9 (t : Fin cfg0.N) (s : Fin 256) (j : Fin 1024) (G : FVec Ideal S8192x1024 .bf16) :
    G (((cfg0.win 9).blk t).view.emb (ix2 s j)) = G (ix2 (tok t.val s) j) := by
  have := pt t
  unfold tok
  blk_ext [idx t]
  all_goals omega

theorem place_10 (t : Fin cfg0.N) (a : Fin 8) (j : Fin 1024) (G : FVec Ideal S8x1024 .f32) :
    G (((cfg0.win 10).blk t).view.emb (ix2 a j)) = G (ix2 a j) := by
  blk_ext [idx t]
  all_goals omega

end Cert.Norm

end
-- ==== Proof.Norm.Final.lean ====
/- The gradient of the norm before the feed-forward: what the launch leaves. -/
module

public import proofs.«01_k».proof.Proof.Norm.Host

@[expose] public section

set_option maxRecDepth 16384

noncomputable section

namespace Cert.Norm

open Idealize.ShloMosaic Idealize.ShloMosaic.TcCoe Cert.Product
open Cert.Kernel5Ideal Cert.Kernel5Ideal.Gen

variable (m : (ℓ : Loc nD τ sig) → Buf (Elt Ideal) ℓ) (c : Dev nD)

/-- The gradient of the norm's output, from the arguments. -/
abbrev dxOf : Fin 8192 → Fin 1024 → EReal := dx (argWg m c) (argWu m c) (argDg m c) (argDu m c) (argDr m c)

/-- The block of it that point `t` computes. -/
abbrev dxAt (t : Fin cfg0.N) : FVec Ideal S256x1024 .f32 := dxBlock (iblk m c 0 t) (iblk m c 1 t) (iblk m c 2 t) (iblk m c 3 t) (iblk m c 4 t)

theorem dx_block (t : Fin cfg0.N) (s : Fin 256) (j : Fin 1024) : dxAt m c t (ix2 s j) = dxOf m c (tok t.val s) j := by
  unfold dxAt
  rw [dx_at]
  simp only [read_0, read_1, read_2, read_3, read_4]
  rfl

/-! ## The gradient of the input -/

theorem left_dz (t : Fin cfg0.N) : (outsAt0 m c t.val t.isLt).1 = k0_pay2 (dxAt m c t) (k0_pay6 (iblk m c 5 t)) (iblk m c 7 t) (iblk m c 6 t) := by
  by_cases h0 : t.val % 32 = 0
  · rw [outsAt0_A m c t h0]
    dsimp only
    rw [first_dz]
  · rw [outsAt0_B m c t h0]
    dsimp only
    rw [next_dz]

theorem left_dz16 (t : Fin cfg0.N) : (outsAt0 m c t.val t.isLt).2.1 = k0_pay3 (dxAt m c t) (k0_pay6 (iblk m c 5 t)) (iblk m c 7 t) (iblk m c 6 t) := by
  by_cases h0 : t.val % 32 = 0
  · rw [outsAt0_A m c t h0]
    dsimp only
    rw [first_dz16]
  · rw [outsAt0_B m c t h0]
    dsimp only
    rw [next_dz16]

theorem dz_block (t : Fin cfg0.N) (s : Fin 256) (j : Fin 1024) : k0_pay2 (F := Ideal) (dxAt m c t) (k0_pay6 (iblk m c 5 t)) (iblk m c 7 t) (iblk m c 6 t) (ix2 s j)
    = dz (argZ m c) (argG m c) (dxOf m c) (tok t.val s) j := by
  rw [dz_at]
  simp only [dx_block, read_5, read_6, read_7]
  rfl

def dzOf : FVec Ideal S8192x1024 .f32 := fun i => dz (argZ m c) (argG m c) (dxOf m c) (i 0) (i 1)
def gainsOf : FVec Ideal S8x1024 .f32 := fun i => gains (argZ m c) (dxOf m c) (i 0) (i 1)

theorem final_8 : (dats m 0 c).arrAt 8 (cfgs 0).N = dzOf m c := by
  refine (dats m 0 c).arrAt_eq_of_covers 8 _ (by decide +kernel) fun t hf y => ?_
  blk_simp
  rw [after0_8, left_dz]
  idx_vars y
  rw [dz_block]
  exact (place_8 t y0 y1 (dzOf m c)).symm

theorem final_9 : (dats m 0 c).arrAt 9 (cfgs 0).N = (dzOf m c : FVec Ideal S8192x1024 .bf16) := by
  refine (dats m 0 c).arrAt_eq_of_covers 9 _ (by decide +kernel) fun t hf y => ?_
  blk_simp
  rw [after0_9, left_dz16]
  idx_vars y
  rw [dz16_at, dz_block]
  exact (place_9 t y0 y1 (dzOf m c)).symm

/-! ## The gradients of the gain and the bias -/

/-- What point `n` adds to row `a`. -/
def part (a : Fin 8) (j : Fin 1024) (n : ℕ) : EReal :=
  if a.val = 1 then ∑ s : Fin 256, dxOf m c (tok n s) j else if a.val = 0 then ∑ s : Fin 256, dxOf m c (tok n s) j * xhat (argZ m c) (tok n s) j else 0

theorem sums_at (t : Fin cfg0.N) (old : Vec Ideal S8x1024 .f32) (a : Fin 8) (j : Fin 1024) :
    sums (dxAt m c t) (iblk m c 5 t) old (ix2 a j) = old (ix2 a j) + part m c a j t.val := by
  show (if a.val = 1 then old (ix2 a j) + ∑ s : Fin 256, dxAt m c t (ix2 s j)
    else if a.val = 0 then old (ix2 a j) + ∑ s : Fin 256, dxAt m c t (ix2 s j) * (iblk m c 5 t : Vec Ideal S256x1024 .f32) (ix2 s j) else old (ix2 a j)) = _
  simp only [dx_block, read_5]
  unfold part
  split_ifs
  · rfl
  · rfl
  · exact (add_zero _).symm

theorem left_sums (a : Fin 8) (j : Fin 1024) (n : ℕ) (hn : n < cfg0.N) : (outsAt0 m c n hn).2.2 (ix2 a j) = ∑ i ∈ Finset.range (n + 1), part m c a j i := by
  induction n with
  | zero =>
    have hA := outsAt0_A m c ⟨0, hn⟩ rfl
    dsimp only at hA ⊢
    rw [hA]
    dsimp only
    rw [first_sums, sums_at, Finset.sum_range_one]
    exact zero_add _
  | succ n ih =>
    have hB := outsAt0_B m c ⟨n + 1, hn⟩ (by have := pt ⟨n + 1, hn⟩; dsimp only at this ⊢; omega)
    dsimp only at hB ⊢
    rw [hB]
    dsimp only
    rw [next_sums, sums_at, Finset.sum_range_succ]
    exact congrArg (· + _) (ih (Nat.lt_of_succ_lt hn))

theorem sum_blocks (f : Fin 8192 → EReal) : ∑ i ∈ Finset.range 32, ∑ s : Fin 256, f (tok i s) = ∑ k : Fin 8192, f k := by
  rw [Finset.sum_range, ← Finset.sum_product', ← Equiv.sum_comp (finProdFinEquiv (m := 32) (n := 256)) f]
  refine Finset.sum_congr rfl fun p _ => congrArg f (Fin.ext ?_)
  have := p.1.isLt
  have := p.2.isLt
  show (256 * p.1.val + p.2.val) % 8192 = p.2.val + 256 * p.1.val
  omega

theorem all_parts (a : Fin 8) (j : Fin 1024) : ∑ i ∈ Finset.range 32, part m c a j i = gains (argZ m c) (dxOf m c) a j := by
  unfold part gains
  split_ifs
  · exact sum_blocks fun k => dxOf m c k j
  · exact sum_blocks fun k => dxOf m c k j * xhat (argZ m c) k j
  · exact Finset.sum_const_zero

theorem final_10 : (dats m 0 c).arrAt 10 (cfgs 0).N = gainsOf m c := by
  refine (dats m 0 c).arrAt_eq_of_covers 10 _ (by decide +kernel) fun t hf y => ?_
  have h31 := (flush0_10 t).mp hf
  have := pt t
  blk_simp
  rw [after0_10]
  idx_vars y
  refine Eq.trans ?_ (place_10 t y0 y1 (gainsOf m c)).symm
  rw [left_sums, show t.val + 1 = 32 by omega]
  exact all_parts m c y0 y1

end Cert.Norm

end
-- ==== Proof.Norm.Reference.lean ====
/- The gradient of the norm before the feed-forward: the reference. -/
module

public import proofs.«01_k».proof.Proof.Norm.Spec

@[expose] public section

set_option maxRecDepth 16384

noncomputable section

namespace Cert.Norm

open Idealize.ShloMosaic Idealize.ShloMosaic.TcCoe
open Cert.Reference5Ideal Cert.Reference5Ideal.Gen

/-! ## What the reference computes -/

/-- The gradient of the norm's output, in the reference's order. -/
def dxRef (wg wu : FVec Ideal S1024x2816 .f32) (dg du : FVec Ideal S8192x2816 .f32) (dr : FVec Ideal S8192x1024 .f32) (s : Fin 8192) (j : Fin 1024) : EReal :=
  alpha * dr (ix2 s j) + (∑ k : Fin 2816, du (ix2 s k) * wu (ix2 j k)) + ∑ k : Fin 2816, dg (ix2 s k) * wg (ix2 j k)

theorem dxRef_eq (wg wu : FVec Ideal S1024x2816 .f32) (dg du : FVec Ideal S8192x2816 .f32) (dr : FVec Ideal S8192x1024 .f32) : dxRef wg wu dg du dr = dx wg wu dg du dr := by
  funext s j
  unfold dxRef dx
  rw [add_comm, add_comm (alpha * _), ← add_assoc]

variable (z : FVec Ideal S8192x1024 .f32)

/-- What the variance's gradient gives every entry of a row, before the entry's own factor. -/
def viaSpread (h : Fin 8192 → Fin 1024 → EReal) (s : Fin 8192) : EReal :=
  ∑ _ : Fin 1, Ideal.div ((∑ k : Fin 1024, centred z s k * h s k) * (Ideal.ofBits .f32 0xBF000000#32 * Ideal.div (rstd z s) (spread z s))) width

def viaVariance (h : Fin 8192 → Fin 1024 → EReal) (s : Fin 8192) (j : Fin 1024) : EReal :=
  viaSpread z h s * (Ideal.ofBits .f32 0x40000000#32 * centred z s j)

/-- The gradient of the norm's input, from that of the scaled output. -/
def dzRef (h : Fin 8192 → Fin 1024 → EReal) (s : Fin 8192) (j : Fin 1024) : EReal :=
  h s j * rstd z s + viaVariance z h s j
    + ∑ _ : Fin 1, Ideal.div ((∑ k : Fin 1024, -(h s k * rstd z s)) + ∑ k : Fin 1024, -(viaVariance z h s k)) width

variable (m : (ℓ : Loc nD τ sig) → Buf (Elt Ideal) ℓ) (c : Dev nD)

abbrev refZ : FVec Ideal S8192x1024 .f32 := m ((c.tc : Thread nD τ).loc main_arg0)
abbrev refG : FVec Ideal S1024 .f32 := m ((c.tc : Thread nD τ).loc main_arg1)
abbrev refWg : FVec Ideal S1024x2816 .f32 := m ((c.tc : Thread nD τ).loc main_arg3)
abbrev refWu : FVec Ideal S1024x2816 .f32 := m ((c.tc : Thread nD τ).loc main_arg4)
abbrev refDg : FVec Ideal S8192x2816 .f32 := m ((c.tc : Thread nD τ).loc main_arg5)
abbrev refDu : FVec Ideal S8192x2816 .f32 := m ((c.tc : Thread nD τ).loc main_arg6)
abbrev refDr : FVec Ideal S8192x1024 .f32 := m ((c.tc : Thread nD τ).loc main_arg7)

theorem ref_dz (s : Fin 8192) (j : Fin 1024) : @Eq EReal ((Value.res_main_v71 m c : FVec Ideal S8192x1024 .f32) (ix2 s j))
    (dzRef (refZ m c) (fun s j => dxRef (refWg m c) (refWu m c) (refDg m c) (refDu m c) (refDr m c) s j * refG m c (ix1 j)) s j) := by
  unfold Value.res_main_v71 refZ refG refWg refWu refDg refDu refDr
  generalize m ((c.tc : Thread nD τ).loc main_arg0) = z
  generalize m ((c.tc : Thread nD τ).loc main_arg1) = g
  generalize m ((c.tc : Thread nD τ).loc main_arg3) = wg
  generalize m ((c.tc : Thread nD τ).loc main_arg4) = wu
  generalize m ((c.tc : Thread nD τ).loc main_arg5) = dg
  generalize m ((c.tc : Thread nD τ).loc main_arg6) = du
  generalize m ((c.tc : Thread nD τ).loc main_arg7) = dr
  pointwise [dzRef, viaVariance, viaSpread, dxRef, rstd, spread, centred, mean, width, epsilon, alpha]

theorem ref_dz16 (s : Fin 8192) (j : Fin 1024) : @Eq EReal ((Value.res_main_v72 m c : FVec Ideal S8192x1024 .bf16) (ix2 s j)) ((Value.res_main_v71 m c : FVec Ideal S8192x1024 .f32) (ix2 s j)) := by
  unfold Value.res_main_v72 Value.res_main_v71
  rfl

end Cert.Norm

end
-- ==== Proof.Norm.Reals.lean ====
/- The two forms of the norm's gradient agree on the reals. -/
module

public import proofs.«01_k».proof.Proof.Norm.Reference
public import proofs.«01_k».proof.Proof.Grad.Reals

@[expose] public section

noncomputable section

namespace Cert.Norm

open Idealize.ShloMosaic
open Cert.Grad

/-! ## The constants -/

theorem width_eq : width = ((1024 : ℝ) : EReal) := by
  simp [width, Ideal.ofBits, Ideal.ieee]
  rw [← EReal.coe_mul]
  norm_num

theorem half_eq : Ideal.ofBits .f32 0xBF000000#32 = ((-(1 / 2) : ℝ) : EReal) := by
  simp [Ideal.ofBits, Ideal.ieee]
  rw [← EReal.coe_mul]
  norm_num

theorem two_eq : Ideal.ofBits .f32 0x40000000#32 = ((2 : ℝ) : EReal) := by
  simp [Ideal.ofBits, Ideal.ieee]
  rw [← EReal.coe_mul]
  norm_num

theorem epsilon_eq : epsilon = ((10995116 / 1099511627776 : ℝ) : EReal) := by
  simp [epsilon, Ideal.ofBits, Ideal.ieee]
  rw [← EReal.coe_mul]
  norm_num

theorem alpha_eq : alpha = ((11863283 / 8388608 : ℝ) : EReal) := by
  simp [alpha, Ideal.ofBits, Ideal.ieee]
  rw [← EReal.coe_mul]
  norm_num

/-! ## A row -/

section Row

variable (e : ℝ) (z h : Fin 1024 → ℝ)

def rMean : ℝ := (∑ k, z k) / 1024
def rCentred (j : Fin 1024) : ℝ := z j - rMean z
def rSpread : ℝ := (∑ k, rCentred z k * rCentred z k) / 1024 + e
def rRstd : ℝ := (√(rSpread e z))⁻¹
def rViaVariance (j : Fin 1024) : ℝ := (∑ k, rCentred z k * h k) * (-(1 / 2) * (rRstd e z / rSpread e z)) / 1024 * (2 * rCentred z j)

theorem centred_sum : ∑ k, rCentred z k = 0 := by
  simp only [rCentred, Finset.sum_sub_distrib, Finset.sum_const, Finset.card_univ, Fintype.card_fin, rMean, nsmul_eq_mul]
  push_cast
  ring

theorem spread_pos (he : 0 < e) : 0 < rSpread e z :=
  add_pos_of_nonneg_of_pos (div_nonneg (Finset.sum_nonneg fun k _ => mul_self_nonneg _) (by norm_num)) he

theorem row (he : 0 < e) (j : Fin 1024) :
    rRstd e z * (h j - (∑ k, h k) / 1024 - rCentred z j * rRstd e z * ((∑ k, h k * (rCentred z k * rRstd e z)) / 1024))
      = h j * rRstd e z + rViaVariance e z h j + ((∑ k, -(h k * rRstd e z)) + ∑ k, -rViaVariance e z h k) / 1024 := by
  have hw := spread_pos e z he
  have hr : rRstd e z / rSpread e z = rRstd e z * (rRstd e z * rRstd e z) := by
    have : rRstd e z * rRstd e z = (rSpread e z)⁻¹ := by
      unfold rRstd
      rw [← mul_inv, Real.mul_self_sqrt hw.le]
    rw [this, div_eq_mul_inv]
  have h1 : ∑ k, -rViaVariance e z h k = 0 := by
    simp only [rViaVariance, Finset.sum_neg_distrib, ← Finset.mul_sum, centred_sum, mul_zero, neg_zero]
  have h2 : ∑ k, -(h k * rRstd e z) = -((∑ k, h k) * rRstd e z) := by
    rw [Finset.sum_neg_distrib, Finset.sum_mul]
  have h3 : ∑ k, h k * (rCentred z k * rRstd e z) = (∑ k, rCentred z k * h k) * rRstd e z := by
    rw [Finset.sum_mul]
    exact Finset.sum_congr rfl fun k _ => by ring
  rw [h1, h2, h3, rViaVariance, hr]
  ring

end Row

/-! ## The row among the extended reals -/

variable {z : FVec Ideal Cert.Kernel5Ideal.S8192x1024 .f32} {d : Fin 8192 → Fin 1024 → EReal} {g : FVec Ideal Cert.Kernel5Ideal.S1024 .f32}
  {zr hr : Fin 8192 → Fin 1024 → ℝ} {e : ℝ}

section

variable (hz : ∀ s j, z (ix2 s j) = (zr s j : EReal)) (he0 : 0 < e) (he : epsilon = (e : EReal))
include hz

theorem mean_real (s : Fin 8192) : mean z s = (rMean (zr s) : EReal) := by
  unfold mean rMean
  simp only [hz]
  rw [coe_sum, width_eq, div_real _ (by norm_num)]

theorem centred_real (s : Fin 8192) (j : Fin 1024) : centred z s j = (rCentred (zr s) j : EReal) := by
  unfold centred rCentred
  rw [hz, mean_real hz, EReal.coe_sub]

include he

theorem spread_real (s : Fin 8192) : spread z s = (rSpread e (zr s) : EReal) := by
  unfold spread rSpread
  simp only [centred_real hz, ← EReal.coe_mul]
  rw [coe_sum, width_eq, div_real _ (by norm_num), he, EReal.coe_add]

include he0

theorem rstd_real (s : Fin 8192) : rstd z s = (rRstd e (zr s) : EReal) := by
  have hw := spread_pos e (zr s) he0
  unfold rstd rRstd
  rw [spread_real hz he, Ideal.rsqrt_coe, if_neg hw.le.not_gt, if_neg hw.ne']

theorem xhat_real (s : Fin 8192) (j : Fin 1024) : xhat z s j = ((rCentred (zr s) j * rRstd e (zr s) : ℝ) : EReal) := by
  unfold xhat
  rw [centred_real hz, rstd_real hz he0 he, EReal.coe_mul]

theorem via_real {h : Fin 8192 → Fin 1024 → EReal} (hh : ∀ s j, h s j = (hr s j : EReal)) (s : Fin 8192) (j : Fin 1024) :
    viaVariance z h s j = (rViaVariance e (zr s) (hr s) j : EReal) := by
  unfold viaVariance viaSpread rViaVariance
  rw [Fin.sum_univ_one]
  simp only [centred_real hz, hh, ← EReal.coe_mul]
  rw [coe_sum, rstd_real hz he0 he, spread_real hz he, div_real _ (spread_pos e (zr s) he0).ne', half_eq, two_eq, ← EReal.coe_mul, ← EReal.coe_mul, width_eq, div_real _ (by norm_num),
    ← EReal.coe_mul, ← EReal.coe_mul]

theorem dz_eq (hd : ∀ s j, d s j * g (ix1 j) = (hr s j : EReal)) (s : Fin 8192) (j : Fin 1024) :
    dz z g d s j = dzRef z (fun s j => d s j * g (ix1 j)) s j := by
  have hv := via_real (hr := hr) (h := fun s j => (hr s j : EReal)) hz he0 he fun _ _ => rfl
  unfold dz dzRef
  rw [Fin.sum_univ_one]
  simp only [hv, hd, xhat_real hz he0 he, rstd_real hz he0 he, ← EReal.coe_mul, ← EReal.coe_neg]
  simp only [coe_sum]
  rw [width_eq, div_real _ (by norm_num), div_real _ (by norm_num), ← EReal.coe_add (∑ k, -(hr s k * rRstd e (zr s))), div_real _ (by norm_num)]
  simp only [← EReal.coe_mul, ← EReal.coe_sub, ← EReal.coe_add]
  exact congrArg _ (row e (zr s) (hr s) he0 j)

end

end Cert.Norm

end
-- ==== Proof.Norm.Facts.lean ====
/- The side conditions of the norm's precondition. -/
module

public import proofs.«01_k».proof.Pre_finite5
public import Idealize.ShloMosaic.Lib.Decide

@[expose] public section

namespace Cert.Norm

open Idealize.ShloMosaic

instance facts : Cert.Pre_finite5.Facts :=
  ⟨by decide, by decide, by decide, by decide, by decide, by decide, by decide, by decide, by decide⟩

end Cert.Norm
-- ==== Proof.Norm.Finite.lean ====
/- Arguments that meet the norm's precondition are arrays of reals. -/
module

public import proofs.«01_k».proof.Proof.Norm.Facts
public import proofs.«01_k».proof.Proof.Grad.Finite
public import proofs.«01_k».proof.Proof.Norm.Reals

@[expose] public section

noncomputable section

namespace Cert.Norm

open Idealize.ShloMosaic
open Cert.Pre_finite5 Cert.Pre_finite5.Facts Cert.Grad

theorem finite_reals (z : FVec Ideal S8192x1024 .f32) (g b : FVec Ideal S1024 .f32) (wg wu : FVec Ideal S1024x2816 .f32) (dg du : FVec Ideal S8192x2816 .f32) (dr : FVec Ideal S8192x1024 .f32)
    (H : Cert.Pre_finite5.fn (F := Ideal) z g b wg wu dg du dr = fun _ => 1#1) :
    (∀ s j, z (ix2 s j) = ((z (ix2 s j)).toReal : EReal))
      ∧ ∀ s j, dx wg wu dg du dr s j * g (ix1 j) = (((∑ k : Fin 2816, (dg (ix2 s k)).toReal * (wg (ix2 j k)).toReal) + (∑ k : Fin 2816, (du (ix2 s k)).toReal * (wu (ix2 j k)).toReal)
          + 11863283 / 8388608 * (dr (ix2 s j)).toReal) * (g (ix1 j)).toReal : ℝ) := by
  have h0 := congrFun H (fun a => a.elim0)
  obtain ⟨h1, hdr⟩ := and_both h0
  obtain ⟨h2, hdu⟩ := and_both h1
  obtain ⟨h3, hdg⟩ := and_both h2
  obtain ⟨h4, hwu⟩ := and_both h3
  obtain ⟨h5, hwg⟩ := and_both h4
  obtain ⟨hz, hg⟩ := and_both h5
  refine ⟨fun s j => reals_of z _ _ _ _ hz _, fun s j => ?_⟩
  have ddr := reals_of dr _ _ _ _ hdr
  have ddu := reals_of du _ _ _ _ hdu
  have ddg := reals_of dg _ _ _ _ hdg
  have dwu := reals_of wu _ _ _ _ hwu
  have dwg := reals_of wg _ _ _ _ hwg
  have dgg := reals_of g _ _ _ _ hg
  unfold dx
  rw [Finset.sum_congr rfl fun k _ => (congrArg₂ (· * ·) (ddg (ix2 s k)) (dwg (ix2 j k))).trans (EReal.coe_mul _ _).symm,
    Finset.sum_congr rfl fun k _ => (congrArg₂ (· * ·) (ddu (ix2 s k)) (dwu (ix2 j k))).trans (EReal.coe_mul _ _).symm, coe_sum, coe_sum, alpha_eq, ddr, dgg,
    ← EReal.coe_mul, ← EReal.coe_add, ← EReal.coe_add, ← EReal.coe_mul]
  simp only [EReal.toReal_coe]

end Cert.Norm

end
-- ==== Proof.Norm.lean ====
/- The gradient of the norm before the feed-forward: the claim. -/
module

public import proofs.«01_k».proof.Proof.Norm.Final
public import proofs.«01_k».proof.Proof.Norm.Reals
public import proofs.«01_k».proof.Proof.Norm.Finite

@[expose] public section

set_option maxRecDepth 16384

noncomputable section

namespace Cert.Norm

open Idealize.ShloMosaic Idealize.ShloMosaic.TcCoe Idealize.SL.Sem

theorem frame_PI_pre : Cert.quiescent_Kernel5Ideal_pre_finite5 := fun m g _ => Cert.Kernel5Ideal.Gen.frame m g

theorem frame_RI_pre : Cert.quiescent_Reference5Ideal_pre_finite5 := fun m g _ => frame_RI m g trivial

/-- The call's results are the reference's. -/
theorem algebraic : Cert.algebraic_Kernel5Ideal_Reference5Ideal_pre_finite5 := by
  intro m g m' g' hpre hagree
  refine ⟨fun c => dzOf m c, fun c => dzOf m c, fun c => gainsOf m c, ?_, ?_⟩
  · exact θ_run_mono (Cert.Kernel5Ideal.Value.run_blocks m g) fun r h c => by
      obtain ⟨r0, r1, r2, ha⟩ := h c
      exact ⟨r0.trans (final_8 m c), r1.trans (final_9 m c), r2.trans (final_10 m c), ha⟩
  · refine θ_run_mono (Cert.Reference5Ideal.Value.run m' g') fun r h c => ?_
    obtain ⟨r0, r1, r2, ha⟩ := h c
    obtain ⟨h0, h1, -, h3, h4, h5, h6, h7⟩ := hagree c
    obtain ⟨hz, hd⟩ := finite_reals _ _ _ _ _ _ _ _ (hpre c)
    have hdz : ∀ s j, @Eq EReal ((Cert.Reference5Ideal.Value.res_main_v71 m' c : FVec Ideal Cert.Kernel5Ideal.S8192x1024 .f32) (ix2 s j)) (dzOf m c (ix2 s j)) := fun s j => by
      rw [ref_dz, dxRef_eq]
      unfold refZ refG refWg refWu refDg refDu refDr
      rw [h0, h1, h3, h4, h5, h6, h7]
      exact (dz_eq hz (by norm_num) epsilon_eq hd s j).symm
    refine ⟨r0.trans ?_, r1.trans ?_, r2.trans ?_, ha⟩
    · funext i
      idx_vars i
      exact hdz i0 i1
    · funext i
      idx_vars i
      exact (ref_dz16 m' c i0 i1).trans (hdz i0 i1)
    · clear r0 r1 r2 ha hdz hz hd hpre h hagree
      funext i
      idx_vars i
      rw [h0, h3, h4, h5, h6, h7]
      show _ = gains (argZ m c) (dxOf m c) i0 i1
      unfold dxOf
      rw [← dxRef_eq]
      unfold argZ argWg argWu argDg argDu argDr
      generalize m ((c.tc : Thread Cert.Kernel5Ideal.nD Cert.Kernel5Ideal.τ).loc Cert.Kernel5Ideal.main_arg0) = z
      generalize m ((c.tc : Thread Cert.Kernel5Ideal.nD Cert.Kernel5Ideal.τ).loc Cert.Kernel5Ideal.main_arg3) = wg
      generalize m ((c.tc : Thread Cert.Kernel5Ideal.nD Cert.Kernel5Ideal.τ).loc Cert.Kernel5Ideal.main_arg4) = wu
      generalize m ((c.tc : Thread Cert.Kernel5Ideal.nD Cert.Kernel5Ideal.τ).loc Cert.Kernel5Ideal.main_arg5) = dg
      generalize m ((c.tc : Thread Cert.Kernel5Ideal.nD Cert.Kernel5Ideal.τ).loc Cert.Kernel5Ideal.main_arg6) = du
      generalize m ((c.tc : Thread Cert.Kernel5Ideal.nD Cert.Kernel5Ideal.τ).loc Cert.Kernel5Ideal.main_arg7) = dr
      pointwise [gains, dxRef, xhat, rstd, spread, centred, mean, width, epsilon, alpha]
      have := i0.isLt
      split_ifs <;> first | omega | skip
      · rw [Fin.sum_univ_one]
        exact Finset.sum_congr rfl fun k _ => mul_comm _ _
      · rw [Fin.sum_univ_one]
      · show (((0#32 : BitVec 32).toInt : ℝ) : EReal) = 0
        simp

end Cert.Norm
-- ==== Proof.Loss.Point.lean ====
/- The last layer norm and the loss: what a grid point computes. -/
module

public import proofs.«01_k».proof.Proof.Norm.Point
public import proofs.«01_k».proof.Proof.Norm.Spec
public import proofs.«01_k».proof.Proof.Gen.Kernel15Ideal.Value

@[expose] public section

set_option maxRecDepth 16384

noncomputable section

namespace Cert.Loss

open Idealize.ShloMosaic Idealize.ShloMosaic.TcCoe Cert.Product
open Cert.Norm (alpha width epsilon row_zero row_one)
open Cert.Kernel15Ideal Cert.Kernel15Ideal.Gen

/-- One over the width, and the loss's factor of a half, as the programs hold them. -/
def perWidth : EReal := Ideal.ofBits .f32 0x3A800000#32
def half : EReal := Ideal.ofBits .f32 0x3F000000#32

/-! ## Payloads -/

variable (xh : FVec Ideal S256x1024 .f32) (rs : FVec Ideal S256x1 .f32) (x5 x6 : Vec Ideal S1x1024 .f32) (x7 : Vec Ideal S256x1024 .f32)

/-- How far the norm's output is from the target. -/
def errBlock : FVec Ideal S256x1024 .f32 := k0_pay8 xh x5 x6 x7

theorem err_at (s : Fin 256) (j : Fin 1024) : errBlock xh x5 x6 x7 (ix2 s j) = xh (ix2 s j) * x5 (ix2 0 j) + x6 (ix2 0 j) - x7 (ix2 s j) := by
  unfold errBlock
  pointwise [k0_pay8, k0_pay7]

/-- The gradient of the norm's output. -/
def dxBlock : FVec Ideal S256x1024 .f32 := k0_pay9 xh x5 x6 x7

theorem dx_at (s : Fin 256) (j : Fin 1024) : dxBlock xh x5 x6 x7 (ix2 s j) = errBlock xh x5 x6 x7 (ix2 s j) * perWidth := by
  unfold dxBlock errBlock k0_pay9
  generalize k0_pay8 xh x5 x6 x7 = e
  pointwise [perWidth]

theorem dz_at (dx : FVec Ideal S256x1024 .f32) (s : Fin 256) (j : Fin 1024) :
    k0_pay1 (F := Ideal) rs xh (k0_pay7 x5) dx (ix2 s j)
      = rs (ix2 s 0) * (dx (ix2 s j) * x5 (ix2 0 j) - Ideal.div (∑ k : Fin 1024, dx (ix2 s k) * x5 (ix2 0 k)) width
          - xh (ix2 s j) * Ideal.div (∑ k : Fin 1024, dx (ix2 s k) * x5 (ix2 0 k) * xh (ix2 s k)) width) := by
  pointwise [k0_pay1, k0_pay7, width]

theorem dz16_at (dx : FVec Ideal S256x1024 .f32) (s : Fin 256) (j : Fin 1024) :
    @Eq EReal (k0_pay2 (F := Ideal) rs xh (k0_pay7 x5) dx (ix2 s j)) (k0_pay1 (F := Ideal) rs xh (k0_pay7 x5) dx (ix2 s j)) := by
  unfold k0_pay2
  rfl

theorem loss_at (v : Vec Ideal S1x1024 .f32) (z : Fin 1) (j : Fin 1024) : k0_pay10 (F := Ideal) xh x5 x6 x7 v (ix2 z j)
    = v (ix2 z j) + half * ∑ s : Fin 256, (∑ k : Fin 1024, errBlock xh x5 x6 x7 (ix2 s k) * errBlock xh x5 x6 x7 (ix2 s k)) * perWidth := by
  unfold errBlock k0_pay10
  generalize k0_pay8 xh x5 x6 x7 = e
  pointwise [perWidth, half]

theorem dg_at (v : Vec Ideal S1x1024 .f32) (z : Fin 1) (j : Fin 1024) : k0_pay11 (F := Ideal) xh x5 x6 x7 v (ix2 z j)
    = v (ix2 z j) + ∑ s : Fin 256, dxBlock xh x5 x6 x7 (ix2 s j) * xh (ix2 s j) := by
  unfold dxBlock k0_pay11
  generalize k0_pay9 xh x5 x6 x7 = e
  pointwise

theorem db_at (v : Vec Ideal S1x1024 .f32) (z : Fin 1) (j : Fin 1024) : k0_pay12 (F := Ideal) xh x5 x6 x7 v (ix2 z j) = v (ix2 z j) + ∑ s : Fin 256, dxBlock xh x5 x6 x7 (ix2 s j) := by
  unfold dxBlock k0_pay12
  generalize k0_pay9 xh x5 x6 x7 = e
  pointwise

/-! ## The point's stores -/

variable (c : Dev nD) (i : grid0.Coords) (a1 : Memref sig .tc .vmem S256x2816 .bf16) (h1 : a1.IsWhole) (a2 : Memref sig .tc .vmem S2816x1024 .bf16) (h2 : a2.IsWhole)
  (a3 : Memref sig .tc .vmem S256x1024 .f32) (h3 : a3.IsWhole) (a4 : Memref sig .tc .vmem S1x1024 .f32) (h4 : a4.IsWhole) (a5 : Memref sig .tc .vmem S1x1024 .f32) (h5 : a5.IsWhole)
  (a6 : Memref sig .tc .vmem S1x1024 .f32) (h6 : a6.IsWhole) (a7 : Memref sig .tc .vmem S1x1024 .f32) (h7 : a7.IsWhole) (a8 : Memref sig .tc .vmem S256x1024 .f32) (h8 : a8.IsWhole)
  (a9 : Memref sig .tc .vmem S256x1024 .f32) (h9 : a9.IsWhole) (a10 : Memref sig .tc .vmem S256x1024 .bf16) (h10 : a10.IsWhole) (a11 : Memref sig .tc .vmem S8x1024 .f32) (h11 : a11.IsWhole)
  (x0 : Vec Ideal S256x2816 .bf16) (x1 : Vec Ideal S2816x1024 .bf16) (x2 : Vec Ideal S256x1024 .f32) (x3 x4 : Vec Ideal S1x1024 .f32) (old : Vec Ideal S8x1024 .f32)

/-- The normalised rows of a point, and their reciprocal deviations. -/
abbrev hatBlock : FVec Ideal S256x1024 .f32 := k0_pay5 x0 x1 x2 x3 x4
abbrev devBlock : FVec Ideal S256x1 .f32 := k0_pay4 x0 x1 x2 x3 x4

theorem first_dz (hc0 : cond0_0 i) : out0_A_8 c i a1 h1 a2 h2 a3 h3 a4 h4 a5 h5 a6 h6 a7 h7 a8 h8 a9 h9 a10 h10 a11 h11 hc0 x0 x1 x2 x3 x4 x5 x6 x7
    = k0_pay1 (devBlock x0 x1 x2 x3 x4) (hatBlock x0 x1 x2 x3 x4) (k0_pay7 x5) (dxBlock (hatBlock x0 x1 x2 x3 x4) x5 x6 x7) := by
  frame_out
  rfl

theorem next_dz (hc0 : ¬cond0_0 i) : out0_B_8 c i a1 h1 a2 h2 a3 h3 a4 h4 a5 h5 a6 h6 a7 h7 a8 h8 a9 h9 a10 h10 a11 h11 hc0 x0 x1 x2 x3 x4 x5 x6 x7 old
    = k0_pay1 (devBlock x0 x1 x2 x3 x4) (hatBlock x0 x1 x2 x3 x4) (k0_pay7 x5) (dxBlock (hatBlock x0 x1 x2 x3 x4) x5 x6 x7) := by
  frame_out
  rfl

theorem first_dz16 (hc0 : cond0_0 i) : out0_A_9 c i a1 h1 a2 h2 a3 h3 a4 h4 a5 h5 a6 h6 a7 h7 a8 h8 a9 h9 a10 h10 a11 h11 hc0 x0 x1 x2 x3 x4 x5 x6 x7
    = k0_pay2 (devBlock x0 x1 x2 x3 x4) (hatBlock x0 x1 x2 x3 x4) (k0_pay7 x5) (dxBlock (hatBlock x0 x1 x2 x3 x4) x5 x6 x7) := by
  frame_out
  rfl

theorem next_dz16 (hc0 : ¬cond0_0 i) : out0_B_9 c i a1 h1 a2 h2 a3 h3 a4 h4 a5 h5 a6 h6 a7 h7 a8 h8 a9 h9 a10 h10 a11 h11 hc0 x0 x1 x2 x3 x4 x5 x6 x7 old
    = k0_pay2 (devBlock x0 x1 x2 x3 x4) (hatBlock x0 x1 x2 x3 x4) (k0_pay7 x5) (dxBlock (hatBlock x0 x1 x2 x3 x4) x5 x6 x7) := by
  frame_out
  rfl

/-- The rows of sums after a point: the gain's gradient, the bias's and the loss. -/
def sums (old : Vec Ideal S8x1024 .f32) : Vec Ideal S8x1024 .f32 := fun i =>
  if (i 0).val = 1 then old i + ∑ s : Fin 256, dxBlock xh x5 x6 x7 (ix2 s (i 1)) else if (i 0).val = 0 then old i + ∑ s : Fin 256, dxBlock xh x5 x6 x7 (ix2 s (i 1)) * xh (ix2 s (i 1))
  else if (i 0).val = 2 then old i + half * ∑ s : Fin 256, (∑ k : Fin 1024, errBlock xh x5 x6 x7 (ix2 s k) * errBlock xh x5 x6 x7 (ix2 s k)) * perWidth else old i

/-- A buffer whose rows 1, 0 and 2 are stored last. -/
theorem three_rows {κ : Kind} {sp : Space} (v : View sig κ sp S8x1024 .f32) (f : v.ty.Contents (Elt Ideal)) (w1 w0 w2 : Vec Ideal S1x1024 .f32) (L : List (View.Piece (Elt Ideal) S8x1024 .f32))
    (a : Fin 8) (b : Fin 1024) :
    v.read (Elt Ideal) (v.writes (Elt Ideal) f (⟨Rect.unit ![1, 0] ![1, 1024] inb_S8x1024_S1x1024_1_0, w1⟩ :: ⟨Rect.unit ![0, 0] ![1, 1024] inb_S8x1024_S1x1024_0_0, w0⟩
        :: ⟨Rect.unit ![2, 0] ![1, 1024] inb_S8x1024_S1x1024_2_0, w2⟩ :: L)) (ix2 a b)
      = if a.val = 1 then w1 (ix2 0 b) else if a.val = 0 then w0 (ix2 0 b) else if a.val = 2 then w2 (ix2 0 b) else v.read (Elt Ideal) (v.writes (Elt Ideal) f L) (ix2 a b) := by
  split_ifs with h1 h0 h2
  · obtain rfl : a = 1 := Fin.ext h1
    exact View.read_writes_cons_rows_of_mem (d := ![8, 1024]) v f (o := 1) _ _ _ _ (ix2 0 b) rfl rfl rfl
  · obtain rfl : a = 0 := Fin.ext h0
    refine (View.read_writes_cons_unit_of_not_mem v f _ _ _ _ rfl 0 (Or.inl Nat.zero_lt_one)).trans ?_
    exact View.read_writes_cons_rows_of_mem (d := ![8, 1024]) v f (o := 0) _ _ _ _ (ix2 0 b) rfl rfl rfl
  · obtain rfl : a = 2 := Fin.ext h2
    refine (View.read_writes_cons_unit_of_not_mem v f _ _ _ _ rfl 0 (Or.inr (le_refl 2))).trans ?_
    refine (View.read_writes_cons_unit_of_not_mem v f _ _ _ _ rfl 0 (Or.inr (Nat.le_succ 1))).trans ?_
    exact View.read_writes_cons_rows_of_mem (d := ![8, 1024]) v f (o := 2) _ _ _ _ (ix2 0 b) rfl rfl rfl
  · have ha : 3 ≤ a.val := by
      omega
    refine (View.read_writes_cons_unit_of_not_mem v f _ _ _ _ rfl 0 (Or.inr (Nat.le_of_succ_le ha))).trans ?_
    refine (View.read_writes_cons_unit_of_not_mem v f _ _ _ _ rfl 0 (Or.inr (Nat.le_of_succ_le (Nat.le_of_succ_le ha)))).trans ?_
    exact View.read_writes_cons_unit_of_not_mem v f _ _ _ _ rfl 0 (Or.inr ha)

theorem row_two (old : Vec Ideal S8x1024 .f32) (b : Fin 1024) : View.ld old (Rect.unit ![2, 0] ![1, 1024] inb_S8x1024_S1x1024_2_0) (ix2 0 b) = old (ix2 2 b) := by
  refine congrArg old (funext fun a => Fin.ext ?_)
  fin_cases a
  · rfl
  · show 0 + 1 * b.val = b.val
    omega

theorem cleared (i : S8x1024.Idx) : k0_pay6 (F := Ideal) i = 0 := by
  idx_vars i
  pointwise [k0_pay6]

theorem first_sums (hc0 : cond0_0 i) (a : Fin 8) (b : Fin 1024) : out0_A_10 c i a1 h1 a2 h2 a3 h3 a4 h4 a5 h5 a6 h6 a7 h7 a8 h8 a9 h9 a10 h10 a11 h11 hc0 x0 x1 x2 x3 x4 x5 x6 x7 (ix2 a b)
    = sums (hatBlock x0 x1 x2 x3 x4) x5 x6 x7 (fun _ => 0) (ix2 a b) := by
  frame_out
  rw [← View.read_writes_junk_eq_canon a11.view, three_rows, db_at, dg_at, loss_at, View.readCov_skip _ _ _ _ _ rfl, View.readCov_skip _ _ _ _ _ rfl, View.readCov_fill (s := S8x1024) _ _ _ _ _ (by decide),
    View.readCov_skip _ _ _ _ _ rfl, View.readCov_fill (s := S8x1024) _ _ _ _ _ (by decide), View.readCov_fill (s := S8x1024) _ _ _ _ _ (by decide), row_one, row_zero, row_two,
    View.read_writes_junk_eq_canon, View.canon_unit_zero origin]
  simp only [cleared]
  rfl

theorem next_sums (hc0 : ¬cond0_0 i) (a : Fin 8) (b : Fin 1024) : out0_B_10 c i a1 h1 a2 h2 a3 h3 a4 h4 a5 h5 a6 h6 a7 h7 a8 h8 a9 h9 a10 h10 a11 h11 hc0 x0 x1 x2 x3 x4 x5 x6 x7 old (ix2 a b)
    = sums (hatBlock x0 x1 x2 x3 x4) x5 x6 x7 old (ix2 a b) := by
  frame_out
  rw [three_rows, db_at, dg_at, loss_at, row_one, row_zero, row_two]
  show _ = if a.val = 1 then old (ix2 a b) + _ else if a.val = 0 then old (ix2 a b) + _ else if a.val = 2 then old (ix2 a b) + _ else old (ix2 a b)
  split_ifs with h1 h0 h2
  · obtain rfl : a = 1 := Fin.ext h1
    rfl
  · obtain rfl : a = 0 := Fin.ext h0
    rfl
  · obtain rfl : a = 2 := Fin.ext h2
    rfl
  · exact congrFun (h11.read_unread old) _

end Cert.Loss

end
-- ==== Proof.NormFwd.Down.lean ====
/- The layer norm after the feed-forward part: a block of 256 tokens at a time. -/
module

public import proofs.«01_k».proof.Proof.Norm.Spec
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import proofs.«01_k».proof.Proof.Product.Sums

@[expose] public section

set_option maxRecDepth 16384

noncomputable section

namespace Cert.NormFwd.Down

open Idealize.ShloMosaic Idealize.ShloMosaic.TcCoe Idealize.SL.Sem Cert.Product Cert.Norm
open Cert.Kernel14Ideal Cert.Kernel14Ideal.Gen

/-- The norm's input: the residual, which is a scaled norm itself, and the product of the hidden layer and w_down. -/
def input (y : FVec Ideal S8192x2816 .f32) (w : FVec Ideal S2816x1024 .f32) (xh : FVec Ideal S8192x1024 .f32) (xg xb : FVec Ideal S1024 .f32) : FVec Ideal S8192x1024 .f32 :=
  fun i => alpha * (xh (ix2 (i 0) (i 1)) * xg (ix1 (i 1)) + xb (ix1 (i 1))) + ∑ k : Fin 2816, y (ix2 (i 0) k) * w (ix2 k (i 1))

/-- Token `a` of block `t`. -/
def tok (t : ℕ) (a : Fin 256) : Fin 8192 := ⟨t % 32 * 256 + a.val, by omega⟩

theorem pt (t : Fin cfg0.N) : t.val < 32 := lt_of_lt_of_eq t.isLt N_0

theorem idx : ∀ t : Fin cfg0.N, win0_0.index t = ![t.val, 0] ∧ win0_1.index t = ![0, 0] ∧ win0_2.index t = ![t.val, 0] ∧ win0_3.index t = ![0, 0] ∧ win0_4.index t = ![0, 0]
    ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, _)

variable (m : (ℓ : Loc nD τ sig) → Buf (Elt Ideal) ℓ) (c : Dev nD)

abbrev argY : FVec Ideal S8192x2816 .f32 := m ((c.tc : Thread nD τ).loc main_arg0)
abbrev argW : FVec Ideal S2816x1024 .f32 := m ((c.tc : Thread nD τ).loc main_arg1)
abbrev argH : FVec Ideal S8192x1024 .f32 := m ((c.tc : Thread nD τ).loc main_arg2)
abbrev argXg : FVec Ideal S1024 .f32 := m ((c.tc : Thread nD τ).loc main_arg3)
abbrev argXb : FVec Ideal S1024 .f32 := m ((c.tc : Thread nD τ).loc main_arg4)
abbrev argG : FVec Ideal S1024 .f32 := m ((c.tc : Thread nD τ).loc main_arg5)
abbrev argB : FVec Ideal S1024 .f32 := m ((c.tc : Thread nD τ).loc main_arg6)
abbrev zOf : FVec Ideal S8192x1024 .f32 := input (argY m c) (argW m c) (argH m c) (argXg m c) (argXb m c)

theorem V_0 : (V m c main_v0 : FVec Ideal S8192x2816 .bf16) = argY m c := by
  unfold V hostOps0
  after_results_simp
  rfl

theorem V_1 : (V m c main_v1 : FVec Ideal S2816x1024 .bf16) = argW m c := by
  unfold V hostOps0
  after_results_simp
  rfl

theorem V_2 (z : Fin 1) (j : Fin 1024) : (V m c main_v2 : FVec Ideal S1x1024 .f32) (ix2 z j) = argXg m c (ix1 j) := by
  unfold V hostOps0
  after_results_simp
  pointwise

theorem V_3 (z : Fin 1) (j : Fin 1024) : (V m c main_v3 : FVec Ideal S1x1024 .f32) (ix2 z j) = argXb m c (ix1 j) := by
  unfold V hostOps0
  after_results_simp
  pointwise

theorem V_4 (z : Fin 1) (j : Fin 1024) : (V m c main_v4 : FVec Ideal S1x1024 .f32) (ix2 z j) = argG m c (ix1 j) := by
  unfold V hostOps0
  after_results_simp
  pointwise

theorem V_5 (z : Fin 1) (j : Fin 1024) : (V m c main_v5 : FVec Ideal S1x1024 .f32) (ix2 z j) = argB m c (ix1 j) := by
  unfold V hostOps0
  after_results_simp
  pointwise

theorem read_0 (t : Fin cfg0.N) (s : Fin 256) (k : Fin 2816) : (iblk m c 0 t : Vec Ideal S256x2816 .bf16) (ix2 s k) = argY m c (ix2 (tok t.val s) k) := by
  have := pt t
  rw [← V_0]
  unfold tok
  blk_ext [iblk, idx t]
  all_goals omega

theorem read_1 (t : Fin cfg0.N) (k : Fin 2816) (j : Fin 1024) : (iblk m c 1 t : Vec Ideal S2816x1024 .bf16) (ix2 k j) = argW m c (ix2 k j) := by
  rw [← V_1]
  blk_ext [iblk, idx t]
  all_goals omega

theorem read_2 (t : Fin cfg0.N) (s : Fin 256) (j : Fin 1024) : (iblk m c 2 t : Vec Ideal S256x1024 .f32) (ix2 s j) = argH m c (ix2 (tok t.val s) j) := by
  have := pt t
  unfold argH tok
  rw [← V_main_arg2 m c]
  blk_ext [iblk, idx t]
  all_goals omega

theorem read_3 (t : Fin cfg0.N) (z : Fin 1) (j : Fin 1024) : (iblk m c 3 t : Vec Ideal S1x1024 .f32) (ix2 z j) = argXg m c (ix1 j) := by
  rw [← V_2 m c z]
  blk_ext [iblk, idx t]
  all_goals omega

theorem read_4 (t : Fin cfg0.N) (z : Fin 1) (j : Fin 1024) : (iblk m c 4 t : Vec Ideal S1x1024 .f32) (ix2 z j) = argXb m c (ix1 j) := by
  rw [← V_3 m c z]
  blk_ext [iblk, idx t]
  all_goals omega

theorem read_5 (t : Fin cfg0.N) (z : Fin 1) (j : Fin 1024) : (iblk m c 5 t : Vec Ideal S1x1024 .f32) (ix2 z j) = argG m c (ix1 j) := by
  rw [← V_4 m c z]
  blk_ext [iblk, idx t]
  all_goals omega

theorem read_6 (t : Fin cfg0.N) (z : Fin 1) (j : Fin 1024) : (iblk m c 6 t : Vec Ideal S1x1024 .f32) (ix2 z j) = argB m c (ix1 j) := by
  rw [← V_5 m c z]
  blk_ext [iblk, idx t]
  all_goals omega

theorem place_7 (t : Fin cfg0.N) (s : Fin 256) (j : Fin 1024) (G : FVec Ideal S8192x1024 .f32) : G (((cfg0.win 7).blk t).view.emb (ix2 s j)) = G (ix2 (tok t.val s) j) := by
  have := pt t
  unfold tok
  blk_ext [idx t]
  all_goals omega

theorem place_8 (t : Fin cfg0.N) (s : Fin 256) (z : Fin 1) (G : FVec Ideal S8192x1 .f32) : G (((cfg0.win 8).blk t).view.emb (ix2 s z)) = G (ix2 (tok t.val s) z) := by
  have := pt t
  unfold tok
  blk_ext [idx t]
  all_goals omega

theorem place_9 (t : Fin cfg0.N) (s : Fin 256) (j : Fin 1024) (G : FVec Ideal S8192x1024 .bf16) : G (((cfg0.win 9).blk t).view.emb (ix2 s j)) = G (ix2 (tok t.val s) j) := by
  have := pt t
  unfold tok
  blk_ext [idx t]
  all_goals omega

/-! ## What a grid point computes -/

abbrev centredAt (t : Fin cfg0.N) : FVec Ideal S256x1024 .f32 := k0_pay2 (iblk m c 0 t) (iblk m c 1 t) (iblk m c 2 t) (iblk m c 3 t) (iblk m c 4 t)

theorem centred_pay (x0 : Vec Ideal S256x2816 .bf16) (x1 : Vec Ideal S2816x1024 .bf16) (x2 : Vec Ideal S256x1024 .f32) (x3 x4 : Vec Ideal S1x1024 .f32) (s : Fin 256) (j : Fin 1024) :
    k0_pay2 (F := Ideal) x0 x1 x2 x3 x4 (ix2 s j) = (alpha * (x2 (ix2 s j) * x3 (ix2 0 j) + x4 (ix2 0 j)) + ∑ k : Fin 2816, x0 (ix2 s k) * x1 (ix2 k j))
      - Ideal.div (∑ l : Fin 1024, (alpha * (x2 (ix2 s l) * x3 (ix2 0 l) + x4 (ix2 0 l)) + ∑ k : Fin 2816, x0 (ix2 s k) * x1 (ix2 k l))) width := by
  pointwise [k0_pay2, alpha, width]

theorem centred_at (t : Fin cfg0.N) (s : Fin 256) (j : Fin 1024) : centredAt m c t (ix2 s j) = centred (zOf m c) (tok t.val s) j := by
  unfold centredAt
  rw [centred_pay]
  simp only [read_0, read_1, read_2, read_3, read_4]
  rfl

theorem rstd_at (t : Fin cfg0.N) (s : Fin 256) (z : Fin 1) :
    k0_pay3 (F := Ideal) (iblk m c 0 t) (iblk m c 1 t) (iblk m c 2 t) (iblk m c 3 t) (iblk m c 4 t) (ix2 s z) = rstd (zOf m c) (tok t.val s) := by
  unfold k0_pay3 rstd spread
  simp only [← centred_at]
  unfold centredAt
  generalize k0_pay2 (F := Ideal) (iblk m c 0 t) (iblk m c 1 t) (iblk m c 2 t) (iblk m c 3 t) (iblk m c 4 t) = z
  pointwise [width, epsilon]

theorem hat_at (t : Fin cfg0.N) (s : Fin 256) (j : Fin 1024) :
    k0_pay4 (F := Ideal) (iblk m c 0 t) (iblk m c 1 t) (iblk m c 2 t) (iblk m c 3 t) (iblk m c 4 t) (ix2 s j) = xhat (zOf m c) (tok t.val s) j := by
  unfold k0_pay4 xhat
  rw [← centred_at, ← rstd_at m c t s 0]
  generalize k0_pay3 (F := Ideal) (iblk m c 0 t) (iblk m c 1 t) (iblk m c 2 t) (iblk m c 3 t) (iblk m c 4 t) = r
  unfold centredAt
  generalize k0_pay2 (F := Ideal) (iblk m c 0 t) (iblk m c 1 t) (iblk m c 2 t) (iblk m c 3 t) (iblk m c 4 t) = z
  pointwise

theorem scaled_at (t : Fin cfg0.N) (s : Fin 256) (j : Fin 1024) :
    @Eq EReal (k0_pay1 (F := Ideal) (k0_pay4 (iblk m c 0 t) (iblk m c 1 t) (iblk m c 2 t) (iblk m c 3 t) (iblk m c 4 t)) (iblk m c 5 t) (iblk m c 6 t) (ix2 s j))
      (xhat (zOf m c) (tok t.val s) j * argG m c (ix1 j) + argB m c (ix1 j)) := by
  rw [← hat_at, ← read_5 m c t 0, ← read_6 m c t 0]
  generalize k0_pay4 (F := Ideal) (iblk m c 0 t) (iblk m c 1 t) (iblk m c 2 t) (iblk m c 3 t) (iblk m c 4 t) = x
  pointwise [k0_pay1]

/-! ## What the launch leaves -/

def hatOf : FVec Ideal S8192x1024 .f32 := fun i => xhat (zOf m c) (i 0) (i 1)
def rstdOf : FVec Ideal S8192x1 .f32 := fun i => rstd (zOf m c) (i 0)
def scaledOf : FVec Ideal S8192x1024 .bf16 := fun i => (xhat (zOf m c) (i 0) (i 1) * argG m c (ix1 (i 1)) + argB m c (ix1 (i 1)) : EReal)

theorem final_7 : (dats m 0 c).arrAt 7 (cfgs 0).N = hatOf m c := by
  refine (dats m 0 c).arrAt_eq_of_covers 7 _ (by decide +kernel) fun t hf y => ?_
  blk_simp
  rw [after0_7]
  unfold out0_7
  rw [View.canon_unit_zero origin, View.ld_unit_zero origin, View.ld_unit_zero origin, View.ld_unit_zero origin, View.ld_unit_zero origin, View.ld_unit_zero origin]
  idx_vars y
  rw [hat_at]
  exact (place_7 t y0 y1 (hatOf m c)).symm

theorem final_8 : (dats m 0 c).arrAt 8 (cfgs 0).N = rstdOf m c := by
  refine (dats m 0 c).arrAt_eq_of_covers 8 _ (by decide +kernel) fun t hf y => ?_
  blk_simp
  rw [after0_8]
  unfold out0_8
  rw [View.canon_unit_zero origin, View.ld_unit_zero origin, View.ld_unit_zero origin, View.ld_unit_zero origin, View.ld_unit_zero origin, View.ld_unit_zero origin]
  idx_vars y
  rw [rstd_at]
  exact (place_8 t y0 y1 (rstdOf m c)).symm

theorem final_9 : (dats m 0 c).arrAt 9 (cfgs 0).N = scaledOf m c := by
  refine (dats m 0 c).arrAt_eq_of_covers 9 _ (by decide +kernel) fun t hf y => ?_
  blk_simp
  rw [after0_9]
  unfold out0_9
  rw [View.canon_unit_zero origin, View.ld_unit_zero origin, View.ld_unit_zero origin, View.ld_unit_zero origin, View.ld_unit_zero origin, View.ld_unit_zero origin, View.ld_unit_zero origin, View.ld_unit_zero origin]
  idx_vars y
  exact (scaled_at m c t y0 y1).trans (place_9 t y0 y1 (scaledOf m c)).symm

theorem frame_P : Cert.quiescent_Kernel14 := fun m g _ => Cert.Kernel14.Gen.frame m g

theorem frame_PI : Cert.quiescent_Kernel14Ideal := fun m g _ => Cert.Kernel14Ideal.Gen.frame m g

theorem frame_RI : Cert.quiescent_Reference14Ideal := fun m g _ =>
  θ_run_mono (Cert.Reference14Ideal.Value.run m g) fun r h => ⟨fun c => (h c).2.2.2, sem_eq_zero_of_no_sems (by decide) r.2⟩

/-- The call's three results are the reference's. -/
theorem algebraic : Cert.algebraic_Kernel14Ideal_Reference14Ideal := by
  intro m g m' g' _ hagree
  refine ⟨fun c => hatOf m c, fun c => rstdOf m c, fun c => scaledOf m c, ?_, ?_⟩
  · exact θ_run_mono (Value.run_blocks m g) fun r h c => ⟨(h c).1.trans (final_7 m c), (h c).2.1.trans (final_8 m c), (h c).2.2.1.trans (final_9 m c), (h c).2.2.2⟩
  · refine θ_run_mono (Cert.Reference14Ideal.Value.run m' g') fun r h c => ?_
    obtain ⟨r0, r1, r2, ha⟩ := h c
    obtain ⟨h0, h1, h2, h3, h4, h5, h6⟩ := hagree c
    refine ⟨r0.trans ?_, r1.trans ?_, r2.trans ?_, ha⟩ <;> clear r0 r1 r2 ha h
    · unfold Cert.Reference14Ideal.Value.res_main_v27
      rw [h0, h1, h2, h3, h4]
      funext i
      idx_vars i
      pointwise [hatOf, zOf, input, xhat, rstd, spread, centred, mean, width, epsilon, alpha]
    · rw [h0, h1, h2, h3, h4]
      funext i
      idx_vars i
      pointwise [rstdOf, zOf, input, rstd, spread, centred, mean, width, epsilon, alpha]
    · unfold Cert.Reference14Ideal.Value.res_main_v52
      rw [h0, h1, h2, h3, h4, h5, h6]
      funext i
      idx_vars i
      pointwise [scaledOf, zOf, input, xhat, rstd, spread, centred, mean, width, epsilon, alpha]

end Cert.NormFwd.Down

end
-- ==== Proof.Loss.Final.lean ====
/- The last layer norm and the loss: what the launch leaves. -/
module

public import proofs.«01_k».proof.Proof.Loss.Point
public import proofs.«01_k».proof.Proof.NormFwd.Down
public import proofs.«01_k».proof.Proof.Norm.Final

@[expose] public section

set_option maxRecDepth 16384

noncomputable section

namespace Cert.Loss

open Idealize.ShloMosaic Idealize.ShloMosaic.TcCoe Cert.Product
open Cert.Norm (alpha width epsilon xhat rstd centred spread mean tok sum_blocks)
open Cert.NormFwd.Down (input)
open Cert.Kernel15Ideal Cert.Kernel15Ideal.Gen

/-- How far the norm's output is from the target. -/
def err (z : FVec Ideal S8192x1024 .f32) (g b : FVec Ideal S1024 .f32) (w : FVec Ideal S8192x1024 .f32) (s : Fin 8192) (j : Fin 1024) : EReal :=
  xhat z s j * g (ix1 j) + b (ix1 j) - w (ix2 s j)

/-- The gradient of the norm's output. -/
def dx (z : FVec Ideal S8192x1024 .f32) (g b : FVec Ideal S1024 .f32) (w : FVec Ideal S8192x1024 .f32) (s : Fin 8192) (j : Fin 1024) : EReal := err z g b w s j * perWidth

theorem pt (t : Fin cfg0.N) : t.val < 32 := lt_of_lt_of_eq t.isLt N_0

theorem idx : ∀ t : Fin cfg0.N, win0_0.index t = ![t.val, 0] ∧ win0_1.index t = ![0, 0] ∧ win0_2.index t = ![t.val, 0] ∧ win0_3.index t = ![0, 0] ∧ win0_4.index t = ![0, 0]
    ∧ win0_5.index t = ![0, 0] ∧ win0_6.index t = ![0, 0] ∧ win0_7.index t = ![t.val, 0] ∧ win0_8.index t = ![t.val, 0] ∧ win0_9.index t = ![t.val, 0] ∧ win0_10.index t = ![0, 0] :=
  (by decide +kernel : ∀ t : Fin grid0.N, _)

variable (m : (ℓ : Loc nD τ sig) → Buf (Elt Ideal) ℓ) (c : Dev nD)

abbrev argY : FVec Ideal S8192x2816 .f32 := m ((c.tc : Thread nD τ).loc main_arg0)
abbrev argW : FVec Ideal S2816x1024 .f32 := m ((c.tc : Thread nD τ).loc main_arg1)
abbrev argH : FVec Ideal S8192x1024 .f32 := m ((c.tc : Thread nD τ).loc main_arg2)
abbrev argXg : FVec Ideal S1024 .f32 := m ((c.tc : Thread nD τ).loc main_arg3)
abbrev argXb : FVec Ideal S1024 .f32 := m ((c.tc : Thread nD τ).loc main_arg4)
abbrev argG : FVec Ideal S1024 .f32 := m ((c.tc : Thread nD τ).loc main_arg5)
abbrev argB : FVec Ideal S1024 .f32 := m ((c.tc : Thread nD τ).loc main_arg6)
abbrev argT : FVec Ideal S8192x1024 .f32 := m ((c.tc : Thread nD τ).loc main_arg7)
abbrev zOf : FVec Ideal S8192x1024 .f32 := input (argY m c) (argW m c) (argH m c) (argXg m c) (argXb m c)
abbrev errOf : Fin 8192 → Fin 1024 → EReal := err (zOf m c) (argG m c) (argB m c) (argT m c)
abbrev dxOf : Fin 8192 → Fin 1024 → EReal := dx (zOf m c) (argG m c) (argB m c) (argT m c)

theorem V_0 : (V m c main_v0 : FVec Ideal S8192x2816 .bf16) = argY m c := by
  unfold V hostOps0
  after_results_simp
  rfl

theorem V_1 : (V m c main_v1 : FVec Ideal S2816x1024 .bf16) = argW m c := by
  unfold V hostOps0
  after_results_simp
  rfl

theorem V_2 (z : Fin 1) (j : Fin 1024) : (V m c main_v2 : FVec Ideal S1x1024 .f32) (ix2 z j) = argXg m c (ix1 j) := by
  unfold V hostOps0
  after_results_simp
  pointwise

theorem V_3 (z : Fin 1) (j : Fin 1024) : (V m c main_v3 : FVec Ideal S1x1024 .f32) (ix2 z j) = argXb m c (ix1 j) := by
  unfold V hostOps0
  after_results_simp
  pointwise

theorem V_4 (z : Fin 1) (j : Fin 1024) : (V m c main_v4 : FVec Ideal S1x1024 .f32) (ix2 z j) = argG m c (ix1 j) := by
  unfold V hostOps0
  after_results_simp
  pointwise

theorem V_5 (z : Fin 1) (j : Fin 1024) : (V m c main_v5 : FVec Ideal S1x1024 .f32) (ix2 z j) = argB m c (ix1 j) := by
  unfold V hostOps0
  after_results_simp
  pointwise

theorem read_0 (t : Fin cfg0.N) (s : Fin 256) (k : Fin 2816) : (iblk m c 0 t : Vec Ideal S256x2816 .bf16) (ix2 s k) = argY m c (ix2 (tok t.val s) k) := by
  have := pt t
  rw [← V_0]
  unfold tok
  blk_ext [iblk, idx t]
  all_goals omega

theorem read_1 (t : Fin cfg0.N) (k : Fin 2816) (j : Fin 1024) : (iblk m c 1 t : Vec Ideal S2816x1024 .bf16) (ix2 k j) = argW m c (ix2 k j) := by
  rw [← V_1]
  blk_ext [iblk, idx t]
  all_goals omega

theorem read_2 (t : Fin cfg0.N) (s : Fin 256) (j : Fin 1024) : (iblk m c 2 t : Vec Ideal S256x1024 .f32) (ix2 s j) = argH m c (ix2 (tok t.val s) j) := by
  have := pt t
  unfold argH tok
  rw [← V_main_arg2 m c]
  blk_ext [iblk, idx t]
  all_goals omega

theorem read_3 (t : Fin cfg0.N) (z : Fin 1) (j : Fin 1024) : (iblk m c 3 t : Vec Ideal S1x1024 .f32) (ix2 z j) = argXg m c (ix1 j) := by
  rw [← V_2 m c z]
  blk_ext [iblk, idx t]
  all_goals omega

theorem read_4 (t : Fin cfg0.N) (z : Fin 1) (j : Fin 1024) : (iblk m c 4 t : Vec Ideal S1x1024 .f32) (ix2 z j) = argXb m c (ix1 j) := by
  rw [← V_3 m c z]
  blk_ext [iblk, idx t]
  all_goals omega

theorem read_5 (t : Fin cfg0.N) (z : Fin 1) (j : Fin 1024) : (iblk m c 5 t : Vec Ideal S1x1024 .f32) (ix2 z j) = argG m c (ix1 j) := by
  rw [← V_4 m c z]
  blk_ext [iblk, idx t]
  all_goals omega

theorem read_6 (t : Fin cfg0.N) (z : Fin 1) (j : Fin 1024) : (iblk m c 6 t : Vec Ideal S1x1024 .f32) (ix2 z j) = argB m c (ix1 j) := by
  rw [← V_5 m c z]
  blk_ext [iblk, idx t]
  all_goals omega

theorem read_7 (t : Fin cfg0.N) (s : Fin 256) (j : Fin 1024) : (iblk m c 7 t : Vec Ideal S256x1024 .f32) (ix2 s j) = argT m c (ix2 (tok t.val s) j) := by
  have := pt t
  unfold argT tok
  rw [← V_main_arg7 m c]
  blk_ext [iblk, idx t]
  all_goals omega

theorem place_8 (t : Fin cfg0.N) (s : Fin 256) (j : Fin 1024) (G : FVec Ideal S8192x1024 .f32) : G (((cfg0.win 8).blk t).view.emb (ix2 s j)) = G (ix2 (tok t.val s) j) := by
  have := pt t
  unfold tok
  blk_ext [idx t]
  all_goals omega

theorem place_9 (t : Fin cfg0.N) (s : Fin 256) (j : Fin 1024) (G : FVec Ideal S8192x1024 .bf16) : G (((cfg0.win 9).blk t).view.emb (ix2 s j)) = G (ix2 (tok t.val s) j) := by
  have := pt t
  unfold tok
  blk_ext [idx t]
  all_goals omega

theorem place_10 (t : Fin cfg0.N) (a : Fin 8) (j : Fin 1024) (G : FVec Ideal S8x1024 .f32) : G (((cfg0.win 10).blk t).view.emb (ix2 a j)) = G (ix2 a j) := by
  blk_ext [idx t]
  all_goals omega

/-! ## What a grid point computes -/

abbrev centredAt (t : Fin cfg0.N) : FVec Ideal S256x1024 .f32 := k0_pay3 (iblk m c 0 t) (iblk m c 1 t) (iblk m c 2 t) (iblk m c 3 t) (iblk m c 4 t)
abbrev hatAt (t : Fin cfg0.N) : FVec Ideal S256x1024 .f32 := hatBlock (iblk m c 0 t) (iblk m c 1 t) (iblk m c 2 t) (iblk m c 3 t) (iblk m c 4 t)
abbrev devAt (t : Fin cfg0.N) : FVec Ideal S256x1 .f32 := devBlock (iblk m c 0 t) (iblk m c 1 t) (iblk m c 2 t) (iblk m c 3 t) (iblk m c 4 t)
abbrev errAt (t : Fin cfg0.N) : FVec Ideal S256x1024 .f32 := errBlock (hatAt m c t) (iblk m c 5 t) (iblk m c 6 t) (iblk m c 7 t)
abbrev dxAt (t : Fin cfg0.N) : FVec Ideal S256x1024 .f32 := dxBlock (hatAt m c t) (iblk m c 5 t) (iblk m c 6 t) (iblk m c 7 t)

theorem centred_pay (x0 : Vec Ideal S256x2816 .bf16) (x1 : Vec Ideal S2816x1024 .bf16) (x2 : Vec Ideal S256x1024 .f32) (x3 x4 : Vec Ideal S1x1024 .f32) (s : Fin 256) (j : Fin 1024) :
    k0_pay3 (F := Ideal) x0 x1 x2 x3 x4 (ix2 s j) = (alpha * (x2 (ix2 s j) * x3 (ix2 0 j) + x4 (ix2 0 j)) + ∑ k : Fin 2816, x0 (ix2 s k) * x1 (ix2 k j))
      - Ideal.div (∑ l : Fin 1024, (alpha * (x2 (ix2 s l) * x3 (ix2 0 l) + x4 (ix2 0 l)) + ∑ k : Fin 2816, x0 (ix2 s k) * x1 (ix2 k l))) width := by
  pointwise [k0_pay3, alpha, width]

theorem centred_at (t : Fin cfg0.N) (s : Fin 256) (j : Fin 1024) : centredAt m c t (ix2 s j) = centred (zOf m c) (tok t.val s) j := by
  unfold centredAt
  rw [centred_pay]
  simp only [read_0, read_1, read_2, read_3, read_4]
  rfl

theorem dev_at (t : Fin cfg0.N) (s : Fin 256) (z : Fin 1) : devAt m c t (ix2 s z) = rstd (zOf m c) (tok t.val s) := by
  unfold devAt devBlock k0_pay4 rstd spread
  simp only [← centred_at]
  unfold centredAt
  generalize k0_pay3 (F := Ideal) (iblk m c 0 t) (iblk m c 1 t) (iblk m c 2 t) (iblk m c 3 t) (iblk m c 4 t) = z
  pointwise [width, epsilon]

theorem hat_at (t : Fin cfg0.N) (s : Fin 256) (j : Fin 1024) : hatAt m c t (ix2 s j) = xhat (zOf m c) (tok t.val s) j := by
  unfold hatAt hatBlock k0_pay5 xhat
  rw [← centred_at, ← dev_at m c t s 0]
  unfold devAt devBlock
  generalize k0_pay4 (F := Ideal) (iblk m c 0 t) (iblk m c 1 t) (iblk m c 2 t) (iblk m c 3 t) (iblk m c 4 t) = r
  unfold centredAt
  generalize k0_pay3 (F := Ideal) (iblk m c 0 t) (iblk m c 1 t) (iblk m c 2 t) (iblk m c 3 t) (iblk m c 4 t) = z
  pointwise

theorem err_block (t : Fin cfg0.N) (s : Fin 256) (j : Fin 1024) : errAt m c t (ix2 s j) = errOf m c (tok t.val s) j := by
  unfold errAt
  rw [err_at, hat_at, read_5, read_6, read_7]
  rfl

theorem dx_block (t : Fin cfg0.N) (s : Fin 256) (j : Fin 1024) : dxAt m c t (ix2 s j) = dxOf m c (tok t.val s) j := by
  unfold dxAt
  rw [dx_at]
  exact congrArg (· * perWidth) (err_block m c t s j)

/-! ## The gradient of the input -/

theorem left_dz (t : Fin cfg0.N) : (outsAt0 m c t.val t.isLt).1 = k0_pay1 (devAt m c t) (hatAt m c t) (k0_pay7 (iblk m c 5 t)) (dxAt m c t) := by
  by_cases h0 : t.val % 32 = 0
  · rw [outsAt0_A m c t h0]
    dsimp only
    rw [first_dz]
  · rw [outsAt0_B m c t h0]
    dsimp only
    rw [next_dz]

theorem left_dz16 (t : Fin cfg0.N) : (outsAt0 m c t.val t.isLt).2.1 = k0_pay2 (devAt m c t) (hatAt m c t) (k0_pay7 (iblk m c 5 t)) (dxAt m c t) := by
  by_cases h0 : t.val % 32 = 0
  · rw [outsAt0_A m c t h0]
    dsimp only
    rw [first_dz16]
  · rw [outsAt0_B m c t h0]
    dsimp only
    rw [next_dz16]

theorem dz_block (t : Fin cfg0.N) (s : Fin 256) (j : Fin 1024) : k0_pay1 (F := Ideal) (devAt m c t) (hatAt m c t) (k0_pay7 (iblk m c 5 t)) (dxAt m c t) (ix2 s j)
    = Cert.Norm.dz (zOf m c) (argG m c) (dxOf m c) (tok t.val s) j := by
  rw [dz_at]
  simp only [dx_block, dev_at, hat_at, read_5]
  rfl

def dzOf : FVec Ideal S8192x1024 .f32 := fun i => Cert.Norm.dz (zOf m c) (argG m c) (dxOf m c) (i 0) (i 1)

theorem final_8 : (dats m 0 c).arrAt 8 (cfgs 0).N = dzOf m c := by
  refine (dats m 0 c).arrAt_eq_of_covers 8 _ (by decide +kernel) fun t hf y => ?_
  blk_simp
  rw [after0_8, left_dz]
  idx_vars y
  rw [dz_block]
  exact (place_8 t y0 y1 (dzOf m c)).symm

theorem final_9 : (dats m 0 c).arrAt 9 (cfgs 0).N = (dzOf m c : FVec Ideal S8192x1024 .bf16) := by
  refine (dats m 0 c).arrAt_eq_of_covers 9 _ (by decide +kernel) fun t hf y => ?_
  blk_simp
  rw [after0_9, left_dz16]
  idx_vars y
  rw [dz16_at, dz_block]
  exact (place_9 t y0 y1 (dzOf m c)).symm

/-! ## The gradients of the gain and the bias, and the loss -/

/-- The loss of 256 tokens. -/
def lossPart (n : ℕ) : EReal := half * ∑ s : Fin 256, (∑ k : Fin 1024, errOf m c (tok n s) k * errOf m c (tok n s) k) * perWidth

/-- What point `n` adds to row `a`. -/
def part (a : Fin 8) (j : Fin 1024) (n : ℕ) : EReal :=
  if a.val = 1 then ∑ s : Fin 256, dxOf m c (tok n s) j else if a.val = 0 then ∑ s : Fin 256, dxOf m c (tok n s) j * xhat (zOf m c) (tok n s) j
  else if a.val = 2 then lossPart m c n else 0

theorem sums_at (t : Fin cfg0.N) (old : Vec Ideal S8x1024 .f32) (a : Fin 8) (j : Fin 1024) :
    sums (hatAt m c t) (iblk m c 5 t) (iblk m c 6 t) (iblk m c 7 t) old (ix2 a j) = old (ix2 a j) + part m c a j t.val := by
  show (if a.val = 1 then old (ix2 a j) + ∑ s : Fin 256, dxAt m c t (ix2 s j) else if a.val = 0 then old (ix2 a j) + ∑ s : Fin 256, dxAt m c t (ix2 s j) * hatAt m c t (ix2 s j)
    else if a.val = 2 then old (ix2 a j) + half * ∑ s : Fin 256, (∑ k : Fin 1024, errAt m c t (ix2 s k) * errAt m c t (ix2 s k)) * perWidth else old (ix2 a j)) = _
  simp only [dx_block, hat_at, err_block]
  unfold part
  split_ifs
  · rfl
  · rfl
  · rfl
  · exact (add_zero _).symm

theorem left_sums (a : Fin 8) (j : Fin 1024) (n : ℕ) (hn : n < cfg0.N) : (outsAt0 m c n hn).2.2 (ix2 a j) = ∑ i ∈ Finset.range (n + 1), part m c a j i := by
  induction n with
  | zero =>
    have hA := outsAt0_A m c ⟨0, hn⟩ rfl
    dsimp only at hA ⊢
    rw [hA]
    dsimp only
    rw [first_sums, sums_at, Finset.sum_range_one]
    exact zero_add _
  | succ n ih =>
    have hB := outsAt0_B m c ⟨n + 1, hn⟩ (by have := pt ⟨n + 1, hn⟩; dsimp only at this ⊢; omega)
    dsimp only at hB ⊢
    rw [hB]
    dsimp only
    rw [next_sums, sums_at, Finset.sum_range_succ]
    exact congrArg (· + _) (ih (Nat.lt_of_succ_lt hn))

/-- The three rows of sums, above five rows of zeros. -/
def statsOf : FVec Ideal S8x1024 .f32 := fun i =>
  if (i 0).val = 1 then ∑ s : Fin 8192, dxOf m c s (i 1) else if (i 0).val = 0 then ∑ s : Fin 8192, dxOf m c s (i 1) * xhat (zOf m c) s (i 1)
  else if (i 0).val = 2 then ∑ n ∈ Finset.range 32, lossPart m c n else 0

theorem all_parts (a : Fin 8) (j : Fin 1024) : ∑ i ∈ Finset.range 32, part m c a j i = statsOf m c (ix2 a j) := by
  show _ = if a.val = 1 then ∑ s : Fin 8192, dxOf m c s j else if a.val = 0 then ∑ s : Fin 8192, dxOf m c s j * xhat (zOf m c) s j
    else if a.val = 2 then ∑ n ∈ Finset.range 32, lossPart m c n else 0
  unfold part
  split_ifs
  · exact sum_blocks fun k => dxOf m c k j
  · exact sum_blocks fun k => dxOf m c k j * xhat (zOf m c) k j
  · rfl
  · exact Finset.sum_const_zero

theorem final_10 : (dats m 0 c).arrAt 10 (cfgs 0).N = statsOf m c := by
  refine (dats m 0 c).arrAt_eq_of_covers 10 _ (by decide +kernel) fun t hf y => ?_
  have h31 := (flush0_10 t).mp hf
  have := pt t
  blk_simp
  rw [after0_10]
  idx_vars y
  refine Eq.trans ?_ (place_10 t y0 y1 (statsOf m c)).symm
  rw [left_sums, show t.val + 1 = 32 by omega]
  exact all_parts m c y0 y1

end Cert.Loss

end
-- ==== Proof.Loss.Reference.lean ====
/- The last layer norm and the loss: the reference. -/
module

public import proofs.«01_k».proof.Proof.Loss.Final
public import proofs.«01_k».proof.Proof.Norm.Reference
public import proofs.«01_k».proof.Proof.Gen.Reference15Ideal.Run

@[expose] public section

set_option maxRecDepth 16384

noncomputable section

namespace Cert.Loss

open Idealize.ShloMosaic Idealize.ShloMosaic.TcCoe
open Cert.Norm (alpha width epsilon xhat rstd centred spread mean dzRef viaVariance viaSpread)
open Cert.NormFwd.Down (input)
open Cert.Reference15Ideal Cert.Reference15Ideal.Gen

def one : EReal := Ideal.ofBits .f32 0x3F800000#32
def two : EReal := Ideal.ofBits .f32 0x40000000#32

/-- The gradient of the norm's output, in the reference's order. -/
def dxRef (z : FVec Ideal S8192x1024 .f32) (g b : FVec Ideal S1024 .f32) (w : FVec Ideal S8192x1024 .f32) (s : Fin 8192) (j : Fin 1024) : EReal :=
  Ideal.div (half * one) width * (two * err z g b w s j)

/-- The loss, in the reference's order. -/
def lossRef (z : FVec Ideal S8192x1024 .f32) (g b : FVec Ideal S1024 .f32) (w : FVec Ideal S8192x1024 .f32) : EReal :=
  half * ∑ s : Fin 8192, Ideal.div (∑ k : Fin 1024, err z g b w s k * err z g b w s k) width

variable (m : (ℓ : Loc nD τ sig) → Buf (Elt Ideal) ℓ) (c : Dev nD)

abbrev refY : FVec Ideal S8192x2816 .f32 := m ((c.tc : Thread nD τ).loc main_arg0)
abbrev refW : FVec Ideal S2816x1024 .f32 := m ((c.tc : Thread nD τ).loc main_arg1)
abbrev refH : FVec Ideal S8192x1024 .f32 := m ((c.tc : Thread nD τ).loc main_arg2)
abbrev refXg : FVec Ideal S1024 .f32 := m ((c.tc : Thread nD τ).loc main_arg3)
abbrev refXb : FVec Ideal S1024 .f32 := m ((c.tc : Thread nD τ).loc main_arg4)
abbrev refG : FVec Ideal S1024 .f32 := m ((c.tc : Thread nD τ).loc main_arg5)
abbrev refB : FVec Ideal S1024 .f32 := m ((c.tc : Thread nD τ).loc main_arg6)
abbrev refT : FVec Ideal S8192x1024 .f32 := m ((c.tc : Thread nD τ).loc main_arg7)
abbrev refZ : FVec Ideal S8192x1024 .f32 := input (refY m c) (refW m c) (refH m c) (refXg m c) (refXb m c)

theorem ref_dz (s : Fin 8192) (j : Fin 1024) : @Eq EReal ((Value.res_main_v86 m c : FVec Ideal S8192x1024 .f32) (ix2 s j))
    (dzRef (refZ m c) (fun s j => dxRef (refZ m c) (refG m c) (refB m c) (refT m c) s j * refG m c (ix1 j)) s j) := by
  unfold Value.res_main_v86 refZ refY refW refH refXg refXb refG refB refT
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  generalize m ((c.tc : Thread nD τ).loc main_arg6) = a6
  generalize m ((c.tc : Thread nD τ).loc main_arg7) = a7
  pointwise [dzRef, viaVariance, viaSpread, dxRef, err, input, xhat, rstd, spread, centred, mean, width, epsilon, alpha, half, one, two]

theorem ref_dz16 (s : Fin 8192) (j : Fin 1024) : @Eq EReal ((Value.res_main_v92 m c : FVec Ideal S8192x1024 .bf16) (ix2 s j)) ((Value.res_main_v86 m c : FVec Ideal S8192x1024 .f32) (ix2 s j)) := by
  unfold Value.res_main_v92 Value.res_main_v86
  rfl

theorem ref_stats (a : Fin 8) (j : Fin 1024) : @Eq EReal ((Value.res_main_v93 m c : FVec Ideal S8x1024 .f32) (ix2 a j))
    (if a.val = 1 then ∑ s : Fin 8192, dxRef (refZ m c) (refG m c) (refB m c) (refT m c) s j
      else if a.val = 0 then ∑ s : Fin 8192, xhat (refZ m c) s j * dxRef (refZ m c) (refG m c) (refB m c) (refT m c) s j
      else if a.val = 2 then lossRef (refZ m c) (refG m c) (refB m c) (refT m c) else 0) := by
  unfold Value.res_main_v93 refZ refY refW refH refXg refXb refG refB refT
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  generalize m ((c.tc : Thread nD τ).loc main_arg5) = a5
  generalize m ((c.tc : Thread nD τ).loc main_arg6) = a6
  generalize m ((c.tc : Thread nD τ).loc main_arg7) = a7
  pointwise [dxRef, lossRef, err, input, xhat, rstd, spread, centred, mean, width, epsilon, alpha, half, one, two]
  have := a.isLt
  split_ifs <;> first | omega | skip
  · rw [Fin.sum_univ_one]
  · rw [Fin.sum_univ_one]
  · rfl
  · show (((0#32 : BitVec 32).toInt : ℝ) : EReal) = 0
    simp

end Cert.Loss

end
-- ==== Proof.Loss.Facts.lean ====
/- The side conditions of the loss's precondition. -/
module

public import proofs.«01_k».proof.Pre_finite15
public import Idealize.ShloMosaic.Lib.Decide

@[expose] public section

namespace Cert.Loss

open Idealize.ShloMosaic

instance facts : Cert.Pre_finite15.Facts :=
  ⟨by decide, by decide, by decide, by decide, by decide, by decide, by decide, by decide, by decide⟩

end Cert.Loss
-- ==== Proof.Loss.Equal.lean ====
/- The last layer norm and the loss: the claim. -/
module

public import proofs.«01_k».proof.Defs
public import proofs.«01_k».proof.Proof.Loss.Reference
public import proofs.«01_k».proof.Proof.Loss.Facts
public import proofs.«01_k».proof.Proof.Norm.Reals
public import proofs.«01_k».proof.Proof.Grad.Finite
public import proofs.«01_k».proof.Proof.Gen.Kernel15
public import proofs.«01_k».proof.Proof.Gen.Kernel15.Frame

@[expose] public section

set_option maxRecDepth 16384

noncomputable section

namespace Cert.Loss

open Idealize.ShloMosaic Idealize.ShloMosaic.TcCoe Idealize.SL.Sem
open Cert.Norm (alpha width epsilon xhat rstd centred spread mean dzRef tok sum_blocks alpha_eq width_eq epsilon_eq two_eq xhat_real dz_eq)
open Cert.NormFwd.Down (input)
open Cert.Grad (coe_sum and_both reals_of)

/-! ## Constants -/

theorem half_eq : half = ((1 / 2 : ℝ) : EReal) := by
  unfold half
  simp [Ideal.ofBits, Ideal.ieee]
  rw [← EReal.coe_mul]
  norm_num

theorem perWidth_eq : perWidth = ((1 / 1024 : ℝ) : EReal) := by
  unfold perWidth
  simp [Ideal.ofBits, Ideal.ieee]
  rw [← EReal.coe_mul]
  norm_num

theorem one_eq : one = ((1 : ℝ) : EReal) := by
  unfold one
  simp [Ideal.ofBits, Ideal.ieee]
  rw [← EReal.coe_mul]
  norm_num

theorem div_width (x : EReal) : Ideal.div x width = x * perWidth := by
  rw [width_eq, Ideal.div_coe (by norm_num), perWidth_eq]

theorem factor : Ideal.div (half * one) width * two = perWidth := by
  unfold two
  rw [div_width, half_eq, one_eq, perWidth_eq, two_eq, ← EReal.coe_mul, ← EReal.coe_mul, ← EReal.coe_mul]
  norm_num

/-! ## Numbers that are real -/

def Real' (x : EReal) : Prop := ∃ r : ℝ, x = (r : EReal)

theorem real_add {x y : EReal} : Real' x → Real' y → Real' (x + y)
  | ⟨a, ha⟩, ⟨b, hb⟩ => ⟨a + b, by rw [ha, hb, EReal.coe_add]⟩

theorem real_sub {x y : EReal} : Real' x → Real' y → Real' (x - y)
  | ⟨a, ha⟩, ⟨b, hb⟩ => ⟨a - b, by rw [ha, hb, EReal.coe_sub]⟩

theorem real_mul {x y : EReal} : Real' x → Real' y → Real' (x * y)
  | ⟨a, ha⟩, ⟨b, hb⟩ => ⟨a * b, by rw [ha, hb, EReal.coe_mul]⟩

theorem real_sum {n : ℕ} (f : Fin n → EReal) (h : ∀ k, Real' (f k)) : Real' (∑ k, f k) := by
  choose r hr using h
  exact ⟨∑ k, r k, by simp only [hr, coe_sum]⟩

section

open Cert.Kernel15Ideal Cert.Pre_finite15 Cert.Pre_finite15.Facts

variable {y : FVec Ideal Cert.Kernel15Ideal.S8192x2816 .f32} {wd : FVec Ideal Cert.Kernel15Ideal.S2816x1024 .f32} {xh w : FVec Ideal Cert.Kernel15Ideal.S8192x1024 .f32} {xg xb g b : FVec Ideal Cert.Kernel15Ideal.S1024 .f32}

/-- What the precondition says of the arguments. -/
structure AllReal (y : FVec Ideal Cert.Kernel15Ideal.S8192x2816 .f32) (wd : FVec Ideal Cert.Kernel15Ideal.S2816x1024 .f32) (xh : FVec Ideal Cert.Kernel15Ideal.S8192x1024 .f32) (xg xb g b : FVec Ideal Cert.Kernel15Ideal.S1024 .f32)
    (w : FVec Ideal Cert.Kernel15Ideal.S8192x1024 .f32) : Prop where
  y : ∀ i, Real' (y i)
  wd : ∀ i, Real' (wd i)
  xh : ∀ i, Real' (xh i)
  xg : ∀ i, Real' (xg i)
  xb : ∀ i, Real' (xb i)
  g : ∀ i, Real' (g i)
  b : ∀ i, Real' (b i)
  w : ∀ i, Real' (w i)

theorem all_real (H : Cert.Pre_finite15.fn (F := Ideal) y wd xh xg xb g b w = fun _ => 1#1) : AllReal y wd xh xg xb g b w := by
  have h0 := congrFun H (fun a => a.elim0)
  obtain ⟨h1, hw⟩ := and_both h0
  obtain ⟨h2, hb⟩ := and_both h1
  obtain ⟨h3, hg⟩ := and_both h2
  obtain ⟨h4, hxb⟩ := and_both h3
  obtain ⟨h5, hxg⟩ := and_both h4
  obtain ⟨h6, hxh⟩ := and_both h5
  obtain ⟨hy, hwd⟩ := and_both h6
  exact ⟨fun i => ⟨_, reals_of y _ _ _ _ hy i⟩, fun i => ⟨_, reals_of wd _ _ _ _ hwd i⟩, fun i => ⟨_, reals_of xh _ _ _ _ hxh i⟩, fun i => ⟨_, reals_of xg _ _ _ _ hxg i⟩,
    fun i => ⟨_, reals_of xb _ _ _ _ hxb i⟩, fun i => ⟨_, reals_of g _ _ _ _ hg i⟩, fun i => ⟨_, reals_of b _ _ _ _ hb i⟩, fun i => ⟨_, reals_of w _ _ _ _ hw i⟩⟩

variable (H : AllReal y wd xh xg xb g b w)
include H

theorem input_real (s : Fin 8192) (j : Fin 1024) : Real' (input y wd xh xg xb (ix2 s j)) := by
  unfold input
  exact real_add (real_mul ⟨_, alpha_eq⟩ (real_add (real_mul (H.xh _) (H.xg _)) (H.xb _))) (real_sum _ fun k => real_mul (H.y _) (H.wd _))

theorem hat_real (s : Fin 8192) (j : Fin 1024) : Real' (xhat (input y wd xh xg xb) s j) := by
  have hz := input_real H
  choose zr hz using hz
  exact ⟨_, xhat_real hz (by norm_num) epsilon_eq s j⟩

theorem err_real (s : Fin 8192) (j : Fin 1024) : Real' (err (input y wd xh xg xb) g b w s j) :=
  real_sub (real_add (real_mul (hat_real H s j) (H.g _)) (H.b _)) (H.w _)

theorem dx_real (s : Fin 8192) (j : Fin 1024) : Real' (dx (input y wd xh xg xb) g b w s j * g (ix1 j)) :=
  real_mul (real_mul (err_real H s j) ⟨_, perWidth_eq⟩) (H.g _)

omit H

theorem dxRef_eq (z : FVec Ideal Cert.Kernel15Ideal.S8192x1024 .f32) : dxRef z g b w = dx z g b w := by
  funext s j
  show Ideal.div (half * one) width * (two * err z g b w s j) = err z g b w s j * perWidth
  rw [← mul_assoc, factor, mul_comm]

include H

/-- The loss, added up block by block. -/
theorem loss_eq : ∑ n ∈ Finset.range 32, half * ∑ s : Fin 256, (∑ k : Fin 1024, err (input y wd xh xg xb) g b w (tok n s) k * err (input y wd xh xg xb) g b w (tok n s) k) * perWidth
    = lossRef (input y wd xh xg xb) g b w := by
  have ht : ∀ s, Real' ((∑ k : Fin 1024, err (input y wd xh xg xb) g b w s k * err (input y wd xh xg xb) g b w s k) * perWidth) := fun s =>
    real_mul (real_sum _ fun k => real_mul (err_real H s k) (err_real H s k)) ⟨_, perWidth_eq⟩
  choose t ht using ht
  have hb := sum_blocks fun s => (t s : EReal)
  unfold lossRef
  simp only [div_width, ht] at hb ⊢
  rw [← hb, half_eq]
  simp only [coe_sum, ← EReal.coe_mul, Finset.mul_sum]

end

/-! ## The claims -/

theorem frame_PI_pre : Cert.quiescent_Kernel15Ideal_pre_finite15 := fun m g _ => Cert.Kernel15Ideal.Gen.frame m g

theorem frame_RI_pre : Cert.quiescent_Reference15Ideal_pre_finite15 := fun m g _ =>
  θ_run_mono (Cert.Reference15Ideal.Value.run m g) fun r h => ⟨fun c => (h c).2.2.2, sem_eq_zero_of_no_sems (by decide) r.2⟩

/-- The call's results are the reference's. -/
theorem algebraic : Cert.algebraic_Kernel15Ideal_Reference15Ideal_pre_finite15 := by
  intro m g m' g' hpre hagree
  refine ⟨fun c => dzOf m c, fun c => dzOf m c, fun c => statsOf m c, ?_, ?_⟩
  · exact θ_run_mono (Cert.Kernel15Ideal.Value.run_blocks m g) fun r h c => by
      obtain ⟨r0, r1, r2, ha⟩ := h c
      exact ⟨r0.trans (final_8 m c), r1.trans (final_9 m c), r2.trans (final_10 m c), ha⟩
  · refine θ_run_mono (Cert.Reference15Ideal.Value.run m' g') fun r h c => ?_
    obtain ⟨r0, r1, r2, ha⟩ := h c
    obtain ⟨h0, h1, h2, h3, h4, h5, h6, h7⟩ := hagree c
    have H := all_real (hpre c)
    have hdz : ∀ s j, @Eq EReal ((Cert.Reference15Ideal.Value.res_main_v86 m' c : FVec Ideal Cert.Kernel15Ideal.S8192x1024 .f32) (ix2 s j)) (dzOf m c (ix2 s j)) := fun s j => by
      rw [ref_dz, dxRef_eq]
      unfold refZ refY refW refH refXg refXb refG refB refT
      rw [h0, h1, h2, h3, h4, h5, h6, h7]
      have hz := input_real H
      have hd := dx_real H
      choose zr hz using hz
      choose hr hd using hd
      exact (dz_eq hz (by norm_num) epsilon_eq hd s j).symm
    refine ⟨r0.trans ?_, r1.trans ?_, r2.trans ?_, ha⟩
    · funext i
      idx_vars i
      exact hdz i0 i1
    · funext i
      idx_vars i
      exact (ref_dz16 m' c i0 i1).trans (hdz i0 i1)
    · funext i
      idx_vars i
      refine (ref_stats m' c i0 i1).trans ?_
      rw [dxRef_eq]
      unfold refZ refY refW refH refXg refXb refG refB refT
      rw [h0, h1, h2, h3, h4, h5, h6, h7, ← loss_eq H]
      simp only [mul_comm (xhat _ _ _)]
      rfl

end Cert.Loss

end
-- ==== Proof.Fwd.Point.lean ====
/- The dense attention's forward pass: what a grid point leaves in the running maximum and in the running sums. -/
module

public import proofs.«01_k».proof.Proof.Gen.Kernel16Ideal.Value
public import Idealize.ShloMosaic.Lib.Pipeline.ReadBack
public import Idealize.ShloMosaic.Lib.Pipeline.ValueKit
public import Idealize.ShloMosaic.Lib.Pointwise

@[expose] public section

set_option maxRecDepth 16384

noncomputable section

namespace Cert.Fwd

open Idealize.ShloMosaic Idealize.ShloMosaic.TcCoe
open Cert.Kernel16Ideal Cert.Kernel16Ideal.Gen

/-! ## A chunk of 512 queries -/

/-- The largest score of query `j` in a chunk `q` of queries, over a block of keys. -/
def topChunk (k : Vec Ideal S1x2048x64 .bf16) (q : Vec Ideal S1x64x512 .bf16) (j : Fin 512) : EReal :=
  Finset.fold max (Ideal.ofBits .f32 0xFF800000#32) (fun b : Fin 2048 => ∑ d : Fin 64, k (ix3 0 b d) * q (ix3 0 d j)) Finset.univ

/-- The values of a block of keys, and sixteen rows of ones under them. -/
def ones (v : Vec Ideal S1x64x2048 .bf16) (d : Fin 80) (b : Fin 2048) : EReal := if h : d.val < 64 then v (ix3 0 ⟨d.val, h⟩ b) else Ideal.ofBits .bf16 0x3F80#16

theorem ones_at (v : Vec Ideal S1x64x2048 .bf16) (d : Fin 80) (b : Fin 2048) : k0_pay5 (F := Ideal) v (ix2 d b) = ones v d b := by
  unfold ones
  by_cases h : d.val < 64
  · rw [dif_pos h]
    pointwise [k0_pay5]
    rw [dif_pos h]
  · rw [dif_neg h]
    pointwise [k0_pay5]
    rw [dif_neg h]

theorem scores_at (k : Vec Ideal S1x2048x64 .bf16) (q : Vec Ideal S1x64x512 .bf16) (b : Fin 2048) (j : Fin 512) :
    k0_pay9 (F := Ideal) k q (ix2 b j) = ∑ d : Fin 64, k (ix3 0 b d) * q (ix3 0 d j) := by
  pointwise [k0_pay9]

theorem max_at (s : FVec Ideal S2048x512 .f32) (m : Vec Ideal S1x512 .f32) (z : Fin 1) (j : Fin 512) :
    k0_pay16 (F := Ideal) s m (ix2 z j) = max (m (ix2 0 j)) (Finset.fold max (Ideal.ofBits .f32 0xFF800000#32) (fun b : Fin 2048 => s (ix2 b j)) Finset.univ) := by
  pointwise [k0_pay16]
  rw [Fin.fin_one_eq_zero z]

theorem sums_at (v : FVec Ideal S80x2048 .bf16) (s : FVec Ideal S2048x512 .f32) (m : Vec Ideal S1x512 .f32) (acc : Vec Ideal S80x512 .f32) (d : Fin 80) (j : Fin 512) :
    k0_pay17 (F := Ideal) v s m acc (ix2 d j) = Ideal.exp2 (m (ix2 0 j) - k0_pay16 (F := Ideal) s m (ix2 0 j)) * acc (ix2 d j)
      + ∑ b : Fin 2048, v (ix2 d b) * Ideal.exp2 (s (ix2 b j) - k0_pay16 (F := Ideal) s m (ix2 0 j)) := by
  unfold k0_pay17
  generalize k0_pay16 (F := Ideal) s m = n
  pointwise
  rfl

theorem kept_at (s : FVec Ideal S2048x512 .f32) (m : Vec Ideal S1x512 .f32) (z : Fin 1) (j : Fin 512) : k0_pay18 (F := Ideal) s m (ix2 z j) = k0_pay16 (F := Ideal) s m (ix2 z j) := by
  unfold k0_pay18
  generalize k0_pay16 (F := Ideal) s m = n
  pointwise

theorem chunk_max (k : Vec Ideal S1x2048x64 .bf16) (q : Vec Ideal S1x64x512 .bf16) (m : Vec Ideal S1x512 .f32) (z : Fin 1) (j : Fin 512) :
    k0_pay16 (F := Ideal) (k0_pay9 k q) m (ix2 z j) = max (m (ix2 0 j)) (topChunk k q j) := by
  rw [max_at]
  simp only [scores_at]
  rfl

theorem chunk_sums (v : Vec Ideal S1x64x2048 .bf16) (k : Vec Ideal S1x2048x64 .bf16) (q : Vec Ideal S1x64x512 .bf16) (m : Vec Ideal S1x512 .f32) (acc : Vec Ideal S80x512 .f32) (d : Fin 80) (j : Fin 512) :
    k0_pay17 (F := Ideal) (k0_pay5 v) (k0_pay9 k q) m acc (ix2 d j) = Ideal.exp2 (m (ix2 0 j) - max (m (ix2 0 j)) (topChunk k q j)) * acc (ix2 d j)
      + ∑ b : Fin 2048, ones v d b * Ideal.exp2 ((∑ e : Fin 64, k (ix3 0 b e) * q (ix3 0 e j)) - max (m (ix2 0 j)) (topChunk k q j)) := by
  rw [sums_at, chunk_max]
  simp only [ones_at, scores_at]

/-! ## All queries -/

variable (x0 : Vec Ideal S1x2048x64 .bf16) (x1 : Vec Ideal S1x64x8192 .bf16) (x2 : Vec Ideal S1x64x2048 .bf16) (xs0 : Vec Ideal S1x8192 .f32) (xs1 : Vec Ideal S80x8192 .f32)

/-- The score of a block's key `b` for query `j`. -/
def sc (b : Fin 2048) (j : Fin 8192) : EReal := ∑ d : Fin 64, x0 (ix3 0 b d) * x1 (ix3 0 d j)

/-- The running maximum after a point, -/
def nextMax : Vec Ideal S1x8192 .f32 := fun i => max (xs0 (ix2 0 (i 1))) (Finset.fold max (Ideal.ofBits .f32 0xFF800000#32) (fun b : Fin 2048 => sc x0 x1 b (i 1)) Finset.univ)

/-- and the running sums: the values weighted, and the weights themselves. -/
def nextSums : Vec Ideal S80x8192 .f32 := fun i =>
  Ideal.exp2 (xs0 (ix2 0 (i 1)) - nextMax x0 x1 xs0 (ix2 0 (i 1))) * xs1 (ix2 (i 0) (i 1))
    + ∑ b : Fin 2048, ones x2 (i 0) b * Ideal.exp2 (sc x0 x1 b (i 1) - nextMax x0 x1 xs0 (ix2 0 (i 1)))

/-- Query `j` of the chunk that starts at `o`. -/
abbrev at' (o : ℕ) (h : o + 512 ≤ 8192) (j : Fin 512) : Fin 8192 := ⟨o + j.val, by omega⟩

theorem emb_row {R : ℕ} (o : ℕ) (h : o + 512 ≤ 8192) (inb : ∀ a : Fin 2, (![0, o] : Fin 2 → ℕ) a + (![R, 512] : Fin 2 → ℕ) a ≤ (![R, 8192] : Fin 2 → ℕ) a) (d : Fin R) (j : Fin 512) :
    (Rect.unit (s := (⟨2, ![R, 8192]⟩ : Shape)) ![0, o] ![R, 512] inb).emb (ix2 d j) = ix2 d (at' o h j) := by
  funext a
  refine Fin.ext ?_
  match a with
  | 0 => show 0 + 1 * d.val = d.val; omega
  | 1 => show o + 1 * j.val = o + j.val; omega

theorem emb_head (o : ℕ) (h : o + 512 ≤ 8192) (inb : ∀ a : Fin 3, (![0, 0, o] : Fin 3 → ℕ) a + (![1, 64, 512] : Fin 3 → ℕ) a ≤ (![1, 64, 8192] : Fin 3 → ℕ) a) (d : Fin 64) (j : Fin 512) :
    (Rect.unit (s := (⟨3, ![1, 64, 8192]⟩ : Shape)) ![0, 0, o] ![1, 64, 512] inb).emb (ix3 0 d j) = ix3 0 d (at' o h j) := by
  funext a
  refine Fin.ext ?_
  match a with
  | 0 => rfl
  | 1 => show 0 + 1 * d.val = d.val; omega
  | 2 => show o + 1 * j.val = o + j.val; omega

section

variable (o : ℕ) (inb1 : ∀ a : Fin 3, (![0, 0, o] : Fin 3 → ℕ) a + (![1, 64, 512] : Fin 3 → ℕ) a ≤ (![1, 64, 8192] : Fin 3 → ℕ) a)
  (inb2 : ∀ a : Fin 2, (![0, o] : Fin 2 → ℕ) a + (![1, 512] : Fin 2 → ℕ) a ≤ (![1, 8192] : Fin 2 → ℕ) a)
  (inb3 : ∀ a : Fin 2, (![0, o] : Fin 2 → ℕ) a + (![80, 512] : Fin 2 → ℕ) a ≤ (![80, 8192] : Fin 2 → ℕ) a)

/-- The chunk's queries, -/
abbrev cutQ : Vec Ideal S1x64x512 .bf16 := View.ld x1 (Rect.unit (s := S1x64x8192) ![0, 0, o] ![1, 64, 512] inb1)
/-- its running maximum -/
abbrev cutM : Vec Ideal S1x512 .f32 := View.ld xs0 (Rect.unit (s := S1x8192) ![0, o] ![1, 512] inb2)
/-- and its running sums. -/
abbrev cutA : Vec Ideal S80x512 .f32 := View.ld xs1 (Rect.unit (s := S80x8192) ![0, o] ![80, 512] inb3)

theorem top_cut (h : o + 512 ≤ 8192) (j : Fin 512) : topChunk x0 (cutQ x1 o inb1) j = Finset.fold max (Ideal.ofBits .f32 0xFF800000#32) (fun b : Fin 2048 => sc x0 x1 b (at' o h j)) Finset.univ := by
  unfold topChunk sc
  refine congrArg (fun f => Finset.fold max (Ideal.ofBits .f32 0xFF800000#32) f Finset.univ) (funext fun b => Finset.sum_congr rfl fun d _ => congrArg (x0 (ix3 0 b d) * ·) ?_)
  exact congrArg x1 (emb_head o h inb1 d j)

theorem max_cut (h : o + 512 ≤ 8192) (j : Fin 512) : max (cutM xs0 o inb2 (ix2 0 j)) (topChunk x0 (cutQ x1 o inb1) j) = nextMax x0 x1 xs0 (ix2 0 (at' o h j)) := by
  rw [top_cut x0 x1 o inb1 h]
  exact congrArg (fun u => max u _) (congrArg xs0 (emb_row o h inb2 0 j))

theorem piece_max (y : S1x512.Idx) : k0_pay18 (F := Ideal) (k0_pay9 x0 (cutQ x1 o inb1)) (cutM xs0 o inb2) y = nextMax x0 x1 xs0 ((Rect.unit (s := S1x8192) ![0, o] ![1, 512] inb2).emb y) := by
  have h : o + 512 ≤ 8192 := inb2 1
  idx_vars y
  rw [kept_at, chunk_max, max_cut x0 x1 xs0 o inb1 inb2 h]
  refine (congrArg (nextMax x0 x1 xs0) ((emb_row o h inb2 y0 y1).trans ?_)).symm
  rw [Fin.fin_one_eq_zero y0]

theorem piece_sums (y : S80x512.Idx) : k0_pay17 (F := Ideal) (k0_pay5 x2) (k0_pay9 x0 (cutQ x1 o inb1)) (cutM xs0 o inb2) (cutA xs1 o inb3) y
    = nextSums x0 x1 x2 xs0 xs1 ((Rect.unit (s := S80x8192) ![0, o] ![80, 512] inb3).emb y) := by
  have h : o + 512 ≤ 8192 := inb2 1
  idx_vars y
  refine Eq.trans ?_ (congrArg (nextSums x0 x1 x2 xs0 xs1) (emb_row o h inb3 y0 y1)).symm
  rw [chunk_sums, max_cut x0 x1 xs0 o inb1 inb2 h]
  have hm : cutM xs0 o inb2 (ix2 0 y1) = xs0 (ix2 0 (at' o h y1)) := congrArg xs0 (emb_row o h inb2 0 y1)
  have ha : cutA xs1 o inb3 (ix2 y0 y1) = xs1 (ix2 y0 (at' o h y1)) := congrArg xs1 (emb_row o h inb3 y0 y1)
  have hq : ∀ e, cutQ x1 o inb1 (ix3 0 e y1) = x1 (ix3 0 e (at' o h y1)) := fun e => congrArg x1 (emb_head o h inb1 e y1)
  rw [hm, ha]
  simp only [hq]
  rfl

end

/-! ## Reading a buffer of sixteen chunks -/

/-- A store that is a block of `G`, over stores that leave `G` where it leaves off. -/
theorem canon_step {S : Shape} {e : EltTy} (G : S.Idx → Elt Ideal e) (p : View.Piece (Elt Ideal) S e) (L : List (View.Piece (Elt Ideal) S e)) (y : S.Idx) (h : ∀ x : p.1.shape.Idx, p.2 x = G (p.1.emb x))
    (hL : y ∉ p.1.set → View.canon L y = G y) : View.canon (p :: L) y = G y := by
  by_cases hm : y ∈ p.1.set
  · obtain ⟨r, w⟩ := p
    obtain ⟨x, rfl⟩ := r.exists_idx_of_mem hm
    show View.canon (⟨r, w⟩ :: L) (r.emb x) = G (r.emb x)
    rw [View.canon_cons_emb]
    exact h x
  · rw [View.canon_cons_of_not_mem p L hm]
    exact hL hm

/-- A load of stores that are blocks of `G` and cover the buffer. -/
theorem read_back {sig : RefSig} {κ : Kind} {sp : Space} {S : Shape} {e : EltTy} (G : S.Idx → Elt Ideal e) (v : View sig κ sp S e) (L : List (View.Piece (Elt Ideal) S e)) (r : Rect S)
    (h : View.PiecesOf G L) (hc : ∀ y, ∃ p ∈ L, y ∈ p.1.set) : v.readCov L r.toLoadRect = View.ld G r := by
  rw [View.readCov_eq_canon']
  exact funext fun j => View.canon_apply_of_pieces G L h.mem _ (hc _)

theorem outside {R : ℕ} (o : ℕ) (inb : ∀ a : Fin 2, (![0, 512 * o] : Fin 2 → ℕ) a + (![R, 512] : Fin 2 → ℕ) a ≤ (![R, 8192] : Fin 2 → ℕ) a) (y : (⟨2, ![R, 8192]⟩ : Shape).Idx)
    (h : y ∉ (Rect.unit (s := (⟨2, ![R, 8192]⟩ : Shape)) ![0, 512 * o] ![R, 512] inb).set) : (y 1).val / 512 ≠ o := by
  intro ho
  apply h
  have : (y 0).val < R := (y 0).isLt
  rw [Rect.mem_set_unit]
  intro a
  match a with
  | 0 => exact ⟨Nat.zero_le _, by show (y 0).val < 0 + R; omega⟩
  | 1 => exact ⟨by show 512 * o ≤ (y 1).val; omega, by show (y 1).val < 512 * o + 512; omega⟩

end Cert.Fwd

end
-- ==== Proof.Fwd.Reals.lean ====
/- The running sums of the dense attention's forward pass over the reals, one block of keys after another. -/
module

public import proofs.«01_k».proof.Proof.Fwd.Point
public import proofs.«01_k».proof.Proof.Grad.Reference

@[expose] public section

set_option maxRecDepth 16384

noncomputable section

namespace Cert.Fwd

open Idealize.ShloMosaic Idealize.ShloMosaic.TcCoe
open Cert.Kernel16Ideal Cert.Kernel16Ideal.Gen
open Cert.Grad (Data score weight qHead coe_sum div_real fold_max_coe minus_infinity sum_exp_pos weight_shift)

/-! ## Powers of two -/

def pow2 (x : ℝ) : ℝ := Real.rpow 2 x

theorem exp2_real (x : ℝ) : Ideal.exp2 (x : EReal) = (pow2 x : EReal) := Ideal.exp2_coe x

theorem pow2_mul (x y z : ℝ) : pow2 (y - z) * pow2 (x - y) = pow2 (x - z) := by
  have h := Real.rpow_add (x := 2) (by norm_num) (y - z) (x - y)
  rw [show y - z + (x - y) = x - z by ring] at h
  exact h.symm

theorem log_two_ne : Real.log 2 ≠ 0 := (Real.log_pos (by norm_num)).ne'

/-- A power of two is the exponential of as many logarithms of two. -/
theorem pow2_exp (x y : ℝ) : pow2 (x / Real.log 2 - y) = Real.exp (x - y * Real.log 2) := by
  show (2 : ℝ) ^ (_ : ℝ) = _
  rw [Real.rpow_def_of_pos (by norm_num)]
  congr 1
  rw [mul_sub, mul_div_cancel₀ _ log_two_ne, mul_comm]

/-! ## One block of keys more -/

/-- What the blocks of keys before `r` have added up to, under the maximum `M`: `s` are the scores, `w` the rows that they weigh. -/
def part (s : ℕ → Fin 2048 → ℝ) (w : ℕ → Fin 80 → Fin 2048 → ℝ) (r : ℕ) (M : ℝ) (d : Fin 80) : ℝ := ∑ j ∈ Finset.range r, ∑ b : Fin 2048, w j d b * pow2 (s j b - M)

theorem part_shift (s : ℕ → Fin 2048 → ℝ) (w : ℕ → Fin 80 → Fin 2048 → ℝ) (r : ℕ) (M N : ℝ) (d : Fin 80) : pow2 (M - N) * part s w r M d = part s w r N d := by
  simp only [part, Finset.mul_sum]
  refine Finset.sum_congr rfl fun j _ => Finset.sum_congr rfl fun b _ => ?_
  rw [mul_left_comm, pow2_mul]

theorem max_coe (a b : ℝ) : max (a : EReal) (b : EReal) = ((max a b : ℝ) : EReal) := (EReal.coe_strictMono.monotone.map_max : ((max a b : ℝ) : EReal) = _).symm

/-- A point that finds the sums of the blocks before its own leaves the sums with its own. -/
theorem step {x0 : Vec Ideal S1x2048x64 .bf16} {x1 : Vec Ideal S1x64x8192 .bf16} {x2 : Vec Ideal S1x64x2048 .bf16} {xs0 : Vec Ideal S1x8192 .f32} {xs1 : Vec Ideal S80x8192 .f32}
    {s : ℕ → Fin 2048 → ℝ} {w : ℕ → Fin 80 → Fin 2048 → ℝ} {r : ℕ} {a : Fin 8192} {M : ℝ}
    (hs : ∀ b, sc x0 x1 b a = (s r b : EReal)) (hw : ∀ d b, ones x2 d b = (w r d b : EReal)) (hM : xs0 (ix2 0 a) = (M : EReal)) (hS : ∀ d, xs1 (ix2 d a) = (part s w r M d : EReal)) :
    ∃ N : ℝ, nextMax x0 x1 xs0 (ix2 0 a) = (N : EReal) ∧ ∀ d, nextSums x0 x1 x2 xs0 xs1 (ix2 d a) = (part s w (r + 1) N d : EReal) := by
  have hN : ∃ N : ℝ, nextMax x0 x1 xs0 (ix2 0 a) = (N : EReal) := by
    show ∃ N : ℝ, max (xs0 (ix2 0 a)) (Finset.fold max (Ideal.ofBits .f32 0xFF800000#32) (fun b : Fin 2048 => sc x0 x1 b a) Finset.univ) = (N : EReal)
    obtain ⟨K, hK⟩ := fold_max_coe (n := 2047) (fun b => s r b)
    rw [hM, minus_infinity, show (fun b : Fin 2048 => sc x0 x1 b a) = fun b => (s r b : EReal) from funext hs]
    exact ⟨max M K, (congrArg (max (M : EReal)) hK).trans (max_coe M K)⟩
  obtain ⟨N, hN⟩ := hN
  refine ⟨N, hN, fun d => ?_⟩
  show Ideal.exp2 (xs0 (ix2 0 a) - nextMax x0 x1 xs0 (ix2 0 a)) * xs1 (ix2 d a) + ∑ b : Fin 2048, ones x2 d b * Ideal.exp2 (sc x0 x1 b a - nextMax x0 x1 xs0 (ix2 0 a)) = _
  rw [hN, hM, hS, ← EReal.coe_sub, exp2_real, ← EReal.coe_mul, part_shift]
  simp only [hs, hw, ← EReal.coe_sub, exp2_real, ← EReal.coe_mul, coe_sum]
  rw [← EReal.coe_add, part, part, Finset.sum_range_succ]

/-! ## Four blocks -/

/-- Key `b` of block `j`. -/
def keyOf (j : ℕ) (b : Fin 2048) : Fin 8192 := ⟨j % 4 * 2048 + b.val, by omega⟩

theorem sum_blocks (f : Fin 8192 → ℝ) : ∑ j ∈ Finset.range 4, ∑ b : Fin 2048, f (keyOf j b) = ∑ b : Fin 8192, f b := by
  rw [← Fin.sum_univ_eq_sum_range (fun j => ∑ b : Fin 2048, f (keyOf j b)), ← Fin.sum_mul_add_fin 4 f (n := 2048)]
  exact Finset.sum_congr rfl fun c _ => Finset.sum_congr rfl fun x _ => congrArg f (Fin.ext (by
    show c.val % 4 * 2048 + x.val = c.val * 2048 + x.val
    rw [Nat.mod_eq_of_lt c.isLt]))

/-- A query's scores to base two, block by block, -/
def sOf (X : Data) (g : Fin 2) (h : Fin 4) (a : Fin 8192) (j : ℕ) (b : Fin 2048) : ℝ := score X g h a (keyOf j b) / Real.log 2

/-- and the values with rows of ones under them. -/
def wOf (X : Data) (g : Fin 2) (j : ℕ) (d : Fin 80) (b : Fin 2048) : ℝ := if h : d.val < 64 then X.v (keyOf j b) g ⟨d.val, h⟩ else 1

variable (X : Data) (g : Fin 2) (h : Fin 4) (a : Fin 8192) (M : ℝ)

theorem part_ones (d : Fin 80) (hd : ¬d.val < 64) : part (sOf X g h a) (wOf X g) 4 M d = ∑ b : Fin 8192, Real.exp (score X g h a b - M * Real.log 2) := by
  rw [← sum_blocks]
  refine Finset.sum_congr rfl fun j _ => Finset.sum_congr rfl fun b _ => ?_
  rw [wOf, dif_neg hd, one_mul, sOf, pow2_exp]

theorem part_values (d : Fin 80) (hd : d.val < 64) : part (sOf X g h a) (wOf X g) 4 M d = ∑ b : Fin 8192, X.v b g ⟨d.val, hd⟩ * Real.exp (score X g h a b - M * Real.log 2) := by
  rw [← sum_blocks]
  refine Finset.sum_congr rfl fun j _ => Finset.sum_congr rfl fun b _ => ?_
  rw [wOf, dif_pos hd, sOf, pow2_exp]

/-- The output of a query, -/
def outOf (d : Fin 64) : ℝ := ∑ b : Fin 8192, weight X g h a b * X.v b g d

/-- and the logarithm to base two of its sum of exponentials. -/
def lseOf : ℝ := Real.log (∑ b : Fin 8192, Real.exp (score X g h a b)) / Real.log 2

theorem out_of_part (d : Fin 64) : (∑ b : Fin 8192, X.v b g d * Real.exp (score X g h a b - M)) / (∑ b : Fin 8192, Real.exp (score X g h a b - M)) = outOf X g h a d := by
  rw [outOf, Finset.sum_div]
  refine Finset.sum_congr rfl fun b _ => ?_
  rw [mul_div_assoc, weight_shift, mul_comm]

/-- The logarithm of a sum of exponentials, from the exponentials less any number. -/
theorem log_shift : M + Real.log (∑ b : Fin 8192, Real.exp (score X g h a b - M)) = Real.log (∑ b : Fin 8192, Real.exp (score X g h a b)) := by
  have hp : 0 < ∑ b : Fin 8192, Real.exp (score X g h a b - M) := sum_exp_pos X g h a M
  have hx : ∀ b, Real.exp (score X g h a b) = Real.exp M * Real.exp (score X g h a b - M) := fun b => by rw [← Real.exp_add]; congr 1; ring
  simp only [hx]
  rw [← Finset.mul_sum, Real.log_mul (Real.exp_pos M).ne' hp.ne', Real.log_exp]

theorem lse_of_part : M + Real.log (∑ b : Fin 8192, Real.exp (score X g h a b - M * Real.log 2)) / Real.log 2 = lseOf X g h a := by
  rw [lseOf, ← log_shift X g h a (M * Real.log 2), add_div, mul_div_assoc, div_self log_two_ne, mul_one]

end Cert.Fwd

end
-- ==== Proof.Fwd.Host.lean ====
/- The blocks that the dense attention's forward pass reads. -/
module

public import proofs.«01_k».proof.Proof.Fwd.Reals
public import proofs.«01_k».proof.Proof.Grad.Host

@[expose] public section

set_option maxRecDepth 16384

noncomputable section

namespace Cert.Fwd

open Idealize.ShloMosaic Idealize.ShloMosaic.TcCoe
open Cert.Kernel16Ideal Cert.Kernel16Ideal.Gen
open Cert.Grad (Data Reals score qHead coe_sum byHead byHead_at wide heads heads_q upto)

variable (m : (ℓ : Loc nD τ sig) → Buf (Elt Ideal) ℓ) (c : Dev nD)

abbrev argQ : FVec Ideal S8192x8x64 .f32 := m ((c.tc : Thread nD τ).loc main_arg0)
abbrev argK : FVec Ideal S8192x2x64 .f32 := m ((c.tc : Thread nD τ).loc main_arg1)
abbrev argV : FVec Ideal S8192x2x64 .f32 := m ((c.tc : Thread nD τ).loc main_arg2)

/-- The forward pass has no cotangent: the lemmas about its arguments are given zeros. -/
abbrev noCt : FVec Ideal S8192x8x64 .f32 := fun _ => ((0 : ℝ) : EReal)

theorem V_k : V m c main_v13 = byHead (argK m c) := by
  unfold V hostOps0; after_results_simp <;> rfl
theorem V_h : V m c main_v11 = heads (argQ m c) (argK m c) (argV m c) := by
  unfold V hostOps0; after_results_simp <;> rfl

/-- The group of keys, -/
def gr (n : ℕ) : Fin 2 := ⟨n / 16 % 2, Nat.mod_lt _ (by decide)⟩

/-- and the head within it, of a point. -/
def hd (n : ℕ) : Fin 4 := ⟨n / 4 % 4, Nat.mod_lt _ (by decide)⟩

theorem pt (t : Fin cfg0.N) : t.val < 32 := lt_of_lt_of_eq t.isLt N_0

theorem idx : ∀ t : Fin cfg0.N, win0_0.index t = ![t.val / 16, t.val % 4, 0] ∧ win0_1.index t = ![t.val / 4, 0, 0]
    ∧ win0_2.index t = ![10 + t.val / 16, 0, t.val % 4] ∧ win0_3.index t = ![t.val / 4, 0, 0] ∧ win0_4.index t = ![t.val / 4, 0, 0] := (by decide +kernel : ∀ t : Fin grid0.N, _)

theorem read_0 (t : Fin cfg0.N) (b : Fin 2048) (d : Fin 64) : (iblk m c 0 t : Vec Ideal S1x2048x64 .bf16) (ix3 0 b d) = (V m c main_v13 : FVec Ideal S2x8192x64 .bf16) (ix3 (gr t.val) (keyOf t.val b) d) := by
  have := pt t
  unfold gr keyOf
  blk_ext [iblk, idx t]
  all_goals omega

theorem read_1 (t : Fin cfg0.N) (d : Fin 64) (a : Fin 8192) : (iblk m c 1 t : Vec Ideal S1x64x8192 .bf16) (ix3 0 d a) = (V m c main_v11 : FVec Ideal S12x64x8192 .bf16) (ix3 (upto (qHead (gr t.val) (hd t.val))) d a) := by
  have := pt t
  unfold upto qHead gr hd
  blk_ext [iblk, idx t]
  all_goals omega

theorem read_2 (t : Fin cfg0.N) (d : Fin 64) (b : Fin 2048) : (iblk m c 2 t : Vec Ideal S1x64x2048 .bf16) (ix3 0 d b) = (V m c main_v11 : FVec Ideal S12x64x8192 .bf16) (ix3 ⟨10 + (gr t.val).val, by omega⟩ d (keyOf t.val b)) := by
  have := pt t
  unfold gr keyOf
  blk_ext [iblk, idx t]
  all_goals omega

section

variable {X : Data} {q : FVec Ideal S8192x8x64 .f32} {k v : FVec Ideal S8192x2x64 .f32} {ct : FVec Ideal S8192x8x64 .f32}

theorem heads_v (H : Reals X q k v ct) (g : Fin 2) (d : Fin 64) (a : Fin 8192) :
    heads q k v (ix3 (⟨10 + g.val, by omega⟩ : Fin 12) d a) = (X.v a g d : EReal) := by
  pointwise [heads, wide]
  rw [dif_neg (by omega), dif_neg (by omega), ← H.v]
  blk_ext []

end

variable {X : Data} (H : Reals X (argQ m c) (argK m c) (argV m c) noCt)

theorem one_bits : Ideal.ofBits .bf16 0x3F80#16 = ((1 : ℝ) : EReal) := by
  simp [Ideal.ofBits, Ideal.ieee]
  rw [← EReal.coe_mul]
  norm_num

include H

/-- A point's scores, -/
theorem sc_at (t : Fin cfg0.N) (a : Fin 8192) (b : Fin 2048) :
    sc (iblk m c 0 t) (iblk m c 1 t) b a = (sOf X (gr t.val) (hd t.val) a t.val b : EReal) := by
  unfold sc
  have h0 : ∀ d, @Eq EReal ((iblk m c 0 t : Vec Ideal S1x2048x64 .bf16) (ix3 0 b d)) (X.k (keyOf t.val b) (gr t.val) d : EReal) := fun d => by rw [read_0, V_k, byHead_at, H.k]
  have h1 : ∀ d, @Eq EReal ((iblk m c 1 t : Vec Ideal S1x64x8192 .bf16) (ix3 0 d a)) ((X.q a (qHead (gr t.val) (hd t.val)) d / Real.log 2 : ℝ) : EReal) := fun d => by rw [read_1, V_h, heads_q H]
  refine Eq.trans (Finset.sum_congr rfl fun d _ => congrArg₂ (fun u v : EReal => u * v) (h0 d) (h1 d)) ?_
  simp only [← EReal.coe_mul, coe_sum, sOf, score, mul_div_assoc', Finset.sum_div]

/-- and its values. -/
theorem ones_real (t : Fin cfg0.N) (d : Fin 80) (b : Fin 2048) : ones (iblk m c 2 t) d b = (wOf X (gr t.val) t.val d b : EReal) := by
  unfold ones wOf
  by_cases hd : d.val < 64
  · rw [dif_pos hd, dif_pos hd]
    exact (read_2 m c t _ b).trans ((congrFun (V_h m c) _).trans (heads_v H _ _ _))
  · rw [dif_neg hd, dif_neg hd]
    exact one_bits

end Cert.Fwd

end
-- ==== Proof.Fwd.First.lean ====
/- The dense attention's forward pass: a query block's first point. -/
module

public import proofs.«01_k».proof.Proof.Fwd.Point

@[expose] public section

set_option maxRecDepth 16384

noncomputable section

namespace Cert.Fwd

open Idealize.ShloMosaic Idealize.ShloMosaic.TcCoe
open Cert.Kernel16Ideal Cert.Kernel16Ideal.Gen

variable (x0 : Vec Ideal S1x2048x64 .bf16) (x1 : Vec Ideal S1x64x8192 .bf16) (x2 : Vec Ideal S1x64x2048 .bf16) (xs0 : Vec Ideal S1x8192 .f32) (xs1 : Vec Ideal S80x8192 .f32)

variable (c : Dev nD) (i : grid0.Coords) (arg3 : Memref sig .tc .vmem S1x2048x64 .bf16) (harg3 : arg3.IsWhole) (arg4 : Memref sig .tc .vmem S1x64x8192 .bf16) (harg4 : arg4.IsWhole) (arg5 : Memref sig .tc .vmem S1x64x2048 .bf16) (harg5 : arg5.IsWhole) (arg6 : Memref sig .tc .vmem S1x64x8192 .f32) (harg6 : arg6.IsWhole) (arg7 : Memref sig .tc .vmem S1x1x8192 .f32) (harg7 : arg7.IsWhole) (arg8 : Memref sig .tc .vmem S1x8192 .f32) (harg8 : arg8.IsWhole) (arg9 : Memref sig .tc .vmem S80x8192 .f32) (harg9 : arg9.IsWhole)

theorem first_max (hc0 : cond0_0 i) (hc1 : ¬cond0_1 i) :
    sout0_A_0 (F := Ideal) c i arg3 harg3 arg4 harg4 arg5 harg5 arg6 harg6 arg7 harg7 arg8 harg8 arg9 harg9 hc0 hc1 x0 x1 x2 = nextMax x0 x1 (k0_pay6 (F := Ideal)) := by
  funext y
  frame_open
  simp (disch := decide) only [↓ View.readCov_skip, ↓ View.readCov_cons_toLoadRect, ↓ View.readCov_fill]
  frame_out
  refine canon_step _ _ _ y (piece_max x0 x1 (k0_pay6 (F := Ideal)) _ _ _) fun h15 => ?_
  refine canon_step _ _ _ y (piece_max x0 x1 (k0_pay6 (F := Ideal)) _ _ _) fun h14 => ?_
  refine canon_step _ _ _ y (piece_max x0 x1 (k0_pay6 (F := Ideal)) _ _ _) fun h13 => ?_
  refine canon_step _ _ _ y (piece_max x0 x1 (k0_pay6 (F := Ideal)) _ _ _) fun h12 => ?_
  refine canon_step _ _ _ y (piece_max x0 x1 (k0_pay6 (F := Ideal)) _ _ _) fun h11 => ?_
  refine canon_step _ _ _ y (piece_max x0 x1 (k0_pay6 (F := Ideal)) _ _ _) fun h10 => ?_
  refine canon_step _ _ _ y (piece_max x0 x1 (k0_pay6 (F := Ideal)) _ _ _) fun h9 => ?_
  refine canon_step _ _ _ y (piece_max x0 x1 (k0_pay6 (F := Ideal)) _ _ _) fun h8 => ?_
  refine canon_step _ _ _ y (piece_max x0 x1 (k0_pay6 (F := Ideal)) _ _ _) fun h7 => ?_
  refine canon_step _ _ _ y (piece_max x0 x1 (k0_pay6 (F := Ideal)) _ _ _) fun h6 => ?_
  refine canon_step _ _ _ y (piece_max x0 x1 (k0_pay6 (F := Ideal)) _ _ _) fun h5 => ?_
  refine canon_step _ _ _ y (piece_max x0 x1 (k0_pay6 (F := Ideal)) _ _ _) fun h4 => ?_
  refine canon_step _ _ _ y (piece_max x0 x1 (k0_pay6 (F := Ideal)) _ _ _) fun h3 => ?_
  refine canon_step _ _ _ y (piece_max x0 x1 (k0_pay6 (F := Ideal)) _ _ _) fun h2 => ?_
  refine canon_step _ _ _ y (piece_max x0 x1 (k0_pay6 (F := Ideal)) _ _ _) fun h1 => ?_
  refine canon_step _ _ _ y (piece_max x0 x1 (k0_pay6 (F := Ideal)) _ _ _) fun h0 => ?_
  have hy : (y 1).val < 8192 := (y 1).isLt
  have g0 := outside (R := 1) 0 (by decide) y h0
  have g1 := outside (R := 1) 1 (by decide) y h1
  have g2 := outside (R := 1) 2 (by decide) y h2
  have g3 := outside (R := 1) 3 (by decide) y h3
  have g4 := outside (R := 1) 4 (by decide) y h4
  have g5 := outside (R := 1) 5 (by decide) y h5
  have g6 := outside (R := 1) 6 (by decide) y h6
  have g7 := outside (R := 1) 7 (by decide) y h7
  have g8 := outside (R := 1) 8 (by decide) y h8
  have g9 := outside (R := 1) 9 (by decide) y h9
  have g10 := outside (R := 1) 10 (by decide) y h10
  have g11 := outside (R := 1) 11 (by decide) y h11
  have g12 := outside (R := 1) 12 (by decide) y h12
  have g13 := outside (R := 1) 13 (by decide) y h13
  have g14 := outside (R := 1) 14 (by decide) y h14
  have g15 := outside (R := 1) 15 (by decide) y h15
  omega

theorem first_sums (hc0 : cond0_0 i) (hc1 : ¬cond0_1 i) :
    sout0_A_1 (F := Ideal) c i arg3 harg3 arg4 harg4 arg5 harg5 arg6 harg6 arg7 harg7 arg8 harg8 arg9 harg9 hc0 hc1 x0 x1 x2 = nextSums x0 x1 x2 (k0_pay6 (F := Ideal)) (k0_pay7 (F := Ideal)) := by
  funext y
  frame_open
  simp (disch := decide) only [↓ View.readCov_skip, ↓ View.readCov_cons_toLoadRect, ↓ View.readCov_fill]
  frame_out
  refine canon_step _ _ _ y (piece_sums x0 x1 x2 (k0_pay6 (F := Ideal)) (k0_pay7 (F := Ideal)) _ _ _ _) fun h15 => ?_
  refine canon_step _ _ _ y (piece_sums x0 x1 x2 (k0_pay6 (F := Ideal)) (k0_pay7 (F := Ideal)) _ _ _ _) fun h14 => ?_
  refine canon_step _ _ _ y (piece_sums x0 x1 x2 (k0_pay6 (F := Ideal)) (k0_pay7 (F := Ideal)) _ _ _ _) fun h13 => ?_
  refine canon_step _ _ _ y (piece_sums x0 x1 x2 (k0_pay6 (F := Ideal)) (k0_pay7 (F := Ideal)) _ _ _ _) fun h12 => ?_
  refine canon_step _ _ _ y (piece_sums x0 x1 x2 (k0_pay6 (F := Ideal)) (k0_pay7 (F := Ideal)) _ _ _ _) fun h11 => ?_
  refine canon_step _ _ _ y (piece_sums x0 x1 x2 (k0_pay6 (F := Ideal)) (k0_pay7 (F := Ideal)) _ _ _ _) fun h10 => ?_
  refine canon_step _ _ _ y (piece_sums x0 x1 x2 (k0_pay6 (F := Ideal)) (k0_pay7 (F := Ideal)) _ _ _ _) fun h9 => ?_
  refine canon_step _ _ _ y (piece_sums x0 x1 x2 (k0_pay6 (F := Ideal)) (k0_pay7 (F := Ideal)) _ _ _ _) fun h8 => ?_
  refine canon_step _ _ _ y (piece_sums x0 x1 x2 (k0_pay6 (F := Ideal)) (k0_pay7 (F := Ideal)) _ _ _ _) fun h7 => ?_
  refine canon_step _ _ _ y (piece_sums x0 x1 x2 (k0_pay6 (F := Ideal)) (k0_pay7 (F := Ideal)) _ _ _ _) fun h6 => ?_
  refine canon_step _ _ _ y (piece_sums x0 x1 x2 (k0_pay6 (F := Ideal)) (k0_pay7 (F := Ideal)) _ _ _ _) fun h5 => ?_
  refine canon_step _ _ _ y (piece_sums x0 x1 x2 (k0_pay6 (F := Ideal)) (k0_pay7 (F := Ideal)) _ _ _ _) fun h4 => ?_
  refine canon_step _ _ _ y (piece_sums x0 x1 x2 (k0_pay6 (F := Ideal)) (k0_pay7 (F := Ideal)) _ _ _ _) fun h3 => ?_
  refine canon_step _ _ _ y (piece_sums x0 x1 x2 (k0_pay6 (F := Ideal)) (k0_pay7 (F := Ideal)) _ _ _ _) fun h2 => ?_
  refine canon_step _ _ _ y (piece_sums x0 x1 x2 (k0_pay6 (F := Ideal)) (k0_pay7 (F := Ideal)) _ _ _ _) fun h1 => ?_
  refine canon_step _ _ _ y (piece_sums x0 x1 x2 (k0_pay6 (F := Ideal)) (k0_pay7 (F := Ideal)) _ _ _ _) fun h0 => ?_
  have hy : (y 1).val < 8192 := (y 1).isLt
  have g0 := outside (R := 80) 0 (by decide) y h0
  have g1 := outside (R := 80) 1 (by decide) y h1
  have g2 := outside (R := 80) 2 (by decide) y h2
  have g3 := outside (R := 80) 3 (by decide) y h3
  have g4 := outside (R := 80) 4 (by decide) y h4
  have g5 := outside (R := 80) 5 (by decide) y h5
  have g6 := outside (R := 80) 6 (by decide) y h6
  have g7 := outside (R := 80) 7 (by decide) y h7
  have g8 := outside (R := 80) 8 (by decide) y h8
  have g9 := outside (R := 80) 9 (by decide) y h9
  have g10 := outside (R := 80) 10 (by decide) y h10
  have g11 := outside (R := 80) 11 (by decide) y h11
  have g12 := outside (R := 80) 12 (by decide) y h12
  have g13 := outside (R := 80) 13 (by decide) y h13
  have g14 := outside (R := 80) 14 (by decide) y h14
  have g15 := outside (R := 80) 15 (by decide) y h15
  omega

end Cert.Fwd

end
-- ==== Proof.Fwd.Middle.lean ====
/- The dense attention's forward pass: the points between a query block's first and last. -/
module

public import proofs.«01_k».proof.Proof.Fwd.Point

@[expose] public section

set_option maxRecDepth 16384

noncomputable section

namespace Cert.Fwd

open Idealize.ShloMosaic Idealize.ShloMosaic.TcCoe
open Cert.Kernel16Ideal Cert.Kernel16Ideal.Gen

variable (x0 : Vec Ideal S1x2048x64 .bf16) (x1 : Vec Ideal S1x64x8192 .bf16) (x2 : Vec Ideal S1x64x2048 .bf16) (xs0 : Vec Ideal S1x8192 .f32) (xs1 : Vec Ideal S80x8192 .f32)

variable (c : Dev nD) (i : grid0.Coords) (arg3 : Memref sig .tc .vmem S1x2048x64 .bf16) (harg3 : arg3.IsWhole) (arg4 : Memref sig .tc .vmem S1x64x8192 .bf16) (harg4 : arg4.IsWhole) (arg5 : Memref sig .tc .vmem S1x64x2048 .bf16) (harg5 : arg5.IsWhole) (arg6 : Memref sig .tc .vmem S1x64x8192 .f32) (harg6 : arg6.IsWhole) (arg7 : Memref sig .tc .vmem S1x1x8192 .f32) (harg7 : arg7.IsWhole) (arg8 : Memref sig .tc .vmem S1x8192 .f32) (harg8 : arg8.IsWhole) (arg9 : Memref sig .tc .vmem S80x8192 .f32) (harg9 : arg9.IsWhole)

theorem middle_max (hc0 : ¬cond0_0 i) (hc1 : ¬cond0_1 i) :
    sout0_B_0 (F := Ideal) c i arg3 harg3 arg4 harg4 arg5 harg5 arg6 harg6 arg7 harg7 arg8 harg8 arg9 harg9 hc0 hc1 x0 x1 x2 xs0 xs1 = nextMax x0 x1 xs0 := by
  funext y
  unfold sout0_B_0
  refine View.read_writes_apply_of_pieces _ _ _ _ (View.PiecesOf.mem ?_) y (scover0_B_0 c i arg3 harg3 arg4 harg4 arg5 harg5 arg6 harg6 arg7 harg7 arg8 harg8 arg9 harg9 hc0 hc1 x0 x1 x2 xs0 xs1 y)
  frame_out
  refine ⟨?_, ?_, ?_, ?_, ?_, ?_, ?_, ?_, ?_, ?_, ?_, ?_, ?_, ?_, ?_, ?_, trivial⟩ <;> exact piece_max x0 x1 xs0 _ _ _

theorem middle_sums (hc0 : ¬cond0_0 i) (hc1 : ¬cond0_1 i) :
    sout0_B_1 (F := Ideal) c i arg3 harg3 arg4 harg4 arg5 harg5 arg6 harg6 arg7 harg7 arg8 harg8 arg9 harg9 hc0 hc1 x0 x1 x2 xs0 xs1 = nextSums x0 x1 x2 xs0 xs1 := by
  funext y
  unfold sout0_B_1
  refine View.read_writes_apply_of_pieces _ _ _ _ (View.PiecesOf.mem ?_) y (scover0_B_1 c i arg3 harg3 arg4 harg4 arg5 harg5 arg6 harg6 arg7 harg7 arg8 harg8 arg9 harg9 hc0 hc1 x0 x1 x2 xs0 xs1 y)
  frame_out
  refine ⟨?_, ?_, ?_, ?_, ?_, ?_, ?_, ?_, ?_, ?_, ?_, ?_, ?_, ?_, ?_, ?_, trivial⟩ <;> exact piece_sums x0 x1 x2 xs0 xs1 _ _ _ _

end Cert.Fwd

end
-- ==== Proof.Fwd.Last.lean ====
/- The dense attention's forward pass: a query block's last point. -/
module

public import proofs.«01_k».proof.Proof.Fwd.Point

@[expose] public section

set_option maxRecDepth 16384

noncomputable section

namespace Cert.Fwd

open Idealize.ShloMosaic Idealize.ShloMosaic.TcCoe
open Cert.Kernel16Ideal Cert.Kernel16Ideal.Gen

variable (x0 : Vec Ideal S1x2048x64 .bf16) (x1 : Vec Ideal S1x64x8192 .bf16) (x2 : Vec Ideal S1x64x2048 .bf16) (xs0 : Vec Ideal S1x8192 .f32) (xs1 : Vec Ideal S80x8192 .f32)

variable (c : Dev nD) (i : grid0.Coords) (arg3 : Memref sig .tc .vmem S1x2048x64 .bf16) (harg3 : arg3.IsWhole) (arg4 : Memref sig .tc .vmem S1x64x8192 .bf16) (harg4 : arg4.IsWhole) (arg5 : Memref sig .tc .vmem S1x64x2048 .bf16) (harg5 : arg5.IsWhole) (arg6 : Memref sig .tc .vmem S1x64x8192 .f32) (harg6 : arg6.IsWhole) (arg7 : Memref sig .tc .vmem S1x1x8192 .f32) (harg7 : arg7.IsWhole) (arg8 : Memref sig .tc .vmem S1x8192 .f32) (harg8 : arg8.IsWhole) (arg9 : Memref sig .tc .vmem S80x8192 .f32) (harg9 : arg9.IsWhole)

/-- The last point's running maximum, -/
abbrev lastMax : Vec Ideal S1x8192 .f32 := nextMax x0 x1 xs0
/-- sum of the weights -/
abbrev lastSum : Vec Ideal S1x8192 .f32 := View.ld (nextSums x0 x1 x2 xs0 xs1) (Rect.unit (s := S80x8192) ![64, 0] ![1, 8192] inb_S80x8192_S1x8192_64_0)
/-- and sums of the values. -/
abbrev lastSums : Vec Ideal S64x8192 .f32 := View.ld (nextSums x0 x1 x2 xs0 xs1) (Rect.unit (s := S80x8192) ![0, 0] ![64, 8192] inb_S80x8192_S64x8192_0_0)

theorem last_out (hc0 : ¬cond0_0 i) (hc1 : cond0_1 i) :
    out0_C_3 (F := Ideal) c i arg3 harg3 arg4 harg4 arg5 harg5 arg6 harg6 arg7 harg7 arg8 harg8 arg9 harg9 hc0 hc1 x0 x1 x2 xs0 xs1 = k0_pay3 (lastSum x0 x1 x2 xs0 xs1) (lastSums x0 x1 x2 xs0 xs1) := by
  frame_out
  rw [read_back (nextSums x0 x1 x2 xs0 xs1), read_back (nextSums x0 x1 x2 xs0 xs1)]
  · refine ⟨?_, ?_, ?_, ?_, ?_, ?_, ?_, ?_, ?_, ?_, ?_, ?_, ?_, ?_, ?_, ?_, trivial⟩ <;> exact piece_sums x0 x1 x2 xs0 xs1 _ _ _ _
  · exact View.cover_of_tiledL (s := S80x8192) _ S80x512.size (by sl_kernel_rfl)
  · refine ⟨?_, ?_, ?_, ?_, ?_, ?_, ?_, ?_, ?_, ?_, ?_, ?_, ?_, ?_, ?_, ?_, trivial⟩ <;> exact piece_sums x0 x1 x2 xs0 xs1 _ _ _ _
  · exact View.cover_of_tiledL (s := S80x8192) _ S80x512.size (by sl_kernel_rfl)

theorem last_lse (hc0 : ¬cond0_0 i) (hc1 : cond0_1 i) :
    out0_C_4 (F := Ideal) c i arg3 harg3 arg4 harg4 arg5 harg5 arg6 harg6 arg7 harg7 arg8 harg8 arg9 harg9 hc0 hc1 x0 x1 x2 xs0 xs1 = k0_pay4 (lastSum x0 x1 x2 xs0 xs1) (lastMax x0 x1 xs0) := by
  frame_out
  rw [read_back (nextSums x0 x1 x2 xs0 xs1), read_back (nextMax x0 x1 xs0)]
  · exact congrArg (k0_pay4 _) (View.ld_unit_zero (S := S1x8192) (by decide) _ _)
  · refine ⟨?_, ?_, ?_, ?_, ?_, ?_, ?_, ?_, ?_, ?_, ?_, ?_, ?_, ?_, ?_, ?_, trivial⟩ <;> exact piece_max x0 x1 xs0 _ _ _
  · exact View.cover_of_tiledL (s := S1x8192) _ S1x512.size (by sl_kernel_rfl)
  · refine ⟨?_, ?_, ?_, ?_, ?_, ?_, ?_, ?_, ?_, ?_, ?_, ?_, ?_, ?_, ?_, ?_, trivial⟩ <;> exact piece_sums x0 x1 x2 xs0 xs1 _ _ _ _
  · exact View.cover_of_tiledL (s := S80x8192) _ S80x512.size (by sl_kernel_rfl)

theorem last_max (hc0 : ¬cond0_0 i) (hc1 : cond0_1 i) :
    sout0_C_0 (F := Ideal) c i arg3 harg3 arg4 harg4 arg5 harg5 arg6 harg6 arg7 harg7 arg8 harg8 arg9 harg9 hc0 hc1 x0 x1 x2 xs0 xs1 = nextMax x0 x1 xs0 := by
  funext y
  unfold sout0_C_0
  refine View.read_writes_apply_of_pieces _ _ _ _ (View.PiecesOf.mem ?_) y (scover0_C_0 c i arg3 harg3 arg4 harg4 arg5 harg5 arg6 harg6 arg7 harg7 arg8 harg8 arg9 harg9 hc0 hc1 x0 x1 x2 xs0 xs1 y)
  frame_out
  refine ⟨?_, ?_, ?_, ?_, ?_, ?_, ?_, ?_, ?_, ?_, ?_, ?_, ?_, ?_, ?_, ?_, trivial⟩ <;> exact piece_max x0 x1 xs0 _ _ _

theorem last_sums (hc0 : ¬cond0_0 i) (hc1 : cond0_1 i) :
    sout0_C_1 (F := Ideal) c i arg3 harg3 arg4 harg4 arg5 harg5 arg6 harg6 arg7 harg7 arg8 harg8 arg9 harg9 hc0 hc1 x0 x1 x2 xs0 xs1 = nextSums x0 x1 x2 xs0 xs1 := by
  funext y
  unfold sout0_C_1
  refine View.read_writes_apply_of_pieces _ _ _ _ (View.PiecesOf.mem ?_) y (scover0_C_1 c i arg3 harg3 arg4 harg4 arg5 harg5 arg6 harg6 arg7 harg7 arg8 harg8 arg9 harg9 hc0 hc1 x0 x1 x2 xs0 xs1 y)
  frame_out
  refine ⟨?_, ?_, ?_, ?_, ?_, ?_, ?_, ?_, ?_, ?_, ?_, ?_, ?_, ?_, ?_, ?_, trivial⟩ <;> exact piece_sums x0 x1 x2 xs0 xs1 _ _ _ _

end Cert.Fwd

end
-- ==== Proof.Fwd.Carried.lean ====
/- What the points of the dense attention's forward pass carry, and what the last of them writes. -/
module

public import proofs.«01_k».proof.Proof.Fwd.Host
public import proofs.«01_k».proof.Proof.Fwd.First
public import proofs.«01_k».proof.Proof.Fwd.Middle
public import proofs.«01_k».proof.Proof.Fwd.Last

@[expose] public section

set_option maxRecDepth 16384

noncomputable section

namespace Cert.Fwd

open Idealize.ShloMosaic Idealize.ShloMosaic.TcCoe
open Cert.Kernel16Ideal Cert.Kernel16Ideal.Gen
open Cert.Grad (Data Reals score div_real sum_exp_pos)

theorem pay_max (a : Fin 8192) : ∃ M : ℝ, k0_pay6 (F := Ideal) (ix2 0 a) = (M : EReal) := by
  pointwise [k0_pay6]
  simp [Ideal.ofBits, Ideal.ieee]
  exact ⟨_, rfl⟩

theorem pay_sums (d : Fin 80) (a : Fin 8192) : k0_pay7 (F := Ideal) (ix2 d a) = ((0 : ℝ) : EReal) := by
  pointwise [k0_pay7]
  exact EReal.coe_zero.symm

theorem pay_out (l : Vec Ideal S1x8192 .f32) (acc : Vec Ideal S64x8192 .f32) (d : Fin 64) (a : Fin 8192) :
    k0_pay3 l acc (ix3 0 d a) = Ideal.div (acc (ix2 d a)) (l (ix2 0 a)) := by
  pointwise [k0_pay3]

theorem pay_lse (l : Vec Ideal S1x8192 .f32) (M : Vec Ideal S1x8192 .f32) (a : Fin 8192) :
    k0_pay4 l M (ix3 0 0 a) = M (ix2 0 a) + Ideal.div (Ideal.log (l (ix2 0 a))) (Real.log 2 : EReal) := by
  pointwise [k0_pay4]
  rfl

/-- The row of sums of weights, -/
theorem row_sum (S : Vec Ideal S80x8192 .f32) (a : Fin 8192) :
    View.ld S (Rect.unit (s := S80x8192) ![64, 0] ![1, 8192] inb_S80x8192_S1x8192_64_0) (ix2 0 a) = S (ix2 ⟨64, by omega⟩ a) :=
  congrArg S (funext fun x => Fin.ext (match x with
    | 0 => by show 64 + 1 * 0 = 64; rfl
    | 1 => by show 0 + 1 * a.val = a.val; omega))

/-- and the rows of sums of values. -/
theorem row_value (S : Vec Ideal S80x8192 .f32) (d : Fin 64) (a : Fin 8192) :
    View.ld S (Rect.unit (s := S80x8192) ![0, 0] ![64, 8192] inb_S80x8192_S64x8192_0_0) (ix2 d a) = S (ix2 ⟨d.val, by omega⟩ a) :=
  congrArg S (funext fun x => Fin.ext (match x with
    | 0 => by show 0 + 1 * d.val = d.val; omega
    | 1 => by show 0 + 1 * a.val = a.val; omega))

theorem keyOf_mod (n : ℕ) (b : Fin 2048) : keyOf (n % 4) b = keyOf n b := Fin.ext (by show n % 4 % 4 * 2048 + b.val = n % 4 * 2048 + b.val; rw [Nat.mod_mod])

variable (m : (ℓ : Loc nD τ sig) → Buf (Elt Ideal) ℓ) (c : Dev nD)

/-- The running maximum after a point, -/
abbrev maxAt (n : ℕ) (hn : n < cfg0.N) : Vec Ideal S1x8192 .f32 := (outsAt0 m c n hn).2.2.1
/-- and the running sums. -/
abbrev sumsAt (n : ℕ) (hn : n < cfg0.N) : Vec Ideal S80x8192 .f32 := (outsAt0 m c n hn).2.2.2

theorem max_first (t : Fin cfg0.N) (h0 : t.val % 4 = 0) : maxAt m c t.val t.isLt = nextMax (iblk m c 0 t) (iblk m c 1 t) (k0_pay6 (F := Ideal)) := by
  unfold maxAt
  rw [outsAt0_A m c t h0 (by omega)]
  dsimp only
  apply first_max

theorem sums_first (t : Fin cfg0.N) (h0 : t.val % 4 = 0) : sumsAt m c t.val t.isLt = nextSums (iblk m c 0 t) (iblk m c 1 t) (iblk m c 2 t) (k0_pay6 (F := Ideal)) (k0_pay7 (F := Ideal)) := by
  unfold sumsAt
  rw [outsAt0_A m c t h0 (by omega)]
  dsimp only
  apply first_sums

theorem max_next (t : Fin cfg0.N) (h0 : ¬t.val % 4 = 0) : maxAt m c t.val t.isLt = nextMax (iblk m c 0 t) (iblk m c 1 t) (maxAt m c (t.val - 1) (Nat.lt_of_le_of_lt (Nat.sub_le _ _) t.isLt)) := by
  unfold maxAt
  by_cases h1 : t.val % 4 = 3
  · rw [outsAt0_C m c t h0 h1]
    dsimp only
    apply last_max
  · rw [outsAt0_B m c t h0 h1]
    dsimp only
    apply middle_max

theorem sums_next (t : Fin cfg0.N) (h0 : ¬t.val % 4 = 0) : sumsAt m c t.val t.isLt
    = nextSums (iblk m c 0 t) (iblk m c 1 t) (iblk m c 2 t) (maxAt m c (t.val - 1) (Nat.lt_of_le_of_lt (Nat.sub_le _ _) t.isLt)) (sumsAt m c (t.val - 1) (Nat.lt_of_le_of_lt (Nat.sub_le _ _) t.isLt)) := by
  unfold sumsAt maxAt
  by_cases h1 : t.val % 4 = 3
  · rw [outsAt0_C m c t h0 h1]
    dsimp only
    apply last_sums
  · rw [outsAt0_B m c t h0 h1]
    dsimp only
    apply middle_sums

theorem out_last (t : Fin cfg0.N) (h1 : t.val % 4 = 3) : (outsAt0 m c t.val t.isLt).1
    = k0_pay3 (View.ld (sumsAt m c t.val t.isLt) (Rect.unit (s := S80x8192) ![64, 0] ![1, 8192] inb_S80x8192_S1x8192_64_0)) (View.ld (sumsAt m c t.val t.isLt) (Rect.unit (s := S80x8192) ![0, 0] ![64, 8192] inb_S80x8192_S64x8192_0_0)) := by
  rw [sums_next m c t (by omega), outsAt0_C m c t (by omega) h1]
  dsimp only
  apply last_out

theorem lse_last (t : Fin cfg0.N) (h1 : t.val % 4 = 3) : (outsAt0 m c t.val t.isLt).2.1
    = k0_pay4 (View.ld (sumsAt m c t.val t.isLt) (Rect.unit (s := S80x8192) ![64, 0] ![1, 8192] inb_S80x8192_S1x8192_64_0)) (maxAt m c t.val t.isLt) := by
  rw [sums_next m c t (by omega), max_next m c t (by omega), outsAt0_C m c t (by omega) h1]
  dsimp only
  apply last_lse

variable {X : Data} (H : Reals X (argQ m c) (argK m c) (argV m c) noCt)
include H

/-- After a point the sums are those of its head's blocks up to its own, under some maximum. -/
theorem carried (n : ℕ) (hn : n < cfg0.N) (a : Fin 8192) : ∃ M : ℝ, maxAt m c n hn (ix2 0 a) = (M : EReal)
    ∧ ∀ d, sumsAt m c n hn (ix2 d a) = (part (sOf X (gr n) (hd n) a) (wOf X (gr n)) (n % 4 + 1) M d : EReal) := by
  induction n with
  | zero =>
    obtain ⟨M, hM⟩ := pay_max a
    rw [max_first m c ⟨0, hn⟩ rfl, sums_first m c ⟨0, hn⟩ rfl]
    exact step (s := sOf X (gr 0) (hd 0) a) (w := wOf X (gr 0)) (r := 0) (sc_at m c H ⟨0, hn⟩ a) (ones_real m c H ⟨0, hn⟩) hM fun d => pay_sums d a
  | succ n ih =>
    have hs : ∀ b, sc (iblk m c 0 ⟨n + 1, hn⟩) (iblk m c 1 ⟨n + 1, hn⟩) b a = (sOf X (gr (n + 1)) (hd (n + 1)) a ((n + 1) % 4) b : EReal) := fun b =>
      (sc_at m c H ⟨n + 1, hn⟩ a b).trans (congrArg _ (by unfold sOf; rw [keyOf_mod]))
    have hw : ∀ d b, ones (iblk m c 2 ⟨n + 1, hn⟩) d b = (wOf X (gr (n + 1)) ((n + 1) % 4) d b : EReal) := fun d b =>
      (ones_real m c H ⟨n + 1, hn⟩ d b).trans (congrArg _ (by unfold wOf; rw [keyOf_mod]))
    by_cases h4 : (n + 1) % 4 = 0
    · obtain ⟨M, hM⟩ := pay_max a
      rw [max_first m c ⟨n + 1, hn⟩ h4, sums_first m c ⟨n + 1, hn⟩ h4]
      refine step hs hw hM fun d => (pay_sums d a).trans (congrArg _ ?_)
      rw [h4, part, Finset.sum_range_zero]
    · obtain ⟨M, hM, hS⟩ := ih (Nat.lt_of_succ_lt hn)
      rw [max_next m c ⟨n + 1, hn⟩ h4, sums_next m c ⟨n + 1, hn⟩ h4]
      refine step hs hw hM fun d => (hS d).trans ?_
      rw [show (n + 1) % 4 = n % 4 + 1 by omega, show gr n = gr (n + 1) from Fin.ext (by show n / 16 % 2 = (n + 1) / 16 % 2; omega),
        show hd n = hd (n + 1) from Fin.ext (by show n / 4 % 4 = (n + 1) / 4 % 4; omega)]

/-- What the last point of a head writes: the output, -/
theorem out_real (t : Fin cfg0.N) (h1 : t.val % 4 = 3) (d : Fin 64) (a : Fin 8192) :
    (outsAt0 m c t.val t.isLt).1 (ix3 0 d a) = (outOf X (gr t.val) (hd t.val) a d : EReal) := by
  obtain ⟨M, _, hS⟩ := carried m c H t.val t.isLt a
  rw [h1] at hS
  rw [out_last m c t h1, pay_out, row_value, row_sum, hS, hS, part_ones X _ _ a M ⟨64, by omega⟩ (Nat.lt_irrefl 64), part_values X _ _ a M ⟨d.val, by omega⟩ d.isLt,
    div_real _ (sum_exp_pos X _ _ a _).ne', out_of_part]

/-- and the logarithm of its sum. -/
theorem lse_real (t : Fin cfg0.N) (h1 : t.val % 4 = 3) (a : Fin 8192) :
    (outsAt0 m c t.val t.isLt).2.1 (ix3 0 0 a) = (lseOf X (gr t.val) (hd t.val) a : EReal) := by
  obtain ⟨M, hM, hS⟩ := carried m c H t.val t.isLt a
  rw [h1] at hS
  rw [lse_last m c t h1, pay_lse, row_sum, hS, hM, part_ones X _ _ a M ⟨64, by omega⟩ (Nat.lt_irrefl 64), Ideal.log_coe, if_neg (not_le.mpr (sum_exp_pos X _ _ a _)),
    div_real _ log_two_ne, ← EReal.coe_add, lse_of_part]

end Cert.Fwd

end
-- ==== Proof.Fwd.Final.lean ====
/- What the call of the dense attention's forward pass leaves. -/
module

public import proofs.«01_k».proof.Proof.Fwd.Carried

@[expose] public section

set_option maxRecDepth 16384

noncomputable section

namespace Cert.Fwd

open Idealize.ShloMosaic Idealize.ShloMosaic.TcCoe
open Cert.Kernel16Ideal Cert.Kernel16Ideal.Gen
open Cert.Grad (Data Reals qHead)

/-- A head's group, -/
def grp (n : Fin 8) : Fin 2 := ⟨n.val / 4, by omega⟩

/-- its place there, -/
def place (n : Fin 8) : Fin 4 := ⟨n.val % 4, by omega⟩

/-- the output -/
def arrO (X : Data) : FVec Ideal S8x64x8192 .f32 := fun i => (outOf X (grp (i 0)) (place (i 0)) (i 2) (i 1) : EReal)

/-- and the logarithms of the sums. -/
def arrL (X : Data) : FVec Ideal S8x1x8192 .f32 := fun i => (lseOf X (grp (i 0)) (place (i 0)) (i 2) : EReal)

theorem grp_eq (g : Fin 2) (h : Fin 4) : grp (qHead g h) = g := Fin.ext (by show (g.val * 4 + h.val) / 4 = g.val; omega)
theorem place_eq (g : Fin 2) (h : Fin 4) : place (qHead g h) = h := Fin.ext (by show (g.val * 4 + h.val) % 4 = h.val; omega)

variable (m : (ℓ : Loc nD τ sig) → Buf (Elt Ideal) ℓ) (c : Dev nD) {X : Data} (H : Reals X (argQ m c) (argK m c) (argV m c) noCt)

theorem place_3 (t : Fin cfg0.N) (d : Fin 64) (a : Fin 8192) : arrO X (((cfg0.win 3).blk t).view.emb (ix3 0 d a)) = arrO X (ix3 (qHead (gr t.val) (hd t.val)) d a) := by
  have := pt t
  unfold qHead gr hd
  blk_ext [idx t]
  all_goals omega

theorem place_4 (t : Fin cfg0.N) (a : Fin 8192) : arrL X (((cfg0.win 4).blk t).view.emb (ix3 0 0 a)) = arrL X (ix3 (qHead (gr t.val) (hd t.val)) 0 a) := by
  have := pt t
  unfold qHead gr hd
  blk_ext [idx t]
  all_goals omega

include H

theorem final_O : (dats m 0 c).arrAt 3 (cfgs 0).N = arrO X := by
  refine (dats m 0 c).arrAt_eq_of_covers 3 _ (by decide +kernel) fun t hf y => ?_
  have h3 := (flush0_3 t).mp hf
  blk_simp
  rw [after0_3]
  idx_vars y
  obtain rfl : y0 = 0 := Subsingleton.elim _ _
  refine (out_real m c H t h3 y1 y2).trans (Eq.trans ?_ (place_3 t y1 y2).symm)
  show _ = ((outOf X (grp (qHead (gr t.val) (hd t.val))) (place (qHead (gr t.val) (hd t.val))) y2 y1 : ℝ) : EReal)
  rw [grp_eq, place_eq]

theorem final_L : (dats m 0 c).arrAt 4 (cfgs 0).N = arrL X := by
  refine (dats m 0 c).arrAt_eq_of_covers 4 _ (by decide +kernel) fun t hf y => ?_
  have h3 := (flush0_4 t).mp hf
  blk_simp
  rw [after0_4]
  idx_vars y
  obtain rfl : y0 = 0 := Subsingleton.elim _ _
  obtain rfl : y1 = 0 := Subsingleton.elim _ _
  refine (lse_real m c H t h3 y2).trans (Eq.trans ?_ (place_4 t y2).symm)
  show _ = ((lseOf X (grp (qHead (gr t.val) (hd t.val))) (place (qHead (gr t.val) (hd t.val))) y2 : ℝ) : EReal)
  rw [grp_eq, place_eq]

end Cert.Fwd

end
-- ==== Proof.Fwd.Facts.lean ====
/- The side conditions of the forward pass's precondition. -/
module

public import proofs.«01_k».proof.Pre_finite16
public import Idealize.ShloMosaic.Lib.Decide

@[expose] public section

namespace Cert.Fwd

open Idealize.ShloMosaic

instance facts : Cert.Pre_finite16.Facts := ⟨by decide, by decide, by decide, by decide, by decide⟩

end Cert.Fwd
-- ==== Proof.Fwd.Equal.lean ====
/- The results of the dense attention's forward pass are the reference's. -/
module

public import proofs.«01_k».proof.Proof.Fwd.Final
public import proofs.«01_k».proof.Proof.Fwd.Facts
public import proofs.«01_k».proof.Proof.Grad.Finite
public import proofs.«01_k».proof.Proof.Gen.Reference16Ideal.Run
public import proofs.«01_k».proof.Defs

@[expose] public section

set_option maxRecDepth 16384

noncomputable section

namespace Cert.Fwd

open Idealize.ShloMosaic Idealize.ShloMosaic.TcCoe Idealize.SL.Sem
open Cert.Grad (Data Reals dataOf reals_of and_both score qHead scores largest largest_at bound bound_at exps exps_at sums sums_at output output_at logSums logSums_at)

/-- Arguments that meet the precondition are arrays of reals. -/
theorem all_real {q : FVec Ideal Cert.Kernel16Ideal.S8192x8x64 .f32} {k v : FVec Ideal Cert.Kernel16Ideal.S8192x2x64 .f32} (H : Cert.Pre_finite16.fn (F := Ideal) q k v = fun _ => 1#1) :
    Reals (dataOf q k v noCt) q k v noCt := by
  have h0 := congrFun H (fun a => a.elim0)
  obtain ⟨h1, hv⟩ := and_both h0
  obtain ⟨hq, hk⟩ := and_both h1
  exact ⟨fun a h d => reals_of q _ _ _ _ hq _, fun a g d => reals_of k _ _ _ _ hk _, fun a g d => reals_of v _ _ _ _ hv _, fun a h d => rfl⟩

section Reference

variable {X : Data} {q : FVec Ideal Cert.Kernel16Ideal.S8192x8x64 .f32} {k v : FVec Ideal Cert.Kernel16Ideal.S8192x2x64 .f32} (H : Reals X q k v noCt)
include H

/-- The reference's output -/
theorem ref_O : output v (exps (scores q k) (bound (largest (scores q k)))) (sums (exps (scores q k) (bound (largest (scores q k))))) = arrO X := by
  have hM := fun g h a => largest_at (Cert.Grad.scores_at H) g h a
  choose M hM using hM
  have he := exps_at (Cert.Grad.scores_at H) fun g h a => (bound_at (largest (scores q k)) g h a).trans (hM g h a)
  funext i
  idx_vars i
  have h : qHead (grp i0) (place i0) = i0 := Fin.ext (Nat.div_add_mod' i0.val 4)
  have := output_at H he (grp i0) (place i0) i1 i2
  rw [h] at this
  exact this

/-- and its logarithms. -/
theorem ref_L : logSums (largest (scores q k)) (sums (exps (scores q k) (largest (scores q k)))) = arrL X := by
  have hM := fun g h a => largest_at (Cert.Grad.scores_at H) g h a
  choose M hM using hM
  have he := exps_at (Cert.Grad.scores_at H) hM
  funext i
  idx_vars i
  obtain rfl : i1 = 0 := Subsingleton.elim _ _
  have h : qHead (grp i0) (place i0) = i0 := Fin.ext (Nat.div_add_mod' i0.val 4)
  have := logSums_at he hM (grp i0) (place i0) i2
  rw [h, log_shift] at this
  exact this

end Reference

theorem frame_PI_pre : Cert.quiescent_Kernel16Ideal_pre_finite16 := fun m g _ => Cert.Kernel16Ideal.Gen.frame m g

theorem frame_RI_pre : Cert.quiescent_Reference16Ideal_pre_finite16 := fun m g _ =>
  θ_run_mono (Cert.Reference16Ideal.Value.run m g) fun r h => ⟨fun c => (h c).2.2, sem_eq_zero_of_no_sems (by decide) r.2⟩

/-- The call's results are the reference's. -/
theorem algebraic : Cert.algebraic_Kernel16Ideal_Reference16Ideal_pre_finite16 := by
  intro m g m' g' hpre hagree
  refine ⟨fun c => arrO (dataOf (argQ m c) (argK m c) (argV m c) noCt), fun c => arrL (dataOf (argQ m c) (argK m c) (argV m c) noCt), ?_, ?_⟩
  · exact θ_run_mono (Cert.Kernel16Ideal.Value.run_blocks m g) fun r h c => by
      obtain ⟨r0, r1, ha⟩ := h c
      exact ⟨r0.trans (final_O m c (all_real (hpre c))), r1.trans (final_L m c (all_real (hpre c))), ha⟩
  · refine θ_run_mono (Cert.Reference16Ideal.Value.run m' g') fun r h c => ?_
    obtain ⟨r0, r1, ha⟩ := h c
    obtain ⟨h0, h1, h2⟩ := hagree c
    have hO := ref_O (all_real (hpre c))
    have hL := ref_L (all_real (hpre c))
    rw [h0, h1, h2] at r0
    rw [h0, h1] at r1
    exact ⟨r0.trans hO, r1.trans hL, ha⟩

end Cert.Fwd

end
-- ==== Proof.NormFwd.Out.lean ====
/- The layer norm after the attentions: a block of 512 tokens at a time. -/
module

public import proofs.«01_k».proof.Proof.Norm.Spec
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import proofs.«01_k».proof.Proof.Product.Sums

@[expose] public section

set_option maxRecDepth 16384

noncomputable section

namespace Cert.NormFwd.Out

open Idealize.ShloMosaic Idealize.ShloMosaic.TcCoe Idealize.SL.Sem Cert.Product Cert.Norm
open Cert.Kernel13Ideal Cert.Kernel13Ideal.Gen

/-- The norm's input: the residual, which is a scaled norm itself, and the product. -/
def input (y : FVec Ideal S8192x1024 .f32) (w : FVec Ideal S1024x1024 .f32) (xh : FVec Ideal S8192x1024 .f32) (xg xb : FVec Ideal S1024 .f32) : FVec Ideal S8192x1024 .f32 :=
  fun i => alpha * (xh (ix2 (i 0) (i 1)) * xg (ix1 (i 1)) + xb (ix1 (i 1))) + ∑ k : Fin 1024, y (ix2 (i 0) k) * w (ix2 k (i 1))

/-- Token `a` of block `t`. -/
def tok (t : ℕ) (a : Fin 512) : Fin 8192 := ⟨t % 16 * 512 + a.val, by omega⟩

theorem pt (t : Fin cfg0.N) : t.val < 16 := lt_of_lt_of_eq t.isLt N_0

theorem idx : ∀ t : Fin cfg0.N, win0_0.index t = ![t.val, 0] ∧ win0_1.index t = ![0, 0] ∧ win0_2.index t = ![t.val, 0] ∧ win0_3.index t = ![0, 0] ∧ win0_4.index t = ![0, 0]
    ∧ win0_5.index t = ![0, 0] ∧ win0_6.index t = ![0, 0] ∧ win0_7.index t = ![t.val, 0] ∧ win0_8.index t = ![t.val, 0] ∧ win0_9.index t = ![t.val, 0] :=
  (by decide +kernel : ∀ t : Fin grid0.N, _)

variable (m : (ℓ : Loc nD τ sig) → Buf (Elt Ideal) ℓ) (c : Dev nD)

abbrev argY : FVec Ideal S8192x1024 .f32 := m ((c.tc : Thread nD τ).loc main_arg0)
abbrev argW : FVec Ideal S1024x1024 .f32 := m ((c.tc : Thread nD τ).loc main_arg1)
abbrev argH : FVec Ideal S8192x1024 .f32 := m ((c.tc : Thread nD τ).loc main_arg2)
abbrev argXg : FVec Ideal S1024 .f32 := m ((c.tc : Thread nD τ).loc main_arg3)
abbrev argXb : FVec Ideal S1024 .f32 := m ((c.tc : Thread nD τ).loc main_arg4)
abbrev argG : FVec Ideal S1024 .f32 := m ((c.tc : Thread nD τ).loc main_arg5)
abbrev argB : FVec Ideal S1024 .f32 := m ((c.tc : Thread nD τ).loc main_arg6)
abbrev zOf : FVec Ideal S8192x1024 .f32 := input (argY m c) (argW m c) (argH m c) (argXg m c) (argXb m c)

theorem V_0 : (V m c main_v0 : FVec Ideal S8192x1024 .bf16) = argY m c := by
  unfold V hostOps0
  after_results_simp
  rfl

theorem V_1 : (V m c main_v1 : FVec Ideal S1024x1024 .bf16) = argW m c := by
  unfold V hostOps0
  after_results_simp
  rfl

theorem V_2 (z : Fin 1) (j : Fin 1024) : (V m c main_v2 : FVec Ideal S1x1024 .f32) (ix2 z j) = argXg m c (ix1 j) := by
  unfold V hostOps0
  after_results_simp
  pointwise

theorem V_3 (z : Fin 1) (j : Fin 1024) : (V m c main_v3 : FVec Ideal S1x1024 .f32) (ix2 z j) = argXb m c (ix1 j) := by
  unfold V hostOps0
  after_results_simp
  pointwise

theorem V_4 (z : Fin 1) (j : Fin 1024) : (V m c main_v4 : FVec Ideal S1x1024 .f32) (ix2 z j) = argG m c (ix1 j) := by
  unfold V hostOps0
  after_results_simp
  pointwise

theorem V_5 (z : Fin 1) (j : Fin 1024) : (V m c main_v5 : FVec Ideal S1x1024 .f32) (ix2 z j) = argB m c (ix1 j) := by
  unfold V hostOps0
  after_results_simp
  pointwise

theorem read_0 (t : Fin cfg0.N) (s : Fin 512) (k : Fin 1024) : (iblk m c 0 t : Vec Ideal S512x1024 .bf16) (ix2 s k) = argY m c (ix2 (tok t.val s) k) := by
  have := pt t
  rw [← V_0]
  unfold tok
  blk_ext [iblk, idx t]
  all_goals omega

theorem read_1 (t : Fin cfg0.N) (k : Fin 1024) (j : Fin 1024) : (iblk m c 1 t : Vec Ideal S1024x1024 .bf16) (ix2 k j) = argW m c (ix2 k j) := by
  rw [← V_1]
  blk_ext [iblk, idx t]
  all_goals omega

theorem read_2 (t : Fin cfg0.N) (s : Fin 512) (j : Fin 1024) : (iblk m c 2 t : Vec Ideal S512x1024 .f32) (ix2 s j) = argH m c (ix2 (tok t.val s) j) := by
  have := pt t
  unfold argH tok
  rw [← V_main_arg2 m c]
  blk_ext [iblk, idx t]
  all_goals omega

theorem read_3 (t : Fin cfg0.N) (z : Fin 1) (j : Fin 1024) : (iblk m c 3 t : Vec Ideal S1x1024 .f32) (ix2 z j) = argXg m c (ix1 j) := by
  rw [← V_2 m c z]
  blk_ext [iblk, idx t]
  all_goals omega

theorem read_4 (t : Fin cfg0.N) (z : Fin 1) (j : Fin 1024) : (iblk m c 4 t : Vec Ideal S1x1024 .f32) (ix2 z j) = argXb m c (ix1 j) := by
  rw [← V_3 m c z]
  blk_ext [iblk, idx t]
  all_goals omega

theorem read_5 (t : Fin cfg0.N) (z : Fin 1) (j : Fin 1024) : (iblk m c 5 t : Vec Ideal S1x1024 .f32) (ix2 z j) = argG m c (ix1 j) := by
  rw [← V_4 m c z]
  blk_ext [iblk, idx t]
  all_goals omega

theorem read_6 (t : Fin cfg0.N) (z : Fin 1) (j : Fin 1024) : (iblk m c 6 t : Vec Ideal S1x1024 .f32) (ix2 z j) = argB m c (ix1 j) := by
  rw [← V_5 m c z]
  blk_ext [iblk, idx t]
  all_goals omega

theorem place_7 (t : Fin cfg0.N) (s : Fin 512) (j : Fin 1024) (G : FVec Ideal S8192x1024 .f32) : G (((cfg0.win 7).blk t).view.emb (ix2 s j)) = G (ix2 (tok t.val s) j) := by
  have := pt t
  unfold tok
  blk_ext [idx t]
  all_goals omega

theorem place_8 (t : Fin cfg0.N) (s : Fin 512) (z : Fin 1) (G : FVec Ideal S8192x1 .f32) : G (((cfg0.win 8).blk t).view.emb (ix2 s z)) = G (ix2 (tok t.val s) z) := by
  have := pt t
  unfold tok
  blk_ext [idx t]
  all_goals omega

theorem place_9 (t : Fin cfg0.N) (s : Fin 512) (j : Fin 1024) (G : FVec Ideal S8192x1024 .bf16) : G (((cfg0.win 9).blk t).view.emb (ix2 s j)) = G (ix2 (tok t.val s) j) := by
  have := pt t
  unfold tok
  blk_ext [idx t]
  all_goals omega

/-! ## What a grid point computes -/

abbrev centredAt (t : Fin cfg0.N) : FVec Ideal S512x1024 .f32 := k0_pay2 (iblk m c 0 t) (iblk m c 1 t) (iblk m c 2 t) (iblk m c 3 t) (iblk m c 4 t)

theorem centred_pay (x0 : Vec Ideal S512x1024 .bf16) (x1 : Vec Ideal S1024x1024 .bf16) (x2 : Vec Ideal S512x1024 .f32) (x3 x4 : Vec Ideal S1x1024 .f32) (s : Fin 512) (j : Fin 1024) :
    k0_pay2 (F := Ideal) x0 x1 x2 x3 x4 (ix2 s j) = (alpha * (x2 (ix2 s j) * x3 (ix2 0 j) + x4 (ix2 0 j)) + ∑ k : Fin 1024, x0 (ix2 s k) * x1 (ix2 k j))
      - Ideal.div (∑ l : Fin 1024, (alpha * (x2 (ix2 s l) * x3 (ix2 0 l) + x4 (ix2 0 l)) + ∑ k : Fin 1024, x0 (ix2 s k) * x1 (ix2 k l))) width := by
  pointwise [k0_pay2, alpha, width]

theorem centred_at (t : Fin cfg0.N) (s : Fin 512) (j : Fin 1024) : centredAt m c t (ix2 s j) = centred (zOf m c) (tok t.val s) j := by
  unfold centredAt
  rw [centred_pay]
  simp only [read_0, read_1, read_2, read_3, read_4]
  rfl

theorem rstd_at (t : Fin cfg0.N) (s : Fin 512) (z : Fin 1) :
    k0_pay3 (F := Ideal) (iblk m c 0 t) (iblk m c 1 t) (iblk m c 2 t) (iblk m c 3 t) (iblk m c 4 t) (ix2 s z) = rstd (zOf m c) (tok t.val s) := by
  unfold k0_pay3 rstd spread
  simp only [← centred_at]
  unfold centredAt
  generalize k0_pay2 (F := Ideal) (iblk m c 0 t) (iblk m c 1 t) (iblk m c 2 t) (iblk m c 3 t) (iblk m c 4 t) = z
  pointwise [width, epsilon]

theorem hat_at (t : Fin cfg0.N) (s : Fin 512) (j : Fin 1024) :
    k0_pay4 (F := Ideal) (iblk m c 0 t) (iblk m c 1 t) (iblk m c 2 t) (iblk m c 3 t) (iblk m c 4 t) (ix2 s j) = xhat (zOf m c) (tok t.val s) j := by
  unfold k0_pay4 xhat
  rw [← centred_at, ← rstd_at m c t s 0]
  generalize k0_pay3 (F := Ideal) (iblk m c 0 t) (iblk m c 1 t) (iblk m c 2 t) (iblk m c 3 t) (iblk m c 4 t) = r
  unfold centredAt
  generalize k0_pay2 (F := Ideal) (iblk m c 0 t) (iblk m c 1 t) (iblk m c 2 t) (iblk m c 3 t) (iblk m c 4 t) = z
  pointwise

theorem scaled_at (t : Fin cfg0.N) (s : Fin 512) (j : Fin 1024) :
    @Eq EReal (k0_pay1 (F := Ideal) (k0_pay4 (iblk m c 0 t) (iblk m c 1 t) (iblk m c 2 t) (iblk m c 3 t) (iblk m c 4 t)) (iblk m c 5 t) (iblk m c 6 t) (ix2 s j))
      (xhat (zOf m c) (tok t.val s) j * argG m c (ix1 j) + argB m c (ix1 j)) := by
  rw [← hat_at, ← read_5 m c t 0, ← read_6 m c t 0]
  generalize k0_pay4 (F := Ideal) (iblk m c 0 t) (iblk m c 1 t) (iblk m c 2 t) (iblk m c 3 t) (iblk m c 4 t) = x
  pointwise [k0_pay1]

/-! ## What the launch leaves -/

def hatOf : FVec Ideal S8192x1024 .f32 := fun i => xhat (zOf m c) (i 0) (i 1)
def rstdOf : FVec Ideal S8192x1 .f32 := fun i => rstd (zOf m c) (i 0)
def scaledOf : FVec Ideal S8192x1024 .bf16 := fun i => (xhat (zOf m c) (i 0) (i 1) * argG m c (ix1 (i 1)) + argB m c (ix1 (i 1)) : EReal)

theorem final_7 : (dats m 0 c).arrAt 7 (cfgs 0).N = hatOf m c := by
  refine (dats m 0 c).arrAt_eq_of_covers 7 _ (by decide +kernel) fun t hf y => ?_
  blk_simp
  rw [after0_7]
  unfold out0_7
  rw [View.canon_unit_zero origin, View.ld_unit_zero origin, View.ld_unit_zero origin, View.ld_unit_zero origin, View.ld_unit_zero origin, View.ld_unit_zero origin]
  idx_vars y
  rw [hat_at]
  exact (place_7 t y0 y1 (hatOf m c)).symm

theorem final_8 : (dats m 0 c).arrAt 8 (cfgs 0).N = rstdOf m c := by
  refine (dats m 0 c).arrAt_eq_of_covers 8 _ (by decide +kernel) fun t hf y => ?_
  blk_simp
  rw [after0_8]
  unfold out0_8
  rw [View.canon_unit_zero origin, View.ld_unit_zero origin, View.ld_unit_zero origin, View.ld_unit_zero origin, View.ld_unit_zero origin, View.ld_unit_zero origin]
  idx_vars y
  rw [rstd_at]
  exact (place_8 t y0 y1 (rstdOf m c)).symm

theorem final_9 : (dats m 0 c).arrAt 9 (cfgs 0).N = scaledOf m c := by
  refine (dats m 0 c).arrAt_eq_of_covers 9 _ (by decide +kernel) fun t hf y => ?_
  blk_simp
  rw [after0_9]
  unfold out0_9
  rw [View.canon_unit_zero origin, View.ld_unit_zero origin, View.ld_unit_zero origin, View.ld_unit_zero origin, View.ld_unit_zero origin, View.ld_unit_zero origin, View.ld_unit_zero origin, View.ld_unit_zero origin]
  idx_vars y
  exact (scaled_at m c t y0 y1).trans (place_9 t y0 y1 (scaledOf m c)).symm

theorem frame_P : Cert.quiescent_Kernel13 := fun m g _ => Cert.Kernel13.Gen.frame m g

theorem frame_PI : Cert.quiescent_Kernel13Ideal := fun m g _ => Cert.Kernel13Ideal.Gen.frame m g

theorem frame_RI : Cert.quiescent_Reference13Ideal := fun m g _ =>
  θ_run_mono (Cert.Reference13Ideal.Value.run m g) fun r h => ⟨fun c => (h c).2.2.2, sem_eq_zero_of_no_sems (by decide) r.2⟩

/-- The call's three results are the reference's. -/
theorem algebraic : Cert.algebraic_Kernel13Ideal_Reference13Ideal := by
  intro m g m' g' _ hagree
  refine ⟨fun c => hatOf m c, fun c => rstdOf m c, fun c => scaledOf m c, ?_, ?_⟩
  · exact θ_run_mono (Value.run_blocks m g) fun r h c => ⟨(h c).1.trans (final_7 m c), (h c).2.1.trans (final_8 m c), (h c).2.2.1.trans (final_9 m c), (h c).2.2.2⟩
  · refine θ_run_mono (Cert.Reference13Ideal.Value.run m' g') fun r h c => ?_
    obtain ⟨r0, r1, r2, ha⟩ := h c
    obtain ⟨h0, h1, h2, h3, h4, h5, h6⟩ := hagree c
    refine ⟨r0.trans ?_, r1.trans ?_, r2.trans ?_, ha⟩ <;> clear r0 r1 r2 ha h
    · unfold Cert.Reference13Ideal.Value.res_main_v27
      rw [h0, h1, h2, h3, h4]
      funext i
      idx_vars i
      pointwise [hatOf, zOf, input, xhat, rstd, spread, centred, mean, width, epsilon, alpha]
    · rw [h0, h1, h2, h3, h4]
      funext i
      idx_vars i
      pointwise [rstdOf, zOf, input, rstd, spread, centred, mean, width, epsilon, alpha]
    · unfold Cert.Reference13Ideal.Value.res_main_v52
      rw [h0, h1, h2, h3, h4, h5, h6]
      funext i
      idx_vars i
      pointwise [scaledOf, zOf, input, xhat, rstd, spread, centred, mean, width, epsilon, alpha]

end Cert.NormFwd.Out

end
-- ==== Proof.Adam.Spec.lean ====
/- The optimiser's step of one weight, from its gradient and its two moments. -/
module

public import Idealize.ShloMosaic.PureOps
public import Idealize.ShloMosaic.Lib.Pointwise

@[expose] public section

noncomputable section

namespace Cert.Adam

open Idealize.ShloMosaic

/-- The first moment after the step. -/
def first (g m : EReal) : EReal := Ideal.ofBits .f32 0x3F666666#32 * m + Ideal.ofBits .f32 0x3DCCCCCD#32 * g

/-- The second moment after the step. -/
def second (g v : EReal) : EReal := Ideal.ofBits .f32 0x3F7FBE77#32 * v + Ideal.ofBits .f32 0x3A83126F#32 * (g * g)

/-- What is added to the weight. -/
def delta (w g m v : EReal) : EReal :=
  Ideal.ofBits .f32 0xBA83126F#32 * (Ideal.div (Ideal.div (first g m) (Ideal.ofBits .f32 0x3F26BD02#32)) (Ideal.sqrt (Ideal.div (second g v) (Ideal.ofBits .f32 0x3C231ACC#32)) + Ideal.ofBits .f32 0x322BCC77#32)
    + Ideal.ofBits .f32 0x3C23D70A#32 * w)

/-- The sum of the eight devices' parts, in the order of the devices. -/
def total (x : Fin 8 → EReal) : EReal := x 0 + x 1 + x 2 + x 3 + x 4 + x 5 + x 6 + x 7

theorem total_eq (x : Fin 8 → EReal) : total x = ∑ d : Fin 8, x d := (Fin.sum_univ_eight x).symm

/-! ## On arrays -/

/-- The gradient of some rows from the devices' parts of them. -/
def grad {a b : ℕ} (x : FVec Ideal ⟨3, ![8, a, b]⟩ .bf16) : FVec Ideal ⟨2, ![a, b]⟩ .f32 := fun i => total fun d => x (ix3 d (i 0) (i 1))

theorem grad_sum {a b : ℕ} (x : FVec Ideal ⟨3, ![8, a, b]⟩ .bf16) (i : Fin a) (j : Fin b) (y : Fin 8 → EReal) (h : ∀ d, x (ix3 d i j) = y d) : grad x (ix2 i j) = ∑ d : Fin 8, y d :=
  (total_eq _).trans (Finset.sum_congr rfl fun d _ => h d)

def stepped {s : Shape} (g w m v : FVec Ideal s .f32) : FVec Ideal s .f32 := fun i => delta (w i) (g i) (m i) (v i)
def firsts {s : Shape} (g m : FVec Ideal s .f32) : FVec Ideal s .f32 := fun i => first (g i) (m i)
def seconds {s : Shape} (g v : FVec Ideal s .f32) : FVec Ideal s .f32 := fun i => second (g i) (v i)

/-- The four arrays of the step: the gradient, the change of the weight and the two moments. -/
def left {s : Shape} (g w m v : FVec Ideal s .f32) : FVec Ideal s .f32 × FVec Ideal s .f32 × FVec Ideal s .f32 × FVec Ideal s .f32 :=
  (g, stepped g w m v, firsts g m, seconds g v)

/-- An entry of the four arrays is the same entry of four larger ones where the entries they come from are. -/
theorem left_congr {s S : Shape} (g w m v : FVec Ideal s .f32) (G W M V : FVec Ideal S .f32) (i : s.Idx) (I : S.Idx) (hg : g i = G I) (hw : w i = W I) (hm : m i = M I) (hv : v i = V I) :
    (left g w m v).1 i = G I ∧ (left g w m v).2.1 i = stepped G W M V I ∧ (left g w m v).2.2.1 i = firsts G M I ∧ (left g w m v).2.2.2 i = seconds G V I := by
  unfold left stepped firsts seconds
  dsimp only
  rw [hg, hw, hm, hv]
  exact ⟨rfl, rfl, rfl, rfl⟩

/-- Both layers' gradient: layer 0's rows, then layer 1's. -/
def both {r R n : ℕ} (hR : R = r + r) (p q : FVec Ideal ⟨3, ![8, r, n]⟩ .bf16) : FVec Ideal ⟨2, ![R, n]⟩ .f32 := fun i =>
  if h : (i 0).val < r then ∑ d : Fin 8, p (ix3 d ⟨(i 0).val, h⟩ (i 1)) else ∑ d : Fin 8, q (ix3 d ⟨(i 0).val - r, by have : (i 0).val < R := (i 0).isLt; omega⟩ (i 1))

theorem both_low {r R n : ℕ} (hR : R = r + r) (p q : FVec Ideal ⟨3, ![8, r, n]⟩ .bf16) (a : Fin R) (b : Fin r) (j : Fin n) (h : a.val = b.val) :
    both hR p q (ix2 a j) = ∑ d : Fin 8, p (ix3 d b j) := by
  have hr : ((ix2 a j : Shape.Idx ⟨2, ![R, n]⟩) 0).val < r := h ▸ b.isLt
  unfold both
  rw [dif_pos hr]
  exact Finset.sum_congr rfl fun d _ => congrArg (fun b => p (ix3 d b j)) (Fin.ext h)

theorem both_high {r R n : ℕ} (hR : R = r + r) (p q : FVec Ideal ⟨3, ![8, r, n]⟩ .bf16) (a : Fin R) (b : Fin r) (j : Fin n) (h : a.val = r + b.val) :
    both hR p q (ix2 a j) = ∑ d : Fin 8, q (ix3 d b j) := by
  have hr : ¬((ix2 a j : Shape.Idx ⟨2, ![R, n]⟩) 0).val < r := by
    show ¬a.val < r
    omega
  unfold both
  rw [dif_neg hr]
  refine Finset.sum_congr rfl fun d _ => congrArg (fun b => q (ix3 d b j)) (Fin.ext ?_)
  show a.val - r = b.val
  omega

end Cert.Adam

end
-- ==== Proof.Adam.WIn.lean ====
/- The optimiser's step of w_in: 256 of the two layers' 2048 rows at a time. -/
module

public import proofs.«01_k».proof.Defs
public import proofs.«01_k».proof.Proof.Adam.Spec
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal.Run
public import proofs.«01_k».proof.Proof.Product.Sums

@[expose] public section

set_option maxRecDepth 16384

noncomputable section

namespace Cert.Adam.WIn

open Idealize.ShloMosaic Idealize.ShloMosaic.TcCoe Idealize.SL.Sem Cert.Product Cert.Adam
open Cert.Kernel17Ideal Cert.Kernel17Ideal.Gen

/-- Row `a` of block `t`. -/
def row (t : ℕ) (a : Fin 256) : Fin 2048 := ⟨t % 8 * 256 + a.val, by omega⟩

/-- The same row in its layer. -/
def part (t : ℕ) (a : Fin 256) : Fin 1024 := ⟨t % 4 * 256 + a.val, by omega⟩

theorem pt (t : Fin cfg0.N) : t.val < 8 := lt_of_lt_of_eq t.isLt N_0

theorem idx : ∀ t : Fin cfg0.N, win0_0.index t = ![t.val, 0] ∧ win0_1.index t = ![t.val, 0] ∧ win0_2.index t = ![t.val, 0] ∧ win0_3.index t = ![0, t.val % 4, 0] ∧ win0_4.index t = ![0, t.val % 4, 0]
    ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

abbrev argW : FVec Ideal S2048x192 .f32 := m ((c.tc : Thread nD τ).loc main_arg0)
abbrev argM : FVec Ideal S2048x192 .f32 := m ((c.tc : Thread nD τ).loc main_arg1)
abbrev argV : FVec Ideal S2048x192 .f32 := m ((c.tc : Thread nD τ).loc main_arg2)
abbrev argP : FVec Ideal S8x1024x192 .bf16 := m ((c.tc : Thread nD τ).loc main_arg3)
abbrev argQ : FVec Ideal S8x1024x192 .bf16 := m ((c.tc : Thread nD τ).loc main_arg4)

theorem read_0 (t : Fin cfg0.N) (s : Fin 256) (j : Fin 192) : (iblk m c 0 t : Vec Ideal S256x192 .f32) (ix2 s j) = argW m c (ix2 (row t.val s) j) := by
  have := pt t
  unfold argW row
  rw [← V_main_arg0 m c]
  blk_ext [iblk, idx t]
  all_goals omega

theorem read_1 (t : Fin cfg0.N) (s : Fin 256) (j : Fin 192) : (iblk m c 1 t : Vec Ideal S256x192 .f32) (ix2 s j) = argM m c (ix2 (row t.val s) j) := by
  have := pt t
  unfold argM row
  rw [← V_main_arg1 m c]
  blk_ext [iblk, idx t]
  all_goals omega

theorem read_2 (t : Fin cfg0.N) (s : Fin 256) (j : Fin 192) : (iblk m c 2 t : Vec Ideal S256x192 .f32) (ix2 s j) = argV m c (ix2 (row t.val s) j) := by
  have := pt t
  unfold argV row
  rw [← V_main_arg2 m c]
  blk_ext [iblk, idx t]
  all_goals omega

theorem read_3 (t : Fin cfg0.N) (d : Fin 8) (s : Fin 256) (j : Fin 192) : (iblk m c 3 t : Vec Ideal S8x256x192 .bf16) (ix3 d s j) = argP m c (ix3 d (part t.val s) j) := by
  have := pt t
  unfold argP part
  rw [← V_main_arg3 m c]
  blk_ext [iblk, idx t]
  all_goals omega

theorem read_4 (t : Fin cfg0.N) (d : Fin 8) (s : Fin 256) (j : Fin 192) : (iblk m c 4 t : Vec Ideal S8x256x192 .bf16) (ix3 d s j) = argQ m c (ix3 d (part t.val s) j) := by
  have := pt t
  unfold argQ part
  rw [← V_main_arg4 m c]
  blk_ext [iblk, idx t]
  all_goals omega

theorem place (t : Fin cfg0.N) (s : Fin 256) (j : Fin 192) (G : FVec Ideal S2048x192 .f32) :
    G (((cfg0.win 5).blk t).view.emb (ix2 s j)) = G (ix2 (row t.val s) j) ∧ G (((cfg0.win 6).blk t).view.emb (ix2 s j)) = G (ix2 (row t.val s) j)
      ∧ G (((cfg0.win 7).blk t).view.emb (ix2 s j)) = G (ix2 (row t.val s) j) ∧ G (((cfg0.win 8).blk t).view.emb (ix2 s j)) = G (ix2 (row t.val s) j) := by
  have := pt t
  unfold row
  refine ⟨?_, ?_, ?_, ?_⟩
  · blk_ext [idx t]
    all_goals omega
  · blk_ext [idx t]
    all_goals omega
  · blk_ext [idx t]
    all_goals omega
  · blk_ext [idx t]
    all_goals omega

/-! ## What a grid point computes -/

theorem left_low (t : Fin cfg0.N) (h : t.val < 4) : outsAt0 m c t.val t.isLt = left (grad (iblk m c 3 t)) (iblk m c 0 t) (iblk m c 1 t) (iblk m c 2 t) := by
  rw [outsAt0_A m c t h (by omega)]
  generalize (iblk m c 0 t : Vec Ideal S256x192 .f32) = x0
  generalize (iblk m c 1 t : Vec Ideal S256x192 .f32) = x1
  generalize (iblk m c 2 t : Vec Ideal S256x192 .f32) = x2
  generalize (iblk m c 3 t : Vec Ideal S8x256x192 .bf16) = x3
  refine Prod.ext ?_ (Prod.ext ?_ (Prod.ext ?_ ?_)) <;> dsimp only <;> frame_out <;> funext y <;> idx_vars y
  · pointwise [k0_pay4, grad, total, left]
  · pointwise [k0_pay8, k0_pay7, k0_pay6, k0_pay4, grad, total, left, stepped, delta, first, second]
  · pointwise [k0_pay6, k0_pay4, grad, total, left, firsts, first]
  · pointwise [k0_pay7, k0_pay4, grad, total, left, seconds, second]

theorem left_high (t : Fin cfg0.N) (h : ¬t.val < 4) : outsAt0 m c t.val t.isLt = left (grad (iblk m c 4 t)) (iblk m c 0 t) (iblk m c 1 t) (iblk m c 2 t) := by
  rw [outsAt0_B m c t h (by omega)]
  generalize (iblk m c 0 t : Vec Ideal S256x192 .f32) = x0
  generalize (iblk m c 1 t : Vec Ideal S256x192 .f32) = x1
  generalize (iblk m c 2 t : Vec Ideal S256x192 .f32) = x2
  generalize (iblk m c 4 t : Vec Ideal S8x256x192 .bf16) = x4
  refine Prod.ext ?_ (Prod.ext ?_ (Prod.ext ?_ ?_)) <;> dsimp only <;> frame_out <;> funext y <;> idx_vars y
  · pointwise [k0_pay5, grad, total, left]
  · pointwise [k0_pay3, k0_pay2, k0_pay1, k0_pay5, grad, total, left, stepped, delta, first, second]
  · pointwise [k0_pay1, k0_pay5, grad, total, left, firsts, first]
  · pointwise [k0_pay2, k0_pay5, grad, total, left, seconds, second]

/-! ## What the launch leaves -/

abbrev gradOf : FVec Ideal S2048x192 .f32 := both (R := 2048) rfl (argP m c) (argQ m c)
def deltaOf : FVec Ideal S2048x192 .f32 := stepped (gradOf m c) (argW m c) (argM m c) (argV m c)
def firstOf : FVec Ideal S2048x192 .f32 := firsts (gradOf m c) (argM m c)
def secondOf : FVec Ideal S2048x192 .f32 := seconds (gradOf m c) (argV m c)

theorem grad_low (t : Fin cfg0.N) (h : t.val < 4) (s : Fin 256) (j : Fin 192) : grad (iblk m c 3 t : Vec Ideal S8x256x192 .bf16) (ix2 s j) = gradOf m c (ix2 (row t.val s) j) := by
  refine (grad_sum _ _ _ _ fun d => read_3 m c t d s j).trans (both_low _ _ _ _ _ _ ?_).symm
  show t.val % 8 * 256 + s.val = t.val % 4 * 256 + s.val
  omega

theorem grad_high (t : Fin cfg0.N) (h : ¬t.val < 4) (s : Fin 256) (j : Fin 192) : grad (iblk m c 4 t : Vec Ideal S8x256x192 .bf16) (ix2 s j) = gradOf m c (ix2 (row t.val s) j) := by
  have := pt t
  refine (grad_sum _ _ _ _ fun d => read_4 m c t d s j).trans (both_high _ _ _ _ _ _ ?_).symm
  show t.val % 8 * 256 + s.val = 1024 + (t.val % 4 * 256 + s.val)
  omega

/-- What a point leaves, entry by entry. -/
theorem left_at (t : Fin cfg0.N) (s : Fin 256) (j : Fin 192) :
    (outsAt0 m c t.val t.isLt).1 (ix2 s j) = gradOf m c (ix2 (row t.val s) j) ∧ (outsAt0 m c t.val t.isLt).2.1 (ix2 s j) = deltaOf m c (ix2 (row t.val s) j)
      ∧ (outsAt0 m c t.val t.isLt).2.2.1 (ix2 s j) = firstOf m c (ix2 (row t.val s) j) ∧ (outsAt0 m c t.val t.isLt).2.2.2 (ix2 s j) = secondOf m c (ix2 (row t.val s) j) := by
  by_cases h : t.val < 4
  · rw [left_low m c t h]
    exact left_congr _ _ _ _ _ _ _ _ _ _ (grad_low m c t h s j) (read_0 m c t s j) (read_1 m c t s j) (read_2 m c t s j)
  · rw [left_high m c t h]
    exact left_congr _ _ _ _ _ _ _ _ _ _ (grad_high m c t h s j) (read_0 m c t s j) (read_1 m c t s j) (read_2 m c t s j)

theorem final_5 : (dats m 0 c).arrAt 5 (cfgs 0).N = gradOf m c := by
  refine (dats m 0 c).arrAt_eq_of_covers 5 _ (by decide +kernel) fun t hf y => ?_
  blk_simp
  rw [after0_5]
  idx_vars y
  exact (left_at m c t y0 y1).1.trans (place t y0 y1 (gradOf m c)).1.symm

theorem final_6 : (dats m 0 c).arrAt 6 (cfgs 0).N = deltaOf m c := by
  refine (dats m 0 c).arrAt_eq_of_covers 6 _ (by decide +kernel) fun t hf y => ?_
  blk_simp
  rw [after0_6]
  idx_vars y
  exact (left_at m c t y0 y1).2.1.trans (place t y0 y1 (deltaOf m c)).2.1.symm

theorem final_7 : (dats m 0 c).arrAt 7 (cfgs 0).N = firstOf m c := by
  refine (dats m 0 c).arrAt_eq_of_covers 7 _ (by decide +kernel) fun t hf y => ?_
  blk_simp
  rw [after0_7]
  idx_vars y
  exact (left_at m c t y0 y1).2.2.1.trans (place t y0 y1 (firstOf m c)).2.2.1.symm

theorem final_8 : (dats m 0 c).arrAt 8 (cfgs 0).N = secondOf m c := by
  refine (dats m 0 c).arrAt_eq_of_covers 8 _ (by decide +kernel) fun t hf y => ?_
  blk_simp
  rw [after0_8]
  idx_vars y
  exact (left_at m c t y0 y1).2.2.2.trans (place t y0 y1 (secondOf m c)).2.2.2.symm

theorem frame_P : Cert.quiescent_Kernel17 := fun m g _ => Cert.Kernel17.Gen.frame m g

theorem frame_PI : Cert.quiescent_Kernel17Ideal := fun m g _ => Cert.Kernel17Ideal.Gen.frame m g

theorem frame_RI : Cert.quiescent_Reference17Ideal := fun m g _ =>
  θ_run_mono (Cert.Reference17Ideal.Value.run m g) fun r h => ⟨fun c => (h c).2.2.2.2, sem_eq_zero_of_no_sems (by decide) r.2⟩

/-- The reference's sum over the devices, one layer after the other. -/
theorem ref_grad : concatenate Cert.Reference17Ideal.S2048x192 0
      [⟨Cert.Reference17Ideal.S1024x192, Host.reduceAdd (extf .f32 (argP m c) Cert.Reference17Ideal.Gen.bitsLt_bf16_f32) (constant Cert.Reference17Ideal.S_ .f32 0#32) Cert.Reference17Ideal.Gen.reducesTo_S8x1024x192_S1024x192_d0 Cert.Reference17Ideal.Gen.h_S_⟩,
        ⟨Cert.Reference17Ideal.S1024x192, Host.reduceAdd (extf .f32 (argQ m c) Cert.Reference17Ideal.Gen.bitsLt_bf16_f32) (constant Cert.Reference17Ideal.S_ .f32 0#32) Cert.Reference17Ideal.Gen.reducesTo_S8x1024x192_S1024x192_d0 Cert.Reference17Ideal.Gen.h_S_⟩]
      Cert.Reference17Ideal.Gen.concatenates_S1024x192_S1024x192_S2048x192_d0 = gradOf m c := by
  funext i
  idx_vars i
  by_cases h : i0.val < 1024
  · refine Eq.trans ?_ (both_low (R := 2048) rfl (argP m c) (argQ m c) i0 ⟨i0.val, h⟩ i1 rfl).symm
    generalize argP m c = p
    generalize argQ m c = q
    pointwise
    rw [dif_pos h]
  · refine Eq.trans ?_ (both_high (R := 2048) rfl (argP m c) (argQ m c) i0 ⟨i0.val - 1024, by omega⟩ i1 (by dsimp only; omega)).symm
    generalize argP m c = p
    generalize argQ m c = q
    pointwise
    rw [dif_neg h]

/-- The call's four results are the reference's. -/
theorem algebraic : Cert.algebraic_Kernel17Ideal_Reference17Ideal := by
  intro m g m' g' _ hagree
  refine ⟨fun c => gradOf m c, fun c => deltaOf m c, fun c => firstOf m c, fun c => secondOf m c, ?_, ?_⟩
  · exact θ_run_mono (Value.run_blocks m g) fun r h c => ⟨(h c).1.trans (final_5 m c), (h c).2.1.trans (final_6 m c), (h c).2.2.1.trans (final_7 m c), (h c).2.2.2.1.trans (final_8 m c), (h c).2.2.2.2⟩
  · refine θ_run_mono (Cert.Reference17Ideal.Value.run m' g') fun r h c => ?_
    obtain ⟨r0, r1, r2, r3, ha⟩ := h c
    obtain ⟨h0, h1, h2, h3, h4⟩ := hagree c
    refine ⟨r0.trans ?_, r1.trans ?_, r2.trans ?_, r3.trans ?_, ha⟩ <;> clear r0 r1 r2 r3 ha h
    · rw [h3, h4]
      exact ref_grad m c
    · rw [h0, h1, h2, h3, h4, ref_grad]
      show _ = deltaOf m c
      unfold deltaOf
      generalize gradOf m c = g
      funext i
      idx_vars i
      pointwise [stepped, delta, first, second]
    · rw [h1, h3, h4, ref_grad]
      show _ = firstOf m c
      unfold firstOf
      generalize gradOf m c = g
      funext i
      idx_vars i
      pointwise [firsts, first]
    · rw [h2, h3, h4, ref_grad]
      show _ = secondOf m c
      unfold secondOf
      generalize gradOf m c = g
      funext i
      idx_vars i
      pointwise [seconds, second]

end Cert.Adam.WIn

end
-- ==== Proof.Adam.WOut.lean ====
/- The optimiser's step of w_out: 128 of the two layers' 256 rows at a time. -/
module

public import proofs.«01_k».proof.Defs
public import proofs.«01_k».proof.Proof.Adam.Spec
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal.Run
public import proofs.«01_k».proof.Proof.Product.Sums

@[expose] public section

set_option maxRecDepth 16384

noncomputable section

namespace Cert.Adam.WOut

open Idealize.ShloMosaic Idealize.ShloMosaic.TcCoe Idealize.SL.Sem Cert.Product Cert.Adam
open Cert.Kernel18Ideal Cert.Kernel18Ideal.Gen

/-- Row `a` of block `t`. -/
def row (t : ℕ) (a : Fin 128) : Fin 256 := ⟨t % 2 * 128 + a.val, by omega⟩

/-- The same row in its layer. -/
def part (t : ℕ) (a : Fin 128) : Fin 128 := ⟨t % 1 * 128 + a.val, by omega⟩

theorem pt (t : Fin cfg0.N) : t.val < 2 := lt_of_lt_of_eq t.isLt N_0

theorem idx : ∀ t : Fin cfg0.N, win0_0.index t = ![t.val, 0] ∧ win0_1.index t = ![t.val, 0] ∧ win0_2.index t = ![t.val, 0] ∧ win0_3.index t = ![0, t.val % 1, 0] ∧ win0_4.index t = ![0, t.val % 1, 0]
    ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

abbrev argW : FVec Ideal S256x1024 .f32 := m ((c.tc : Thread nD τ).loc main_arg0)
abbrev argM : FVec Ideal S256x1024 .f32 := m ((c.tc : Thread nD τ).loc main_arg1)
abbrev argV : FVec Ideal S256x1024 .f32 := m ((c.tc : Thread nD τ).loc main_arg2)
abbrev argP : FVec Ideal S8x128x1024 .bf16 := m ((c.tc : Thread nD τ).loc main_arg3)
abbrev argQ : FVec Ideal S8x128x1024 .bf16 := m ((c.tc : Thread nD τ).loc main_arg4)

theorem read_0 (t : Fin cfg0.N) (s : Fin 128) (j : Fin 1024) : (iblk m c 0 t : Vec Ideal S128x1024 .f32) (ix2 s j) = argW m c (ix2 (row t.val s) j) := by
  have := pt t
  unfold argW row
  rw [← V_main_arg0 m c]
  blk_ext [iblk, idx t]
  all_goals omega

theorem read_1 (t : Fin cfg0.N) (s : Fin 128) (j : Fin 1024) : (iblk m c 1 t : Vec Ideal S128x1024 .f32) (ix2 s j) = argM m c (ix2 (row t.val s) j) := by
  have := pt t
  unfold argM row
  rw [← V_main_arg1 m c]
  blk_ext [iblk, idx t]
  all_goals omega

theorem read_2 (t : Fin cfg0.N) (s : Fin 128) (j : Fin 1024) : (iblk m c 2 t : Vec Ideal S128x1024 .f32) (ix2 s j) = argV m c (ix2 (row t.val s) j) := by
  have := pt t
  unfold argV row
  rw [← V_main_arg2 m c]
  blk_ext [iblk, idx t]
  all_goals omega

theorem read_3 (t : Fin cfg0.N) (d : Fin 8) (s : Fin 128) (j : Fin 1024) : (iblk m c 3 t : Vec Ideal S8x128x1024 .bf16) (ix3 d s j) = argP m c (ix3 d (part t.val s) j) := by
  have := pt t
  unfold argP part
  rw [← V_main_arg3 m c]
  blk_ext [iblk, idx t]
  all_goals omega

theorem read_4 (t : Fin cfg0.N) (d : Fin 8) (s : Fin 128) (j : Fin 1024) : (iblk m c 4 t : Vec Ideal S8x128x1024 .bf16) (ix3 d s j) = argQ m c (ix3 d (part t.val s) j) := by
  have := pt t
  unfold argQ part
  rw [← V_main_arg4 m c]
  blk_ext [iblk, idx t]
  all_goals omega

theorem place (t : Fin cfg0.N) (s : Fin 128) (j : Fin 1024) (G : FVec Ideal S256x1024 .f32) :
    G (((cfg0.win 5).blk t).view.emb (ix2 s j)) = G (ix2 (row t.val s) j) ∧ G (((cfg0.win 6).blk t).view.emb (ix2 s j)) = G (ix2 (row t.val s) j)
      ∧ G (((cfg0.win 7).blk t).view.emb (ix2 s j)) = G (ix2 (row t.val s) j) ∧ G (((cfg0.win 8).blk t).view.emb (ix2 s j)) = G (ix2 (row t.val s) j) := by
  have := pt t
  unfold row
  refine ⟨?_, ?_, ?_, ?_⟩
  · blk_ext [idx t]
    all_goals omega
  · blk_ext [idx t]
    all_goals omega
  · blk_ext [idx t]
    all_goals omega
  · blk_ext [idx t]
    all_goals omega

/-! ## What a grid point computes -/

theorem left_low (t : Fin cfg0.N) (h : t.val < 1) : outsAt0 m c t.val t.isLt = left (grad (iblk m c 3 t)) (iblk m c 0 t) (iblk m c 1 t) (iblk m c 2 t) := by
  rw [outsAt0_A m c t (by omega) (by omega)]
  generalize (iblk m c 0 t : Vec Ideal S128x1024 .f32) = x0
  generalize (iblk m c 1 t : Vec Ideal S128x1024 .f32) = x1
  generalize (iblk m c 2 t : Vec Ideal S128x1024 .f32) = x2
  generalize (iblk m c 3 t : Vec Ideal S8x128x1024 .bf16) = x3
  refine Prod.ext ?_ (Prod.ext ?_ (Prod.ext ?_ ?_)) <;> dsimp only <;> frame_out <;> funext y <;> idx_vars y
  · pointwise [k0_pay4, grad, total, left]
  · pointwise [k0_pay8, k0_pay7, k0_pay6, k0_pay4, grad, total, left, stepped, delta, first, second]
  · pointwise [k0_pay6, k0_pay4, grad, total, left, firsts, first]
  · pointwise [k0_pay7, k0_pay4, grad, total, left, seconds, second]

theorem left_high (t : Fin cfg0.N) (h : ¬t.val < 1) : outsAt0 m c t.val t.isLt = left (grad (iblk m c 4 t)) (iblk m c 0 t) (iblk m c 1 t) (iblk m c 2 t) := by
  rw [outsAt0_B m c t (by have := pt t; omega) (by have := pt t; omega)]
  generalize (iblk m c 0 t : Vec Ideal S128x1024 .f32) = x0
  generalize (iblk m c 1 t : Vec Ideal S128x1024 .f32) = x1
  generalize (iblk m c 2 t : Vec Ideal S128x1024 .f32) = x2
  generalize (iblk m c 4 t : Vec Ideal S8x128x1024 .bf16) = x4
  refine Prod.ext ?_ (Prod.ext ?_ (Prod.ext ?_ ?_)) <;> dsimp only <;> frame_out <;> funext y <;> idx_vars y
  · pointwise [k0_pay5, grad, total, left]
  · pointwise [k0_pay3, k0_pay2, k0_pay1, k0_pay5, grad, total, left, stepped, delta, first, second]
  · pointwise [k0_pay1, k0_pay5, grad, total, left, firsts, first]
  · pointwise [k0_pay2, k0_pay5, grad, total, left, seconds, second]

/-! ## What the launch leaves -/

abbrev gradOf : FVec Ideal S256x1024 .f32 := both (R := 256) rfl (argP m c) (argQ m c)
def deltaOf : FVec Ideal S256x1024 .f32 := stepped (gradOf m c) (argW m c) (argM m c) (argV m c)
def firstOf : FVec Ideal S256x1024 .f32 := firsts (gradOf m c) (argM m c)
def secondOf : FVec Ideal S256x1024 .f32 := seconds (gradOf m c) (argV m c)

theorem grad_low (t : Fin cfg0.N) (h : t.val < 1) (s : Fin 128) (j : Fin 1024) : grad (iblk m c 3 t : Vec Ideal S8x128x1024 .bf16) (ix2 s j) = gradOf m c (ix2 (row t.val s) j) := by
  refine (grad_sum _ _ _ _ fun d => read_3 m c t d s j).trans (both_low _ _ _ _ _ _ ?_).symm
  show t.val % 2 * 128 + s.val = t.val % 1 * 128 + s.val
  omega

theorem grad_high (t : Fin cfg0.N) (h : ¬t.val < 1) (s : Fin 128) (j : Fin 1024) : grad (iblk m c 4 t : Vec Ideal S8x128x1024 .bf16) (ix2 s j) = gradOf m c (ix2 (row t.val s) j) := by
  have := pt t
  refine (grad_sum _ _ _ _ fun d => read_4 m c t d s j).trans (both_high _ _ _ _ _ _ ?_).symm
  show t.val % 2 * 128 + s.val = 128 + (t.val % 1 * 128 + s.val)
  omega

/-- What a point leaves, entry by entry. -/
theorem left_at (t : Fin cfg0.N) (s : Fin 128) (j : Fin 1024) :
    (outsAt0 m c t.val t.isLt).1 (ix2 s j) = gradOf m c (ix2 (row t.val s) j) ∧ (outsAt0 m c t.val t.isLt).2.1 (ix2 s j) = deltaOf m c (ix2 (row t.val s) j)
      ∧ (outsAt0 m c t.val t.isLt).2.2.1 (ix2 s j) = firstOf m c (ix2 (row t.val s) j) ∧ (outsAt0 m c t.val t.isLt).2.2.2 (ix2 s j) = secondOf m c (ix2 (row t.val s) j) := by
  by_cases h : t.val < 1
  · rw [left_low m c t h]
    exact left_congr _ _ _ _ _ _ _ _ _ _ (grad_low m c t h s j) (read_0 m c t s j) (read_1 m c t s j) (read_2 m c t s j)
  · rw [left_high m c t h]
    exact left_congr _ _ _ _ _ _ _ _ _ _ (grad_high m c t h s j) (read_0 m c t s j) (read_1 m c t s j) (read_2 m c t s j)

theorem final_5 : (dats m 0 c).arrAt 5 (cfgs 0).N = gradOf m c := by
  refine (dats m 0 c).arrAt_eq_of_covers 5 _ (by decide +kernel) fun t hf y => ?_
  blk_simp
  rw [after0_5]
  idx_vars y
  exact (left_at m c t y0 y1).1.trans (place t y0 y1 (gradOf m c)).1.symm

theorem final_6 : (dats m 0 c).arrAt 6 (cfgs 0).N = deltaOf m c := by
  refine (dats m 0 c).arrAt_eq_of_covers 6 _ (by decide +kernel) fun t hf y => ?_
  blk_simp
  rw [after0_6]
  idx_vars y
  exact (left_at m c t y0 y1).2.1.trans (place t y0 y1 (deltaOf m c)).2.1.symm

theorem final_7 : (dats m 0 c).arrAt 7 (cfgs 0).N = firstOf m c := by
  refine (dats m 0 c).arrAt_eq_of_covers 7 _ (by decide +kernel) fun t hf y => ?_
  blk_simp
  rw [after0_7]
  idx_vars y
  exact (left_at m c t y0 y1).2.2.1.trans (place t y0 y1 (firstOf m c)).2.2.1.symm

theorem final_8 : (dats m 0 c).arrAt 8 (cfgs 0).N = secondOf m c := by
  refine (dats m 0 c).arrAt_eq_of_covers 8 _ (by decide +kernel) fun t hf y => ?_
  blk_simp
  rw [after0_8]
  idx_vars y
  exact (left_at m c t y0 y1).2.2.2.trans (place t y0 y1 (secondOf m c)).2.2.2.symm

theorem frame_P : Cert.quiescent_Kernel18 := fun m g _ => Cert.Kernel18.Gen.frame m g

theorem frame_PI : Cert.quiescent_Kernel18Ideal := fun m g _ => Cert.Kernel18Ideal.Gen.frame m g

theorem frame_RI : Cert.quiescent_Reference18Ideal := fun m g _ =>
  θ_run_mono (Cert.Reference18Ideal.Value.run m g) fun r h => ⟨fun c => (h c).2.2.2.2, sem_eq_zero_of_no_sems (by decide) r.2⟩

/-- The reference's sum over the devices, one layer after the other. -/
theorem ref_grad : concatenate Cert.Reference18Ideal.S256x1024 0
      [⟨Cert.Reference18Ideal.S128x1024, Host.reduceAdd (extf .f32 (argP m c) Cert.Reference18Ideal.Gen.bitsLt_bf16_f32) (constant Cert.Reference18Ideal.S_ .f32 0#32) Cert.Reference18Ideal.Gen.reducesTo_S8x128x1024_S128x1024_d0 Cert.Reference18Ideal.Gen.h_S_⟩,
        ⟨Cert.Reference18Ideal.S128x1024, Host.reduceAdd (extf .f32 (argQ m c) Cert.Reference18Ideal.Gen.bitsLt_bf16_f32) (constant Cert.Reference18Ideal.S_ .f32 0#32) Cert.Reference18Ideal.Gen.reducesTo_S8x128x1024_S128x1024_d0 Cert.Reference18Ideal.Gen.h_S_⟩]
      Cert.Reference18Ideal.Gen.concatenates_S128x1024_S128x1024_S256x1024_d0 = gradOf m c := by
  funext i
  idx_vars i
  by_cases h : i0.val < 128
  · refine Eq.trans ?_ (both_low (R := 256) rfl (argP m c) (argQ m c) i0 ⟨i0.val, h⟩ i1 rfl).symm
    generalize argP m c = p
    generalize argQ m c = q
    pointwise
    rw [dif_pos h]
  · refine Eq.trans ?_ (both_high (R := 256) rfl (argP m c) (argQ m c) i0 ⟨i0.val - 128, by omega⟩ i1 (by dsimp only; omega)).symm
    generalize argP m c = p
    generalize argQ m c = q
    pointwise
    rw [dif_neg h]

/-- The call's four results are the reference's. -/
theorem algebraic : Cert.algebraic_Kernel18Ideal_Reference18Ideal := by
  intro m g m' g' _ hagree
  refine ⟨fun c => gradOf m c, fun c => deltaOf m c, fun c => firstOf m c, fun c => secondOf m c, ?_, ?_⟩
  · exact θ_run_mono (Value.run_blocks m g) fun r h c => ⟨(h c).1.trans (final_5 m c), (h c).2.1.trans (final_6 m c), (h c).2.2.1.trans (final_7 m c), (h c).2.2.2.1.trans (final_8 m c), (h c).2.2.2.2⟩
  · refine θ_run_mono (Cert.Reference18Ideal.Value.run m' g') fun r h c => ?_
    obtain ⟨r0, r1, r2, r3, ha⟩ := h c
    obtain ⟨h0, h1, h2, h3, h4⟩ := hagree c
    refine ⟨r0.trans ?_, r1.trans ?_, r2.trans ?_, r3.trans ?_, ha⟩ <;> clear r0 r1 r2 r3 ha h
    · rw [h3, h4]
      exact ref_grad m c
    · rw [h0, h1, h2, h3, h4, ref_grad]
      show _ = deltaOf m c
      unfold deltaOf
      generalize gradOf m c = g
      funext i
      idx_vars i
      pointwise [stepped, delta, first, second]
    · rw [h1, h3, h4, ref_grad]
      show _ = firstOf m c
      unfold firstOf
      generalize gradOf m c = g
      funext i
      idx_vars i
      pointwise [firsts, first]
    · rw [h2, h3, h4, ref_grad]
      show _ = secondOf m c
      unfold secondOf
      generalize gradOf m c = g
      funext i
      idx_vars i
      pointwise [seconds, second]

end Cert.Adam.WOut

end
-- ==== Proof.Adam.WGate.lean ====
/- The optimiser's step of w_gate, which is w_up's too: 256 of the two layers' 2048 rows at a time. -/
module

public import proofs.«01_k».proof.Defs
public import proofs.«01_k».proof.Proof.Adam.Spec
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal.Run
public import proofs.«01_k».proof.Proof.Product.Sums

@[expose] public section

set_option maxRecDepth 16384

noncomputable section

namespace Cert.Adam.WGate

open Idealize.ShloMosaic Idealize.ShloMosaic.TcCoe Idealize.SL.Sem Cert.Product Cert.Adam
open Cert.Kernel19Ideal Cert.Kernel19Ideal.Gen

/-- Row `a` of block `t`. -/
def row (t : ℕ) (a : Fin 256) : Fin 2048 := ⟨t % 8 * 256 + a.val, by omega⟩

/-- The same row in its layer. -/
def part (t : ℕ) (a : Fin 256) : Fin 1024 := ⟨t % 4 * 256 + a.val, by omega⟩

theorem pt (t : Fin cfg0.N) : t.val < 8 := lt_of_lt_of_eq t.isLt N_0

theorem idx : ∀ t : Fin cfg0.N, win0_0.index t = ![t.val, 0] ∧ win0_1.index t = ![t.val, 0] ∧ win0_2.index t = ![t.val, 0] ∧ win0_3.index t = ![0, t.val % 4, 0] ∧ win0_4.index t = ![0, t.val % 4, 0]
    ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

abbrev argW : FVec Ideal S2048x352 .f32 := m ((c.tc : Thread nD τ).loc main_arg0)
abbrev argM : FVec Ideal S2048x352 .f32 := m ((c.tc : Thread nD τ).loc main_arg1)
abbrev argV : FVec Ideal S2048x352 .f32 := m ((c.tc : Thread nD τ).loc main_arg2)
abbrev argP : FVec Ideal S8x1024x352 .bf16 := m ((c.tc : Thread nD τ).loc main_arg3)
abbrev argQ : FVec Ideal S8x1024x352 .bf16 := m ((c.tc : Thread nD τ).loc main_arg4)

theorem read_0 (t : Fin cfg0.N) (s : Fin 256) (j : Fin 352) : (iblk m c 0 t : Vec Ideal S256x352 .f32) (ix2 s j) = argW m c (ix2 (row t.val s) j) := by
  have := pt t
  unfold argW row
  rw [← V_main_arg0 m c]
  blk_ext [iblk, idx t]
  all_goals omega

theorem read_1 (t : Fin cfg0.N) (s : Fin 256) (j : Fin 352) : (iblk m c 1 t : Vec Ideal S256x352 .f32) (ix2 s j) = argM m c (ix2 (row t.val s) j) := by
  have := pt t
  unfold argM row
  rw [← V_main_arg1 m c]
  blk_ext [iblk, idx t]
  all_goals omega

theorem read_2 (t : Fin cfg0.N) (s : Fin 256) (j : Fin 352) : (iblk m c 2 t : Vec Ideal S256x352 .f32) (ix2 s j) = argV m c (ix2 (row t.val s) j) := by
  have := pt t
  unfold argV row
  rw [← V_main_arg2 m c]
  blk_ext [iblk, idx t]
  all_goals omega

theorem read_3 (t : Fin cfg0.N) (d : Fin 8) (s : Fin 256) (j : Fin 352) : (iblk m c 3 t : Vec Ideal S8x256x352 .bf16) (ix3 d s j) = argP m c (ix3 d (part t.val s) j) := by
  have := pt t
  unfold argP part
  rw [← V_main_arg3 m c]
  blk_ext [iblk, idx t]
  all_goals omega

theorem read_4 (t : Fin cfg0.N) (d : Fin 8) (s : Fin 256) (j : Fin 352) : (iblk m c 4 t : Vec Ideal S8x256x352 .bf16) (ix3 d s j) = argQ m c (ix3 d (part t.val s) j) := by
  have := pt t
  unfold argQ part
  rw [← V_main_arg4 m c]
  blk_ext [iblk, idx t]
  all_goals omega

theorem place (t : Fin cfg0.N) (s : Fin 256) (j : Fin 352) (G : FVec Ideal S2048x352 .f32) :
    G (((cfg0.win 5).blk t).view.emb (ix2 s j)) = G (ix2 (row t.val s) j) ∧ G (((cfg0.win 6).blk t).view.emb (ix2 s j)) = G (ix2 (row t.val s) j)
      ∧ G (((cfg0.win 7).blk t).view.emb (ix2 s j)) = G (ix2 (row t.val s) j) ∧ G (((cfg0.win 8).blk t).view.emb (ix2 s j)) = G (ix2 (row t.val s) j) := by
  have := pt t
  unfold row
  refine ⟨?_, ?_, ?_, ?_⟩
  · blk_ext [idx t]
    all_goals omega
  · blk_ext [idx t]
    all_goals omega
  · blk_ext [idx t]
    all_goals omega
  · blk_ext [idx t]
    all_goals omega

/-! ## What a grid point computes -/

theorem left_low (t : Fin cfg0.N) (h : t.val < 4) : outsAt0 m c t.val t.isLt = left (grad (iblk m c 3 t)) (iblk m c 0 t) (iblk m c 1 t) (iblk m c 2 t) := by
  rw [outsAt0_A m c t h (by omega)]
  generalize (iblk m c 0 t : Vec Ideal S256x352 .f32) = x0
  generalize (iblk m c 1 t : Vec Ideal S256x352 .f32) = x1
  generalize (iblk m c 2 t : Vec Ideal S256x352 .f32) = x2
  generalize (iblk m c 3 t : Vec Ideal S8x256x352 .bf16) = x3
  refine Prod.ext ?_ (Prod.ext ?_ (Prod.ext ?_ ?_)) <;> dsimp only <;> frame_out <;> funext y <;> idx_vars y
  · pointwise [k0_pay4, grad, total, left]
  · pointwise [k0_pay8, k0_pay7, k0_pay6, k0_pay4, grad, total, left, stepped, delta, first, second]
  · pointwise [k0_pay6, k0_pay4, grad, total, left, firsts, first]
  · pointwise [k0_pay7, k0_pay4, grad, total, left, seconds, second]

theorem left_high (t : Fin cfg0.N) (h : ¬t.val < 4) : outsAt0 m c t.val t.isLt = left (grad (iblk m c 4 t)) (iblk m c 0 t) (iblk m c 1 t) (iblk m c 2 t) := by
  rw [outsAt0_B m c t h (by omega)]
  generalize (iblk m c 0 t : Vec Ideal S256x352 .f32) = x0
  generalize (iblk m c 1 t : Vec Ideal S256x352 .f32) = x1
  generalize (iblk m c 2 t : Vec Ideal S256x352 .f32) = x2
  generalize (iblk m c 4 t : Vec Ideal S8x256x352 .bf16) = x4
  refine Prod.ext ?_ (Prod.ext ?_ (Prod.ext ?_ ?_)) <;> dsimp only <;> frame_out <;> funext y <;> idx_vars y
  · pointwise [k0_pay5, grad, total, left]
  · pointwise [k0_pay3, k0_pay2, k0_pay1, k0_pay5, grad, total, left, stepped, delta, first, second]
  · pointwise [k0_pay1, k0_pay5, grad, total, left, firsts, first]
  · pointwise [k0_pay2, k0_pay5, grad, total, left, seconds, second]

/-! ## What the launch leaves -/

abbrev gradOf : FVec Ideal S2048x352 .f32 := both (R := 2048) rfl (argP m c) (argQ m c)
def deltaOf : FVec Ideal S2048x352 .f32 := stepped (gradOf m c) (argW m c) (argM m c) (argV m c)
def firstOf : FVec Ideal S2048x352 .f32 := firsts (gradOf m c) (argM m c)
def secondOf : FVec Ideal S2048x352 .f32 := seconds (gradOf m c) (argV m c)

theorem grad_low (t : Fin cfg0.N) (h : t.val < 4) (s : Fin 256) (j : Fin 352) : grad (iblk m c 3 t : Vec Ideal S8x256x352 .bf16) (ix2 s j) = gradOf m c (ix2 (row t.val s) j) := by
  refine (grad_sum _ _ _ _ fun d => read_3 m c t d s j).trans (both_low _ _ _ _ _ _ ?_).symm
  show t.val % 8 * 256 + s.val = t.val % 4 * 256 + s.val
  omega

theorem grad_high (t : Fin cfg0.N) (h : ¬t.val < 4) (s : Fin 256) (j : Fin 352) : grad (iblk m c 4 t : Vec Ideal S8x256x352 .bf16) (ix2 s j) = gradOf m c (ix2 (row t.val s) j) := by
  have := pt t
  refine (grad_sum _ _ _ _ fun d => read_4 m c t d s j).trans (both_high _ _ _ _ _ _ ?_).symm
  show t.val % 8 * 256 + s.val = 1024 + (t.val % 4 * 256 + s.val)
  omega

/-- What a point leaves, entry by entry. -/
theorem left_at (t : Fin cfg0.N) (s : Fin 256) (j : Fin 352) :
    (outsAt0 m c t.val t.isLt).1 (ix2 s j) = gradOf m c (ix2 (row t.val s) j) ∧ (outsAt0 m c t.val t.isLt).2.1 (ix2 s j) = deltaOf m c (ix2 (row t.val s) j)
      ∧ (outsAt0 m c t.val t.isLt).2.2.1 (ix2 s j) = firstOf m c (ix2 (row t.val s) j) ∧ (outsAt0 m c t.val t.isLt).2.2.2 (ix2 s j) = secondOf m c (ix2 (row t.val s) j) := by
  by_cases h : t.val < 4
  · rw [left_low m c t h]
    exact left_congr _ _ _ _ _ _ _ _ _ _ (grad_low m c t h s j) (read_0 m c t s j) (read_1 m c t s j) (read_2 m c t s j)
  · rw [left_high m c t h]
    exact left_congr _ _ _ _ _ _ _ _ _ _ (grad_high m c t h s j) (read_0 m c t s j) (read_1 m c t s j) (read_2 m c t s j)

theorem final_5 : (dats m 0 c).arrAt 5 (cfgs 0).N = gradOf m c := by
  refine (dats m 0 c).arrAt_eq_of_covers 5 _ (by decide +kernel) fun t hf y => ?_
  blk_simp
  rw [after0_5]
  idx_vars y
  exact (left_at m c t y0 y1).1.trans (place t y0 y1 (gradOf m c)).1.symm

theorem final_6 : (dats m 0 c).arrAt 6 (cfgs 0).N = deltaOf m c := by
  refine (dats m 0 c).arrAt_eq_of_covers 6 _ (by decide +kernel) fun t hf y => ?_
  blk_simp
  rw [after0_6]
  idx_vars y
  exact (left_at m c t y0 y1).2.1.trans (place t y0 y1 (deltaOf m c)).2.1.symm

theorem final_7 : (dats m 0 c).arrAt 7 (cfgs 0).N = firstOf m c := by
  refine (dats m 0 c).arrAt_eq_of_covers 7 _ (by decide +kernel) fun t hf y => ?_
  blk_simp
  rw [after0_7]
  idx_vars y
  exact (left_at m c t y0 y1).2.2.1.trans (place t y0 y1 (firstOf m c)).2.2.1.symm

theorem final_8 : (dats m 0 c).arrAt 8 (cfgs 0).N = secondOf m c := by
  refine (dats m 0 c).arrAt_eq_of_covers 8 _ (by decide +kernel) fun t hf y => ?_
  blk_simp
  rw [after0_8]
  idx_vars y
  exact (left_at m c t y0 y1).2.2.2.trans (place t y0 y1 (secondOf m c)).2.2.2.symm

theorem frame_P : Cert.quiescent_Kernel19 := fun m g _ => Cert.Kernel19.Gen.frame m g

theorem frame_PI : Cert.quiescent_Kernel19Ideal := fun m g _ => Cert.Kernel19Ideal.Gen.frame m g

theorem frame_RI : Cert.quiescent_Reference19Ideal := fun m g _ =>
  θ_run_mono (Cert.Reference19Ideal.Value.run m g) fun r h => ⟨fun c => (h c).2.2.2.2, sem_eq_zero_of_no_sems (by decide) r.2⟩

/-- The reference's sum over the devices, one layer after the other. -/
theorem ref_grad : concatenate Cert.Reference19Ideal.S2048x352 0
      [⟨Cert.Reference19Ideal.S1024x352, Host.reduceAdd (extf .f32 (argP m c) Cert.Reference19Ideal.Gen.bitsLt_bf16_f32) (constant Cert.Reference19Ideal.S_ .f32 0#32) Cert.Reference19Ideal.Gen.reducesTo_S8x1024x352_S1024x352_d0 Cert.Reference19Ideal.Gen.h_S_⟩,
        ⟨Cert.Reference19Ideal.S1024x352, Host.reduceAdd (extf .f32 (argQ m c) Cert.Reference19Ideal.Gen.bitsLt_bf16_f32) (constant Cert.Reference19Ideal.S_ .f32 0#32) Cert.Reference19Ideal.Gen.reducesTo_S8x1024x352_S1024x352_d0 Cert.Reference19Ideal.Gen.h_S_⟩]
      Cert.Reference19Ideal.Gen.concatenates_S1024x352_S1024x352_S2048x352_d0 = gradOf m c := by
  funext i
  idx_vars i
  by_cases h : i0.val < 1024
  · refine Eq.trans ?_ (both_low (R := 2048) rfl (argP m c) (argQ m c) i0 ⟨i0.val, h⟩ i1 rfl).symm
    generalize argP m c = p
    generalize argQ m c = q
    pointwise
    rw [dif_pos h]
  · refine Eq.trans ?_ (both_high (R := 2048) rfl (argP m c) (argQ m c) i0 ⟨i0.val - 1024, by omega⟩ i1 (by dsimp only; omega)).symm
    generalize argP m c = p
    generalize argQ m c = q
    pointwise
    rw [dif_neg h]

/-- The call's four results are the reference's. -/
theorem algebraic : Cert.algebraic_Kernel19Ideal_Reference19Ideal := by
  intro m g m' g' _ hagree
  refine ⟨fun c => gradOf m c, fun c => deltaOf m c, fun c => firstOf m c, fun c => secondOf m c, ?_, ?_⟩
  · exact θ_run_mono (Value.run_blocks m g) fun r h c => ⟨(h c).1.trans (final_5 m c), (h c).2.1.trans (final_6 m c), (h c).2.2.1.trans (final_7 m c), (h c).2.2.2.1.trans (final_8 m c), (h c).2.2.2.2⟩
  · refine θ_run_mono (Cert.Reference19Ideal.Value.run m' g') fun r h c => ?_
    obtain ⟨r0, r1, r2, r3, ha⟩ := h c
    obtain ⟨h0, h1, h2, h3, h4⟩ := hagree c
    refine ⟨r0.trans ?_, r1.trans ?_, r2.trans ?_, r3.trans ?_, ha⟩ <;> clear r0 r1 r2 r3 ha h
    · rw [h3, h4]
      exact ref_grad m c
    · rw [h0, h1, h2, h3, h4, ref_grad]
      show _ = deltaOf m c
      unfold deltaOf
      generalize gradOf m c = g
      funext i
      idx_vars i
      pointwise [stepped, delta, first, second]
    · rw [h1, h3, h4, ref_grad]
      show _ = firstOf m c
      unfold firstOf
      generalize gradOf m c = g
      funext i
      idx_vars i
      pointwise [firsts, first]
    · rw [h2, h3, h4, ref_grad]
      show _ = secondOf m c
      unfold secondOf
      generalize gradOf m c = g
      funext i
      idx_vars i
      pointwise [seconds, second]

end Cert.Adam.WGate

end
-- ==== Proof.Adam.WDown.lean ====
/- The optimiser's step of w_down: 176 of the two layers' 704 rows at a time. -/
module

public import proofs.«01_k».proof.Defs
public import proofs.«01_k».proof.Proof.Adam.Spec
public import proofs.«01_k».proof.Proof.Gen.Kernel20
public import proofs.«01_k».proof.Proof.Gen.Kernel20.Frame
public import proofs.«01_k».proof.Proof.Gen.Kernel20Ideal.Value
public import proofs.«01_k».proof.Proof.Gen.Reference20Ideal.Run
public import proofs.«01_k».proof.Proof.Product.Sums

@[expose] public section

set_option maxRecDepth 16384

noncomputable section

namespace Cert.Adam.WDown

open Idealize.ShloMosaic Idealize.ShloMosaic.TcCoe Idealize.SL.Sem Cert.Product Cert.Adam
open Cert.Kernel20Ideal Cert.Kernel20Ideal.Gen

/-- Row `a` of block `t`. -/
def row (t : ℕ) (a : Fin 176) : Fin 704 := ⟨t % 4 * 176 + a.val, by omega⟩

/-- The same row in its layer. -/
def part (t : ℕ) (a : Fin 176) : Fin 352 := ⟨t % 2 * 176 + a.val, by omega⟩

theorem pt (t : Fin cfg0.N) : t.val < 4 := lt_of_lt_of_eq t.isLt N_0

theorem idx : ∀ t : Fin cfg0.N, win0_0.index t = ![t.val, 0] ∧ win0_1.index t = ![t.val, 0] ∧ win0_2.index t = ![t.val, 0] ∧ win0_3.index t = ![0, t.val % 2, 0] ∧ win0_4.index t = ![0, t.val % 2, 0]
    ∧ win0_5.index t = ![t.val, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

abbrev argW : FVec Ideal S704x1024 .f32 := m ((c.tc : Thread nD τ).loc main_arg0)
abbrev argM : FVec Ideal S704x1024 .f32 := m ((c.tc : Thread nD τ).loc main_arg1)
abbrev argV : FVec Ideal S704x1024 .f32 := m ((c.tc : Thread nD τ).loc main_arg2)
abbrev argP : FVec Ideal S8x352x1024 .bf16 := m ((c.tc : Thread nD τ).loc main_arg3)
abbrev argQ : FVec Ideal S8x352x1024 .bf16 := m ((c.tc : Thread nD τ).loc main_arg4)

theorem read_0 (t : Fin cfg0.N) (s : Fin 176) (j : Fin 1024) : (iblk m c 0 t : Vec Ideal S176x1024 .f32) (ix2 s j) = argW m c (ix2 (row t.val s) j) := by
  have := pt t
  unfold argW row
  rw [← V_main_arg0 m c]
  blk_ext [iblk, idx t]
  all_goals omega

theorem read_1 (t : Fin cfg0.N) (s : Fin 176) (j : Fin 1024) : (iblk m c 1 t : Vec Ideal S176x1024 .f32) (ix2 s j) = argM m c (ix2 (row t.val s) j) := by
  have := pt t
  unfold argM row
  rw [← V_main_arg1 m c]
  blk_ext [iblk, idx t]
  all_goals omega

theorem read_2 (t : Fin cfg0.N) (s : Fin 176) (j : Fin 1024) : (iblk m c 2 t : Vec Ideal S176x1024 .f32) (ix2 s j) = argV m c (ix2 (row t.val s) j) := by
  have := pt t
  unfold argV row
  rw [← V_main_arg2 m c]
  blk_ext [iblk, idx t]
  all_goals omega

theorem read_3 (t : Fin cfg0.N) (d : Fin 8) (s : Fin 176) (j : Fin 1024) : (iblk m c 3 t : Vec Ideal S8x176x1024 .bf16) (ix3 d s j) = argP m c (ix3 d (part t.val s) j) := by
  have := pt t
  unfold argP part
  rw [← V_main_arg3 m c]
  blk_ext [iblk, idx t]
  all_goals omega

theorem read_4 (t : Fin cfg0.N) (d : Fin 8) (s : Fin 176) (j : Fin 1024) : (iblk m c 4 t : Vec Ideal S8x176x1024 .bf16) (ix3 d s j) = argQ m c (ix3 d (part t.val s) j) := by
  have := pt t
  unfold argQ part
  rw [← V_main_arg4 m c]
  blk_ext [iblk, idx t]
  all_goals omega

theorem place (t : Fin cfg0.N) (s : Fin 176) (j : Fin 1024) (G : FVec Ideal S704x1024 .f32) :
    G (((cfg0.win 5).blk t).view.emb (ix2 s j)) = G (ix2 (row t.val s) j) ∧ G (((cfg0.win 6).blk t).view.emb (ix2 s j)) = G (ix2 (row t.val s) j)
      ∧ G (((cfg0.win 7).blk t).view.emb (ix2 s j)) = G (ix2 (row t.val s) j) ∧ G (((cfg0.win 8).blk t).view.emb (ix2 s j)) = G (ix2 (row t.val s) j) := by
  have := pt t
  unfold row
  refine ⟨?_, ?_, ?_, ?_⟩
  · blk_ext [idx t]
    all_goals omega
  · blk_ext [idx t]
    all_goals omega
  · blk_ext [idx t]
    all_goals omega
  · blk_ext [idx t]
    all_goals omega

/-! ## What a grid point computes -/

theorem left_low (t : Fin cfg0.N) (h : t.val < 2) : outsAt0 m c t.val t.isLt = left (grad (iblk m c 3 t)) (iblk m c 0 t) (iblk m c 1 t) (iblk m c 2 t) := by
  rw [outsAt0_A m c t h (by omega)]
  generalize (iblk m c 0 t : Vec Ideal S176x1024 .f32) = x0
  generalize (iblk m c 1 t : Vec Ideal S176x1024 .f32) = x1
  generalize (iblk m c 2 t : Vec Ideal S176x1024 .f32) = x2
  generalize (iblk m c 3 t : Vec Ideal S8x176x1024 .bf16) = x3
  refine Prod.ext ?_ (Prod.ext ?_ (Prod.ext ?_ ?_)) <;> dsimp only <;> frame_out <;> funext y <;> idx_vars y
  · pointwise [k0_pay4, grad, total, left]
  · pointwise [k0_pay8, k0_pay7, k0_pay6, k0_pay4, grad, total, left, stepped, delta, first, second]
  · pointwise [k0_pay6, k0_pay4, grad, total, left, firsts, first]
  · pointwise [k0_pay7, k0_pay4, grad, total, left, seconds, second]

theorem left_high (t : Fin cfg0.N) (h : ¬t.val < 2) : outsAt0 m c t.val t.isLt = left (grad (iblk m c 4 t)) (iblk m c 0 t) (iblk m c 1 t) (iblk m c 2 t) := by
  rw [outsAt0_B m c t h (by omega)]
  generalize (iblk m c 0 t : Vec Ideal S176x1024 .f32) = x0
  generalize (iblk m c 1 t : Vec Ideal S176x1024 .f32) = x1
  generalize (iblk m c 2 t : Vec Ideal S176x1024 .f32) = x2
  generalize (iblk m c 4 t : Vec Ideal S8x176x1024 .bf16) = x4
  refine Prod.ext ?_ (Prod.ext ?_ (Prod.ext ?_ ?_)) <;> dsimp only <;> frame_out <;> funext y <;> idx_vars y
  · pointwise [k0_pay5, grad, total, left]
  · pointwise [k0_pay3, k0_pay2, k0_pay1, k0_pay5, grad, total, left, stepped, delta, first, second]
  · pointwise [k0_pay1, k0_pay5, grad, total, left, firsts, first]
  · pointwise [k0_pay2, k0_pay5, grad, total, left, seconds, second]

/-! ## What the launch leaves -/

abbrev gradOf : FVec Ideal S704x1024 .f32 := both (R := 704) rfl (argP m c) (argQ m c)
def deltaOf : FVec Ideal S704x1024 .f32 := stepped (gradOf m c) (argW m c) (argM m c) (argV m c)
def firstOf : FVec Ideal S704x1024 .f32 := firsts (gradOf m c) (argM m c)
def secondOf : FVec Ideal S704x1024 .f32 := seconds (gradOf m c) (argV m c)

theorem grad_low (t : Fin cfg0.N) (h : t.val < 2) (s : Fin 176) (j : Fin 1024) : grad (iblk m c 3 t : Vec Ideal S8x176x1024 .bf16) (ix2 s j) = gradOf m c (ix2 (row t.val s) j) := by
  refine (grad_sum _ _ _ _ fun d => read_3 m c t d s j).trans (both_low _ _ _ _ _ _ ?_).symm
  show t.val % 4 * 176 + s.val = t.val % 2 * 176 + s.val
  omega

theorem grad_high (t : Fin cfg0.N) (h : ¬t.val < 2) (s : Fin 176) (j : Fin 1024) : grad (iblk m c 4 t : Vec Ideal S8x176x1024 .bf16) (ix2 s j) = gradOf m c (ix2 (row t.val s) j) := by
  have := pt t
  refine (grad_sum _ _ _ _ fun d => read_4 m c t d s j).trans (both_high _ _ _ _ _ _ ?_).symm
  show t.val % 4 * 176 + s.val = 352 + (t.val % 2 * 176 + s.val)
  omega

/-- What a point leaves, entry by entry. -/
theorem left_at (t : Fin cfg0.N) (s : Fin 176) (j : Fin 1024) :
    (outsAt0 m c t.val t.isLt).1 (ix2 s j) = gradOf m c (ix2 (row t.val s) j) ∧ (outsAt0 m c t.val t.isLt).2.1 (ix2 s j) = deltaOf m c (ix2 (row t.val s) j)
      ∧ (outsAt0 m c t.val t.isLt).2.2.1 (ix2 s j) = firstOf m c (ix2 (row t.val s) j) ∧ (outsAt0 m c t.val t.isLt).2.2.2 (ix2 s j) = secondOf m c (ix2 (row t.val s) j) := by
  by_cases h : t.val < 2
  · rw [left_low m c t h]
    exact left_congr _ _ _ _ _ _ _ _ _ _ (grad_low m c t h s j) (read_0 m c t s j) (read_1 m c t s j) (read_2 m c t s j)
  · rw [left_high m c t h]
    exact left_congr _ _ _ _ _ _ _ _ _ _ (grad_high m c t h s j) (read_0 m c t s j) (read_1 m c t s j) (read_2 m c t s j)

theorem final_5 : (dats m 0 c).arrAt 5 (cfgs 0).N = gradOf m c := by
  refine (dats m 0 c).arrAt_eq_of_covers 5 _ (by decide +kernel) fun t hf y => ?_
  blk_simp
  rw [after0_5]
  idx_vars y
  exact (left_at m c t y0 y1).1.trans (place t y0 y1 (gradOf m c)).1.symm

theorem final_6 : (dats m 0 c).arrAt 6 (cfgs 0).N = deltaOf m c := by
  refine (dats m 0 c).arrAt_eq_of_covers 6 _ (by decide +kernel) fun t hf y => ?_
  blk_simp
  rw [after0_6]
  idx_vars y
  exact (left_at m c t y0 y1).2.1.trans (place t y0 y1 (deltaOf m c)).2.1.symm

theorem final_7 : (dats m 0 c).arrAt 7 (cfgs 0).N = firstOf m c := by
  refine (dats m 0 c).arrAt_eq_of_covers 7 _ (by decide +kernel) fun t hf y => ?_
  blk_simp
  rw [after0_7]
  idx_vars y
  exact (left_at m c t y0 y1).2.2.1.trans (place t y0 y1 (firstOf m c)).2.2.1.symm

theorem final_8 : (dats m 0 c).arrAt 8 (cfgs 0).N = secondOf m c := by
  refine (dats m 0 c).arrAt_eq_of_covers 8 _ (by decide +kernel) fun t hf y => ?_
  blk_simp
  rw [after0_8]
  idx_vars y
  exact (left_at m c t y0 y1).2.2.2.trans (place t y0 y1 (secondOf m c)).2.2.2.symm

theorem frame_P : Cert.quiescent_Kernel20 := fun m g _ => Cert.Kernel20.Gen.frame m g

theorem frame_PI : Cert.quiescent_Kernel20Ideal := fun m g _ => Cert.Kernel20Ideal.Gen.frame m g

theorem frame_RI : Cert.quiescent_Reference20Ideal := fun m g _ =>
  θ_run_mono (Cert.Reference20Ideal.Value.run m g) fun r h => ⟨fun c => (h c).2.2.2.2, sem_eq_zero_of_no_sems (by decide) r.2⟩

/-- The reference's sum over the devices, one layer after the other. -/
theorem ref_grad : concatenate Cert.Reference20Ideal.S704x1024 0
      [⟨Cert.Reference20Ideal.S352x1024, Host.reduceAdd (extf .f32 (argP m c) Cert.Reference20Ideal.Gen.bitsLt_bf16_f32) (constant Cert.Reference20Ideal.S_ .f32 0#32) Cert.Reference20Ideal.Gen.reducesTo_S8x352x1024_S352x1024_d0 Cert.Reference20Ideal.Gen.h_S_⟩,
        ⟨Cert.Reference20Ideal.S352x1024, Host.reduceAdd (extf .f32 (argQ m c) Cert.Reference20Ideal.Gen.bitsLt_bf16_f32) (constant Cert.Reference20Ideal.S_ .f32 0#32) Cert.Reference20Ideal.Gen.reducesTo_S8x352x1024_S352x1024_d0 Cert.Reference20Ideal.Gen.h_S_⟩]
      Cert.Reference20Ideal.Gen.concatenates_S352x1024_S352x1024_S704x1024_d0 = gradOf m c := by
  funext i
  idx_vars i
  by_cases h : i0.val < 352
  · refine Eq.trans ?_ (both_low (R := 704) rfl (argP m c) (argQ m c) i0 ⟨i0.val, h⟩ i1 rfl).symm
    generalize argP m c = p
    generalize argQ m c = q
    pointwise
    rw [dif_pos h]
  · refine Eq.trans ?_ (both_high (R := 704) rfl (argP m c) (argQ m c) i0 ⟨i0.val - 352, by omega⟩ i1 (by dsimp only; omega)).symm
    generalize argP m c = p
    generalize argQ m c = q
    pointwise
    rw [dif_neg h]

/-- The call's four results are the reference's. -/
theorem algebraic : Cert.algebraic_Kernel20Ideal_Reference20Ideal := by
  intro m g m' g' _ hagree
  refine ⟨fun c => gradOf m c, fun c => deltaOf m c, fun c => firstOf m c, fun c => secondOf m c, ?_, ?_⟩
  · exact θ_run_mono (Value.run_blocks m g) fun r h c => ⟨(h c).1.trans (final_5 m c), (h c).2.1.trans (final_6 m c), (h c).2.2.1.trans (final_7 m c), (h c).2.2.2.1.trans (final_8 m c), (h c).2.2.2.2⟩
  · refine θ_run_mono (Cert.Reference20Ideal.Value.run m' g') fun r h c => ?_
    obtain ⟨r0, r1, r2, r3, ha⟩ := h c
    obtain ⟨h0, h1, h2, h3, h4⟩ := hagree c
    refine ⟨r0.trans ?_, r1.trans ?_, r2.trans ?_, r3.trans ?_, ha⟩ <;> clear r0 r1 r2 r3 ha h
    · rw [h3, h4]
      exact ref_grad m c
    · rw [h0, h1, h2, h3, h4, ref_grad]
      show _ = deltaOf m c
      unfold deltaOf
      generalize gradOf m c = g
      funext i
      idx_vars i
      pointwise [stepped, delta, first, second]
    · rw [h1, h3, h4, ref_grad]
      show _ = firstOf m c
      unfold firstOf
      generalize gradOf m c = g
      funext i
      idx_vars i
      pointwise [firsts, first]
    · rw [h2, h3, h4, ref_grad]
      show _ = secondOf m c
      unfold secondOf
      generalize gradOf m c = g
      funext i
      idx_vars i
      pointwise [seconds, second]

end Cert.Adam.WDown

end
-- ==== Proof.Adam.Small.lean ====
/- The optimiser's step of the small weights and the loss, packed into 264 rows of 128: 88 rows at a time. -/
module

public import proofs.«01_k».proof.Defs
public import proofs.«01_k».proof.Proof.Adam.Spec
public import proofs.«01_k».proof.Proof.Gen.Kernel21
public import proofs.«01_k».proof.Proof.Gen.Kernel21.Frame
public import proofs.«01_k».proof.Proof.Gen.Kernel21Ideal.Value
public import proofs.«01_k».proof.Proof.Gen.Reference21Ideal.Run
public import proofs.«01_k».proof.Proof.Product.Sums

@[expose] public section

set_option maxRecDepth 16384

noncomputable section

namespace Cert.Adam.Small

open Idealize.ShloMosaic Idealize.ShloMosaic.TcCoe Idealize.SL.Sem Cert.Product Cert.Adam
open Cert.Kernel21Ideal Cert.Kernel21Ideal.Gen

/-- Row `a` of block `t`. -/
def row (t : ℕ) (a : Fin 88) : Fin 264 := ⟨t % 3 * 88 + a.val, by omega⟩

theorem pt (t : Fin cfg0.N) : t.val < 3 := lt_of_lt_of_eq t.isLt N_0

theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

abbrev argW : FVec Ideal S264x128 .f32 := m ((c.tc : Thread nD τ).loc main_arg0)
abbrev argM : FVec Ideal S264x128 .f32 := m ((c.tc : Thread nD τ).loc main_arg1)
abbrev argV : FVec Ideal S264x128 .f32 := m ((c.tc : Thread nD τ).loc main_arg2)
abbrev argP : FVec Ideal S8x264x128 .f32 := m ((c.tc : Thread nD τ).loc main_arg3)

theorem read_0 (t : Fin cfg0.N) (s : Fin 88) (j : Fin 128) : (iblk m c 0 t : Vec Ideal S88x128 .f32) (ix2 s j) = argW m c (ix2 (row t.val s) j) := by
  have := pt t
  unfold argW row
  rw [← V_main_arg0 m c]
  blk_ext [iblk, idx t]
  all_goals omega

theorem read_1 (t : Fin cfg0.N) (s : Fin 88) (j : Fin 128) : (iblk m c 1 t : Vec Ideal S88x128 .f32) (ix2 s j) = argM m c (ix2 (row t.val s) j) := by
  have := pt t
  unfold argM row
  rw [← V_main_arg1 m c]
  blk_ext [iblk, idx t]
  all_goals omega

theorem read_2 (t : Fin cfg0.N) (s : Fin 88) (j : Fin 128) : (iblk m c 2 t : Vec Ideal S88x128 .f32) (ix2 s j) = argV m c (ix2 (row t.val s) j) := by
  have := pt t
  unfold argV row
  rw [← V_main_arg2 m c]
  blk_ext [iblk, idx t]
  all_goals omega

theorem read_3 (t : Fin cfg0.N) (d : Fin 8) (s : Fin 88) (j : Fin 128) : (iblk m c 3 t : Vec Ideal S8x88x128 .f32) (ix3 d s j) = argP m c (ix3 d (row t.val s) j) := by
  have := pt t
  unfold argP row
  rw [← V_main_arg3 m c]
  blk_ext [iblk, idx t]
  all_goals omega

theorem place (t : Fin cfg0.N) (s : Fin 88) (j : Fin 128) (G : FVec Ideal S264x128 .f32) :
    G (((cfg0.win 4).blk t).view.emb (ix2 s j)) = G (ix2 (row t.val s) j) ∧ G (((cfg0.win 5).blk t).view.emb (ix2 s j)) = G (ix2 (row t.val s) j)
      ∧ G (((cfg0.win 6).blk t).view.emb (ix2 s j)) = G (ix2 (row t.val s) j) ∧ G (((cfg0.win 7).blk t).view.emb (ix2 s j)) = G (ix2 (row t.val s) j) := by
  have := pt t
  unfold row
  refine ⟨?_, ?_, ?_, ?_⟩
  · blk_ext [idx t]
    all_goals omega
  · blk_ext [idx t]
    all_goals omega
  · blk_ext [idx t]
    all_goals omega
  · blk_ext [idx t]
    all_goals omega

/-! ## What a grid point computes -/

/-- The sum of the eight devices' parts of some rows. -/
def summed {a b : ℕ} (x : FVec Ideal ⟨3, ![8, a, b]⟩ .f32) : FVec Ideal ⟨2, ![a, b]⟩ .f32 := fun i => total fun d => x (ix3 d (i 0) (i 1))

theorem summed_at {a b : ℕ} (x : FVec Ideal ⟨3, ![8, a, b]⟩ .f32) (i : Fin a) (j : Fin b) (y : Fin 8 → EReal) (h : ∀ d, x (ix3 d i j) = y d) : summed x (ix2 i j) = ∑ d : Fin 8, y d :=
  (total_eq _).trans (Finset.sum_congr rfl fun d _ => h d)

/-- The same sum, as the reference has it. -/
def added {a b : ℕ} (x : FVec Ideal ⟨3, ![8, a, b]⟩ .f32) : FVec Ideal ⟨2, ![a, b]⟩ .f32 := fun i => ∑ d : Fin 8, x (ix3 d (i 0) (i 1))

theorem added_at {a b : ℕ} (x : FVec Ideal ⟨3, ![8, a, b]⟩ .f32) (i : Fin a) (j : Fin b) : added x (ix2 i j) = ∑ d : Fin 8, x (ix3 d i j) := rfl

theorem left_eq (t : Fin cfg0.N) : outsAt0 m c t = left (summed (iblk m c 3 t)) (iblk m c 0 t) (iblk m c 1 t) (iblk m c 2 t) := by
  unfold outsAt0
  generalize (iblk m c 0 t : Vec Ideal S88x128 .f32) = x0
  generalize (iblk m c 1 t : Vec Ideal S88x128 .f32) = x1
  generalize (iblk m c 2 t : Vec Ideal S88x128 .f32) = x2
  generalize (iblk m c 3 t : Vec Ideal S8x88x128 .f32) = x3
  refine Prod.ext ?_ (Prod.ext ?_ (Prod.ext ?_ ?_)) <;> dsimp only <;> frame_out <;> funext y <;> idx_vars y
  · pointwise [k0_pay4, summed, total, left]
  · pointwise [k0_pay3, k0_pay2, k0_pay1, k0_pay5, k0_pay4, summed, total, left, stepped, delta, first, second]
  · pointwise [k0_pay1, k0_pay5, k0_pay4, summed, total, left, firsts, first]
  · pointwise [k0_pay2, k0_pay4, summed, total, left, seconds, second]

/-! ## What the launch leaves -/

abbrev gradOf : FVec Ideal S264x128 .f32 := added (argP m c)
def deltaOf : FVec Ideal S264x128 .f32 := stepped (gradOf m c) (argW m c) (argM m c) (argV m c)
def firstOf : FVec Ideal S264x128 .f32 := firsts (gradOf m c) (argM m c)
def secondOf : FVec Ideal S264x128 .f32 := seconds (gradOf m c) (argV m c)

theorem grad_at (t : Fin cfg0.N) (s : Fin 88) (j : Fin 128) : summed (iblk m c 3 t : Vec Ideal S8x88x128 .f32) (ix2 s j) = gradOf m c (ix2 (row t.val s) j) :=
  (summed_at _ _ _ _ fun d => read_3 m c t d s j).trans (added_at _ _ _).symm

/-- What a point leaves, entry by entry. -/
theorem left_at (t : Fin cfg0.N) (s : Fin 88) (j : Fin 128) :
    (outsAt0 m c t).1 (ix2 s j) = gradOf m c (ix2 (row t.val s) j) ∧ (outsAt0 m c t).2.1 (ix2 s j) = deltaOf m c (ix2 (row t.val s) j)
      ∧ (outsAt0 m c t).2.2.1 (ix2 s j) = firstOf m c (ix2 (row t.val s) j) ∧ (outsAt0 m c t).2.2.2 (ix2 s j) = secondOf m c (ix2 (row t.val s) j) := by
  rw [left_eq m c t]
  exact left_congr _ _ _ _ _ _ _ _ _ _ (grad_at m c t s j) (read_0 m c t s j) (read_1 m c t s j) (read_2 m c t s j)

theorem final_4 : (dats m 0 c).arrAt 4 (cfgs 0).N = gradOf m c := by
  refine (dats m 0 c).arrAt_eq_of_covers 4 _ (by decide +kernel) fun t hf y => ?_
  blk_simp
  rw [after0_4]
  idx_vars y
  exact (left_at m c t y0 y1).1.trans (place t y0 y1 (gradOf m c)).1.symm

theorem final_5 : (dats m 0 c).arrAt 5 (cfgs 0).N = deltaOf m c := by
  refine (dats m 0 c).arrAt_eq_of_covers 5 _ (by decide +kernel) fun t hf y => ?_
  blk_simp
  rw [after0_5]
  idx_vars y
  exact (left_at m c t y0 y1).2.1.trans (place t y0 y1 (deltaOf m c)).2.1.symm

theorem final_6 : (dats m 0 c).arrAt 6 (cfgs 0).N = firstOf m c := by
  refine (dats m 0 c).arrAt_eq_of_covers 6 _ (by decide +kernel) fun t hf y => ?_
  blk_simp
  rw [after0_6]
  idx_vars y
  exact (left_at m c t y0 y1).2.2.1.trans (place t y0 y1 (firstOf m c)).2.2.1.symm

theorem final_7 : (dats m 0 c).arrAt 7 (cfgs 0).N = secondOf m c := by
  refine (dats m 0 c).arrAt_eq_of_covers 7 _ (by decide +kernel) fun t hf y => ?_
  blk_simp
  rw [after0_7]
  idx_vars y
  exact (left_at m c t y0 y1).2.2.2.trans (place t y0 y1 (secondOf m c)).2.2.2.symm

theorem frame_P : Cert.quiescent_Kernel21 := fun m g _ => Cert.Kernel21.Gen.frame m g

theorem frame_PI : Cert.quiescent_Kernel21Ideal := fun m g _ => Cert.Kernel21Ideal.Gen.frame m g

theorem frame_RI : Cert.quiescent_Reference21Ideal := fun m g _ =>
  θ_run_mono (Cert.Reference21Ideal.Value.run m g) fun r h => ⟨fun c => (h c).2.2.2.2, sem_eq_zero_of_no_sems (by decide) r.2⟩

/-- The reference's sum over the devices. -/
theorem ref_grad : Host.reduceAdd (argP m c) (constant Cert.Reference21Ideal.S_ .f32 0#32) Cert.Reference21Ideal.Gen.reducesTo_S8x264x128_S264x128_d0 Cert.Reference21Ideal.Gen.h_S_ = gradOf m c := by
  funext i
  idx_vars i
  refine Eq.trans ?_ (added_at (argP m c) i0 i1).symm
  generalize argP m c = p
  pointwise

/-- The call's four results are the reference's. -/
theorem algebraic : Cert.algebraic_Kernel21Ideal_Reference21Ideal := by
  intro m g m' g' _ hagree
  refine ⟨fun c => gradOf m c, fun c => deltaOf m c, fun c => firstOf m c, fun c => secondOf m c, ?_, ?_⟩
  · exact θ_run_mono (Value.run_blocks m g) fun r h c => ⟨(h c).1.trans (final_4 m c), (h c).2.1.trans (final_5 m c), (h c).2.2.1.trans (final_6 m c), (h c).2.2.2.1.trans (final_7 m c), (h c).2.2.2.2⟩
  · refine θ_run_mono (Cert.Reference21Ideal.Value.run m' g') fun r h c => ?_
    obtain ⟨r0, r1, r2, r3, ha⟩ := h c
    obtain ⟨h0, h1, h2, h3⟩ := hagree c
    refine ⟨r0.trans ?_, r1.trans ?_, r2.trans ?_, r3.trans ?_, ha⟩ <;> clear r0 r1 r2 r3 ha h
    · rw [h3]
      exact ref_grad m c
    · rw [h0, h1, h2, h3, ref_grad]
      show _ = deltaOf m c
      unfold deltaOf
      generalize gradOf m c = g
      funext i
      idx_vars i
      pointwise [stepped, delta, first, second]
    · rw [h1, h3, ref_grad]
      show _ = firstOf m c
      unfold firstOf
      generalize gradOf m c = g
      funext i
      idx_vars i
      pointwise [firsts, first]
    · rw [h2, h3, ref_grad]
      show _ = secondOf m c
      unfold secondOf
      generalize gradOf m c = g
      funext i
      idx_vars i
      pointwise [seconds, second]

end Cert.Adam.Small

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.AttnBits.Launch
public import proofs.«01_k».proof.Proof.Grad.Finite
public import proofs.«01_k».proof.Proof.Grad.Equal
public import Idealize.ShloMosaic.Lib.Claim
public import Idealize.ShloMosaic.Adequacy
public import Idealize.ShloMosaic.Init
public import proofs.«01_k».proof.Proof.Product.WeightUp
public import proofs.«01_k».proof.Proof.Product.WeightDown
public import proofs.«01_k».proof.Proof.Product.Act
public import proofs.«01_k».proof.Proof.Product.WeightOut
public import proofs.«01_k».proof.Proof.Product.Cat
public import proofs.«01_k».proof.Proof.Product.WeightIn
public import proofs.«01_k».proof.Proof.Product.Input
public import proofs.«01_k».proof.Proof.Product.Gate
public import proofs.«01_k».proof.Proof.Product.Up
public import proofs.«01_k».proof.Proof.Product.Projection
public import proofs.«01_k».proof.Proof.Norm
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Loss.Equal
public import proofs.«01_k».proof.Proof.Fwd.Equal
public import proofs.«01_k».proof.Proof.NormFwd.Out
public import proofs.«01_k».proof.Proof.NormFwd.Down
public import proofs.«01_k».proof.Proof.Adam.WIn
public import proofs.«01_k».proof.Proof.Adam.WOut
public import proofs.«01_k».proof.Proof.Adam.WGate
public import proofs.«01_k».proof.Proof.Adam.WDown
public import proofs.«01_k».proof.Proof.Adam.Small

@[expose] public section

noncomputable section

namespace Cert.Proof

open Idealize.ShloMosaic Idealize.SL.Sem Cert.Grad

/-- The printed kernel runs, leaves its arguments and returns every counter. -/
theorem frame_P : Cert.quiescent_Kernel := fun m g _ => Cert.Kernel.Attn.frame m g

/-- So does its idealization, with the precondition or without, -/
theorem frame_PI : Cert.quiescent_KernelIdeal := fun m g _ => Cert.KernelIdeal.Attn.frame m g

theorem frame_PI_finite : Cert.quiescent_KernelIdeal_pre_finite := fun m g _ => Cert.KernelIdeal.Attn.frame m g

/-- and the reference, which has no counters. -/
theorem run_RI (m g) : θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, sem_eq_zero_of_no_sems (by decide) r.2⟩) (Cert.ReferenceIdeal.Value.run m g)

theorem frame_RI : Cert.quiescent_ReferenceIdeal := fun m g _ => run_RI m g

theorem frame_RI_finite : Cert.quiescent_ReferenceIdeal_pre_finite := fun m g _ => run_RI m g

/-- The one constant that is named is the logarithm of two. -/
theorem preserves : Cert.preserves_Kernel_KernelIdeal :=
  IdealRules.named_const.statement Cert.KernelIdeal.κ "ln2" .f32 0x3F317218#32 ((Real.log 2 : ℝ) : EReal) rfl

/-- The call's gradients are the reference's. -/
theorem algebraic : Cert.algebraic_KernelIdeal_ReferenceIdeal_pre_finite := by
  intro m g m' g' hpre hagree
  have H := fun c => reals_of_finite _ _ _ _ (hpre c)
  refine ⟨fun c => arrK (dataOf (argQ m c) (argK m c) (argV m c) (argCt m c)), fun c => arrV (dataOf (argQ m c) (argK m c) (argV m c) (argCt m c)),
    fun c => arrQ (dataOf (argQ m c) (argK m c) (argV m c) (argCt m c)), ?_, ?_⟩
  · refine θ_run_mono (θ_run_and (Cert.KernelIdeal.Attn.launch m g) (Cert.KernelIdeal.Attn.frame m g)) fun r h c => ?_
    obtain ⟨⟨hf, -⟩, ha, -⟩ := h
    exact ⟨(hf.out_eq c 7).trans (final_K m c (H c)), (hf.out_eq c 8).trans (final_V m c (H c)), (hf.out_eq c 9).trans (final_Q m c (H c)), ha c⟩
  · refine θ_run_mono (Cert.ReferenceIdeal.Value.run m' g') fun r h c => ?_
    obtain ⟨hK, hV, hQ, ha⟩ := h c
    have H' : Reals (dataOf (argQ m c) (argK m c) (argV m c) (argCt m c))
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) := by
      obtain ⟨h0, h1, h2, h3⟩ := hagree c
      rw [h0, h1, h2, h3]
      exact H c
    exact ⟨hK.trans (ref_K m' c H'), hV.trans (ref_V m' c H'), hQ.trans (ref_Q m' c H'), ha⟩

/-- The feed-forward's product with w_down, the norm and the loss: the call and its reference run. -/
theorem frame_P15 : Cert.quiescent_Kernel15 := fun m g _ => Cert.Kernel15.Gen.frame m g

theorem frame_PI15 : Cert.quiescent_Kernel15Ideal := fun m g _ => Cert.Kernel15Ideal.Gen.frame m g

theorem frame_RI15 : Cert.quiescent_Reference15Ideal := fun m g _ =>
  θ_run_mono (Cert.Reference15Ideal.Value.run m g) fun r h => ⟨fun c => (h c).2.2.2, sem_eq_zero_of_no_sems (by decide) r.2⟩

/-- The attention's forward call and its reference run. -/
theorem frame_P16 : Cert.quiescent_Kernel16 := fun m g _ => Cert.Kernel16.Gen.frame m g

theorem frame_PI16 : Cert.quiescent_Kernel16Ideal := fun m g _ => Cert.Kernel16Ideal.Gen.frame m g

theorem frame_RI16 : Cert.quiescent_Reference16Ideal := fun m g _ =>
  θ_run_mono (Cert.Reference16Ideal.Value.run m g) fun r h => ⟨fun c => (h c).2.2, sem_eq_zero_of_no_sems (by decide) r.2⟩

theorem preserves16 : Cert.preserves_Kernel16_Kernel16Ideal :=
  IdealRules.named_const.statement Cert.Kernel16Ideal.κ "ln2" .f32 0x3F317218#32 ((Real.log 2 : ℝ) : EReal) rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Pre_finite.Gen.facts, Cert.Norm.facts, Cert.Loss.facts, Cert.Fwd.facts,
  frame_P, frame_PI, frame_PI_finite, frame_RI, frame_RI_finite,
  Cert.Product.WeightUp.frame_P, Cert.Product.WeightUp.frame_PI, Cert.Product.WeightUp.frame_RI,
  Cert.Product.WeightDown.frame_P, Cert.Product.WeightDown.frame_PI, Cert.Product.WeightDown.frame_RI,
  Cert.Product.Act.frame_P, Cert.Product.Act.frame_PI, Cert.Product.Act.frame_RI,
  Cert.Norm.frame_P, Cert.Norm.frame_PI, Cert.Norm.frame_PI_pre, Cert.Norm.frame_RI, Cert.Norm.frame_RI_pre,
  Cert.Product.WeightOut.frame_P, Cert.Product.WeightOut.frame_PI, Cert.Product.WeightOut.frame_RI,
  Cert.Product.Cat.frame_P, Cert.Product.Cat.frame_PI, Cert.Product.Cat.frame_RI,
  Cert.Product.WeightIn.frame_P, Cert.Product.WeightIn.frame_PI, Cert.Product.WeightIn.frame_RI,
  Cert.Product.Input.frame_P, Cert.Product.Input.frame_PI, Cert.Product.Input.frame_RI,
  Cert.Product.Gate.frame_P, Cert.Product.Gate.frame_PI, Cert.Product.Gate.frame_RI,
  Cert.Product.Up.frame_P, Cert.Product.Up.frame_PI, Cert.Product.Up.frame_RI,
  Cert.Product.Projection.frame_P, Cert.Product.Projection.frame_PI, Cert.Product.Projection.frame_RI,
  Cert.NormFwd.Out.frame_P, Cert.NormFwd.Out.frame_PI, Cert.NormFwd.Out.frame_RI,
  Cert.NormFwd.Down.frame_P, Cert.NormFwd.Down.frame_PI, Cert.NormFwd.Down.frame_RI,
  frame_P15, frame_PI15, Cert.Loss.frame_PI_pre, frame_RI15, Cert.Loss.frame_RI_pre,
  frame_P16, frame_PI16, Cert.Fwd.frame_PI_pre, frame_RI16, Cert.Fwd.frame_RI_pre,
  Cert.Adam.WIn.frame_P, Cert.Adam.WIn.frame_PI, Cert.Adam.WIn.frame_RI,
  Cert.Adam.WOut.frame_P, Cert.Adam.WOut.frame_PI, Cert.Adam.WOut.frame_RI,
  Cert.Adam.WGate.frame_P, Cert.Adam.WGate.frame_PI, Cert.Adam.WGate.frame_RI,
  Cert.Adam.WDown.frame_P, Cert.Adam.WDown.frame_PI, Cert.Adam.WDown.frame_RI,
  Cert.Adam.Small.frame_P, Cert.Adam.Small.frame_PI, Cert.Adam.Small.frame_RI,
  preserves, algebraic,
  trivial, Cert.Product.WeightUp.algebraic, trivial, Cert.Product.WeightDown.algebraic, trivial, Cert.Product.Act.algebraic,
  trivial, Cert.Norm.algebraic, trivial, Cert.Product.WeightOut.algebraic, trivial, Cert.Product.Cat.algebraic,
  trivial, Cert.Product.WeightIn.algebraic, trivial, Cert.Product.Input.algebraic, trivial, Cert.Product.Gate.algebraic,
  trivial, Cert.Product.Up.algebraic, trivial, Cert.Product.Projection.algebraic,
  trivial, Cert.NormFwd.Out.algebraic, trivial, Cert.NormFwd.Down.algebraic, trivial, Cert.Loss.algebraic, preserves16, Cert.Fwd.algebraic,
  trivial, Cert.Adam.WIn.algebraic, trivial, Cert.Adam.WOut.algebraic, trivial, Cert.Adam.WGate.algebraic, trivial, Cert.Adam.WDown.algebraic,
  trivial, Cert.Adam.Small.algebraic⟩

end Cert.Proof

end
